-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x5x384x384 : Shape := ⟨4, ![2, 5, 384, 384]⟩
abbrev S2x5x8x384x384 : Shape := ⟨5, ![2, 5, 8, 384, 384]⟩
abbrev S2x4x8x2 : Shape := ⟨4, ![2, 4, 8, 2]⟩
abbrev S1x1x192x384 : Shape := ⟨4, ![1, 1, 192, 384]⟩
abbrev S1x1x8x192x384 : Shape := ⟨5, ![1, 1, 8, 192, 384]⟩
abbrev S1x1x8x2 : Shape := ⟨4, ![1, 1, 8, 2]⟩
abbrev S192x384 : Shape := ⟨2, ![192, 384]⟩
abbrev S8x192x384 : Shape := ⟨3, ![8, 192, 384]⟩
abbrev S8 : Shape := ⟨1, ![8]⟩
abbrev S1x1x8x1 : Shape := ⟨4, ![1, 1, 8, 1]⟩
abbrev S1x192x384 : Shape := ⟨3, ![1, 192, 384]⟩
abbrev S16x256 : Shape := ⟨2, ![16, 256]⟩
abbrev S2x16x384 : Shape := ⟨3, ![2, 16, 384]⟩
abbrev S2x8x16x384 : Shape := ⟨4, ![2, 8, 16, 384]⟩
abbrev S256 : Shape := ⟨1, ![256]⟩
abbrev S_ : Shape := ⟨0, ![]⟩
abbrev S16 : Shape := ⟨1, ![16]⟩
abbrev S1x16x384 : Shape := ⟨3, ![1, 16, 384]⟩
abbrev S16x384 : Shape := ⟨2, ![16, 384]⟩
abbrev S1x1x16x384 : Shape := ⟨4, ![1, 1, 16, 384]⟩
abbrev S1x8x16x384 : Shape := ⟨4, ![1, 8, 16, 384]⟩
abbrev S8x16x384 : Shape := ⟨3, ![8, 16, 384]⟩
abbrev S1x1x8x16x384 : Shape := ⟨5, ![1, 1, 8, 16, 384]⟩
abbrev S1x1x16 : Shape := ⟨3, ![1, 1, 16]⟩
abbrev S1x1x1x16 : Shape := ⟨4, ![1, 1, 1, 16]⟩
abbrev S1x256 : Shape := ⟨2, ![1, 256]⟩
abbrev S4x4x8x2x16 : Shape := ⟨5, ![4, 4, 8, 2, 16]⟩
abbrev S8x8x2 : Shape := ⟨3, ![8, 8, 2]⟩
abbrev S1x1 : Shape := ⟨2, ![1, 1]⟩
abbrev S4x4x8x1x16 : Shape := ⟨5, ![4, 4, 8, 1, 16]⟩
abbrev S4x4x8x16 : Shape := ⟨4, ![4, 4, 8, 16]⟩
abbrev S4x8 : Shape := ⟨2, ![4, 8]⟩
abbrev S8x8 : Shape := ⟨2, ![8, 8]⟩
abbrev S8x8x1 : Shape := ⟨3, ![8, 8, 1]⟩
abbrev S1x8x8 : Shape := ⟨3, ![1, 8, 8]⟩
abbrev S1 : Shape := ⟨1, ![1]⟩
abbrev S1x1x1 : Shape := ⟨3, ![1, 1, 1]⟩

abbrev nBuf : Table → Nat
  | .hbm => 12
  | .local .tc .vmem => 9
  | .local .tc .smem => 1
  | .local .scVector .vmem => 3
  | _ => 0

abbrev bufTy : (tb : Table) → Fin (nBuf tb) → BufTy
  | .hbm, ⟨0, _⟩ => ⟨S2x5x384x384, .f32⟩
  | .hbm, ⟨1, _⟩ => ⟨S2x5x8x384x384, .f32⟩
  | .hbm, ⟨2, _⟩ => ⟨S2x4x8x2, .f32⟩
  | .hbm, ⟨3, _⟩ => ⟨S16x256, .f32⟩
  | .hbm, ⟨4, _⟩ => ⟨S16x256, .f32⟩
  | .hbm, ⟨5, _⟩ => ⟨S4x4x8x2x16, .f32⟩
  | .hbm, ⟨6, _⟩ => ⟨S4x4x8x2x16, .f32⟩
  | .hbm, ⟨7, _⟩ => ⟨S8x8x2, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local .tc .vmem, ⟨0, _⟩ => ⟨S1x1x192x384, .f32⟩
  | .local .tc .vmem, ⟨1, _⟩ => ⟨S1x1x192x384, .f32⟩
  | .local .tc .vmem, ⟨2, _⟩ => ⟨S1x1x8x192x384, .f32⟩
  | .local .tc .vmem, ⟨3, _⟩ => ⟨S1x1x8x192x384, .f32⟩
  | .local .tc .vmem, ⟨4, _⟩ => ⟨S1x1x8x2, .f32⟩
  | .local .tc .vmem, ⟨5, _⟩ => ⟨S1x1x8x2, .f32⟩
  | .local .tc .vmem, ⟨6, _⟩ => ⟨S4x4x8x2x16, .f32⟩
  | .local .tc .vmem, ⟨7, _⟩ => ⟨S4x4x8x2x16, .f32⟩
  | .local .tc .vmem, ⟨8, _⟩ => ⟨S8x8x2, .f32⟩
  | .local .tc .smem, ⟨0, _⟩ => ⟨S1x1, .f32⟩
  | .local .scVector .vmem, ⟨0, _⟩ => ⟨S2x16x384, .f32⟩
  | .local .scVector .vmem, ⟨1, _⟩ => ⟨S2x8x16x384, .f32⟩
  | .local .scVector .vmem, ⟨2, _⟩ => ⟨S256, .f32⟩
  | _, _ => ⟨S2x5x384x384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_arg0_scv : Ref sig .scVector := ⟨.hbm, 0, rfl⟩
abbrev main_arg1_scv : Ref sig .scVector := ⟨.hbm, 1, rfl⟩
abbrev main_v1_0_scv : Ref sig .scVector := ⟨.hbm, 3, rfl⟩
abbrev main_v1_1_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 12
abbrev cc2_sem1_0 : DmaSem sig := 13
abbrev cc2_sem2_0 : DmaSem sig := 14
abbrev cc2_sem3_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let c0_i32 : BitVec 32 := 0#32
  let c0_i32_1 : BitVec 32 := 0#32
  ![arg0.toNat, v0.toNat, c1_i32_0.toNat, c0_i32.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c1_i32_0 : BitVec 32 := 1#32
  let c0_i32_1 : BitVec 32 := 0#32
  let c0_i32_2 : BitVec 32 := 0#32
  ![arg0.toNat, v0.toNat, c0_i32.toNat, c1_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x192x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x192x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) (c0_i32_24 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let v30 : BitVec 1 := Scalar.cmpi .sgt v18 c0_i32_11
  let v31 : BitVec 32 := Scalar.extui v30
  let c0_i32_12 : BitVec 32 := 0#32
  let v32 : BitVec 1 := Scalar.cmpi .slt v18 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v18 c4_i32_10
  let c0_i32_15 : BitVec 32 := 0#32
  let v42 : BitVec 1 := Scalar.cmpi .ne v41 c0_i32_15
  let v43 : BitVec 1 := Scalar.andi v40 v42
  let v29 : BitVec 32 := Scalar.divsi v18 c4_i32_10
  let c1_i32_16 : BitVec 32 := 1#32
  let v44 : BitVec 32 := Scalar.subi v29 c1_i32_16
  let v45 : BitVec 32 := Scalar.select v43 v44 v29
  let c1_i32_23 : BitVec 32 := 1#32
  let c4_i32_17 : BitVec 32 := 4#32
  let c0_i32_18 : BitVec 32 := 0#32
  let v46 : BitVec 1 := Scalar.cmpi .eq c4_i32_17 c0_i32_18
  let c1_i32_19 : BitVec 32 := 1#32
  let v47 : BitVec 32 := Scalar.select v46 c1_i32_19 c4_i32_17
  let v48 : BitVec 32 := Scalar.remsi v18 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let v56 : BitVec 32 := Scalar.addi c1_i32_23 v55
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v57 : BitVec 32 := Scalar.muli v28 c48_i32
  let v59 : BitVec 32 := Scalar.addi v57 c0_i32_24
  let c0_i32_28 : BitVec 32 := 0#32
  ![v45.toNat, v56.toNat, v59.toNat, 0]
def k1_off2 (i : grid1.Coords) (c0_i32_24 : BitVec 32) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let v30 : BitVec 1 := Scalar.cmpi .sgt v18 c0_i32_11
  let v31 : BitVec 32 := Scalar.extui v30
  let c0_i32_12 : BitVec 32 := 0#32
  let v32 : BitVec 1 := Scalar.cmpi .slt v18 c0_i32_12
  let v33 : BitVec 32 := Scalar.extui v32
  let v34 : BitVec 32 := Scalar.subi v31 v33
  let c4_i32_10 : BitVec 32 := 4#32
  let c0_i32_13 : BitVec 32 := 0#32
  let v35 : BitVec 1 := Scalar.cmpi .sgt c4_i32_10 c0_i32_13
  let v36 : BitVec 32 := Scalar.extui v35
  let c0_i32_14 : BitVec 32 := 0#32
  let v37 : BitVec 1 := Scalar.cmpi .slt c4_i32_10 c0_i32_14
  let v38 : BitVec 32 := Scalar.extui v37
  let v39 : BitVec 32 := Scalar.subi v36 v38
  let v40 : BitVec 1 := Scalar.cmpi .ne v34 v39
  let v41 : BitVec 32 := Scalar.remsi v18 c4_i32_10
  let c0_i32_15 : BitVec 32 := 0#32
  let v42 : BitVec 1 := Scalar.cmpi .ne v41 c0_i32_15
  let v43 : BitVec 1 := Scalar.andi v40 v42
  let v29 : BitVec 32 := Scalar.divsi v18 c4_i32_10
  let c1_i32_16 : BitVec 32 := 1#32
  let v44 : BitVec 32 := Scalar.subi v29 c1_i32_16
  let v45 : BitVec 32 := Scalar.select v43 v44 v29
  let c1_i32_23 : BitVec 32 := 1#32
  let c4_i32_17 : BitVec 32 := 4#32
  let c0_i32_18 : BitVec 32 := 0#32
  let v46 : BitVec 1 := Scalar.cmpi .eq c4_i32_17 c0_i32_18
  let c1_i32_19 : BitVec 32 := 1#32
  let v47 : BitVec 32 := Scalar.select v46 c1_i32_19 c4_i32_17
  let v48 : BitVec 32 := Scalar.remsi v18 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let v56 : BitVec 32 := Scalar.addi c1_i32_23 v55
  let c0_i32_36 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v57 : BitVec 32 := Scalar.muli v28 c48_i32
  let v59 : BitVec 32 := Scalar.addi v57 c0_i32_24
  let c0_i32_37 : BitVec 32 := 0#32
  ![v45.toNat, v56.toNat, 0, v59.toNat, 0]
@[reducible] def k1_t1_loop : Scf.Loop 32 :=
  let c0_i32_80 : BitVec 32 := 0#32
  let c6_i32 : BitVec 32 := 6#32
  let v109 : BitVec 32 := Scalar.addi c0_i32_80 c6_i32
  let c1_i32_81 : BitVec 32 := 1#32
  ⟨c0_i32_80, v109, c1_i32_81⟩
def k1_off3 (k1_t1 : Fin k1_t1_loop.trips) (c0_i32_330 : BitVec 32) : Fin 3 → Nat :=
  let c0_i32_332 : BitVec 32 := 0#32
  let v311 : Index := Scalar.indexCast c0_i32_332
  let c0_i32_333 : BitVec 32 := 0#32
  let v312 : Index := Scalar.indexCast c0_i32_333
  let c0_i32_80 : BitVec 32 := 0#32
  let c1_i32_81 : BitVec 32 := 1#32
  let arg13 : BitVec 32 := Scf.iv c0_i32_80 c1_i32_81 k1_t1
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 0, v313.toNat]
def k1_off4 (k1_t1 : Fin k1_t1_loop.trips) (c0_i32_330 : BitVec 32) : Fin 4 → Nat :=
  let c0_i32_334 : BitVec 32 := 0#32
  let v316 : Index := Scalar.indexCast c0_i32_334
  let c0_i32_335 : BitVec 32 := 0#32
  let v317 : Index := Scalar.indexCast c0_i32_335
  let c0_i32_336 : BitVec 32 := 0#32
  let v318 : Index := Scalar.indexCast c0_i32_336
  let c0_i32_80 : BitVec 32 := 0#32
  let c1_i32_81 : BitVec 32 := 1#32
  let arg13 : BitVec 32 := Scf.iv c0_i32_80 c1_i32_81 k1_t1
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 0, v319.toNat]
def k1_off5 (k1_t1 : Fin k1_t1_loop.trips) (c0_i32_330 : BitVec 32) : Fin 4 → Nat :=
  let c0_i32_337 : BitVec 32 := 0#32
  let v325 : Index := Scalar.indexCast c0_i32_337
  let c1_i32_338 : BitVec 32 := 1#32
  let v326 : Index := Scalar.indexCast c1_i32_338
  let c0_i32_339 : BitVec 32 := 0#32
  let v327 : Index := Scalar.indexCast c0_i32_339
  let c0_i32_80 : BitVec 32 := 0#32
  let c1_i32_81 : BitVec 32 := 1#32
  let arg13 : BitVec 32 := Scf.iv c0_i32_80 c1_i32_81 k1_t1
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 0, v328.toNat]
def k1_off6 (k1_t1 : Fin k1_t1_loop.trips) (c0_i32_330 : BitVec 32) : Fin 4 → Nat :=
  let c0_i32_340 : BitVec 32 := 0#32
  let v334 : Index := Scalar.indexCast c0_i32_340
  let c2_i32 : BitVec 32 := 2#32
  let v335 : Index := Scalar.indexCast c2_i32
  let c0_i32_341 : BitVec 32 := 0#32
  let v336 : Index := Scalar.indexCast c0_i32_341
  let c0_i32_80 : BitVec 32 := 0#32
  let c1_i32_81 : BitVec 32 := 1#32
  let arg13 : BitVec 32 := Scf.iv c0_i32_80 c1_i32_81 k1_t1
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 0, v337.toNat]
def k1_off7 (k1_t1 : Fin k1_t1_loop.trips) (c0_i32_330 : BitVec 32) : Fin 4 → Nat :=
  let c0_i32_342 : BitVec 32 := 0#32
  let v343 : Index := Scalar.indexCast c0_i32_342
  let c3_i32 : BitVec 32 := 3#32
  let v344 : Index := Scalar.indexCast c3_i32
  let c0_i32_343 : BitVec 32 := 0#32
  let v345 : Index := Scalar.indexCast c0_i32_343
  let c0_i32_80 : BitVec 32 := 0#32
  let c1_i32_81 : BitVec 32 := 1#32
  let arg13 : BitVec 32 := Scf.iv c0_i32_80 c1_i32_81 k1_t1
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 0, v346.toNat]
def k1_off8 (k1_t1 : Fin k1_t1_loop.trips) (c0_i32_330 : BitVec 32) : Fin 4 → Nat :=
  let c0_i32_344 : BitVec 32 := 0#32
  let v352 : Index := Scalar.indexCast c0_i32_344
  let c4_i32_345 : BitVec 32 := 4#32
  let v353 : Index := Scalar.indexCast c4_i32_345
  let c0_i32_346 : BitVec 32 := 0#32
  let v354 : Index := Scalar.indexCast c0_i32_346
  let c0_i32_80 : BitVec 32 := 0#32
  let c1_i32_81 : BitVec 32 := 1#32
  let arg13 : BitVec 32 := Scf.iv c0_i32_80 c1_i32_81 k1_t1
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 0, v355.toNat]
def k1_off9 (k1_t1 : Fin k1_t1_loop.trips) (c0_i32_330 : BitVec 32) : Fin 4 → Nat :=
  let c0_i32_347 : BitVec 32 := 0#32
  let v361 : Index := Scalar.indexCast c0_i32_347
  let c5_i32 : BitVec 32 := 5#32
  let v362 : Index := Scalar.indexCast c5_i32
  let c0_i32_348 : BitVec 32 := 0#32
  let v363 : Index := Scalar.indexCast c0_i32_348
  let c0_i32_80 : BitVec 32 := 0#32
  let c1_i32_81 : BitVec 32 := 1#32
  let arg13 : BitVec 32 := Scf.iv c0_i32_80 c1_i32_81 k1_t1
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 0, v364.toNat]
def k1_off10 (k1_t1 : Fin k1_t1_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c0_i32_351 : BitVec 32 := 0#32
  let v372 : Index := Scalar.indexCast c0_i32_351
  let c0_i32_80 : BitVec 32 := 0#32
  let c1_i32_81 : BitVec 32 := 1#32
  let arg13 : BitVec 32 := Scf.iv c0_i32_80 c1_i32_81 k1_t1
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 0, v373.toNat]
def k1_off11 (k1_t1 : Fin k1_t1_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c0_i32_353 : BitVec 32 := 0#32
  let v381 : Index := Scalar.indexCast c0_i32_353
  let c0_i32_80 : BitVec 32 := 0#32
  let c1_i32_81 : BitVec 32 := 1#32
  let arg13 : BitVec 32 := Scf.iv c0_i32_80 c1_i32_81 k1_t1
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 0, v382.toNat]
@[reducible] def k1_t2_loop : Scf.Loop 32 :=
  let c0_i32_83 : BitVec 32 := 0#32
  let c6_i32_84 : BitVec 32 := 6#32
  let v111 : BitVec 32 := Scalar.addi c0_i32_83 c6_i32_84
  let c1_i32_85 : BitVec 32 := 1#32
  ⟨c0_i32_83, v111, c1_i32_85⟩
def k1_off12 (k1_t2 : Fin k1_t2_loop.trips) (c0_i32_330 : BitVec 32) : Fin 3 → Nat :=
  let c0_i32_332 : BitVec 32 := 0#32
  let v311 : Index := Scalar.indexCast c0_i32_332
  let c1_i32_333 : BitVec 32 := 1#32
  let v312 : Index := Scalar.indexCast c1_i32_333
  let c0_i32_83 : BitVec 32 := 0#32
  let c1_i32_85 : BitVec 32 := 1#32
  let arg13 : BitVec 32 := Scf.iv c0_i32_83 c1_i32_85 k1_t2
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 1, v313.toNat]
def k1_off13 (k1_t2 : Fin k1_t2_loop.trips) (c0_i32_330 : BitVec 32) : Fin 4 → Nat :=
  let c0_i32_334 : BitVec 32 := 0#32
  let v316 : Index := Scalar.indexCast c0_i32_334
  let c0_i32_335 : BitVec 32 := 0#32
  let v317 : Index := Scalar.indexCast c0_i32_335
  let c1_i32_336 : BitVec 32 := 1#32
  let v318 : Index := Scalar.indexCast c1_i32_336
  let c0_i32_83 : BitVec 32 := 0#32
  let c1_i32_85 : BitVec 32 := 1#32
  let arg13 : BitVec 32 := Scf.iv c0_i32_83 c1_i32_85 k1_t2
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 1, v319.toNat]
def k1_off14 (k1_t2 : Fin k1_t2_loop.trips) (c0_i32_330 : BitVec 32) : Fin 4 → Nat :=
  let c0_i32_337 : BitVec 32 := 0#32
  let v325 : Index := Scalar.indexCast c0_i32_337
  let c1_i32_338 : BitVec 32 := 1#32
  let v326 : Index := Scalar.indexCast c1_i32_338
  let c1_i32_339 : BitVec 32 := 1#32
  let v327 : Index := Scalar.indexCast c1_i32_339
  let c0_i32_83 : BitVec 32 := 0#32
  let c1_i32_85 : BitVec 32 := 1#32
  let arg13 : BitVec 32 := Scf.iv c0_i32_83 c1_i32_85 k1_t2
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 1, v328.toNat]
def k1_off15 (k1_t2 : Fin k1_t2_loop.trips) (c0_i32_330 : BitVec 32) : Fin 4 → Nat :=
  let c0_i32_340 : BitVec 32 := 0#32
  let v334 : Index := Scalar.indexCast c0_i32_340
  let c2_i32 : BitVec 32 := 2#32
  let v335 : Index := Scalar.indexCast c2_i32
  let c1_i32_341 : BitVec 32 := 1#32
  let v336 : Index := Scalar.indexCast c1_i32_341
  let c0_i32_83 : BitVec 32 := 0#32
  let c1_i32_85 : BitVec 32 := 1#32
  let arg13 : BitVec 32 := Scf.iv c0_i32_83 c1_i32_85 k1_t2
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 1, v337.toNat]
def k1_off16 (k1_t2 : Fin k1_t2_loop.trips) (c0_i32_330 : BitVec 32) : Fin 4 → Nat :=
  let c0_i32_342 : BitVec 32 := 0#32
  let v343 : Index := Scalar.indexCast c0_i32_342
  let c3_i32 : BitVec 32 := 3#32
  let v344 : Index := Scalar.indexCast c3_i32
  let c1_i32_343 : BitVec 32 := 1#32
  let v345 : Index := Scalar.indexCast c1_i32_343
  let c0_i32_83 : BitVec 32 := 0#32
  let c1_i32_85 : BitVec 32 := 1#32
  let arg13 : BitVec 32 := Scf.iv c0_i32_83 c1_i32_85 k1_t2
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 1, v346.toNat]
def k1_off17 (k1_t2 : Fin k1_t2_loop.trips) (c0_i32_330 : BitVec 32) : Fin 4 → Nat :=
  let c0_i32_344 : BitVec 32 := 0#32
  let v352 : Index := Scalar.indexCast c0_i32_344
  let c4_i32_345 : BitVec 32 := 4#32
  let v353 : Index := Scalar.indexCast c4_i32_345
  let c1_i32_346 : BitVec 32 := 1#32
  let v354 : Index := Scalar.indexCast c1_i32_346
  let c0_i32_83 : BitVec 32 := 0#32
  let c1_i32_85 : BitVec 32 := 1#32
  let arg13 : BitVec 32 := Scf.iv c0_i32_83 c1_i32_85 k1_t2
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 1, v355.toNat]
def k1_off18 (k1_t2 : Fin k1_t2_loop.trips) (c0_i32_330 : BitVec 32) : Fin 4 → Nat :=
  let c0_i32_347 : BitVec 32 := 0#32
  let v361 : Index := Scalar.indexCast c0_i32_347
  let c5_i32 : BitVec 32 := 5#32
  let v362 : Index := Scalar.indexCast c5_i32
  let c1_i32_348 : BitVec 32 := 1#32
  let v363 : Index := Scalar.indexCast c1_i32_348
  let c0_i32_83 : BitVec 32 := 0#32
  let c1_i32_85 : BitVec 32 := 1#32
  let arg13 : BitVec 32 := Scf.iv c0_i32_83 c1_i32_85 k1_t2
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 1, v364.toNat]
def k1_off19 (k1_t2 : Fin k1_t2_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c1_i32_351 : BitVec 32 := 1#32
  let v372 : Index := Scalar.indexCast c1_i32_351
  let c0_i32_83 : BitVec 32 := 0#32
  let c1_i32_85 : BitVec 32 := 1#32
  let arg13 : BitVec 32 := Scf.iv c0_i32_83 c1_i32_85 k1_t2
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 1, v373.toNat]
def k1_off20 (k1_t2 : Fin k1_t2_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c1_i32_353 : BitVec 32 := 1#32
  let v381 : Index := Scalar.indexCast c1_i32_353
  let c0_i32_83 : BitVec 32 := 0#32
  let c1_i32_85 : BitVec 32 := 1#32
  let arg13 : BitVec 32 := Scf.iv c0_i32_83 c1_i32_85 k1_t2
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 1, v382.toNat]
@[reducible] def k1_t3_loop : Scf.Loop 32 :=
  let c0_i32_87 : BitVec 32 := 0#32
  let c6_i32_88 : BitVec 32 := 6#32
  let v113 : BitVec 32 := Scalar.addi c0_i32_87 c6_i32_88
  let c1_i32_89 : BitVec 32 := 1#32
  ⟨c0_i32_87, v113, c1_i32_89⟩
def k1_off21 (k1_t3 : Fin k1_t3_loop.trips) (c0_i32_330 : BitVec 32) : Fin 3 → Nat :=
  let c0_i32_332 : BitVec 32 := 0#32
  let v311 : Index := Scalar.indexCast c0_i32_332
  let c2_i32 : BitVec 32 := 2#32
  let v312 : Index := Scalar.indexCast c2_i32
  let c0_i32_87 : BitVec 32 := 0#32
  let c1_i32_89 : BitVec 32 := 1#32
  let arg13 : BitVec 32 := Scf.iv c0_i32_87 c1_i32_89 k1_t3
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 2, v313.toNat]
def k1_off22 (k1_t3 : Fin k1_t3_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c2_i32_335 : BitVec 32 := 2#32
  let v318 : Index := Scalar.indexCast c2_i32_335
  let c0_i32_87 : BitVec 32 := 0#32
  let c1_i32_89 : BitVec 32 := 1#32
  let arg13 : BitVec 32 := Scf.iv c0_i32_87 c1_i32_89 k1_t3
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 2, v319.toNat]
def k1_off23 (k1_t3 : Fin k1_t3_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c2_i32_338 : BitVec 32 := 2#32
  let v327 : Index := Scalar.indexCast c2_i32_338
  let c0_i32_87 : BitVec 32 := 0#32
  let c1_i32_89 : BitVec 32 := 1#32
  let arg13 : BitVec 32 := Scf.iv c0_i32_87 c1_i32_89 k1_t3
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 2, v328.toNat]
def k1_off24 (k1_t3 : Fin k1_t3_loop.trips) (c0_i32_330 : BitVec 32) : Fin 4 → Nat :=
  let c0_i32_339 : BitVec 32 := 0#32
  let v334 : Index := Scalar.indexCast c0_i32_339
  let c2_i32_340 : BitVec 32 := 2#32
  let v335 : Index := Scalar.indexCast c2_i32_340
  let c2_i32_341 : BitVec 32 := 2#32
  let v336 : Index := Scalar.indexCast c2_i32_341
  let c0_i32_87 : BitVec 32 := 0#32
  let c1_i32_89 : BitVec 32 := 1#32
  let arg13 : BitVec 32 := Scf.iv c0_i32_87 c1_i32_89 k1_t3
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 2, v337.toNat]
def k1_off25 (k1_t3 : Fin k1_t3_loop.trips) (c0_i32_330 : BitVec 32) : Fin 4 → Nat :=
  let c0_i32_342 : BitVec 32 := 0#32
  let v343 : Index := Scalar.indexCast c0_i32_342
  let c3_i32 : BitVec 32 := 3#32
  let v344 : Index := Scalar.indexCast c3_i32
  let c2_i32_343 : BitVec 32 := 2#32
  let v345 : Index := Scalar.indexCast c2_i32_343
  let c0_i32_87 : BitVec 32 := 0#32
  let c1_i32_89 : BitVec 32 := 1#32
  let arg13 : BitVec 32 := Scf.iv c0_i32_87 c1_i32_89 k1_t3
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 2, v346.toNat]
def k1_off26 (k1_t3 : Fin k1_t3_loop.trips) (c0_i32_330 : BitVec 32) : Fin 4 → Nat :=
  let c0_i32_344 : BitVec 32 := 0#32
  let v352 : Index := Scalar.indexCast c0_i32_344
  let c4_i32_345 : BitVec 32 := 4#32
  let v353 : Index := Scalar.indexCast c4_i32_345
  let c2_i32_346 : BitVec 32 := 2#32
  let v354 : Index := Scalar.indexCast c2_i32_346
  let c0_i32_87 : BitVec 32 := 0#32
  let c1_i32_89 : BitVec 32 := 1#32
  let arg13 : BitVec 32 := Scf.iv c0_i32_87 c1_i32_89 k1_t3
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 2, v355.toNat]
def k1_off27 (k1_t3 : Fin k1_t3_loop.trips) (c0_i32_330 : BitVec 32) : Fin 4 → Nat :=
  let c0_i32_347 : BitVec 32 := 0#32
  let v361 : Index := Scalar.indexCast c0_i32_347
  let c5_i32 : BitVec 32 := 5#32
  let v362 : Index := Scalar.indexCast c5_i32
  let c2_i32_348 : BitVec 32 := 2#32
  let v363 : Index := Scalar.indexCast c2_i32_348
  let c0_i32_87 : BitVec 32 := 0#32
  let c1_i32_89 : BitVec 32 := 1#32
  let arg13 : BitVec 32 := Scf.iv c0_i32_87 c1_i32_89 k1_t3
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 2, v364.toNat]
def k1_off28 (k1_t3 : Fin k1_t3_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c2_i32_351 : BitVec 32 := 2#32
  let v372 : Index := Scalar.indexCast c2_i32_351
  let c0_i32_87 : BitVec 32 := 0#32
  let c1_i32_89 : BitVec 32 := 1#32
  let arg13 : BitVec 32 := Scf.iv c0_i32_87 c1_i32_89 k1_t3
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 2, v373.toNat]
def k1_off29 (k1_t3 : Fin k1_t3_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c2_i32_353 : BitVec 32 := 2#32
  let v381 : Index := Scalar.indexCast c2_i32_353
  let c0_i32_87 : BitVec 32 := 0#32
  let c1_i32_89 : BitVec 32 := 1#32
  let arg13 : BitVec 32 := Scf.iv c0_i32_87 c1_i32_89 k1_t3
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 2, v382.toNat]
@[reducible] def k1_t4_loop : Scf.Loop 32 :=
  let c0_i32_91 : BitVec 32 := 0#32
  let c6_i32_92 : BitVec 32 := 6#32
  let v115 : BitVec 32 := Scalar.addi c0_i32_91 c6_i32_92
  let c1_i32_93 : BitVec 32 := 1#32
  ⟨c0_i32_91, v115, c1_i32_93⟩
def k1_off30 (k1_t4 : Fin k1_t4_loop.trips) (c0_i32_330 : BitVec 32) : Fin 3 → Nat :=
  let c0_i32_332 : BitVec 32 := 0#32
  let v311 : Index := Scalar.indexCast c0_i32_332
  let c3_i32 : BitVec 32 := 3#32
  let v312 : Index := Scalar.indexCast c3_i32
  let c0_i32_91 : BitVec 32 := 0#32
  let c1_i32_93 : BitVec 32 := 1#32
  let arg13 : BitVec 32 := Scf.iv c0_i32_91 c1_i32_93 k1_t4
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 3, v313.toNat]
def k1_off31 (k1_t4 : Fin k1_t4_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c3_i32_335 : BitVec 32 := 3#32
  let v318 : Index := Scalar.indexCast c3_i32_335
  let c0_i32_91 : BitVec 32 := 0#32
  let c1_i32_93 : BitVec 32 := 1#32
  let arg13 : BitVec 32 := Scf.iv c0_i32_91 c1_i32_93 k1_t4
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 3, v319.toNat]
def k1_off32 (k1_t4 : Fin k1_t4_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c3_i32_338 : BitVec 32 := 3#32
  let v327 : Index := Scalar.indexCast c3_i32_338
  let c0_i32_91 : BitVec 32 := 0#32
  let c1_i32_93 : BitVec 32 := 1#32
  let arg13 : BitVec 32 := Scf.iv c0_i32_91 c1_i32_93 k1_t4
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 3, v328.toNat]
def k1_off33 (k1_t4 : Fin k1_t4_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c3_i32_340 : BitVec 32 := 3#32
  let v336 : Index := Scalar.indexCast c3_i32_340
  let c0_i32_91 : BitVec 32 := 0#32
  let c1_i32_93 : BitVec 32 := 1#32
  let arg13 : BitVec 32 := Scf.iv c0_i32_91 c1_i32_93 k1_t4
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 3, v337.toNat]
def k1_off34 (k1_t4 : Fin k1_t4_loop.trips) (c0_i32_330 : BitVec 32) : Fin 4 → Nat :=
  let c0_i32_341 : BitVec 32 := 0#32
  let v343 : Index := Scalar.indexCast c0_i32_341
  let c3_i32_342 : BitVec 32 := 3#32
  let v344 : Index := Scalar.indexCast c3_i32_342
  let c3_i32_343 : BitVec 32 := 3#32
  let v345 : Index := Scalar.indexCast c3_i32_343
  let c0_i32_91 : BitVec 32 := 0#32
  let c1_i32_93 : BitVec 32 := 1#32
  let arg13 : BitVec 32 := Scf.iv c0_i32_91 c1_i32_93 k1_t4
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 3, v346.toNat]
def k1_off35 (k1_t4 : Fin k1_t4_loop.trips) (c0_i32_330 : BitVec 32) : Fin 4 → Nat :=
  let c0_i32_344 : BitVec 32 := 0#32
  let v352 : Index := Scalar.indexCast c0_i32_344
  let c4_i32_345 : BitVec 32 := 4#32
  let v353 : Index := Scalar.indexCast c4_i32_345
  let c3_i32_346 : BitVec 32 := 3#32
  let v354 : Index := Scalar.indexCast c3_i32_346
  let c0_i32_91 : BitVec 32 := 0#32
  let c1_i32_93 : BitVec 32 := 1#32
  let arg13 : BitVec 32 := Scf.iv c0_i32_91 c1_i32_93 k1_t4
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 3, v355.toNat]
def k1_off36 (k1_t4 : Fin k1_t4_loop.trips) (c0_i32_330 : BitVec 32) : Fin 4 → Nat :=
  let c0_i32_347 : BitVec 32 := 0#32
  let v361 : Index := Scalar.indexCast c0_i32_347
  let c5_i32 : BitVec 32 := 5#32
  let v362 : Index := Scalar.indexCast c5_i32
  let c3_i32_348 : BitVec 32 := 3#32
  let v363 : Index := Scalar.indexCast c3_i32_348
  let c0_i32_91 : BitVec 32 := 0#32
  let c1_i32_93 : BitVec 32 := 1#32
  let arg13 : BitVec 32 := Scf.iv c0_i32_91 c1_i32_93 k1_t4
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 3, v364.toNat]
def k1_off37 (k1_t4 : Fin k1_t4_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c3_i32_351 : BitVec 32 := 3#32
  let v372 : Index := Scalar.indexCast c3_i32_351
  let c0_i32_91 : BitVec 32 := 0#32
  let c1_i32_93 : BitVec 32 := 1#32
  let arg13 : BitVec 32 := Scf.iv c0_i32_91 c1_i32_93 k1_t4
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 3, v373.toNat]
def k1_off38 (k1_t4 : Fin k1_t4_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c3_i32_353 : BitVec 32 := 3#32
  let v381 : Index := Scalar.indexCast c3_i32_353
  let c0_i32_91 : BitVec 32 := 0#32
  let c1_i32_93 : BitVec 32 := 1#32
  let arg13 : BitVec 32 := Scf.iv c0_i32_91 c1_i32_93 k1_t4
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 3, v382.toNat]
@[reducible] def k1_t5_loop : Scf.Loop 32 :=
  let c0_i32_95 : BitVec 32 := 0#32
  let c6_i32_96 : BitVec 32 := 6#32
  let v117 : BitVec 32 := Scalar.addi c0_i32_95 c6_i32_96
  let c1_i32_97 : BitVec 32 := 1#32
  ⟨c0_i32_95, v117, c1_i32_97⟩
def k1_off39 (k1_t5 : Fin k1_t5_loop.trips) (c0_i32_330 : BitVec 32) : Fin 3 → Nat :=
  let c0_i32_332 : BitVec 32 := 0#32
  let v311 : Index := Scalar.indexCast c0_i32_332
  let c4_i32_333 : BitVec 32 := 4#32
  let v312 : Index := Scalar.indexCast c4_i32_333
  let c0_i32_95 : BitVec 32 := 0#32
  let c1_i32_97 : BitVec 32 := 1#32
  let arg13 : BitVec 32 := Scf.iv c0_i32_95 c1_i32_97 k1_t5
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 4, v313.toNat]
def k1_off40 (k1_t5 : Fin k1_t5_loop.trips) (c0_i32_330 : BitVec 32) : Fin 4 → Nat :=
  let c0_i32_334 : BitVec 32 := 0#32
  let v316 : Index := Scalar.indexCast c0_i32_334
  let c0_i32_335 : BitVec 32 := 0#32
  let v317 : Index := Scalar.indexCast c0_i32_335
  let c4_i32_336 : BitVec 32 := 4#32
  let v318 : Index := Scalar.indexCast c4_i32_336
  let c0_i32_95 : BitVec 32 := 0#32
  let c1_i32_97 : BitVec 32 := 1#32
  let arg13 : BitVec 32 := Scf.iv c0_i32_95 c1_i32_97 k1_t5
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 4, v319.toNat]
def k1_off41 (k1_t5 : Fin k1_t5_loop.trips) (c0_i32_330 : BitVec 32) : Fin 4 → Nat :=
  let c0_i32_337 : BitVec 32 := 0#32
  let v325 : Index := Scalar.indexCast c0_i32_337
  let c1_i32_338 : BitVec 32 := 1#32
  let v326 : Index := Scalar.indexCast c1_i32_338
  let c4_i32_339 : BitVec 32 := 4#32
  let v327 : Index := Scalar.indexCast c4_i32_339
  let c0_i32_95 : BitVec 32 := 0#32
  let c1_i32_97 : BitVec 32 := 1#32
  let arg13 : BitVec 32 := Scf.iv c0_i32_95 c1_i32_97 k1_t5
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 4, v328.toNat]
def k1_off42 (k1_t5 : Fin k1_t5_loop.trips) (c0_i32_330 : BitVec 32) : Fin 4 → Nat :=
  let c0_i32_340 : BitVec 32 := 0#32
  let v334 : Index := Scalar.indexCast c0_i32_340
  let c2_i32 : BitVec 32 := 2#32
  let v335 : Index := Scalar.indexCast c2_i32
  let c4_i32_341 : BitVec 32 := 4#32
  let v336 : Index := Scalar.indexCast c4_i32_341
  let c0_i32_95 : BitVec 32 := 0#32
  let c1_i32_97 : BitVec 32 := 1#32
  let arg13 : BitVec 32 := Scf.iv c0_i32_95 c1_i32_97 k1_t5
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 4, v337.toNat]
def k1_off43 (k1_t5 : Fin k1_t5_loop.trips) (c0_i32_330 : BitVec 32) : Fin 4 → Nat :=
  let c0_i32_342 : BitVec 32 := 0#32
  let v343 : Index := Scalar.indexCast c0_i32_342
  let c3_i32 : BitVec 32 := 3#32
  let v344 : Index := Scalar.indexCast c3_i32
  let c4_i32_343 : BitVec 32 := 4#32
  let v345 : Index := Scalar.indexCast c4_i32_343
  let c0_i32_95 : BitVec 32 := 0#32
  let c1_i32_97 : BitVec 32 := 1#32
  let arg13 : BitVec 32 := Scf.iv c0_i32_95 c1_i32_97 k1_t5
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 4, v346.toNat]
def k1_off44 (k1_t5 : Fin k1_t5_loop.trips) (c0_i32_330 : BitVec 32) : Fin 4 → Nat :=
  let c0_i32_344 : BitVec 32 := 0#32
  let v352 : Index := Scalar.indexCast c0_i32_344
  let c4_i32_345 : BitVec 32 := 4#32
  let v353 : Index := Scalar.indexCast c4_i32_345
  let c4_i32_346 : BitVec 32 := 4#32
  let v354 : Index := Scalar.indexCast c4_i32_346
  let c0_i32_95 : BitVec 32 := 0#32
  let c1_i32_97 : BitVec 32 := 1#32
  let arg13 : BitVec 32 := Scf.iv c0_i32_95 c1_i32_97 k1_t5
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 4, v355.toNat]
def k1_off45 (k1_t5 : Fin k1_t5_loop.trips) (c0_i32_330 : BitVec 32) : Fin 4 → Nat :=
  let c0_i32_347 : BitVec 32 := 0#32
  let v361 : Index := Scalar.indexCast c0_i32_347
  let c5_i32 : BitVec 32 := 5#32
  let v362 : Index := Scalar.indexCast c5_i32
  let c4_i32_348 : BitVec 32 := 4#32
  let v363 : Index := Scalar.indexCast c4_i32_348
  let c0_i32_95 : BitVec 32 := 0#32
  let c1_i32_97 : BitVec 32 := 1#32
  let arg13 : BitVec 32 := Scf.iv c0_i32_95 c1_i32_97 k1_t5
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 4, v364.toNat]
def k1_off46 (k1_t5 : Fin k1_t5_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c4_i32_351 : BitVec 32 := 4#32
  let v372 : Index := Scalar.indexCast c4_i32_351
  let c0_i32_95 : BitVec 32 := 0#32
  let c1_i32_97 : BitVec 32 := 1#32
  let arg13 : BitVec 32 := Scf.iv c0_i32_95 c1_i32_97 k1_t5
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 4, v373.toNat]
def k1_off47 (k1_t5 : Fin k1_t5_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c4_i32_353 : BitVec 32 := 4#32
  let v381 : Index := Scalar.indexCast c4_i32_353
  let c0_i32_95 : BitVec 32 := 0#32
  let c1_i32_97 : BitVec 32 := 1#32
  let arg13 : BitVec 32 := Scf.iv c0_i32_95 c1_i32_97 k1_t5
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 4, v382.toNat]
@[reducible] def k1_t6_loop : Scf.Loop 32 :=
  let c0_i32_99 : BitVec 32 := 0#32
  let c6_i32_100 : BitVec 32 := 6#32
  let v119 : BitVec 32 := Scalar.addi c0_i32_99 c6_i32_100
  let c1_i32_101 : BitVec 32 := 1#32
  ⟨c0_i32_99, v119, c1_i32_101⟩
def k1_off48 (k1_t6 : Fin k1_t6_loop.trips) (c0_i32_330 : BitVec 32) : Fin 3 → Nat :=
  let c0_i32_332 : BitVec 32 := 0#32
  let v311 : Index := Scalar.indexCast c0_i32_332
  let c5_i32 : BitVec 32 := 5#32
  let v312 : Index := Scalar.indexCast c5_i32
  let c0_i32_99 : BitVec 32 := 0#32
  let c1_i32_101 : BitVec 32 := 1#32
  let arg13 : BitVec 32 := Scf.iv c0_i32_99 c1_i32_101 k1_t6
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 5, v313.toNat]
def k1_off49 (k1_t6 : Fin k1_t6_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c5_i32_335 : BitVec 32 := 5#32
  let v318 : Index := Scalar.indexCast c5_i32_335
  let c0_i32_99 : BitVec 32 := 0#32
  let c1_i32_101 : BitVec 32 := 1#32
  let arg13 : BitVec 32 := Scf.iv c0_i32_99 c1_i32_101 k1_t6
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 5, v319.toNat]
def k1_off50 (k1_t6 : Fin k1_t6_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c5_i32_338 : BitVec 32 := 5#32
  let v327 : Index := Scalar.indexCast c5_i32_338
  let c0_i32_99 : BitVec 32 := 0#32
  let c1_i32_101 : BitVec 32 := 1#32
  let arg13 : BitVec 32 := Scf.iv c0_i32_99 c1_i32_101 k1_t6
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 5, v328.toNat]
def k1_off51 (k1_t6 : Fin k1_t6_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c5_i32_340 : BitVec 32 := 5#32
  let v336 : Index := Scalar.indexCast c5_i32_340
  let c0_i32_99 : BitVec 32 := 0#32
  let c1_i32_101 : BitVec 32 := 1#32
  let arg13 : BitVec 32 := Scf.iv c0_i32_99 c1_i32_101 k1_t6
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 5, v337.toNat]
def k1_off52 (k1_t6 : Fin k1_t6_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c5_i32_342 : BitVec 32 := 5#32
  let v345 : Index := Scalar.indexCast c5_i32_342
  let c0_i32_99 : BitVec 32 := 0#32
  let c1_i32_101 : BitVec 32 := 1#32
  let arg13 : BitVec 32 := Scf.iv c0_i32_99 c1_i32_101 k1_t6
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 5, v346.toNat]
def k1_off53 (k1_t6 : Fin k1_t6_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c5_i32_345 : BitVec 32 := 5#32
  let v354 : Index := Scalar.indexCast c5_i32_345
  let c0_i32_99 : BitVec 32 := 0#32
  let c1_i32_101 : BitVec 32 := 1#32
  let arg13 : BitVec 32 := Scf.iv c0_i32_99 c1_i32_101 k1_t6
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 5, v355.toNat]
def k1_off54 (k1_t6 : Fin k1_t6_loop.trips) (c0_i32_330 : BitVec 32) : Fin 4 → Nat :=
  let c0_i32_346 : BitVec 32 := 0#32
  let v361 : Index := Scalar.indexCast c0_i32_346
  let c5_i32_347 : BitVec 32 := 5#32
  let v362 : Index := Scalar.indexCast c5_i32_347
  let c5_i32_348 : BitVec 32 := 5#32
  let v363 : Index := Scalar.indexCast c5_i32_348
  let c0_i32_99 : BitVec 32 := 0#32
  let c1_i32_101 : BitVec 32 := 1#32
  let arg13 : BitVec 32 := Scf.iv c0_i32_99 c1_i32_101 k1_t6
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 5, v364.toNat]
def k1_off55 (k1_t6 : Fin k1_t6_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c5_i32_351 : BitVec 32 := 5#32
  let v372 : Index := Scalar.indexCast c5_i32_351
  let c0_i32_99 : BitVec 32 := 0#32
  let c1_i32_101 : BitVec 32 := 1#32
  let arg13 : BitVec 32 := Scf.iv c0_i32_99 c1_i32_101 k1_t6
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 5, v373.toNat]
def k1_off56 (k1_t6 : Fin k1_t6_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c5_i32_353 : BitVec 32 := 5#32
  let v381 : Index := Scalar.indexCast c5_i32_353
  let c0_i32_99 : BitVec 32 := 0#32
  let c1_i32_101 : BitVec 32 := 1#32
  let arg13 : BitVec 32 := Scf.iv c0_i32_99 c1_i32_101 k1_t6
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 5, v382.toNat]
@[reducible] def k1_t7_loop : Scf.Loop 32 :=
  let c0_i32_103 : BitVec 32 := 0#32
  let c6_i32_104 : BitVec 32 := 6#32
  let v121 : BitVec 32 := Scalar.addi c0_i32_103 c6_i32_104
  let c1_i32_105 : BitVec 32 := 1#32
  ⟨c0_i32_103, v121, c1_i32_105⟩
def k1_off57 (k1_t7 : Fin k1_t7_loop.trips) (c0_i32_330 : BitVec 32) : Fin 3 → Nat :=
  let c0_i32_332 : BitVec 32 := 0#32
  let v311 : Index := Scalar.indexCast c0_i32_332
  let c6_i32_333 : BitVec 32 := 6#32
  let v312 : Index := Scalar.indexCast c6_i32_333
  let c0_i32_103 : BitVec 32 := 0#32
  let c1_i32_105 : BitVec 32 := 1#32
  let arg13 : BitVec 32 := Scf.iv c0_i32_103 c1_i32_105 k1_t7
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 6, v313.toNat]
def k1_off58 (k1_t7 : Fin k1_t7_loop.trips) (c0_i32_330 : BitVec 32) : Fin 4 → Nat :=
  let c0_i32_334 : BitVec 32 := 0#32
  let v316 : Index := Scalar.indexCast c0_i32_334
  let c0_i32_335 : BitVec 32 := 0#32
  let v317 : Index := Scalar.indexCast c0_i32_335
  let c6_i32_336 : BitVec 32 := 6#32
  let v318 : Index := Scalar.indexCast c6_i32_336
  let c0_i32_103 : BitVec 32 := 0#32
  let c1_i32_105 : BitVec 32 := 1#32
  let arg13 : BitVec 32 := Scf.iv c0_i32_103 c1_i32_105 k1_t7
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 6, v319.toNat]
def k1_off59 (k1_t7 : Fin k1_t7_loop.trips) (c0_i32_330 : BitVec 32) : Fin 4 → Nat :=
  let c0_i32_337 : BitVec 32 := 0#32
  let v325 : Index := Scalar.indexCast c0_i32_337
  let c1_i32_338 : BitVec 32 := 1#32
  let v326 : Index := Scalar.indexCast c1_i32_338
  let c6_i32_339 : BitVec 32 := 6#32
  let v327 : Index := Scalar.indexCast c6_i32_339
  let c0_i32_103 : BitVec 32 := 0#32
  let c1_i32_105 : BitVec 32 := 1#32
  let arg13 : BitVec 32 := Scf.iv c0_i32_103 c1_i32_105 k1_t7
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 6, v328.toNat]
def k1_off60 (k1_t7 : Fin k1_t7_loop.trips) (c0_i32_330 : BitVec 32) : Fin 4 → Nat :=
  let c0_i32_340 : BitVec 32 := 0#32
  let v334 : Index := Scalar.indexCast c0_i32_340
  let c2_i32 : BitVec 32 := 2#32
  let v335 : Index := Scalar.indexCast c2_i32
  let c6_i32_341 : BitVec 32 := 6#32
  let v336 : Index := Scalar.indexCast c6_i32_341
  let c0_i32_103 : BitVec 32 := 0#32
  let c1_i32_105 : BitVec 32 := 1#32
  let arg13 : BitVec 32 := Scf.iv c0_i32_103 c1_i32_105 k1_t7
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 6, v337.toNat]
def k1_off61 (k1_t7 : Fin k1_t7_loop.trips) (c0_i32_330 : BitVec 32) : Fin 4 → Nat :=
  let c0_i32_342 : BitVec 32 := 0#32
  let v343 : Index := Scalar.indexCast c0_i32_342
  let c3_i32 : BitVec 32 := 3#32
  let v344 : Index := Scalar.indexCast c3_i32
  let c6_i32_343 : BitVec 32 := 6#32
  let v345 : Index := Scalar.indexCast c6_i32_343
  let c0_i32_103 : BitVec 32 := 0#32
  let c1_i32_105 : BitVec 32 := 1#32
  let arg13 : BitVec 32 := Scf.iv c0_i32_103 c1_i32_105 k1_t7
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 6, v346.toNat]
def k1_off62 (k1_t7 : Fin k1_t7_loop.trips) (c0_i32_330 : BitVec 32) : Fin 4 → Nat :=
  let c0_i32_344 : BitVec 32 := 0#32
  let v352 : Index := Scalar.indexCast c0_i32_344
  let c4_i32_345 : BitVec 32 := 4#32
  let v353 : Index := Scalar.indexCast c4_i32_345
  let c6_i32_346 : BitVec 32 := 6#32
  let v354 : Index := Scalar.indexCast c6_i32_346
  let c0_i32_103 : BitVec 32 := 0#32
  let c1_i32_105 : BitVec 32 := 1#32
  let arg13 : BitVec 32 := Scf.iv c0_i32_103 c1_i32_105 k1_t7
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 6, v355.toNat]
def k1_off63 (k1_t7 : Fin k1_t7_loop.trips) (c0_i32_330 : BitVec 32) : Fin 4 → Nat :=
  let c0_i32_347 : BitVec 32 := 0#32
  let v361 : Index := Scalar.indexCast c0_i32_347
  let c5_i32 : BitVec 32 := 5#32
  let v362 : Index := Scalar.indexCast c5_i32
  let c6_i32_348 : BitVec 32 := 6#32
  let v363 : Index := Scalar.indexCast c6_i32_348
  let c0_i32_103 : BitVec 32 := 0#32
  let c1_i32_105 : BitVec 32 := 1#32
  let arg13 : BitVec 32 := Scf.iv c0_i32_103 c1_i32_105 k1_t7
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 6, v364.toNat]
def k1_off64 (k1_t7 : Fin k1_t7_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c6_i32_351 : BitVec 32 := 6#32
  let v372 : Index := Scalar.indexCast c6_i32_351
  let c0_i32_103 : BitVec 32 := 0#32
  let c1_i32_105 : BitVec 32 := 1#32
  let arg13 : BitVec 32 := Scf.iv c0_i32_103 c1_i32_105 k1_t7
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 6, v373.toNat]
def k1_off65 (k1_t7 : Fin k1_t7_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c6_i32_353 : BitVec 32 := 6#32
  let v381 : Index := Scalar.indexCast c6_i32_353
  let c0_i32_103 : BitVec 32 := 0#32
  let c1_i32_105 : BitVec 32 := 1#32
  let arg13 : BitVec 32 := Scf.iv c0_i32_103 c1_i32_105 k1_t7
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 6, v382.toNat]
@[reducible] def k1_t8_loop : Scf.Loop 32 :=
  let c0_i32_107 : BitVec 32 := 0#32
  let c6_i32_108 : BitVec 32 := 6#32
  let v123 : BitVec 32 := Scalar.addi c0_i32_107 c6_i32_108
  let c1_i32_109 : BitVec 32 := 1#32
  ⟨c0_i32_107, v123, c1_i32_109⟩
def k1_off66 (k1_t8 : Fin k1_t8_loop.trips) (c0_i32_330 : BitVec 32) : Fin 3 → Nat :=
  let c0_i32_332 : BitVec 32 := 0#32
  let v311 : Index := Scalar.indexCast c0_i32_332
  let c7_i32 : BitVec 32 := 7#32
  let v312 : Index := Scalar.indexCast c7_i32
  let c0_i32_107 : BitVec 32 := 0#32
  let c1_i32_109 : BitVec 32 := 1#32
  let arg13 : BitVec 32 := Scf.iv c0_i32_107 c1_i32_109 k1_t8
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 7, v313.toNat]
def k1_off67 (k1_t8 : Fin k1_t8_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c7_i32_335 : BitVec 32 := 7#32
  let v318 : Index := Scalar.indexCast c7_i32_335
  let c0_i32_107 : BitVec 32 := 0#32
  let c1_i32_109 : BitVec 32 := 1#32
  let arg13 : BitVec 32 := Scf.iv c0_i32_107 c1_i32_109 k1_t8
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 7, v319.toNat]
def k1_off68 (k1_t8 : Fin k1_t8_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c7_i32_338 : BitVec 32 := 7#32
  let v327 : Index := Scalar.indexCast c7_i32_338
  let c0_i32_107 : BitVec 32 := 0#32
  let c1_i32_109 : BitVec 32 := 1#32
  let arg13 : BitVec 32 := Scf.iv c0_i32_107 c1_i32_109 k1_t8
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 7, v328.toNat]
def k1_off69 (k1_t8 : Fin k1_t8_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c7_i32_340 : BitVec 32 := 7#32
  let v336 : Index := Scalar.indexCast c7_i32_340
  let c0_i32_107 : BitVec 32 := 0#32
  let c1_i32_109 : BitVec 32 := 1#32
  let arg13 : BitVec 32 := Scf.iv c0_i32_107 c1_i32_109 k1_t8
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 7, v337.toNat]
def k1_off70 (k1_t8 : Fin k1_t8_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c7_i32_342 : BitVec 32 := 7#32
  let v345 : Index := Scalar.indexCast c7_i32_342
  let c0_i32_107 : BitVec 32 := 0#32
  let c1_i32_109 : BitVec 32 := 1#32
  let arg13 : BitVec 32 := Scf.iv c0_i32_107 c1_i32_109 k1_t8
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 7, v346.toNat]
def k1_off71 (k1_t8 : Fin k1_t8_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c7_i32_345 : BitVec 32 := 7#32
  let v354 : Index := Scalar.indexCast c7_i32_345
  let c0_i32_107 : BitVec 32 := 0#32
  let c1_i32_109 : BitVec 32 := 1#32
  let arg13 : BitVec 32 := Scf.iv c0_i32_107 c1_i32_109 k1_t8
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 7, v355.toNat]
def k1_off72 (k1_t8 : Fin k1_t8_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c7_i32_347 : BitVec 32 := 7#32
  let v363 : Index := Scalar.indexCast c7_i32_347
  let c0_i32_107 : BitVec 32 := 0#32
  let c1_i32_109 : BitVec 32 := 1#32
  let arg13 : BitVec 32 := Scf.iv c0_i32_107 c1_i32_109 k1_t8
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 7, v364.toNat]
def k1_off73 (k1_t8 : Fin k1_t8_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c7_i32_350 : BitVec 32 := 7#32
  let v372 : Index := Scalar.indexCast c7_i32_350
  let c0_i32_107 : BitVec 32 := 0#32
  let c1_i32_109 : BitVec 32 := 1#32
  let arg13 : BitVec 32 := Scf.iv c0_i32_107 c1_i32_109 k1_t8
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 7, v373.toNat]
def k1_off74 (k1_t8 : Fin k1_t8_loop.trips) (c0_i32_330 : BitVec 32) : Fin 4 → Nat :=
  let c0_i32_351 : BitVec 32 := 0#32
  let v379 : Index := Scalar.indexCast c0_i32_351
  let c7_i32_352 : BitVec 32 := 7#32
  let v380 : Index := Scalar.indexCast c7_i32_352
  let c7_i32_353 : BitVec 32 := 7#32
  let v381 : Index := Scalar.indexCast c7_i32_353
  let c0_i32_107 : BitVec 32 := 0#32
  let c1_i32_109 : BitVec 32 := 1#32
  let arg13 : BitVec 32 := Scf.iv c0_i32_107 c1_i32_109 k1_t8
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 7, v382.toNat]
@[reducible] def k1_t9_loop : Scf.Loop 32 :=
  let c0_i32_111 : BitVec 32 := 0#32
  let c6_i32_112 : BitVec 32 := 6#32
  let v125 : BitVec 32 := Scalar.addi c0_i32_111 c6_i32_112
  let c1_i32_113 : BitVec 32 := 1#32
  ⟨c0_i32_111, v125, c1_i32_113⟩
def k1_off75 (k1_t9 : Fin k1_t9_loop.trips) (c0_i32_330 : BitVec 32) : Fin 3 → Nat :=
  let c0_i32_332 : BitVec 32 := 0#32
  let v311 : Index := Scalar.indexCast c0_i32_332
  let c8_i32 : BitVec 32 := 8#32
  let v312 : Index := Scalar.indexCast c8_i32
  let c0_i32_111 : BitVec 32 := 0#32
  let c1_i32_113 : BitVec 32 := 1#32
  let arg13 : BitVec 32 := Scf.iv c0_i32_111 c1_i32_113 k1_t9
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 8, v313.toNat]
def k1_off76 (k1_t9 : Fin k1_t9_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c8_i32_335 : BitVec 32 := 8#32
  let v318 : Index := Scalar.indexCast c8_i32_335
  let c0_i32_111 : BitVec 32 := 0#32
  let c1_i32_113 : BitVec 32 := 1#32
  let arg13 : BitVec 32 := Scf.iv c0_i32_111 c1_i32_113 k1_t9
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 8, v319.toNat]
def k1_off77 (k1_t9 : Fin k1_t9_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c8_i32_338 : BitVec 32 := 8#32
  let v327 : Index := Scalar.indexCast c8_i32_338
  let c0_i32_111 : BitVec 32 := 0#32
  let c1_i32_113 : BitVec 32 := 1#32
  let arg13 : BitVec 32 := Scf.iv c0_i32_111 c1_i32_113 k1_t9
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 8, v328.toNat]
def k1_off78 (k1_t9 : Fin k1_t9_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c8_i32_340 : BitVec 32 := 8#32
  let v336 : Index := Scalar.indexCast c8_i32_340
  let c0_i32_111 : BitVec 32 := 0#32
  let c1_i32_113 : BitVec 32 := 1#32
  let arg13 : BitVec 32 := Scf.iv c0_i32_111 c1_i32_113 k1_t9
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 8, v337.toNat]
def k1_off79 (k1_t9 : Fin k1_t9_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c8_i32_342 : BitVec 32 := 8#32
  let v345 : Index := Scalar.indexCast c8_i32_342
  let c0_i32_111 : BitVec 32 := 0#32
  let c1_i32_113 : BitVec 32 := 1#32
  let arg13 : BitVec 32 := Scf.iv c0_i32_111 c1_i32_113 k1_t9
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 8, v346.toNat]
def k1_off80 (k1_t9 : Fin k1_t9_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c8_i32_345 : BitVec 32 := 8#32
  let v354 : Index := Scalar.indexCast c8_i32_345
  let c0_i32_111 : BitVec 32 := 0#32
  let c1_i32_113 : BitVec 32 := 1#32
  let arg13 : BitVec 32 := Scf.iv c0_i32_111 c1_i32_113 k1_t9
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 8, v355.toNat]
def k1_off81 (k1_t9 : Fin k1_t9_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c8_i32_347 : BitVec 32 := 8#32
  let v363 : Index := Scalar.indexCast c8_i32_347
  let c0_i32_111 : BitVec 32 := 0#32
  let c1_i32_113 : BitVec 32 := 1#32
  let arg13 : BitVec 32 := Scf.iv c0_i32_111 c1_i32_113 k1_t9
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 8, v364.toNat]
def k1_off82 (k1_t9 : Fin k1_t9_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c8_i32_350 : BitVec 32 := 8#32
  let v372 : Index := Scalar.indexCast c8_i32_350
  let c0_i32_111 : BitVec 32 := 0#32
  let c1_i32_113 : BitVec 32 := 1#32
  let arg13 : BitVec 32 := Scf.iv c0_i32_111 c1_i32_113 k1_t9
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 8, v373.toNat]
def k1_off83 (k1_t9 : Fin k1_t9_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c8_i32_352 : BitVec 32 := 8#32
  let v381 : Index := Scalar.indexCast c8_i32_352
  let c0_i32_111 : BitVec 32 := 0#32
  let c1_i32_113 : BitVec 32 := 1#32
  let arg13 : BitVec 32 := Scf.iv c0_i32_111 c1_i32_113 k1_t9
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 8, v382.toNat]
@[reducible] def k1_t10_loop : Scf.Loop 32 :=
  let c0_i32_115 : BitVec 32 := 0#32
  let c6_i32_116 : BitVec 32 := 6#32
  let v127 : BitVec 32 := Scalar.addi c0_i32_115 c6_i32_116
  let c1_i32_117 : BitVec 32 := 1#32
  ⟨c0_i32_115, v127, c1_i32_117⟩
def k1_off84 (k1_t10 : Fin k1_t10_loop.trips) (c0_i32_330 : BitVec 32) : Fin 3 → Nat :=
  let c0_i32_332 : BitVec 32 := 0#32
  let v311 : Index := Scalar.indexCast c0_i32_332
  let c9_i32 : BitVec 32 := 9#32
  let v312 : Index := Scalar.indexCast c9_i32
  let c0_i32_115 : BitVec 32 := 0#32
  let c1_i32_117 : BitVec 32 := 1#32
  let arg13 : BitVec 32 := Scf.iv c0_i32_115 c1_i32_117 k1_t10
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 9, v313.toNat]
def k1_off85 (k1_t10 : Fin k1_t10_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c9_i32_335 : BitVec 32 := 9#32
  let v318 : Index := Scalar.indexCast c9_i32_335
  let c0_i32_115 : BitVec 32 := 0#32
  let c1_i32_117 : BitVec 32 := 1#32
  let arg13 : BitVec 32 := Scf.iv c0_i32_115 c1_i32_117 k1_t10
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 9, v319.toNat]
def k1_off86 (k1_t10 : Fin k1_t10_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c9_i32_338 : BitVec 32 := 9#32
  let v327 : Index := Scalar.indexCast c9_i32_338
  let c0_i32_115 : BitVec 32 := 0#32
  let c1_i32_117 : BitVec 32 := 1#32
  let arg13 : BitVec 32 := Scf.iv c0_i32_115 c1_i32_117 k1_t10
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 9, v328.toNat]
def k1_off87 (k1_t10 : Fin k1_t10_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c9_i32_340 : BitVec 32 := 9#32
  let v336 : Index := Scalar.indexCast c9_i32_340
  let c0_i32_115 : BitVec 32 := 0#32
  let c1_i32_117 : BitVec 32 := 1#32
  let arg13 : BitVec 32 := Scf.iv c0_i32_115 c1_i32_117 k1_t10
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 9, v337.toNat]
def k1_off88 (k1_t10 : Fin k1_t10_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c9_i32_342 : BitVec 32 := 9#32
  let v345 : Index := Scalar.indexCast c9_i32_342
  let c0_i32_115 : BitVec 32 := 0#32
  let c1_i32_117 : BitVec 32 := 1#32
  let arg13 : BitVec 32 := Scf.iv c0_i32_115 c1_i32_117 k1_t10
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 9, v346.toNat]
def k1_off89 (k1_t10 : Fin k1_t10_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c9_i32_345 : BitVec 32 := 9#32
  let v354 : Index := Scalar.indexCast c9_i32_345
  let c0_i32_115 : BitVec 32 := 0#32
  let c1_i32_117 : BitVec 32 := 1#32
  let arg13 : BitVec 32 := Scf.iv c0_i32_115 c1_i32_117 k1_t10
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 9, v355.toNat]
def k1_off90 (k1_t10 : Fin k1_t10_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c9_i32_347 : BitVec 32 := 9#32
  let v363 : Index := Scalar.indexCast c9_i32_347
  let c0_i32_115 : BitVec 32 := 0#32
  let c1_i32_117 : BitVec 32 := 1#32
  let arg13 : BitVec 32 := Scf.iv c0_i32_115 c1_i32_117 k1_t10
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 9, v364.toNat]
def k1_off91 (k1_t10 : Fin k1_t10_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c9_i32_350 : BitVec 32 := 9#32
  let v372 : Index := Scalar.indexCast c9_i32_350
  let c0_i32_115 : BitVec 32 := 0#32
  let c1_i32_117 : BitVec 32 := 1#32
  let arg13 : BitVec 32 := Scf.iv c0_i32_115 c1_i32_117 k1_t10
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 9, v373.toNat]
def k1_off92 (k1_t10 : Fin k1_t10_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c9_i32_352 : BitVec 32 := 9#32
  let v381 : Index := Scalar.indexCast c9_i32_352
  let c0_i32_115 : BitVec 32 := 0#32
  let c1_i32_117 : BitVec 32 := 1#32
  let arg13 : BitVec 32 := Scf.iv c0_i32_115 c1_i32_117 k1_t10
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 9, v382.toNat]
@[reducible] def k1_t11_loop : Scf.Loop 32 :=
  let c0_i32_119 : BitVec 32 := 0#32
  let c6_i32_120 : BitVec 32 := 6#32
  let v129 : BitVec 32 := Scalar.addi c0_i32_119 c6_i32_120
  let c1_i32_121 : BitVec 32 := 1#32
  ⟨c0_i32_119, v129, c1_i32_121⟩
def k1_off93 (k1_t11 : Fin k1_t11_loop.trips) (c0_i32_330 : BitVec 32) : Fin 3 → Nat :=
  let c0_i32_332 : BitVec 32 := 0#32
  let v311 : Index := Scalar.indexCast c0_i32_332
  let c10_i32 : BitVec 32 := 10#32
  let v312 : Index := Scalar.indexCast c10_i32
  let c0_i32_119 : BitVec 32 := 0#32
  let c1_i32_121 : BitVec 32 := 1#32
  let arg13 : BitVec 32 := Scf.iv c0_i32_119 c1_i32_121 k1_t11
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 10, v313.toNat]
def k1_off94 (k1_t11 : Fin k1_t11_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c10_i32_335 : BitVec 32 := 10#32
  let v318 : Index := Scalar.indexCast c10_i32_335
  let c0_i32_119 : BitVec 32 := 0#32
  let c1_i32_121 : BitVec 32 := 1#32
  let arg13 : BitVec 32 := Scf.iv c0_i32_119 c1_i32_121 k1_t11
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 10, v319.toNat]
def k1_off95 (k1_t11 : Fin k1_t11_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c10_i32_338 : BitVec 32 := 10#32
  let v327 : Index := Scalar.indexCast c10_i32_338
  let c0_i32_119 : BitVec 32 := 0#32
  let c1_i32_121 : BitVec 32 := 1#32
  let arg13 : BitVec 32 := Scf.iv c0_i32_119 c1_i32_121 k1_t11
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 10, v328.toNat]
def k1_off96 (k1_t11 : Fin k1_t11_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c10_i32_340 : BitVec 32 := 10#32
  let v336 : Index := Scalar.indexCast c10_i32_340
  let c0_i32_119 : BitVec 32 := 0#32
  let c1_i32_121 : BitVec 32 := 1#32
  let arg13 : BitVec 32 := Scf.iv c0_i32_119 c1_i32_121 k1_t11
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 10, v337.toNat]
def k1_off97 (k1_t11 : Fin k1_t11_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c10_i32_342 : BitVec 32 := 10#32
  let v345 : Index := Scalar.indexCast c10_i32_342
  let c0_i32_119 : BitVec 32 := 0#32
  let c1_i32_121 : BitVec 32 := 1#32
  let arg13 : BitVec 32 := Scf.iv c0_i32_119 c1_i32_121 k1_t11
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 10, v346.toNat]
def k1_off98 (k1_t11 : Fin k1_t11_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c10_i32_345 : BitVec 32 := 10#32
  let v354 : Index := Scalar.indexCast c10_i32_345
  let c0_i32_119 : BitVec 32 := 0#32
  let c1_i32_121 : BitVec 32 := 1#32
  let arg13 : BitVec 32 := Scf.iv c0_i32_119 c1_i32_121 k1_t11
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 10, v355.toNat]
def k1_off99 (k1_t11 : Fin k1_t11_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c10_i32_347 : BitVec 32 := 10#32
  let v363 : Index := Scalar.indexCast c10_i32_347
  let c0_i32_119 : BitVec 32 := 0#32
  let c1_i32_121 : BitVec 32 := 1#32
  let arg13 : BitVec 32 := Scf.iv c0_i32_119 c1_i32_121 k1_t11
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 10, v364.toNat]
def k1_off100 (k1_t11 : Fin k1_t11_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c10_i32_350 : BitVec 32 := 10#32
  let v372 : Index := Scalar.indexCast c10_i32_350
  let c0_i32_119 : BitVec 32 := 0#32
  let c1_i32_121 : BitVec 32 := 1#32
  let arg13 : BitVec 32 := Scf.iv c0_i32_119 c1_i32_121 k1_t11
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 10, v373.toNat]
def k1_off101 (k1_t11 : Fin k1_t11_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c10_i32_352 : BitVec 32 := 10#32
  let v381 : Index := Scalar.indexCast c10_i32_352
  let c0_i32_119 : BitVec 32 := 0#32
  let c1_i32_121 : BitVec 32 := 1#32
  let arg13 : BitVec 32 := Scf.iv c0_i32_119 c1_i32_121 k1_t11
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 10, v382.toNat]
@[reducible] def k1_t12_loop : Scf.Loop 32 :=
  let c0_i32_123 : BitVec 32 := 0#32
  let c6_i32_124 : BitVec 32 := 6#32
  let v131 : BitVec 32 := Scalar.addi c0_i32_123 c6_i32_124
  let c1_i32_125 : BitVec 32 := 1#32
  ⟨c0_i32_123, v131, c1_i32_125⟩
def k1_off102 (k1_t12 : Fin k1_t12_loop.trips) (c0_i32_330 : BitVec 32) : Fin 3 → Nat :=
  let c0_i32_332 : BitVec 32 := 0#32
  let v311 : Index := Scalar.indexCast c0_i32_332
  let c11_i32 : BitVec 32 := 11#32
  let v312 : Index := Scalar.indexCast c11_i32
  let c0_i32_123 : BitVec 32 := 0#32
  let c1_i32_125 : BitVec 32 := 1#32
  let arg13 : BitVec 32 := Scf.iv c0_i32_123 c1_i32_125 k1_t12
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 11, v313.toNat]
def k1_off103 (k1_t12 : Fin k1_t12_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c11_i32_335 : BitVec 32 := 11#32
  let v318 : Index := Scalar.indexCast c11_i32_335
  let c0_i32_123 : BitVec 32 := 0#32
  let c1_i32_125 : BitVec 32 := 1#32
  let arg13 : BitVec 32 := Scf.iv c0_i32_123 c1_i32_125 k1_t12
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 11, v319.toNat]
def k1_off104 (k1_t12 : Fin k1_t12_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c11_i32_338 : BitVec 32 := 11#32
  let v327 : Index := Scalar.indexCast c11_i32_338
  let c0_i32_123 : BitVec 32 := 0#32
  let c1_i32_125 : BitVec 32 := 1#32
  let arg13 : BitVec 32 := Scf.iv c0_i32_123 c1_i32_125 k1_t12
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 11, v328.toNat]
def k1_off105 (k1_t12 : Fin k1_t12_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c11_i32_340 : BitVec 32 := 11#32
  let v336 : Index := Scalar.indexCast c11_i32_340
  let c0_i32_123 : BitVec 32 := 0#32
  let c1_i32_125 : BitVec 32 := 1#32
  let arg13 : BitVec 32 := Scf.iv c0_i32_123 c1_i32_125 k1_t12
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 11, v337.toNat]
def k1_off106 (k1_t12 : Fin k1_t12_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c11_i32_342 : BitVec 32 := 11#32
  let v345 : Index := Scalar.indexCast c11_i32_342
  let c0_i32_123 : BitVec 32 := 0#32
  let c1_i32_125 : BitVec 32 := 1#32
  let arg13 : BitVec 32 := Scf.iv c0_i32_123 c1_i32_125 k1_t12
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 11, v346.toNat]
def k1_off107 (k1_t12 : Fin k1_t12_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c11_i32_345 : BitVec 32 := 11#32
  let v354 : Index := Scalar.indexCast c11_i32_345
  let c0_i32_123 : BitVec 32 := 0#32
  let c1_i32_125 : BitVec 32 := 1#32
  let arg13 : BitVec 32 := Scf.iv c0_i32_123 c1_i32_125 k1_t12
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 11, v355.toNat]
def k1_off108 (k1_t12 : Fin k1_t12_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c11_i32_347 : BitVec 32 := 11#32
  let v363 : Index := Scalar.indexCast c11_i32_347
  let c0_i32_123 : BitVec 32 := 0#32
  let c1_i32_125 : BitVec 32 := 1#32
  let arg13 : BitVec 32 := Scf.iv c0_i32_123 c1_i32_125 k1_t12
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 11, v364.toNat]
def k1_off109 (k1_t12 : Fin k1_t12_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c11_i32_350 : BitVec 32 := 11#32
  let v372 : Index := Scalar.indexCast c11_i32_350
  let c0_i32_123 : BitVec 32 := 0#32
  let c1_i32_125 : BitVec 32 := 1#32
  let arg13 : BitVec 32 := Scf.iv c0_i32_123 c1_i32_125 k1_t12
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 11, v373.toNat]
def k1_off110 (k1_t12 : Fin k1_t12_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c11_i32_352 : BitVec 32 := 11#32
  let v381 : Index := Scalar.indexCast c11_i32_352
  let c0_i32_123 : BitVec 32 := 0#32
  let c1_i32_125 : BitVec 32 := 1#32
  let arg13 : BitVec 32 := Scf.iv c0_i32_123 c1_i32_125 k1_t12
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 11, v382.toNat]
@[reducible] def k1_t13_loop : Scf.Loop 32 :=
  let c0_i32_127 : BitVec 32 := 0#32
  let c6_i32_128 : BitVec 32 := 6#32
  let v133 : BitVec 32 := Scalar.addi c0_i32_127 c6_i32_128
  let c1_i32_129 : BitVec 32 := 1#32
  ⟨c0_i32_127, v133, c1_i32_129⟩
def k1_off111 (k1_t13 : Fin k1_t13_loop.trips) (c0_i32_330 : BitVec 32) : Fin 3 → Nat :=
  let c0_i32_332 : BitVec 32 := 0#32
  let v311 : Index := Scalar.indexCast c0_i32_332
  let c12_i32 : BitVec 32 := 12#32
  let v312 : Index := Scalar.indexCast c12_i32
  let c0_i32_127 : BitVec 32 := 0#32
  let c1_i32_129 : BitVec 32 := 1#32
  let arg13 : BitVec 32 := Scf.iv c0_i32_127 c1_i32_129 k1_t13
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 12, v313.toNat]
def k1_off112 (k1_t13 : Fin k1_t13_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c12_i32_335 : BitVec 32 := 12#32
  let v318 : Index := Scalar.indexCast c12_i32_335
  let c0_i32_127 : BitVec 32 := 0#32
  let c1_i32_129 : BitVec 32 := 1#32
  let arg13 : BitVec 32 := Scf.iv c0_i32_127 c1_i32_129 k1_t13
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 12, v319.toNat]
def k1_off113 (k1_t13 : Fin k1_t13_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c12_i32_338 : BitVec 32 := 12#32
  let v327 : Index := Scalar.indexCast c12_i32_338
  let c0_i32_127 : BitVec 32 := 0#32
  let c1_i32_129 : BitVec 32 := 1#32
  let arg13 : BitVec 32 := Scf.iv c0_i32_127 c1_i32_129 k1_t13
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 12, v328.toNat]
def k1_off114 (k1_t13 : Fin k1_t13_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c12_i32_340 : BitVec 32 := 12#32
  let v336 : Index := Scalar.indexCast c12_i32_340
  let c0_i32_127 : BitVec 32 := 0#32
  let c1_i32_129 : BitVec 32 := 1#32
  let arg13 : BitVec 32 := Scf.iv c0_i32_127 c1_i32_129 k1_t13
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 12, v337.toNat]
def k1_off115 (k1_t13 : Fin k1_t13_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c12_i32_342 : BitVec 32 := 12#32
  let v345 : Index := Scalar.indexCast c12_i32_342
  let c0_i32_127 : BitVec 32 := 0#32
  let c1_i32_129 : BitVec 32 := 1#32
  let arg13 : BitVec 32 := Scf.iv c0_i32_127 c1_i32_129 k1_t13
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 12, v346.toNat]
def k1_off116 (k1_t13 : Fin k1_t13_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c12_i32_345 : BitVec 32 := 12#32
  let v354 : Index := Scalar.indexCast c12_i32_345
  let c0_i32_127 : BitVec 32 := 0#32
  let c1_i32_129 : BitVec 32 := 1#32
  let arg13 : BitVec 32 := Scf.iv c0_i32_127 c1_i32_129 k1_t13
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 12, v355.toNat]
def k1_off117 (k1_t13 : Fin k1_t13_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c12_i32_347 : BitVec 32 := 12#32
  let v363 : Index := Scalar.indexCast c12_i32_347
  let c0_i32_127 : BitVec 32 := 0#32
  let c1_i32_129 : BitVec 32 := 1#32
  let arg13 : BitVec 32 := Scf.iv c0_i32_127 c1_i32_129 k1_t13
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 12, v364.toNat]
def k1_off118 (k1_t13 : Fin k1_t13_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c12_i32_350 : BitVec 32 := 12#32
  let v372 : Index := Scalar.indexCast c12_i32_350
  let c0_i32_127 : BitVec 32 := 0#32
  let c1_i32_129 : BitVec 32 := 1#32
  let arg13 : BitVec 32 := Scf.iv c0_i32_127 c1_i32_129 k1_t13
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 12, v373.toNat]
def k1_off119 (k1_t13 : Fin k1_t13_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c12_i32_352 : BitVec 32 := 12#32
  let v381 : Index := Scalar.indexCast c12_i32_352
  let c0_i32_127 : BitVec 32 := 0#32
  let c1_i32_129 : BitVec 32 := 1#32
  let arg13 : BitVec 32 := Scf.iv c0_i32_127 c1_i32_129 k1_t13
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 12, v382.toNat]
@[reducible] def k1_t14_loop : Scf.Loop 32 :=
  let c0_i32_131 : BitVec 32 := 0#32
  let c6_i32_132 : BitVec 32 := 6#32
  let v135 : BitVec 32 := Scalar.addi c0_i32_131 c6_i32_132
  let c1_i32_133 : BitVec 32 := 1#32
  ⟨c0_i32_131, v135, c1_i32_133⟩
def k1_off120 (k1_t14 : Fin k1_t14_loop.trips) (c0_i32_330 : BitVec 32) : Fin 3 → Nat :=
  let c0_i32_332 : BitVec 32 := 0#32
  let v311 : Index := Scalar.indexCast c0_i32_332
  let c13_i32 : BitVec 32 := 13#32
  let v312 : Index := Scalar.indexCast c13_i32
  let c0_i32_131 : BitVec 32 := 0#32
  let c1_i32_133 : BitVec 32 := 1#32
  let arg13 : BitVec 32 := Scf.iv c0_i32_131 c1_i32_133 k1_t14
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 13, v313.toNat]
def k1_off121 (k1_t14 : Fin k1_t14_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c13_i32_335 : BitVec 32 := 13#32
  let v318 : Index := Scalar.indexCast c13_i32_335
  let c0_i32_131 : BitVec 32 := 0#32
  let c1_i32_133 : BitVec 32 := 1#32
  let arg13 : BitVec 32 := Scf.iv c0_i32_131 c1_i32_133 k1_t14
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 13, v319.toNat]
def k1_off122 (k1_t14 : Fin k1_t14_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c13_i32_338 : BitVec 32 := 13#32
  let v327 : Index := Scalar.indexCast c13_i32_338
  let c0_i32_131 : BitVec 32 := 0#32
  let c1_i32_133 : BitVec 32 := 1#32
  let arg13 : BitVec 32 := Scf.iv c0_i32_131 c1_i32_133 k1_t14
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 13, v328.toNat]
def k1_off123 (k1_t14 : Fin k1_t14_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c13_i32_340 : BitVec 32 := 13#32
  let v336 : Index := Scalar.indexCast c13_i32_340
  let c0_i32_131 : BitVec 32 := 0#32
  let c1_i32_133 : BitVec 32 := 1#32
  let arg13 : BitVec 32 := Scf.iv c0_i32_131 c1_i32_133 k1_t14
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 13, v337.toNat]
def k1_off124 (k1_t14 : Fin k1_t14_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c13_i32_342 : BitVec 32 := 13#32
  let v345 : Index := Scalar.indexCast c13_i32_342
  let c0_i32_131 : BitVec 32 := 0#32
  let c1_i32_133 : BitVec 32 := 1#32
  let arg13 : BitVec 32 := Scf.iv c0_i32_131 c1_i32_133 k1_t14
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 13, v346.toNat]
def k1_off125 (k1_t14 : Fin k1_t14_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c13_i32_345 : BitVec 32 := 13#32
  let v354 : Index := Scalar.indexCast c13_i32_345
  let c0_i32_131 : BitVec 32 := 0#32
  let c1_i32_133 : BitVec 32 := 1#32
  let arg13 : BitVec 32 := Scf.iv c0_i32_131 c1_i32_133 k1_t14
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 13, v355.toNat]
def k1_off126 (k1_t14 : Fin k1_t14_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c13_i32_347 : BitVec 32 := 13#32
  let v363 : Index := Scalar.indexCast c13_i32_347
  let c0_i32_131 : BitVec 32 := 0#32
  let c1_i32_133 : BitVec 32 := 1#32
  let arg13 : BitVec 32 := Scf.iv c0_i32_131 c1_i32_133 k1_t14
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 13, v364.toNat]
def k1_off127 (k1_t14 : Fin k1_t14_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c13_i32_350 : BitVec 32 := 13#32
  let v372 : Index := Scalar.indexCast c13_i32_350
  let c0_i32_131 : BitVec 32 := 0#32
  let c1_i32_133 : BitVec 32 := 1#32
  let arg13 : BitVec 32 := Scf.iv c0_i32_131 c1_i32_133 k1_t14
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 13, v373.toNat]
def k1_off128 (k1_t14 : Fin k1_t14_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c13_i32_352 : BitVec 32 := 13#32
  let v381 : Index := Scalar.indexCast c13_i32_352
  let c0_i32_131 : BitVec 32 := 0#32
  let c1_i32_133 : BitVec 32 := 1#32
  let arg13 : BitVec 32 := Scf.iv c0_i32_131 c1_i32_133 k1_t14
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 13, v382.toNat]
@[reducible] def k1_t15_loop : Scf.Loop 32 :=
  let c0_i32_135 : BitVec 32 := 0#32
  let c6_i32_136 : BitVec 32 := 6#32
  let v137 : BitVec 32 := Scalar.addi c0_i32_135 c6_i32_136
  let c1_i32_137 : BitVec 32 := 1#32
  ⟨c0_i32_135, v137, c1_i32_137⟩
def k1_off129 (k1_t15 : Fin k1_t15_loop.trips) (c0_i32_330 : BitVec 32) : Fin 3 → Nat :=
  let c0_i32_332 : BitVec 32 := 0#32
  let v311 : Index := Scalar.indexCast c0_i32_332
  let c14_i32 : BitVec 32 := 14#32
  let v312 : Index := Scalar.indexCast c14_i32
  let c0_i32_135 : BitVec 32 := 0#32
  let c1_i32_137 : BitVec 32 := 1#32
  let arg13 : BitVec 32 := Scf.iv c0_i32_135 c1_i32_137 k1_t15
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 14, v313.toNat]
def k1_off130 (k1_t15 : Fin k1_t15_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c14_i32_335 : BitVec 32 := 14#32
  let v318 : Index := Scalar.indexCast c14_i32_335
  let c0_i32_135 : BitVec 32 := 0#32
  let c1_i32_137 : BitVec 32 := 1#32
  let arg13 : BitVec 32 := Scf.iv c0_i32_135 c1_i32_137 k1_t15
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 14, v319.toNat]
def k1_off131 (k1_t15 : Fin k1_t15_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c14_i32_338 : BitVec 32 := 14#32
  let v327 : Index := Scalar.indexCast c14_i32_338
  let c0_i32_135 : BitVec 32 := 0#32
  let c1_i32_137 : BitVec 32 := 1#32
  let arg13 : BitVec 32 := Scf.iv c0_i32_135 c1_i32_137 k1_t15
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 14, v328.toNat]
def k1_off132 (k1_t15 : Fin k1_t15_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c14_i32_340 : BitVec 32 := 14#32
  let v336 : Index := Scalar.indexCast c14_i32_340
  let c0_i32_135 : BitVec 32 := 0#32
  let c1_i32_137 : BitVec 32 := 1#32
  let arg13 : BitVec 32 := Scf.iv c0_i32_135 c1_i32_137 k1_t15
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 14, v337.toNat]
def k1_off133 (k1_t15 : Fin k1_t15_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c14_i32_342 : BitVec 32 := 14#32
  let v345 : Index := Scalar.indexCast c14_i32_342
  let c0_i32_135 : BitVec 32 := 0#32
  let c1_i32_137 : BitVec 32 := 1#32
  let arg13 : BitVec 32 := Scf.iv c0_i32_135 c1_i32_137 k1_t15
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 14, v346.toNat]
def k1_off134 (k1_t15 : Fin k1_t15_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c14_i32_345 : BitVec 32 := 14#32
  let v354 : Index := Scalar.indexCast c14_i32_345
  let c0_i32_135 : BitVec 32 := 0#32
  let c1_i32_137 : BitVec 32 := 1#32
  let arg13 : BitVec 32 := Scf.iv c0_i32_135 c1_i32_137 k1_t15
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 14, v355.toNat]
def k1_off135 (k1_t15 : Fin k1_t15_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c14_i32_347 : BitVec 32 := 14#32
  let v363 : Index := Scalar.indexCast c14_i32_347
  let c0_i32_135 : BitVec 32 := 0#32
  let c1_i32_137 : BitVec 32 := 1#32
  let arg13 : BitVec 32 := Scf.iv c0_i32_135 c1_i32_137 k1_t15
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 14, v364.toNat]
def k1_off136 (k1_t15 : Fin k1_t15_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c14_i32_350 : BitVec 32 := 14#32
  let v372 : Index := Scalar.indexCast c14_i32_350
  let c0_i32_135 : BitVec 32 := 0#32
  let c1_i32_137 : BitVec 32 := 1#32
  let arg13 : BitVec 32 := Scf.iv c0_i32_135 c1_i32_137 k1_t15
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 14, v373.toNat]
def k1_off137 (k1_t15 : Fin k1_t15_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c14_i32_352 : BitVec 32 := 14#32
  let v381 : Index := Scalar.indexCast c14_i32_352
  let c0_i32_135 : BitVec 32 := 0#32
  let c1_i32_137 : BitVec 32 := 1#32
  let arg13 : BitVec 32 := Scf.iv c0_i32_135 c1_i32_137 k1_t15
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 14, v382.toNat]
@[reducible] def k1_t16_loop : Scf.Loop 32 :=
  let c0_i32_139 : BitVec 32 := 0#32
  let c6_i32_140 : BitVec 32 := 6#32
  let v139 : BitVec 32 := Scalar.addi c0_i32_139 c6_i32_140
  let c1_i32_141 : BitVec 32 := 1#32
  ⟨c0_i32_139, v139, c1_i32_141⟩
def k1_off138 (k1_t16 : Fin k1_t16_loop.trips) (c0_i32_330 : BitVec 32) : Fin 3 → Nat :=
  let c0_i32_332 : BitVec 32 := 0#32
  let v311 : Index := Scalar.indexCast c0_i32_332
  let c15_i32 : BitVec 32 := 15#32
  let v312 : Index := Scalar.indexCast c15_i32
  let c0_i32_139 : BitVec 32 := 0#32
  let c1_i32_141 : BitVec 32 := 1#32
  let arg13 : BitVec 32 := Scf.iv c0_i32_139 c1_i32_141 k1_t16
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 15, v313.toNat]
def k1_off139 (k1_t16 : Fin k1_t16_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c15_i32_335 : BitVec 32 := 15#32
  let v318 : Index := Scalar.indexCast c15_i32_335
  let c0_i32_139 : BitVec 32 := 0#32
  let c1_i32_141 : BitVec 32 := 1#32
  let arg13 : BitVec 32 := Scf.iv c0_i32_139 c1_i32_141 k1_t16
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 15, v319.toNat]
def k1_off140 (k1_t16 : Fin k1_t16_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c15_i32_338 : BitVec 32 := 15#32
  let v327 : Index := Scalar.indexCast c15_i32_338
  let c0_i32_139 : BitVec 32 := 0#32
  let c1_i32_141 : BitVec 32 := 1#32
  let arg13 : BitVec 32 := Scf.iv c0_i32_139 c1_i32_141 k1_t16
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 15, v328.toNat]
def k1_off141 (k1_t16 : Fin k1_t16_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c15_i32_340 : BitVec 32 := 15#32
  let v336 : Index := Scalar.indexCast c15_i32_340
  let c0_i32_139 : BitVec 32 := 0#32
  let c1_i32_141 : BitVec 32 := 1#32
  let arg13 : BitVec 32 := Scf.iv c0_i32_139 c1_i32_141 k1_t16
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 15, v337.toNat]
def k1_off142 (k1_t16 : Fin k1_t16_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c15_i32_342 : BitVec 32 := 15#32
  let v345 : Index := Scalar.indexCast c15_i32_342
  let c0_i32_139 : BitVec 32 := 0#32
  let c1_i32_141 : BitVec 32 := 1#32
  let arg13 : BitVec 32 := Scf.iv c0_i32_139 c1_i32_141 k1_t16
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 15, v346.toNat]
def k1_off143 (k1_t16 : Fin k1_t16_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c15_i32_345 : BitVec 32 := 15#32
  let v354 : Index := Scalar.indexCast c15_i32_345
  let c0_i32_139 : BitVec 32 := 0#32
  let c1_i32_141 : BitVec 32 := 1#32
  let arg13 : BitVec 32 := Scf.iv c0_i32_139 c1_i32_141 k1_t16
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 15, v355.toNat]
def k1_off144 (k1_t16 : Fin k1_t16_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c15_i32_347 : BitVec 32 := 15#32
  let v363 : Index := Scalar.indexCast c15_i32_347
  let c0_i32_139 : BitVec 32 := 0#32
  let c1_i32_141 : BitVec 32 := 1#32
  let arg13 : BitVec 32 := Scf.iv c0_i32_139 c1_i32_141 k1_t16
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 15, v364.toNat]
def k1_off145 (k1_t16 : Fin k1_t16_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c15_i32_350 : BitVec 32 := 15#32
  let v372 : Index := Scalar.indexCast c15_i32_350
  let c0_i32_139 : BitVec 32 := 0#32
  let c1_i32_141 : BitVec 32 := 1#32
  let arg13 : BitVec 32 := Scf.iv c0_i32_139 c1_i32_141 k1_t16
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 15, v373.toNat]
def k1_off146 (k1_t16 : Fin k1_t16_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c15_i32_352 : BitVec 32 := 15#32
  let v381 : Index := Scalar.indexCast c15_i32_352
  let c0_i32_139 : BitVec 32 := 0#32
  let c1_i32_141 : BitVec 32 := 1#32
  let arg13 : BitVec 32 := Scf.iv c0_i32_139 c1_i32_141 k1_t16
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 15, v382.toNat]
@[reducible] def k1_t17_loop : Scf.Loop 32 :=
  let c0_i32_179 : BitVec 32 := 0#32
  let c6_i32_180 : BitVec 32 := 6#32
  let v174 : BitVec 32 := Scalar.addi c0_i32_179 c6_i32_180
  let c1_i32_181 : BitVec 32 := 1#32
  ⟨c0_i32_179, v174, c1_i32_181⟩
def k1_off147 (k1_t17 : Fin k1_t17_loop.trips) (c0_i32_330 : BitVec 32) : Fin 3 → Nat :=
  let c1_i32_332 : BitVec 32 := 1#32
  let v311 : Index := Scalar.indexCast c1_i32_332
  let c0_i32_333 : BitVec 32 := 0#32
  let v312 : Index := Scalar.indexCast c0_i32_333
  let c0_i32_179 : BitVec 32 := 0#32
  let c1_i32_181 : BitVec 32 := 1#32
  let arg13 : BitVec 32 := Scf.iv c0_i32_179 c1_i32_181 k1_t17
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 0, v313.toNat]
def k1_off148 (k1_t17 : Fin k1_t17_loop.trips) (c0_i32_330 : BitVec 32) : Fin 4 → Nat :=
  let c1_i32_334 : BitVec 32 := 1#32
  let v316 : Index := Scalar.indexCast c1_i32_334
  let c0_i32_335 : BitVec 32 := 0#32
  let v317 : Index := Scalar.indexCast c0_i32_335
  let c0_i32_336 : BitVec 32 := 0#32
  let v318 : Index := Scalar.indexCast c0_i32_336
  let c0_i32_179 : BitVec 32 := 0#32
  let c1_i32_181 : BitVec 32 := 1#32
  let arg13 : BitVec 32 := Scf.iv c0_i32_179 c1_i32_181 k1_t17
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 0, v319.toNat]
def k1_off149 (k1_t17 : Fin k1_t17_loop.trips) (c0_i32_330 : BitVec 32) : Fin 4 → Nat :=
  let c1_i32_337 : BitVec 32 := 1#32
  let v325 : Index := Scalar.indexCast c1_i32_337
  let c1_i32_338 : BitVec 32 := 1#32
  let v326 : Index := Scalar.indexCast c1_i32_338
  let c0_i32_339 : BitVec 32 := 0#32
  let v327 : Index := Scalar.indexCast c0_i32_339
  let c0_i32_179 : BitVec 32 := 0#32
  let c1_i32_181 : BitVec 32 := 1#32
  let arg13 : BitVec 32 := Scf.iv c0_i32_179 c1_i32_181 k1_t17
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 0, v328.toNat]
def k1_off150 (k1_t17 : Fin k1_t17_loop.trips) (c0_i32_330 : BitVec 32) : Fin 4 → Nat :=
  let c1_i32_340 : BitVec 32 := 1#32
  let v334 : Index := Scalar.indexCast c1_i32_340
  let c2_i32 : BitVec 32 := 2#32
  let v335 : Index := Scalar.indexCast c2_i32
  let c0_i32_341 : BitVec 32 := 0#32
  let v336 : Index := Scalar.indexCast c0_i32_341
  let c0_i32_179 : BitVec 32 := 0#32
  let c1_i32_181 : BitVec 32 := 1#32
  let arg13 : BitVec 32 := Scf.iv c0_i32_179 c1_i32_181 k1_t17
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 0, v337.toNat]
def k1_off151 (k1_t17 : Fin k1_t17_loop.trips) (c0_i32_330 : BitVec 32) : Fin 4 → Nat :=
  let c1_i32_342 : BitVec 32 := 1#32
  let v343 : Index := Scalar.indexCast c1_i32_342
  let c3_i32 : BitVec 32 := 3#32
  let v344 : Index := Scalar.indexCast c3_i32
  let c0_i32_343 : BitVec 32 := 0#32
  let v345 : Index := Scalar.indexCast c0_i32_343
  let c0_i32_179 : BitVec 32 := 0#32
  let c1_i32_181 : BitVec 32 := 1#32
  let arg13 : BitVec 32 := Scf.iv c0_i32_179 c1_i32_181 k1_t17
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 0, v346.toNat]
def k1_off152 (k1_t17 : Fin k1_t17_loop.trips) (c0_i32_330 : BitVec 32) : Fin 4 → Nat :=
  let c1_i32_344 : BitVec 32 := 1#32
  let v352 : Index := Scalar.indexCast c1_i32_344
  let c4_i32_345 : BitVec 32 := 4#32
  let v353 : Index := Scalar.indexCast c4_i32_345
  let c0_i32_346 : BitVec 32 := 0#32
  let v354 : Index := Scalar.indexCast c0_i32_346
  let c0_i32_179 : BitVec 32 := 0#32
  let c1_i32_181 : BitVec 32 := 1#32
  let arg13 : BitVec 32 := Scf.iv c0_i32_179 c1_i32_181 k1_t17
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 0, v355.toNat]
def k1_off153 (k1_t17 : Fin k1_t17_loop.trips) (c0_i32_330 : BitVec 32) : Fin 4 → Nat :=
  let c1_i32_347 : BitVec 32 := 1#32
  let v361 : Index := Scalar.indexCast c1_i32_347
  let c5_i32 : BitVec 32 := 5#32
  let v362 : Index := Scalar.indexCast c5_i32
  let c0_i32_348 : BitVec 32 := 0#32
  let v363 : Index := Scalar.indexCast c0_i32_348
  let c0_i32_179 : BitVec 32 := 0#32
  let c1_i32_181 : BitVec 32 := 1#32
  let arg13 : BitVec 32 := Scf.iv c0_i32_179 c1_i32_181 k1_t17
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 0, v364.toNat]
def k1_off154 (k1_t17 : Fin k1_t17_loop.trips) (c0_i32_330 : BitVec 32) : Fin 4 → Nat :=
  let c1_i32_349 : BitVec 32 := 1#32
  let v370 : Index := Scalar.indexCast c1_i32_349
  let c6_i32_350 : BitVec 32 := 6#32
  let v371 : Index := Scalar.indexCast c6_i32_350
  let c0_i32_351 : BitVec 32 := 0#32
  let v372 : Index := Scalar.indexCast c0_i32_351
  let c0_i32_179 : BitVec 32 := 0#32
  let c1_i32_181 : BitVec 32 := 1#32
  let arg13 : BitVec 32 := Scf.iv c0_i32_179 c1_i32_181 k1_t17
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 0, v373.toNat]
def k1_off155 (k1_t17 : Fin k1_t17_loop.trips) (c0_i32_330 : BitVec 32) : Fin 4 → Nat :=
  let c1_i32_352 : BitVec 32 := 1#32
  let v379 : Index := Scalar.indexCast c1_i32_352
  let c7_i32 : BitVec 32 := 7#32
  let v380 : Index := Scalar.indexCast c7_i32
  let c0_i32_353 : BitVec 32 := 0#32
  let v381 : Index := Scalar.indexCast c0_i32_353
  let c0_i32_179 : BitVec 32 := 0#32
  let c1_i32_181 : BitVec 32 := 1#32
  let arg13 : BitVec 32 := Scf.iv c0_i32_179 c1_i32_181 k1_t17
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 0, v382.toNat]
@[reducible] def k1_t18_loop : Scf.Loop 32 :=
  let c0_i32_183 : BitVec 32 := 0#32
  let c6_i32_184 : BitVec 32 := 6#32
  let v176 : BitVec 32 := Scalar.addi c0_i32_183 c6_i32_184
  let c1_i32_185 : BitVec 32 := 1#32
  ⟨c0_i32_183, v176, c1_i32_185⟩
def k1_off156 (k1_t18 : Fin k1_t18_loop.trips) (c0_i32_330 : BitVec 32) : Fin 3 → Nat :=
  let c1_i32_332 : BitVec 32 := 1#32
  let v311 : Index := Scalar.indexCast c1_i32_332
  let c1_i32_333 : BitVec 32 := 1#32
  let v312 : Index := Scalar.indexCast c1_i32_333
  let c0_i32_183 : BitVec 32 := 0#32
  let c1_i32_185 : BitVec 32 := 1#32
  let arg13 : BitVec 32 := Scf.iv c0_i32_183 c1_i32_185 k1_t18
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 1, v313.toNat]
def k1_off157 (k1_t18 : Fin k1_t18_loop.trips) (c0_i32_330 : BitVec 32) : Fin 4 → Nat :=
  let c1_i32_334 : BitVec 32 := 1#32
  let v316 : Index := Scalar.indexCast c1_i32_334
  let c0_i32_335 : BitVec 32 := 0#32
  let v317 : Index := Scalar.indexCast c0_i32_335
  let c1_i32_336 : BitVec 32 := 1#32
  let v318 : Index := Scalar.indexCast c1_i32_336
  let c0_i32_183 : BitVec 32 := 0#32
  let c1_i32_185 : BitVec 32 := 1#32
  let arg13 : BitVec 32 := Scf.iv c0_i32_183 c1_i32_185 k1_t18
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 1, v319.toNat]
def k1_off158 (k1_t18 : Fin k1_t18_loop.trips) (c0_i32_330 : BitVec 32) : Fin 4 → Nat :=
  let c1_i32_337 : BitVec 32 := 1#32
  let v325 : Index := Scalar.indexCast c1_i32_337
  let c1_i32_338 : BitVec 32 := 1#32
  let v326 : Index := Scalar.indexCast c1_i32_338
  let c1_i32_339 : BitVec 32 := 1#32
  let v327 : Index := Scalar.indexCast c1_i32_339
  let c0_i32_183 : BitVec 32 := 0#32
  let c1_i32_185 : BitVec 32 := 1#32
  let arg13 : BitVec 32 := Scf.iv c0_i32_183 c1_i32_185 k1_t18
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 1, v328.toNat]
def k1_off159 (k1_t18 : Fin k1_t18_loop.trips) (c0_i32_330 : BitVec 32) : Fin 4 → Nat :=
  let c1_i32_340 : BitVec 32 := 1#32
  let v334 : Index := Scalar.indexCast c1_i32_340
  let c2_i32 : BitVec 32 := 2#32
  let v335 : Index := Scalar.indexCast c2_i32
  let c1_i32_341 : BitVec 32 := 1#32
  let v336 : Index := Scalar.indexCast c1_i32_341
  let c0_i32_183 : BitVec 32 := 0#32
  let c1_i32_185 : BitVec 32 := 1#32
  let arg13 : BitVec 32 := Scf.iv c0_i32_183 c1_i32_185 k1_t18
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 1, v337.toNat]
def k1_off160 (k1_t18 : Fin k1_t18_loop.trips) (c0_i32_330 : BitVec 32) : Fin 4 → Nat :=
  let c1_i32_342 : BitVec 32 := 1#32
  let v343 : Index := Scalar.indexCast c1_i32_342
  let c3_i32 : BitVec 32 := 3#32
  let v344 : Index := Scalar.indexCast c3_i32
  let c1_i32_343 : BitVec 32 := 1#32
  let v345 : Index := Scalar.indexCast c1_i32_343
  let c0_i32_183 : BitVec 32 := 0#32
  let c1_i32_185 : BitVec 32 := 1#32
  let arg13 : BitVec 32 := Scf.iv c0_i32_183 c1_i32_185 k1_t18
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 1, v346.toNat]
def k1_off161 (k1_t18 : Fin k1_t18_loop.trips) (c0_i32_330 : BitVec 32) : Fin 4 → Nat :=
  let c1_i32_344 : BitVec 32 := 1#32
  let v352 : Index := Scalar.indexCast c1_i32_344
  let c4_i32_345 : BitVec 32 := 4#32
  let v353 : Index := Scalar.indexCast c4_i32_345
  let c1_i32_346 : BitVec 32 := 1#32
  let v354 : Index := Scalar.indexCast c1_i32_346
  let c0_i32_183 : BitVec 32 := 0#32
  let c1_i32_185 : BitVec 32 := 1#32
  let arg13 : BitVec 32 := Scf.iv c0_i32_183 c1_i32_185 k1_t18
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 1, v355.toNat]
def k1_off162 (k1_t18 : Fin k1_t18_loop.trips) (c0_i32_330 : BitVec 32) : Fin 4 → Nat :=
  let c1_i32_347 : BitVec 32 := 1#32
  let v361 : Index := Scalar.indexCast c1_i32_347
  let c5_i32 : BitVec 32 := 5#32
  let v362 : Index := Scalar.indexCast c5_i32
  let c1_i32_348 : BitVec 32 := 1#32
  let v363 : Index := Scalar.indexCast c1_i32_348
  let c0_i32_183 : BitVec 32 := 0#32
  let c1_i32_185 : BitVec 32 := 1#32
  let arg13 : BitVec 32 := Scf.iv c0_i32_183 c1_i32_185 k1_t18
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 1, v364.toNat]
def k1_off163 (k1_t18 : Fin k1_t18_loop.trips) (c0_i32_330 : BitVec 32) : Fin 4 → Nat :=
  let c1_i32_349 : BitVec 32 := 1#32
  let v370 : Index := Scalar.indexCast c1_i32_349
  let c6_i32_350 : BitVec 32 := 6#32
  let v371 : Index := Scalar.indexCast c6_i32_350
  let c1_i32_351 : BitVec 32 := 1#32
  let v372 : Index := Scalar.indexCast c1_i32_351
  let c0_i32_183 : BitVec 32 := 0#32
  let c1_i32_185 : BitVec 32 := 1#32
  let arg13 : BitVec 32 := Scf.iv c0_i32_183 c1_i32_185 k1_t18
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 1, v373.toNat]
def k1_off164 (k1_t18 : Fin k1_t18_loop.trips) (c0_i32_330 : BitVec 32) : Fin 4 → Nat :=
  let c1_i32_352 : BitVec 32 := 1#32
  let v379 : Index := Scalar.indexCast c1_i32_352
  let c7_i32 : BitVec 32 := 7#32
  let v380 : Index := Scalar.indexCast c7_i32
  let c1_i32_353 : BitVec 32 := 1#32
  let v381 : Index := Scalar.indexCast c1_i32_353
  let c0_i32_183 : BitVec 32 := 0#32
  let c1_i32_185 : BitVec 32 := 1#32
  let arg13 : BitVec 32 := Scf.iv c0_i32_183 c1_i32_185 k1_t18
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 1, v382.toNat]
@[reducible] def k1_t19_loop : Scf.Loop 32 :=
  let c0_i32_187 : BitVec 32 := 0#32
  let c6_i32_188 : BitVec 32 := 6#32
  let v178 : BitVec 32 := Scalar.addi c0_i32_187 c6_i32_188
  let c1_i32_189 : BitVec 32 := 1#32
  ⟨c0_i32_187, v178, c1_i32_189⟩
def k1_off165 (k1_t19 : Fin k1_t19_loop.trips) (c0_i32_330 : BitVec 32) : Fin 3 → Nat :=
  let c1_i32_332 : BitVec 32 := 1#32
  let v311 : Index := Scalar.indexCast c1_i32_332
  let c2_i32 : BitVec 32 := 2#32
  let v312 : Index := Scalar.indexCast c2_i32
  let c0_i32_187 : BitVec 32 := 0#32
  let c1_i32_189 : BitVec 32 := 1#32
  let arg13 : BitVec 32 := Scf.iv c0_i32_187 c1_i32_189 k1_t19
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 2, v313.toNat]
def k1_off166 (k1_t19 : Fin k1_t19_loop.trips) (c0_i32_330 : BitVec 32) : Fin 4 → Nat :=
  let c1_i32_333 : BitVec 32 := 1#32
  let v316 : Index := Scalar.indexCast c1_i32_333
  let c0_i32_334 : BitVec 32 := 0#32
  let v317 : Index := Scalar.indexCast c0_i32_334
  let c2_i32_335 : BitVec 32 := 2#32
  let v318 : Index := Scalar.indexCast c2_i32_335
  let c0_i32_187 : BitVec 32 := 0#32
  let c1_i32_189 : BitVec 32 := 1#32
  let arg13 : BitVec 32 := Scf.iv c0_i32_187 c1_i32_189 k1_t19
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 2, v319.toNat]
def k1_off167 (k1_t19 : Fin k1_t19_loop.trips) (c0_i32_330 : BitVec 32) : Fin 4 → Nat :=
  let c1_i32_336 : BitVec 32 := 1#32
  let v325 : Index := Scalar.indexCast c1_i32_336
  let c1_i32_337 : BitVec 32 := 1#32
  let v326 : Index := Scalar.indexCast c1_i32_337
  let c2_i32_338 : BitVec 32 := 2#32
  let v327 : Index := Scalar.indexCast c2_i32_338
  let c0_i32_187 : BitVec 32 := 0#32
  let c1_i32_189 : BitVec 32 := 1#32
  let arg13 : BitVec 32 := Scf.iv c0_i32_187 c1_i32_189 k1_t19
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 2, v328.toNat]
def k1_off168 (k1_t19 : Fin k1_t19_loop.trips) (c0_i32_330 : BitVec 32) : Fin 4 → Nat :=
  let c1_i32_339 : BitVec 32 := 1#32
  let v334 : Index := Scalar.indexCast c1_i32_339
  let c2_i32_340 : BitVec 32 := 2#32
  let v335 : Index := Scalar.indexCast c2_i32_340
  let c2_i32_341 : BitVec 32 := 2#32
  let v336 : Index := Scalar.indexCast c2_i32_341
  let c0_i32_187 : BitVec 32 := 0#32
  let c1_i32_189 : BitVec 32 := 1#32
  let arg13 : BitVec 32 := Scf.iv c0_i32_187 c1_i32_189 k1_t19
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 2, v337.toNat]
def k1_off169 (k1_t19 : Fin k1_t19_loop.trips) (c0_i32_330 : BitVec 32) : Fin 4 → Nat :=
  let c1_i32_342 : BitVec 32 := 1#32
  let v343 : Index := Scalar.indexCast c1_i32_342
  let c3_i32 : BitVec 32 := 3#32
  let v344 : Index := Scalar.indexCast c3_i32
  let c2_i32_343 : BitVec 32 := 2#32
  let v345 : Index := Scalar.indexCast c2_i32_343
  let c0_i32_187 : BitVec 32 := 0#32
  let c1_i32_189 : BitVec 32 := 1#32
  let arg13 : BitVec 32 := Scf.iv c0_i32_187 c1_i32_189 k1_t19
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 2, v346.toNat]
def k1_off170 (k1_t19 : Fin k1_t19_loop.trips) (c0_i32_330 : BitVec 32) : Fin 4 → Nat :=
  let c1_i32_344 : BitVec 32 := 1#32
  let v352 : Index := Scalar.indexCast c1_i32_344
  let c4_i32_345 : BitVec 32 := 4#32
  let v353 : Index := Scalar.indexCast c4_i32_345
  let c2_i32_346 : BitVec 32 := 2#32
  let v354 : Index := Scalar.indexCast c2_i32_346
  let c0_i32_187 : BitVec 32 := 0#32
  let c1_i32_189 : BitVec 32 := 1#32
  let arg13 : BitVec 32 := Scf.iv c0_i32_187 c1_i32_189 k1_t19
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 2, v355.toNat]
def k1_off171 (k1_t19 : Fin k1_t19_loop.trips) (c0_i32_330 : BitVec 32) : Fin 4 → Nat :=
  let c1_i32_347 : BitVec 32 := 1#32
  let v361 : Index := Scalar.indexCast c1_i32_347
  let c5_i32 : BitVec 32 := 5#32
  let v362 : Index := Scalar.indexCast c5_i32
  let c2_i32_348 : BitVec 32 := 2#32
  let v363 : Index := Scalar.indexCast c2_i32_348
  let c0_i32_187 : BitVec 32 := 0#32
  let c1_i32_189 : BitVec 32 := 1#32
  let arg13 : BitVec 32 := Scf.iv c0_i32_187 c1_i32_189 k1_t19
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 2, v364.toNat]
def k1_off172 (k1_t19 : Fin k1_t19_loop.trips) (c0_i32_330 : BitVec 32) : Fin 4 → Nat :=
  let c1_i32_349 : BitVec 32 := 1#32
  let v370 : Index := Scalar.indexCast c1_i32_349
  let c6_i32_350 : BitVec 32 := 6#32
  let v371 : Index := Scalar.indexCast c6_i32_350
  let c2_i32_351 : BitVec 32 := 2#32
  let v372 : Index := Scalar.indexCast c2_i32_351
  let c0_i32_187 : BitVec 32 := 0#32
  let c1_i32_189 : BitVec 32 := 1#32
  let arg13 : BitVec 32 := Scf.iv c0_i32_187 c1_i32_189 k1_t19
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 2, v373.toNat]
def k1_off173 (k1_t19 : Fin k1_t19_loop.trips) (c0_i32_330 : BitVec 32) : Fin 4 → Nat :=
  let c1_i32_352 : BitVec 32 := 1#32
  let v379 : Index := Scalar.indexCast c1_i32_352
  let c7_i32 : BitVec 32 := 7#32
  let v380 : Index := Scalar.indexCast c7_i32
  let c2_i32_353 : BitVec 32 := 2#32
  let v381 : Index := Scalar.indexCast c2_i32_353
  let c0_i32_187 : BitVec 32 := 0#32
  let c1_i32_189 : BitVec 32 := 1#32
  let arg13 : BitVec 32 := Scf.iv c0_i32_187 c1_i32_189 k1_t19
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 2, v382.toNat]
@[reducible] def k1_t20_loop : Scf.Loop 32 :=
  let c0_i32_191 : BitVec 32 := 0#32
  let c6_i32_192 : BitVec 32 := 6#32
  let v180 : BitVec 32 := Scalar.addi c0_i32_191 c6_i32_192
  let c1_i32_193 : BitVec 32 := 1#32
  ⟨c0_i32_191, v180, c1_i32_193⟩
def k1_off174 (k1_t20 : Fin k1_t20_loop.trips) (c0_i32_330 : BitVec 32) : Fin 3 → Nat :=
  let c1_i32_332 : BitVec 32 := 1#32
  let v311 : Index := Scalar.indexCast c1_i32_332
  let c3_i32 : BitVec 32 := 3#32
  let v312 : Index := Scalar.indexCast c3_i32
  let c0_i32_191 : BitVec 32 := 0#32
  let c1_i32_193 : BitVec 32 := 1#32
  let arg13 : BitVec 32 := Scf.iv c0_i32_191 c1_i32_193 k1_t20
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 3, v313.toNat]
def k1_off175 (k1_t20 : Fin k1_t20_loop.trips) (c0_i32_330 : BitVec 32) : Fin 4 → Nat :=
  let c1_i32_333 : BitVec 32 := 1#32
  let v316 : Index := Scalar.indexCast c1_i32_333
  let c0_i32_334 : BitVec 32 := 0#32
  let v317 : Index := Scalar.indexCast c0_i32_334
  let c3_i32_335 : BitVec 32 := 3#32
  let v318 : Index := Scalar.indexCast c3_i32_335
  let c0_i32_191 : BitVec 32 := 0#32
  let c1_i32_193 : BitVec 32 := 1#32
  let arg13 : BitVec 32 := Scf.iv c0_i32_191 c1_i32_193 k1_t20
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 3, v319.toNat]
def k1_off176 (k1_t20 : Fin k1_t20_loop.trips) (c0_i32_330 : BitVec 32) : Fin 4 → Nat :=
  let c1_i32_336 : BitVec 32 := 1#32
  let v325 : Index := Scalar.indexCast c1_i32_336
  let c1_i32_337 : BitVec 32 := 1#32
  let v326 : Index := Scalar.indexCast c1_i32_337
  let c3_i32_338 : BitVec 32 := 3#32
  let v327 : Index := Scalar.indexCast c3_i32_338
  let c0_i32_191 : BitVec 32 := 0#32
  let c1_i32_193 : BitVec 32 := 1#32
  let arg13 : BitVec 32 := Scf.iv c0_i32_191 c1_i32_193 k1_t20
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 3, v328.toNat]
def k1_off177 (k1_t20 : Fin k1_t20_loop.trips) (c0_i32_330 : BitVec 32) : Fin 4 → Nat :=
  let c1_i32_339 : BitVec 32 := 1#32
  let v334 : Index := Scalar.indexCast c1_i32_339
  let c2_i32 : BitVec 32 := 2#32
  let v335 : Index := Scalar.indexCast c2_i32
  let c3_i32_340 : BitVec 32 := 3#32
  let v336 : Index := Scalar.indexCast c3_i32_340
  let c0_i32_191 : BitVec 32 := 0#32
  let c1_i32_193 : BitVec 32 := 1#32
  let arg13 : BitVec 32 := Scf.iv c0_i32_191 c1_i32_193 k1_t20
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 3, v337.toNat]
def k1_off178 (k1_t20 : Fin k1_t20_loop.trips) (c0_i32_330 : BitVec 32) : Fin 4 → Nat :=
  let c1_i32_341 : BitVec 32 := 1#32
  let v343 : Index := Scalar.indexCast c1_i32_341
  let c3_i32_342 : BitVec 32 := 3#32
  let v344 : Index := Scalar.indexCast c3_i32_342
  let c3_i32_343 : BitVec 32 := 3#32
  let v345 : Index := Scalar.indexCast c3_i32_343
  let c0_i32_191 : BitVec 32 := 0#32
  let c1_i32_193 : BitVec 32 := 1#32
  let arg13 : BitVec 32 := Scf.iv c0_i32_191 c1_i32_193 k1_t20
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 3, v346.toNat]
def k1_off179 (k1_t20 : Fin k1_t20_loop.trips) (c0_i32_330 : BitVec 32) : Fin 4 → Nat :=
  let c1_i32_344 : BitVec 32 := 1#32
  let v352 : Index := Scalar.indexCast c1_i32_344
  let c4_i32_345 : BitVec 32 := 4#32
  let v353 : Index := Scalar.indexCast c4_i32_345
  let c3_i32_346 : BitVec 32 := 3#32
  let v354 : Index := Scalar.indexCast c3_i32_346
  let c0_i32_191 : BitVec 32 := 0#32
  let c1_i32_193 : BitVec 32 := 1#32
  let arg13 : BitVec 32 := Scf.iv c0_i32_191 c1_i32_193 k1_t20
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 3, v355.toNat]
def k1_off180 (k1_t20 : Fin k1_t20_loop.trips) (c0_i32_330 : BitVec 32) : Fin 4 → Nat :=
  let c1_i32_347 : BitVec 32 := 1#32
  let v361 : Index := Scalar.indexCast c1_i32_347
  let c5_i32 : BitVec 32 := 5#32
  let v362 : Index := Scalar.indexCast c5_i32
  let c3_i32_348 : BitVec 32 := 3#32
  let v363 : Index := Scalar.indexCast c3_i32_348
  let c0_i32_191 : BitVec 32 := 0#32
  let c1_i32_193 : BitVec 32 := 1#32
  let arg13 : BitVec 32 := Scf.iv c0_i32_191 c1_i32_193 k1_t20
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 3, v364.toNat]
def k1_off181 (k1_t20 : Fin k1_t20_loop.trips) (c0_i32_330 : BitVec 32) : Fin 4 → Nat :=
  let c1_i32_349 : BitVec 32 := 1#32
  let v370 : Index := Scalar.indexCast c1_i32_349
  let c6_i32_350 : BitVec 32 := 6#32
  let v371 : Index := Scalar.indexCast c6_i32_350
  let c3_i32_351 : BitVec 32 := 3#32
  let v372 : Index := Scalar.indexCast c3_i32_351
  let c0_i32_191 : BitVec 32 := 0#32
  let c1_i32_193 : BitVec 32 := 1#32
  let arg13 : BitVec 32 := Scf.iv c0_i32_191 c1_i32_193 k1_t20
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 3, v373.toNat]
def k1_off182 (k1_t20 : Fin k1_t20_loop.trips) (c0_i32_330 : BitVec 32) : Fin 4 → Nat :=
  let c1_i32_352 : BitVec 32 := 1#32
  let v379 : Index := Scalar.indexCast c1_i32_352
  let c7_i32 : BitVec 32 := 7#32
  let v380 : Index := Scalar.indexCast c7_i32
  let c3_i32_353 : BitVec 32 := 3#32
  let v381 : Index := Scalar.indexCast c3_i32_353
  let c0_i32_191 : BitVec 32 := 0#32
  let c1_i32_193 : BitVec 32 := 1#32
  let arg13 : BitVec 32 := Scf.iv c0_i32_191 c1_i32_193 k1_t20
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 3, v382.toNat]
@[reducible] def k1_t21_loop : Scf.Loop 32 :=
  let c0_i32_195 : BitVec 32 := 0#32
  let c6_i32_196 : BitVec 32 := 6#32
  let v182 : BitVec 32 := Scalar.addi c0_i32_195 c6_i32_196
  let c1_i32_197 : BitVec 32 := 1#32
  ⟨c0_i32_195, v182, c1_i32_197⟩
def k1_off183 (k1_t21 : Fin k1_t21_loop.trips) (c0_i32_330 : BitVec 32) : Fin 3 → Nat :=
  let c1_i32_332 : BitVec 32 := 1#32
  let v311 : Index := Scalar.indexCast c1_i32_332
  let c4_i32_333 : BitVec 32 := 4#32
  let v312 : Index := Scalar.indexCast c4_i32_333
  let c0_i32_195 : BitVec 32 := 0#32
  let c1_i32_197 : BitVec 32 := 1#32
  let arg13 : BitVec 32 := Scf.iv c0_i32_195 c1_i32_197 k1_t21
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 4, v313.toNat]
def k1_off184 (k1_t21 : Fin k1_t21_loop.trips) (c0_i32_330 : BitVec 32) : Fin 4 → Nat :=
  let c1_i32_334 : BitVec 32 := 1#32
  let v316 : Index := Scalar.indexCast c1_i32_334
  let c0_i32_335 : BitVec 32 := 0#32
  let v317 : Index := Scalar.indexCast c0_i32_335
  let c4_i32_336 : BitVec 32 := 4#32
  let v318 : Index := Scalar.indexCast c4_i32_336
  let c0_i32_195 : BitVec 32 := 0#32
  let c1_i32_197 : BitVec 32 := 1#32
  let arg13 : BitVec 32 := Scf.iv c0_i32_195 c1_i32_197 k1_t21
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 4, v319.toNat]
def k1_off185 (k1_t21 : Fin k1_t21_loop.trips) (c0_i32_330 : BitVec 32) : Fin 4 → Nat :=
  let c1_i32_337 : BitVec 32 := 1#32
  let v325 : Index := Scalar.indexCast c1_i32_337
  let c1_i32_338 : BitVec 32 := 1#32
  let v326 : Index := Scalar.indexCast c1_i32_338
  let c4_i32_339 : BitVec 32 := 4#32
  let v327 : Index := Scalar.indexCast c4_i32_339
  let c0_i32_195 : BitVec 32 := 0#32
  let c1_i32_197 : BitVec 32 := 1#32
  let arg13 : BitVec 32 := Scf.iv c0_i32_195 c1_i32_197 k1_t21
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 4, v328.toNat]
def k1_off186 (k1_t21 : Fin k1_t21_loop.trips) (c0_i32_330 : BitVec 32) : Fin 4 → Nat :=
  let c1_i32_340 : BitVec 32 := 1#32
  let v334 : Index := Scalar.indexCast c1_i32_340
  let c2_i32 : BitVec 32 := 2#32
  let v335 : Index := Scalar.indexCast c2_i32
  let c4_i32_341 : BitVec 32 := 4#32
  let v336 : Index := Scalar.indexCast c4_i32_341
  let c0_i32_195 : BitVec 32 := 0#32
  let c1_i32_197 : BitVec 32 := 1#32
  let arg13 : BitVec 32 := Scf.iv c0_i32_195 c1_i32_197 k1_t21
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 4, v337.toNat]
def k1_off187 (k1_t21 : Fin k1_t21_loop.trips) (c0_i32_330 : BitVec 32) : Fin 4 → Nat :=
  let c1_i32_342 : BitVec 32 := 1#32
  let v343 : Index := Scalar.indexCast c1_i32_342
  let c3_i32 : BitVec 32 := 3#32
  let v344 : Index := Scalar.indexCast c3_i32
  let c4_i32_343 : BitVec 32 := 4#32
  let v345 : Index := Scalar.indexCast c4_i32_343
  let c0_i32_195 : BitVec 32 := 0#32
  let c1_i32_197 : BitVec 32 := 1#32
  let arg13 : BitVec 32 := Scf.iv c0_i32_195 c1_i32_197 k1_t21
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 4, v346.toNat]
def k1_off188 (k1_t21 : Fin k1_t21_loop.trips) (c0_i32_330 : BitVec 32) : Fin 4 → Nat :=
  let c1_i32_344 : BitVec 32 := 1#32
  let v352 : Index := Scalar.indexCast c1_i32_344
  let c4_i32_345 : BitVec 32 := 4#32
  let v353 : Index := Scalar.indexCast c4_i32_345
  let c4_i32_346 : BitVec 32 := 4#32
  let v354 : Index := Scalar.indexCast c4_i32_346
  let c0_i32_195 : BitVec 32 := 0#32
  let c1_i32_197 : BitVec 32 := 1#32
  let arg13 : BitVec 32 := Scf.iv c0_i32_195 c1_i32_197 k1_t21
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 4, v355.toNat]
def k1_off189 (k1_t21 : Fin k1_t21_loop.trips) (c0_i32_330 : BitVec 32) : Fin 4 → Nat :=
  let c1_i32_347 : BitVec 32 := 1#32
  let v361 : Index := Scalar.indexCast c1_i32_347
  let c5_i32 : BitVec 32 := 5#32
  let v362 : Index := Scalar.indexCast c5_i32
  let c4_i32_348 : BitVec 32 := 4#32
  let v363 : Index := Scalar.indexCast c4_i32_348
  let c0_i32_195 : BitVec 32 := 0#32
  let c1_i32_197 : BitVec 32 := 1#32
  let arg13 : BitVec 32 := Scf.iv c0_i32_195 c1_i32_197 k1_t21
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 4, v364.toNat]
def k1_off190 (k1_t21 : Fin k1_t21_loop.trips) (c0_i32_330 : BitVec 32) : Fin 4 → Nat :=
  let c1_i32_349 : BitVec 32 := 1#32
  let v370 : Index := Scalar.indexCast c1_i32_349
  let c6_i32_350 : BitVec 32 := 6#32
  let v371 : Index := Scalar.indexCast c6_i32_350
  let c4_i32_351 : BitVec 32 := 4#32
  let v372 : Index := Scalar.indexCast c4_i32_351
  let c0_i32_195 : BitVec 32 := 0#32
  let c1_i32_197 : BitVec 32 := 1#32
  let arg13 : BitVec 32 := Scf.iv c0_i32_195 c1_i32_197 k1_t21
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 4, v373.toNat]
def k1_off191 (k1_t21 : Fin k1_t21_loop.trips) (c0_i32_330 : BitVec 32) : Fin 4 → Nat :=
  let c1_i32_352 : BitVec 32 := 1#32
  let v379 : Index := Scalar.indexCast c1_i32_352
  let c7_i32 : BitVec 32 := 7#32
  let v380 : Index := Scalar.indexCast c7_i32
  let c4_i32_353 : BitVec 32 := 4#32
  let v381 : Index := Scalar.indexCast c4_i32_353
  let c0_i32_195 : BitVec 32 := 0#32
  let c1_i32_197 : BitVec 32 := 1#32
  let arg13 : BitVec 32 := Scf.iv c0_i32_195 c1_i32_197 k1_t21
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 4, v382.toNat]
@[reducible] def k1_t22_loop : Scf.Loop 32 :=
  let c0_i32_199 : BitVec 32 := 0#32
  let c6_i32_200 : BitVec 32 := 6#32
  let v184 : BitVec 32 := Scalar.addi c0_i32_199 c6_i32_200
  let c1_i32_201 : BitVec 32 := 1#32
  ⟨c0_i32_199, v184, c1_i32_201⟩
def k1_off192 (k1_t22 : Fin k1_t22_loop.trips) (c0_i32_330 : BitVec 32) : Fin 3 → Nat :=
  let c1_i32_332 : BitVec 32 := 1#32
  let v311 : Index := Scalar.indexCast c1_i32_332
  let c5_i32 : BitVec 32 := 5#32
  let v312 : Index := Scalar.indexCast c5_i32
  let c0_i32_199 : BitVec 32 := 0#32
  let c1_i32_201 : BitVec 32 := 1#32
  let arg13 : BitVec 32 := Scf.iv c0_i32_199 c1_i32_201 k1_t22
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 5, v313.toNat]
def k1_off193 (k1_t22 : Fin k1_t22_loop.trips) (c0_i32_330 : BitVec 32) : Fin 4 → Nat :=
  let c1_i32_333 : BitVec 32 := 1#32
  let v316 : Index := Scalar.indexCast c1_i32_333
  let c0_i32_334 : BitVec 32 := 0#32
  let v317 : Index := Scalar.indexCast c0_i32_334
  let c5_i32_335 : BitVec 32 := 5#32
  let v318 : Index := Scalar.indexCast c5_i32_335
  let c0_i32_199 : BitVec 32 := 0#32
  let c1_i32_201 : BitVec 32 := 1#32
  let arg13 : BitVec 32 := Scf.iv c0_i32_199 c1_i32_201 k1_t22
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 5, v319.toNat]
def k1_off194 (k1_t22 : Fin k1_t22_loop.trips) (c0_i32_330 : BitVec 32) : Fin 4 → Nat :=
  let c1_i32_336 : BitVec 32 := 1#32
  let v325 : Index := Scalar.indexCast c1_i32_336
  let c1_i32_337 : BitVec 32 := 1#32
  let v326 : Index := Scalar.indexCast c1_i32_337
  let c5_i32_338 : BitVec 32 := 5#32
  let v327 : Index := Scalar.indexCast c5_i32_338
  let c0_i32_199 : BitVec 32 := 0#32
  let c1_i32_201 : BitVec 32 := 1#32
  let arg13 : BitVec 32 := Scf.iv c0_i32_199 c1_i32_201 k1_t22
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 5, v328.toNat]
def k1_off195 (k1_t22 : Fin k1_t22_loop.trips) (c0_i32_330 : BitVec 32) : Fin 4 → Nat :=
  let c1_i32_339 : BitVec 32 := 1#32
  let v334 : Index := Scalar.indexCast c1_i32_339
  let c2_i32 : BitVec 32 := 2#32
  let v335 : Index := Scalar.indexCast c2_i32
  let c5_i32_340 : BitVec 32 := 5#32
  let v336 : Index := Scalar.indexCast c5_i32_340
  let c0_i32_199 : BitVec 32 := 0#32
  let c1_i32_201 : BitVec 32 := 1#32
  let arg13 : BitVec 32 := Scf.iv c0_i32_199 c1_i32_201 k1_t22
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 5, v337.toNat]
def k1_off196 (k1_t22 : Fin k1_t22_loop.trips) (c0_i32_330 : BitVec 32) : Fin 4 → Nat :=
  let c1_i32_341 : BitVec 32 := 1#32
  let v343 : Index := Scalar.indexCast c1_i32_341
  let c3_i32 : BitVec 32 := 3#32
  let v344 : Index := Scalar.indexCast c3_i32
  let c5_i32_342 : BitVec 32 := 5#32
  let v345 : Index := Scalar.indexCast c5_i32_342
  let c0_i32_199 : BitVec 32 := 0#32
  let c1_i32_201 : BitVec 32 := 1#32
  let arg13 : BitVec 32 := Scf.iv c0_i32_199 c1_i32_201 k1_t22
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 5, v346.toNat]
def k1_off197 (k1_t22 : Fin k1_t22_loop.trips) (c0_i32_330 : BitVec 32) : Fin 4 → Nat :=
  let c1_i32_343 : BitVec 32 := 1#32
  let v352 : Index := Scalar.indexCast c1_i32_343
  let c4_i32_344 : BitVec 32 := 4#32
  let v353 : Index := Scalar.indexCast c4_i32_344
  let c5_i32_345 : BitVec 32 := 5#32
  let v354 : Index := Scalar.indexCast c5_i32_345
  let c0_i32_199 : BitVec 32 := 0#32
  let c1_i32_201 : BitVec 32 := 1#32
  let arg13 : BitVec 32 := Scf.iv c0_i32_199 c1_i32_201 k1_t22
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 5, v355.toNat]
def k1_off198 (k1_t22 : Fin k1_t22_loop.trips) (c0_i32_330 : BitVec 32) : Fin 4 → Nat :=
  let c1_i32_346 : BitVec 32 := 1#32
  let v361 : Index := Scalar.indexCast c1_i32_346
  let c5_i32_347 : BitVec 32 := 5#32
  let v362 : Index := Scalar.indexCast c5_i32_347
  let c5_i32_348 : BitVec 32 := 5#32
  let v363 : Index := Scalar.indexCast c5_i32_348
  let c0_i32_199 : BitVec 32 := 0#32
  let c1_i32_201 : BitVec 32 := 1#32
  let arg13 : BitVec 32 := Scf.iv c0_i32_199 c1_i32_201 k1_t22
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 5, v364.toNat]
def k1_off199 (k1_t22 : Fin k1_t22_loop.trips) (c0_i32_330 : BitVec 32) : Fin 4 → Nat :=
  let c1_i32_349 : BitVec 32 := 1#32
  let v370 : Index := Scalar.indexCast c1_i32_349
  let c6_i32_350 : BitVec 32 := 6#32
  let v371 : Index := Scalar.indexCast c6_i32_350
  let c5_i32_351 : BitVec 32 := 5#32
  let v372 : Index := Scalar.indexCast c5_i32_351
  let c0_i32_199 : BitVec 32 := 0#32
  let c1_i32_201 : BitVec 32 := 1#32
  let arg13 : BitVec 32 := Scf.iv c0_i32_199 c1_i32_201 k1_t22
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 5, v373.toNat]
def k1_off200 (k1_t22 : Fin k1_t22_loop.trips) (c0_i32_330 : BitVec 32) : Fin 4 → Nat :=
  let c1_i32_352 : BitVec 32 := 1#32
  let v379 : Index := Scalar.indexCast c1_i32_352
  let c7_i32 : BitVec 32 := 7#32
  let v380 : Index := Scalar.indexCast c7_i32
  let c5_i32_353 : BitVec 32 := 5#32
  let v381 : Index := Scalar.indexCast c5_i32_353
  let c0_i32_199 : BitVec 32 := 0#32
  let c1_i32_201 : BitVec 32 := 1#32
  let arg13 : BitVec 32 := Scf.iv c0_i32_199 c1_i32_201 k1_t22
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 5, v382.toNat]
@[reducible] def k1_t23_loop : Scf.Loop 32 :=
  let c0_i32_203 : BitVec 32 := 0#32
  let c6_i32_204 : BitVec 32 := 6#32
  let v186 : BitVec 32 := Scalar.addi c0_i32_203 c6_i32_204
  let c1_i32_205 : BitVec 32 := 1#32
  ⟨c0_i32_203, v186, c1_i32_205⟩
def k1_off201 (k1_t23 : Fin k1_t23_loop.trips) (c0_i32_330 : BitVec 32) : Fin 3 → Nat :=
  let c1_i32_332 : BitVec 32 := 1#32
  let v311 : Index := Scalar.indexCast c1_i32_332
  let c6_i32_333 : BitVec 32 := 6#32
  let v312 : Index := Scalar.indexCast c6_i32_333
  let c0_i32_203 : BitVec 32 := 0#32
  let c1_i32_205 : BitVec 32 := 1#32
  let arg13 : BitVec 32 := Scf.iv c0_i32_203 c1_i32_205 k1_t23
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 6, v313.toNat]
def k1_off202 (k1_t23 : Fin k1_t23_loop.trips) (c0_i32_330 : BitVec 32) : Fin 4 → Nat :=
  let c1_i32_334 : BitVec 32 := 1#32
  let v316 : Index := Scalar.indexCast c1_i32_334
  let c0_i32_335 : BitVec 32 := 0#32
  let v317 : Index := Scalar.indexCast c0_i32_335
  let c6_i32_336 : BitVec 32 := 6#32
  let v318 : Index := Scalar.indexCast c6_i32_336
  let c0_i32_203 : BitVec 32 := 0#32
  let c1_i32_205 : BitVec 32 := 1#32
  let arg13 : BitVec 32 := Scf.iv c0_i32_203 c1_i32_205 k1_t23
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 6, v319.toNat]
def k1_off203 (k1_t23 : Fin k1_t23_loop.trips) (c0_i32_330 : BitVec 32) : Fin 4 → Nat :=
  let c1_i32_337 : BitVec 32 := 1#32
  let v325 : Index := Scalar.indexCast c1_i32_337
  let c1_i32_338 : BitVec 32 := 1#32
  let v326 : Index := Scalar.indexCast c1_i32_338
  let c6_i32_339 : BitVec 32 := 6#32
  let v327 : Index := Scalar.indexCast c6_i32_339
  let c0_i32_203 : BitVec 32 := 0#32
  let c1_i32_205 : BitVec 32 := 1#32
  let arg13 : BitVec 32 := Scf.iv c0_i32_203 c1_i32_205 k1_t23
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 6, v328.toNat]
def k1_off204 (k1_t23 : Fin k1_t23_loop.trips) (c0_i32_330 : BitVec 32) : Fin 4 → Nat :=
  let c1_i32_340 : BitVec 32 := 1#32
  let v334 : Index := Scalar.indexCast c1_i32_340
  let c2_i32 : BitVec 32 := 2#32
  let v335 : Index := Scalar.indexCast c2_i32
  let c6_i32_341 : BitVec 32 := 6#32
  let v336 : Index := Scalar.indexCast c6_i32_341
  let c0_i32_203 : BitVec 32 := 0#32
  let c1_i32_205 : BitVec 32 := 1#32
  let arg13 : BitVec 32 := Scf.iv c0_i32_203 c1_i32_205 k1_t23
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 6, v337.toNat]
def k1_off205 (k1_t23 : Fin k1_t23_loop.trips) (c0_i32_330 : BitVec 32) : Fin 4 → Nat :=
  let c1_i32_342 : BitVec 32 := 1#32
  let v343 : Index := Scalar.indexCast c1_i32_342
  let c3_i32 : BitVec 32 := 3#32
  let v344 : Index := Scalar.indexCast c3_i32
  let c6_i32_343 : BitVec 32 := 6#32
  let v345 : Index := Scalar.indexCast c6_i32_343
  let c0_i32_203 : BitVec 32 := 0#32
  let c1_i32_205 : BitVec 32 := 1#32
  let arg13 : BitVec 32 := Scf.iv c0_i32_203 c1_i32_205 k1_t23
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 6, v346.toNat]
def k1_off206 (k1_t23 : Fin k1_t23_loop.trips) (c0_i32_330 : BitVec 32) : Fin 4 → Nat :=
  let c1_i32_344 : BitVec 32 := 1#32
  let v352 : Index := Scalar.indexCast c1_i32_344
  let c4_i32_345 : BitVec 32 := 4#32
  let v353 : Index := Scalar.indexCast c4_i32_345
  let c6_i32_346 : BitVec 32 := 6#32
  let v354 : Index := Scalar.indexCast c6_i32_346
  let c0_i32_203 : BitVec 32 := 0#32
  let c1_i32_205 : BitVec 32 := 1#32
  let arg13 : BitVec 32 := Scf.iv c0_i32_203 c1_i32_205 k1_t23
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 6, v355.toNat]
def k1_off207 (k1_t23 : Fin k1_t23_loop.trips) (c0_i32_330 : BitVec 32) : Fin 4 → Nat :=
  let c1_i32_347 : BitVec 32 := 1#32
  let v361 : Index := Scalar.indexCast c1_i32_347
  let c5_i32 : BitVec 32 := 5#32
  let v362 : Index := Scalar.indexCast c5_i32
  let c6_i32_348 : BitVec 32 := 6#32
  let v363 : Index := Scalar.indexCast c6_i32_348
  let c0_i32_203 : BitVec 32 := 0#32
  let c1_i32_205 : BitVec 32 := 1#32
  let arg13 : BitVec 32 := Scf.iv c0_i32_203 c1_i32_205 k1_t23
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 6, v364.toNat]
def k1_off208 (k1_t23 : Fin k1_t23_loop.trips) (c0_i32_330 : BitVec 32) : Fin 4 → Nat :=
  let c1_i32_349 : BitVec 32 := 1#32
  let v370 : Index := Scalar.indexCast c1_i32_349
  let c6_i32_350 : BitVec 32 := 6#32
  let v371 : Index := Scalar.indexCast c6_i32_350
  let c6_i32_351 : BitVec 32 := 6#32
  let v372 : Index := Scalar.indexCast c6_i32_351
  let c0_i32_203 : BitVec 32 := 0#32
  let c1_i32_205 : BitVec 32 := 1#32
  let arg13 : BitVec 32 := Scf.iv c0_i32_203 c1_i32_205 k1_t23
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 6, v373.toNat]
def k1_off209 (k1_t23 : Fin k1_t23_loop.trips) (c0_i32_330 : BitVec 32) : Fin 4 → Nat :=
  let c1_i32_352 : BitVec 32 := 1#32
  let v379 : Index := Scalar.indexCast c1_i32_352
  let c7_i32 : BitVec 32 := 7#32
  let v380 : Index := Scalar.indexCast c7_i32
  let c6_i32_353 : BitVec 32 := 6#32
  let v381 : Index := Scalar.indexCast c6_i32_353
  let c0_i32_203 : BitVec 32 := 0#32
  let c1_i32_205 : BitVec 32 := 1#32
  let arg13 : BitVec 32 := Scf.iv c0_i32_203 c1_i32_205 k1_t23
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 6, v382.toNat]
@[reducible] def k1_t24_loop : Scf.Loop 32 :=
  let c0_i32_207 : BitVec 32 := 0#32
  let c6_i32_208 : BitVec 32 := 6#32
  let v188 : BitVec 32 := Scalar.addi c0_i32_207 c6_i32_208
  let c1_i32_209 : BitVec 32 := 1#32
  ⟨c0_i32_207, v188, c1_i32_209⟩
def k1_off210 (k1_t24 : Fin k1_t24_loop.trips) (c0_i32_330 : BitVec 32) : Fin 3 → Nat :=
  let c1_i32_332 : BitVec 32 := 1#32
  let v311 : Index := Scalar.indexCast c1_i32_332
  let c7_i32 : BitVec 32 := 7#32
  let v312 : Index := Scalar.indexCast c7_i32
  let c0_i32_207 : BitVec 32 := 0#32
  let c1_i32_209 : BitVec 32 := 1#32
  let arg13 : BitVec 32 := Scf.iv c0_i32_207 c1_i32_209 k1_t24
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 7, v313.toNat]
def k1_off211 (k1_t24 : Fin k1_t24_loop.trips) (c0_i32_330 : BitVec 32) : Fin 4 → Nat :=
  let c1_i32_333 : BitVec 32 := 1#32
  let v316 : Index := Scalar.indexCast c1_i32_333
  let c0_i32_334 : BitVec 32 := 0#32
  let v317 : Index := Scalar.indexCast c0_i32_334
  let c7_i32_335 : BitVec 32 := 7#32
  let v318 : Index := Scalar.indexCast c7_i32_335
  let c0_i32_207 : BitVec 32 := 0#32
  let c1_i32_209 : BitVec 32 := 1#32
  let arg13 : BitVec 32 := Scf.iv c0_i32_207 c1_i32_209 k1_t24
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 7, v319.toNat]
def k1_off212 (k1_t24 : Fin k1_t24_loop.trips) (c0_i32_330 : BitVec 32) : Fin 4 → Nat :=
  let c1_i32_336 : BitVec 32 := 1#32
  let v325 : Index := Scalar.indexCast c1_i32_336
  let c1_i32_337 : BitVec 32 := 1#32
  let v326 : Index := Scalar.indexCast c1_i32_337
  let c7_i32_338 : BitVec 32 := 7#32
  let v327 : Index := Scalar.indexCast c7_i32_338
  let c0_i32_207 : BitVec 32 := 0#32
  let c1_i32_209 : BitVec 32 := 1#32
  let arg13 : BitVec 32 := Scf.iv c0_i32_207 c1_i32_209 k1_t24
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 7, v328.toNat]
def k1_off213 (k1_t24 : Fin k1_t24_loop.trips) (c0_i32_330 : BitVec 32) : Fin 4 → Nat :=
  let c1_i32_339 : BitVec 32 := 1#32
  let v334 : Index := Scalar.indexCast c1_i32_339
  let c2_i32 : BitVec 32 := 2#32
  let v335 : Index := Scalar.indexCast c2_i32
  let c7_i32_340 : BitVec 32 := 7#32
  let v336 : Index := Scalar.indexCast c7_i32_340
  let c0_i32_207 : BitVec 32 := 0#32
  let c1_i32_209 : BitVec 32 := 1#32
  let arg13 : BitVec 32 := Scf.iv c0_i32_207 c1_i32_209 k1_t24
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 7, v337.toNat]
def k1_off214 (k1_t24 : Fin k1_t24_loop.trips) (c0_i32_330 : BitVec 32) : Fin 4 → Nat :=
  let c1_i32_341 : BitVec 32 := 1#32
  let v343 : Index := Scalar.indexCast c1_i32_341
  let c3_i32 : BitVec 32 := 3#32
  let v344 : Index := Scalar.indexCast c3_i32
  let c7_i32_342 : BitVec 32 := 7#32
  let v345 : Index := Scalar.indexCast c7_i32_342
  let c0_i32_207 : BitVec 32 := 0#32
  let c1_i32_209 : BitVec 32 := 1#32
  let arg13 : BitVec 32 := Scf.iv c0_i32_207 c1_i32_209 k1_t24
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 7, v346.toNat]
def k1_off215 (k1_t24 : Fin k1_t24_loop.trips) (c0_i32_330 : BitVec 32) : Fin 4 → Nat :=
  let c1_i32_343 : BitVec 32 := 1#32
  let v352 : Index := Scalar.indexCast c1_i32_343
  let c4_i32_344 : BitVec 32 := 4#32
  let v353 : Index := Scalar.indexCast c4_i32_344
  let c7_i32_345 : BitVec 32 := 7#32
  let v354 : Index := Scalar.indexCast c7_i32_345
  let c0_i32_207 : BitVec 32 := 0#32
  let c1_i32_209 : BitVec 32 := 1#32
  let arg13 : BitVec 32 := Scf.iv c0_i32_207 c1_i32_209 k1_t24
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 7, v355.toNat]
def k1_off216 (k1_t24 : Fin k1_t24_loop.trips) (c0_i32_330 : BitVec 32) : Fin 4 → Nat :=
  let c1_i32_346 : BitVec 32 := 1#32
  let v361 : Index := Scalar.indexCast c1_i32_346
  let c5_i32 : BitVec 32 := 5#32
  let v362 : Index := Scalar.indexCast c5_i32
  let c7_i32_347 : BitVec 32 := 7#32
  let v363 : Index := Scalar.indexCast c7_i32_347
  let c0_i32_207 : BitVec 32 := 0#32
  let c1_i32_209 : BitVec 32 := 1#32
  let arg13 : BitVec 32 := Scf.iv c0_i32_207 c1_i32_209 k1_t24
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 7, v364.toNat]
def k1_off217 (k1_t24 : Fin k1_t24_loop.trips) (c0_i32_330 : BitVec 32) : Fin 4 → Nat :=
  let c1_i32_348 : BitVec 32 := 1#32
  let v370 : Index := Scalar.indexCast c1_i32_348
  let c6_i32_349 : BitVec 32 := 6#32
  let v371 : Index := Scalar.indexCast c6_i32_349
  let c7_i32_350 : BitVec 32 := 7#32
  let v372 : Index := Scalar.indexCast c7_i32_350
  let c0_i32_207 : BitVec 32 := 0#32
  let c1_i32_209 : BitVec 32 := 1#32
  let arg13 : BitVec 32 := Scf.iv c0_i32_207 c1_i32_209 k1_t24
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 7, v373.toNat]
def k1_off218 (k1_t24 : Fin k1_t24_loop.trips) (c0_i32_330 : BitVec 32) : Fin 4 → Nat :=
  let c1_i32_351 : BitVec 32 := 1#32
  let v379 : Index := Scalar.indexCast c1_i32_351
  let c7_i32_352 : BitVec 32 := 7#32
  let v380 : Index := Scalar.indexCast c7_i32_352
  let c7_i32_353 : BitVec 32 := 7#32
  let v381 : Index := Scalar.indexCast c7_i32_353
  let c0_i32_207 : BitVec 32 := 0#32
  let c1_i32_209 : BitVec 32 := 1#32
  let arg13 : BitVec 32 := Scf.iv c0_i32_207 c1_i32_209 k1_t24
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 7, v382.toNat]
@[reducible] def k1_t25_loop : Scf.Loop 32 :=
  let c0_i32_211 : BitVec 32 := 0#32
  let c6_i32_212 : BitVec 32 := 6#32
  let v190 : BitVec 32 := Scalar.addi c0_i32_211 c6_i32_212
  let c1_i32_213 : BitVec 32 := 1#32
  ⟨c0_i32_211, v190, c1_i32_213⟩
def k1_off219 (k1_t25 : Fin k1_t25_loop.trips) (c0_i32_330 : BitVec 32) : Fin 3 → Nat :=
  let c1_i32_332 : BitVec 32 := 1#32
  let v311 : Index := Scalar.indexCast c1_i32_332
  let c8_i32 : BitVec 32 := 8#32
  let v312 : Index := Scalar.indexCast c8_i32
  let c0_i32_211 : BitVec 32 := 0#32
  let c1_i32_213 : BitVec 32 := 1#32
  let arg13 : BitVec 32 := Scf.iv c0_i32_211 c1_i32_213 k1_t25
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 8, v313.toNat]
def k1_off220 (k1_t25 : Fin k1_t25_loop.trips) (c0_i32_330 : BitVec 32) : Fin 4 → Nat :=
  let c1_i32_333 : BitVec 32 := 1#32
  let v316 : Index := Scalar.indexCast c1_i32_333
  let c0_i32_334 : BitVec 32 := 0#32
  let v317 : Index := Scalar.indexCast c0_i32_334
  let c8_i32_335 : BitVec 32 := 8#32
  let v318 : Index := Scalar.indexCast c8_i32_335
  let c0_i32_211 : BitVec 32 := 0#32
  let c1_i32_213 : BitVec 32 := 1#32
  let arg13 : BitVec 32 := Scf.iv c0_i32_211 c1_i32_213 k1_t25
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 8, v319.toNat]
def k1_off221 (k1_t25 : Fin k1_t25_loop.trips) (c0_i32_330 : BitVec 32) : Fin 4 → Nat :=
  let c1_i32_336 : BitVec 32 := 1#32
  let v325 : Index := Scalar.indexCast c1_i32_336
  let c1_i32_337 : BitVec 32 := 1#32
  let v326 : Index := Scalar.indexCast c1_i32_337
  let c8_i32_338 : BitVec 32 := 8#32
  let v327 : Index := Scalar.indexCast c8_i32_338
  let c0_i32_211 : BitVec 32 := 0#32
  let c1_i32_213 : BitVec 32 := 1#32
  let arg13 : BitVec 32 := Scf.iv c0_i32_211 c1_i32_213 k1_t25
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 8, v328.toNat]
def k1_off222 (k1_t25 : Fin k1_t25_loop.trips) (c0_i32_330 : BitVec 32) : Fin 4 → Nat :=
  let c1_i32_339 : BitVec 32 := 1#32
  let v334 : Index := Scalar.indexCast c1_i32_339
  let c2_i32 : BitVec 32 := 2#32
  let v335 : Index := Scalar.indexCast c2_i32
  let c8_i32_340 : BitVec 32 := 8#32
  let v336 : Index := Scalar.indexCast c8_i32_340
  let c0_i32_211 : BitVec 32 := 0#32
  let c1_i32_213 : BitVec 32 := 1#32
  let arg13 : BitVec 32 := Scf.iv c0_i32_211 c1_i32_213 k1_t25
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 8, v337.toNat]
def k1_off223 (k1_t25 : Fin k1_t25_loop.trips) (c0_i32_330 : BitVec 32) : Fin 4 → Nat :=
  let c1_i32_341 : BitVec 32 := 1#32
  let v343 : Index := Scalar.indexCast c1_i32_341
  let c3_i32 : BitVec 32 := 3#32
  let v344 : Index := Scalar.indexCast c3_i32
  let c8_i32_342 : BitVec 32 := 8#32
  let v345 : Index := Scalar.indexCast c8_i32_342
  let c0_i32_211 : BitVec 32 := 0#32
  let c1_i32_213 : BitVec 32 := 1#32
  let arg13 : BitVec 32 := Scf.iv c0_i32_211 c1_i32_213 k1_t25
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 8, v346.toNat]
def k1_off224 (k1_t25 : Fin k1_t25_loop.trips) (c0_i32_330 : BitVec 32) : Fin 4 → Nat :=
  let c1_i32_343 : BitVec 32 := 1#32
  let v352 : Index := Scalar.indexCast c1_i32_343
  let c4_i32_344 : BitVec 32 := 4#32
  let v353 : Index := Scalar.indexCast c4_i32_344
  let c8_i32_345 : BitVec 32 := 8#32
  let v354 : Index := Scalar.indexCast c8_i32_345
  let c0_i32_211 : BitVec 32 := 0#32
  let c1_i32_213 : BitVec 32 := 1#32
  let arg13 : BitVec 32 := Scf.iv c0_i32_211 c1_i32_213 k1_t25
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 8, v355.toNat]
def k1_off225 (k1_t25 : Fin k1_t25_loop.trips) (c0_i32_330 : BitVec 32) : Fin 4 → Nat :=
  let c1_i32_346 : BitVec 32 := 1#32
  let v361 : Index := Scalar.indexCast c1_i32_346
  let c5_i32 : BitVec 32 := 5#32
  let v362 : Index := Scalar.indexCast c5_i32
  let c8_i32_347 : BitVec 32 := 8#32
  let v363 : Index := Scalar.indexCast c8_i32_347
  let c0_i32_211 : BitVec 32 := 0#32
  let c1_i32_213 : BitVec 32 := 1#32
  let arg13 : BitVec 32 := Scf.iv c0_i32_211 c1_i32_213 k1_t25
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 8, v364.toNat]
def k1_off226 (k1_t25 : Fin k1_t25_loop.trips) (c0_i32_330 : BitVec 32) : Fin 4 → Nat :=
  let c1_i32_348 : BitVec 32 := 1#32
  let v370 : Index := Scalar.indexCast c1_i32_348
  let c6_i32_349 : BitVec 32 := 6#32
  let v371 : Index := Scalar.indexCast c6_i32_349
  let c8_i32_350 : BitVec 32 := 8#32
  let v372 : Index := Scalar.indexCast c8_i32_350
  let c0_i32_211 : BitVec 32 := 0#32
  let c1_i32_213 : BitVec 32 := 1#32
  let arg13 : BitVec 32 := Scf.iv c0_i32_211 c1_i32_213 k1_t25
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 8, v373.toNat]
def k1_off227 (k1_t25 : Fin k1_t25_loop.trips) (c0_i32_330 : BitVec 32) : Fin 4 → Nat :=
  let c1_i32_351 : BitVec 32 := 1#32
  let v379 : Index := Scalar.indexCast c1_i32_351
  let c7_i32 : BitVec 32 := 7#32
  let v380 : Index := Scalar.indexCast c7_i32
  let c8_i32_352 : BitVec 32 := 8#32
  let v381 : Index := Scalar.indexCast c8_i32_352
  let c0_i32_211 : BitVec 32 := 0#32
  let c1_i32_213 : BitVec 32 := 1#32
  let arg13 : BitVec 32 := Scf.iv c0_i32_211 c1_i32_213 k1_t25
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 8, v382.toNat]
@[reducible] def k1_t26_loop : Scf.Loop 32 :=
  let c0_i32_215 : BitVec 32 := 0#32
  let c6_i32_216 : BitVec 32 := 6#32
  let v192 : BitVec 32 := Scalar.addi c0_i32_215 c6_i32_216
  let c1_i32_217 : BitVec 32 := 1#32
  ⟨c0_i32_215, v192, c1_i32_217⟩
def k1_off228 (k1_t26 : Fin k1_t26_loop.trips) (c0_i32_330 : BitVec 32) : Fin 3 → Nat :=
  let c1_i32_332 : BitVec 32 := 1#32
  let v311 : Index := Scalar.indexCast c1_i32_332
  let c9_i32 : BitVec 32 := 9#32
  let v312 : Index := Scalar.indexCast c9_i32
  let c0_i32_215 : BitVec 32 := 0#32
  let c1_i32_217 : BitVec 32 := 1#32
  let arg13 : BitVec 32 := Scf.iv c0_i32_215 c1_i32_217 k1_t26
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 9, v313.toNat]
def k1_off229 (k1_t26 : Fin k1_t26_loop.trips) (c0_i32_330 : BitVec 32) : Fin 4 → Nat :=
  let c1_i32_333 : BitVec 32 := 1#32
  let v316 : Index := Scalar.indexCast c1_i32_333
  let c0_i32_334 : BitVec 32 := 0#32
  let v317 : Index := Scalar.indexCast c0_i32_334
  let c9_i32_335 : BitVec 32 := 9#32
  let v318 : Index := Scalar.indexCast c9_i32_335
  let c0_i32_215 : BitVec 32 := 0#32
  let c1_i32_217 : BitVec 32 := 1#32
  let arg13 : BitVec 32 := Scf.iv c0_i32_215 c1_i32_217 k1_t26
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 9, v319.toNat]
def k1_off230 (k1_t26 : Fin k1_t26_loop.trips) (c0_i32_330 : BitVec 32) : Fin 4 → Nat :=
  let c1_i32_336 : BitVec 32 := 1#32
  let v325 : Index := Scalar.indexCast c1_i32_336
  let c1_i32_337 : BitVec 32 := 1#32
  let v326 : Index := Scalar.indexCast c1_i32_337
  let c9_i32_338 : BitVec 32 := 9#32
  let v327 : Index := Scalar.indexCast c9_i32_338
  let c0_i32_215 : BitVec 32 := 0#32
  let c1_i32_217 : BitVec 32 := 1#32
  let arg13 : BitVec 32 := Scf.iv c0_i32_215 c1_i32_217 k1_t26
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 9, v328.toNat]
def k1_off231 (k1_t26 : Fin k1_t26_loop.trips) (c0_i32_330 : BitVec 32) : Fin 4 → Nat :=
  let c1_i32_339 : BitVec 32 := 1#32
  let v334 : Index := Scalar.indexCast c1_i32_339
  let c2_i32 : BitVec 32 := 2#32
  let v335 : Index := Scalar.indexCast c2_i32
  let c9_i32_340 : BitVec 32 := 9#32
  let v336 : Index := Scalar.indexCast c9_i32_340
  let c0_i32_215 : BitVec 32 := 0#32
  let c1_i32_217 : BitVec 32 := 1#32
  let arg13 : BitVec 32 := Scf.iv c0_i32_215 c1_i32_217 k1_t26
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 9, v337.toNat]
def k1_off232 (k1_t26 : Fin k1_t26_loop.trips) (c0_i32_330 : BitVec 32) : Fin 4 → Nat :=
  let c1_i32_341 : BitVec 32 := 1#32
  let v343 : Index := Scalar.indexCast c1_i32_341
  let c3_i32 : BitVec 32 := 3#32
  let v344 : Index := Scalar.indexCast c3_i32
  let c9_i32_342 : BitVec 32 := 9#32
  let v345 : Index := Scalar.indexCast c9_i32_342
  let c0_i32_215 : BitVec 32 := 0#32
  let c1_i32_217 : BitVec 32 := 1#32
  let arg13 : BitVec 32 := Scf.iv c0_i32_215 c1_i32_217 k1_t26
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 9, v346.toNat]
def k1_off233 (k1_t26 : Fin k1_t26_loop.trips) (c0_i32_330 : BitVec 32) : Fin 4 → Nat :=
  let c1_i32_343 : BitVec 32 := 1#32
  let v352 : Index := Scalar.indexCast c1_i32_343
  let c4_i32_344 : BitVec 32 := 4#32
  let v353 : Index := Scalar.indexCast c4_i32_344
  let c9_i32_345 : BitVec 32 := 9#32
  let v354 : Index := Scalar.indexCast c9_i32_345
  let c0_i32_215 : BitVec 32 := 0#32
  let c1_i32_217 : BitVec 32 := 1#32
  let arg13 : BitVec 32 := Scf.iv c0_i32_215 c1_i32_217 k1_t26
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 9, v355.toNat]
def k1_off234 (k1_t26 : Fin k1_t26_loop.trips) (c0_i32_330 : BitVec 32) : Fin 4 → Nat :=
  let c1_i32_346 : BitVec 32 := 1#32
  let v361 : Index := Scalar.indexCast c1_i32_346
  let c5_i32 : BitVec 32 := 5#32
  let v362 : Index := Scalar.indexCast c5_i32
  let c9_i32_347 : BitVec 32 := 9#32
  let v363 : Index := Scalar.indexCast c9_i32_347
  let c0_i32_215 : BitVec 32 := 0#32
  let c1_i32_217 : BitVec 32 := 1#32
  let arg13 : BitVec 32 := Scf.iv c0_i32_215 c1_i32_217 k1_t26
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 9, v364.toNat]
def k1_off235 (k1_t26 : Fin k1_t26_loop.trips) (c0_i32_330 : BitVec 32) : Fin 4 → Nat :=
  let c1_i32_348 : BitVec 32 := 1#32
  let v370 : Index := Scalar.indexCast c1_i32_348
  let c6_i32_349 : BitVec 32 := 6#32
  let v371 : Index := Scalar.indexCast c6_i32_349
  let c9_i32_350 : BitVec 32 := 9#32
  let v372 : Index := Scalar.indexCast c9_i32_350
  let c0_i32_215 : BitVec 32 := 0#32
  let c1_i32_217 : BitVec 32 := 1#32
  let arg13 : BitVec 32 := Scf.iv c0_i32_215 c1_i32_217 k1_t26
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 9, v373.toNat]
def k1_off236 (k1_t26 : Fin k1_t26_loop.trips) (c0_i32_330 : BitVec 32) : Fin 4 → Nat :=
  let c1_i32_351 : BitVec 32 := 1#32
  let v379 : Index := Scalar.indexCast c1_i32_351
  let c7_i32 : BitVec 32 := 7#32
  let v380 : Index := Scalar.indexCast c7_i32
  let c9_i32_352 : BitVec 32 := 9#32
  let v381 : Index := Scalar.indexCast c9_i32_352
  let c0_i32_215 : BitVec 32 := 0#32
  let c1_i32_217 : BitVec 32 := 1#32
  let arg13 : BitVec 32 := Scf.iv c0_i32_215 c1_i32_217 k1_t26
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 9, v382.toNat]
@[reducible] def k1_t27_loop : Scf.Loop 32 :=
  let c0_i32_219 : BitVec 32 := 0#32
  let c6_i32_220 : BitVec 32 := 6#32
  let v194 : BitVec 32 := Scalar.addi c0_i32_219 c6_i32_220
  let c1_i32_221 : BitVec 32 := 1#32
  ⟨c0_i32_219, v194, c1_i32_221⟩
def k1_off237 (k1_t27 : Fin k1_t27_loop.trips) (c0_i32_330 : BitVec 32) : Fin 3 → Nat :=
  let c1_i32_332 : BitVec 32 := 1#32
  let v311 : Index := Scalar.indexCast c1_i32_332
  let c10_i32 : BitVec 32 := 10#32
  let v312 : Index := Scalar.indexCast c10_i32
  let c0_i32_219 : BitVec 32 := 0#32
  let c1_i32_221 : BitVec 32 := 1#32
  let arg13 : BitVec 32 := Scf.iv c0_i32_219 c1_i32_221 k1_t27
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 10, v313.toNat]
def k1_off238 (k1_t27 : Fin k1_t27_loop.trips) (c0_i32_330 : BitVec 32) : Fin 4 → Nat :=
  let c1_i32_333 : BitVec 32 := 1#32
  let v316 : Index := Scalar.indexCast c1_i32_333
  let c0_i32_334 : BitVec 32 := 0#32
  let v317 : Index := Scalar.indexCast c0_i32_334
  let c10_i32_335 : BitVec 32 := 10#32
  let v318 : Index := Scalar.indexCast c10_i32_335
  let c0_i32_219 : BitVec 32 := 0#32
  let c1_i32_221 : BitVec 32 := 1#32
  let arg13 : BitVec 32 := Scf.iv c0_i32_219 c1_i32_221 k1_t27
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 10, v319.toNat]
def k1_off239 (k1_t27 : Fin k1_t27_loop.trips) (c0_i32_330 : BitVec 32) : Fin 4 → Nat :=
  let c1_i32_336 : BitVec 32 := 1#32
  let v325 : Index := Scalar.indexCast c1_i32_336
  let c1_i32_337 : BitVec 32 := 1#32
  let v326 : Index := Scalar.indexCast c1_i32_337
  let c10_i32_338 : BitVec 32 := 10#32
  let v327 : Index := Scalar.indexCast c10_i32_338
  let c0_i32_219 : BitVec 32 := 0#32
  let c1_i32_221 : BitVec 32 := 1#32
  let arg13 : BitVec 32 := Scf.iv c0_i32_219 c1_i32_221 k1_t27
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 10, v328.toNat]
def k1_off240 (k1_t27 : Fin k1_t27_loop.trips) (c0_i32_330 : BitVec 32) : Fin 4 → Nat :=
  let c1_i32_339 : BitVec 32 := 1#32
  let v334 : Index := Scalar.indexCast c1_i32_339
  let c2_i32 : BitVec 32 := 2#32
  let v335 : Index := Scalar.indexCast c2_i32
  let c10_i32_340 : BitVec 32 := 10#32
  let v336 : Index := Scalar.indexCast c10_i32_340
  let c0_i32_219 : BitVec 32 := 0#32
  let c1_i32_221 : BitVec 32 := 1#32
  let arg13 : BitVec 32 := Scf.iv c0_i32_219 c1_i32_221 k1_t27
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 10, v337.toNat]
def k1_off241 (k1_t27 : Fin k1_t27_loop.trips) (c0_i32_330 : BitVec 32) : Fin 4 → Nat :=
  let c1_i32_341 : BitVec 32 := 1#32
  let v343 : Index := Scalar.indexCast c1_i32_341
  let c3_i32 : BitVec 32 := 3#32
  let v344 : Index := Scalar.indexCast c3_i32
  let c10_i32_342 : BitVec 32 := 10#32
  let v345 : Index := Scalar.indexCast c10_i32_342
  let c0_i32_219 : BitVec 32 := 0#32
  let c1_i32_221 : BitVec 32 := 1#32
  let arg13 : BitVec 32 := Scf.iv c0_i32_219 c1_i32_221 k1_t27
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 10, v346.toNat]
def k1_off242 (k1_t27 : Fin k1_t27_loop.trips) (c0_i32_330 : BitVec 32) : Fin 4 → Nat :=
  let c1_i32_343 : BitVec 32 := 1#32
  let v352 : Index := Scalar.indexCast c1_i32_343
  let c4_i32_344 : BitVec 32 := 4#32
  let v353 : Index := Scalar.indexCast c4_i32_344
  let c10_i32_345 : BitVec 32 := 10#32
  let v354 : Index := Scalar.indexCast c10_i32_345
  let c0_i32_219 : BitVec 32 := 0#32
  let c1_i32_221 : BitVec 32 := 1#32
  let arg13 : BitVec 32 := Scf.iv c0_i32_219 c1_i32_221 k1_t27
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 10, v355.toNat]
def k1_off243 (k1_t27 : Fin k1_t27_loop.trips) (c0_i32_330 : BitVec 32) : Fin 4 → Nat :=
  let c1_i32_346 : BitVec 32 := 1#32
  let v361 : Index := Scalar.indexCast c1_i32_346
  let c5_i32 : BitVec 32 := 5#32
  let v362 : Index := Scalar.indexCast c5_i32
  let c10_i32_347 : BitVec 32 := 10#32
  let v363 : Index := Scalar.indexCast c10_i32_347
  let c0_i32_219 : BitVec 32 := 0#32
  let c1_i32_221 : BitVec 32 := 1#32
  let arg13 : BitVec 32 := Scf.iv c0_i32_219 c1_i32_221 k1_t27
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 10, v364.toNat]
def k1_off244 (k1_t27 : Fin k1_t27_loop.trips) (c0_i32_330 : BitVec 32) : Fin 4 → Nat :=
  let c1_i32_348 : BitVec 32 := 1#32
  let v370 : Index := Scalar.indexCast c1_i32_348
  let c6_i32_349 : BitVec 32 := 6#32
  let v371 : Index := Scalar.indexCast c6_i32_349
  let c10_i32_350 : BitVec 32 := 10#32
  let v372 : Index := Scalar.indexCast c10_i32_350
  let c0_i32_219 : BitVec 32 := 0#32
  let c1_i32_221 : BitVec 32 := 1#32
  let arg13 : BitVec 32 := Scf.iv c0_i32_219 c1_i32_221 k1_t27
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 10, v373.toNat]
def k1_off245 (k1_t27 : Fin k1_t27_loop.trips) (c0_i32_330 : BitVec 32) : Fin 4 → Nat :=
  let c1_i32_351 : BitVec 32 := 1#32
  let v379 : Index := Scalar.indexCast c1_i32_351
  let c7_i32 : BitVec 32 := 7#32
  let v380 : Index := Scalar.indexCast c7_i32
  let c10_i32_352 : BitVec 32 := 10#32
  let v381 : Index := Scalar.indexCast c10_i32_352
  let c0_i32_219 : BitVec 32 := 0#32
  let c1_i32_221 : BitVec 32 := 1#32
  let arg13 : BitVec 32 := Scf.iv c0_i32_219 c1_i32_221 k1_t27
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 10, v382.toNat]
@[reducible] def k1_t28_loop : Scf.Loop 32 :=
  let c0_i32_223 : BitVec 32 := 0#32
  let c6_i32_224 : BitVec 32 := 6#32
  let v196 : BitVec 32 := Scalar.addi c0_i32_223 c6_i32_224
  let c1_i32_225 : BitVec 32 := 1#32
  ⟨c0_i32_223, v196, c1_i32_225⟩
def k1_off246 (k1_t28 : Fin k1_t28_loop.trips) (c0_i32_330 : BitVec 32) : Fin 3 → Nat :=
  let c1_i32_332 : BitVec 32 := 1#32
  let v311 : Index := Scalar.indexCast c1_i32_332
  let c11_i32 : BitVec 32 := 11#32
  let v312 : Index := Scalar.indexCast c11_i32
  let c0_i32_223 : BitVec 32 := 0#32
  let c1_i32_225 : BitVec 32 := 1#32
  let arg13 : BitVec 32 := Scf.iv c0_i32_223 c1_i32_225 k1_t28
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 11, v313.toNat]
def k1_off247 (k1_t28 : Fin k1_t28_loop.trips) (c0_i32_330 : BitVec 32) : Fin 4 → Nat :=
  let c1_i32_333 : BitVec 32 := 1#32
  let v316 : Index := Scalar.indexCast c1_i32_333
  let c0_i32_334 : BitVec 32 := 0#32
  let v317 : Index := Scalar.indexCast c0_i32_334
  let c11_i32_335 : BitVec 32 := 11#32
  let v318 : Index := Scalar.indexCast c11_i32_335
  let c0_i32_223 : BitVec 32 := 0#32
  let c1_i32_225 : BitVec 32 := 1#32
  let arg13 : BitVec 32 := Scf.iv c0_i32_223 c1_i32_225 k1_t28
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 11, v319.toNat]
def k1_off248 (k1_t28 : Fin k1_t28_loop.trips) (c0_i32_330 : BitVec 32) : Fin 4 → Nat :=
  let c1_i32_336 : BitVec 32 := 1#32
  let v325 : Index := Scalar.indexCast c1_i32_336
  let c1_i32_337 : BitVec 32 := 1#32
  let v326 : Index := Scalar.indexCast c1_i32_337
  let c11_i32_338 : BitVec 32 := 11#32
  let v327 : Index := Scalar.indexCast c11_i32_338
  let c0_i32_223 : BitVec 32 := 0#32
  let c1_i32_225 : BitVec 32 := 1#32
  let arg13 : BitVec 32 := Scf.iv c0_i32_223 c1_i32_225 k1_t28
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 11, v328.toNat]
def k1_off249 (k1_t28 : Fin k1_t28_loop.trips) (c0_i32_330 : BitVec 32) : Fin 4 → Nat :=
  let c1_i32_339 : BitVec 32 := 1#32
  let v334 : Index := Scalar.indexCast c1_i32_339
  let c2_i32 : BitVec 32 := 2#32
  let v335 : Index := Scalar.indexCast c2_i32
  let c11_i32_340 : BitVec 32 := 11#32
  let v336 : Index := Scalar.indexCast c11_i32_340
  let c0_i32_223 : BitVec 32 := 0#32
  let c1_i32_225 : BitVec 32 := 1#32
  let arg13 : BitVec 32 := Scf.iv c0_i32_223 c1_i32_225 k1_t28
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 11, v337.toNat]
def k1_off250 (k1_t28 : Fin k1_t28_loop.trips) (c0_i32_330 : BitVec 32) : Fin 4 → Nat :=
  let c1_i32_341 : BitVec 32 := 1#32
  let v343 : Index := Scalar.indexCast c1_i32_341
  let c3_i32 : BitVec 32 := 3#32
  let v344 : Index := Scalar.indexCast c3_i32
  let c11_i32_342 : BitVec 32 := 11#32
  let v345 : Index := Scalar.indexCast c11_i32_342
  let c0_i32_223 : BitVec 32 := 0#32
  let c1_i32_225 : BitVec 32 := 1#32
  let arg13 : BitVec 32 := Scf.iv c0_i32_223 c1_i32_225 k1_t28
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 11, v346.toNat]
def k1_off251 (k1_t28 : Fin k1_t28_loop.trips) (c0_i32_330 : BitVec 32) : Fin 4 → Nat :=
  let c1_i32_343 : BitVec 32 := 1#32
  let v352 : Index := Scalar.indexCast c1_i32_343
  let c4_i32_344 : BitVec 32 := 4#32
  let v353 : Index := Scalar.indexCast c4_i32_344
  let c11_i32_345 : BitVec 32 := 11#32
  let v354 : Index := Scalar.indexCast c11_i32_345
  let c0_i32_223 : BitVec 32 := 0#32
  let c1_i32_225 : BitVec 32 := 1#32
  let arg13 : BitVec 32 := Scf.iv c0_i32_223 c1_i32_225 k1_t28
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 11, v355.toNat]
def k1_off252 (k1_t28 : Fin k1_t28_loop.trips) (c0_i32_330 : BitVec 32) : Fin 4 → Nat :=
  let c1_i32_346 : BitVec 32 := 1#32
  let v361 : Index := Scalar.indexCast c1_i32_346
  let c5_i32 : BitVec 32 := 5#32
  let v362 : Index := Scalar.indexCast c5_i32
  let c11_i32_347 : BitVec 32 := 11#32
  let v363 : Index := Scalar.indexCast c11_i32_347
  let c0_i32_223 : BitVec 32 := 0#32
  let c1_i32_225 : BitVec 32 := 1#32
  let arg13 : BitVec 32 := Scf.iv c0_i32_223 c1_i32_225 k1_t28
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 11, v364.toNat]
def k1_off253 (k1_t28 : Fin k1_t28_loop.trips) (c0_i32_330 : BitVec 32) : Fin 4 → Nat :=
  let c1_i32_348 : BitVec 32 := 1#32
  let v370 : Index := Scalar.indexCast c1_i32_348
  let c6_i32_349 : BitVec 32 := 6#32
  let v371 : Index := Scalar.indexCast c6_i32_349
  let c11_i32_350 : BitVec 32 := 11#32
  let v372 : Index := Scalar.indexCast c11_i32_350
  let c0_i32_223 : BitVec 32 := 0#32
  let c1_i32_225 : BitVec 32 := 1#32
  let arg13 : BitVec 32 := Scf.iv c0_i32_223 c1_i32_225 k1_t28
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 11, v373.toNat]
def k1_off254 (k1_t28 : Fin k1_t28_loop.trips) (c0_i32_330 : BitVec 32) : Fin 4 → Nat :=
  let c1_i32_351 : BitVec 32 := 1#32
  let v379 : Index := Scalar.indexCast c1_i32_351
  let c7_i32 : BitVec 32 := 7#32
  let v380 : Index := Scalar.indexCast c7_i32
  let c11_i32_352 : BitVec 32 := 11#32
  let v381 : Index := Scalar.indexCast c11_i32_352
  let c0_i32_223 : BitVec 32 := 0#32
  let c1_i32_225 : BitVec 32 := 1#32
  let arg13 : BitVec 32 := Scf.iv c0_i32_223 c1_i32_225 k1_t28
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 11, v382.toNat]
@[reducible] def k1_t29_loop : Scf.Loop 32 :=
  let c0_i32_227 : BitVec 32 := 0#32
  let c6_i32_228 : BitVec 32 := 6#32
  let v198 : BitVec 32 := Scalar.addi c0_i32_227 c6_i32_228
  let c1_i32_229 : BitVec 32 := 1#32
  ⟨c0_i32_227, v198, c1_i32_229⟩
def k1_off255 (k1_t29 : Fin k1_t29_loop.trips) (c0_i32_330 : BitVec 32) : Fin 3 → Nat :=
  let c1_i32_332 : BitVec 32 := 1#32
  let v311 : Index := Scalar.indexCast c1_i32_332
  let c12_i32 : BitVec 32 := 12#32
  let v312 : Index := Scalar.indexCast c12_i32
  let c0_i32_227 : BitVec 32 := 0#32
  let c1_i32_229 : BitVec 32 := 1#32
  let arg13 : BitVec 32 := Scf.iv c0_i32_227 c1_i32_229 k1_t29
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 12, v313.toNat]
def k1_off256 (k1_t29 : Fin k1_t29_loop.trips) (c0_i32_330 : BitVec 32) : Fin 4 → Nat :=
  let c1_i32_333 : BitVec 32 := 1#32
  let v316 : Index := Scalar.indexCast c1_i32_333
  let c0_i32_334 : BitVec 32 := 0#32
  let v317 : Index := Scalar.indexCast c0_i32_334
  let c12_i32_335 : BitVec 32 := 12#32
  let v318 : Index := Scalar.indexCast c12_i32_335
  let c0_i32_227 : BitVec 32 := 0#32
  let c1_i32_229 : BitVec 32 := 1#32
  let arg13 : BitVec 32 := Scf.iv c0_i32_227 c1_i32_229 k1_t29
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 12, v319.toNat]
def k1_off257 (k1_t29 : Fin k1_t29_loop.trips) (c0_i32_330 : BitVec 32) : Fin 4 → Nat :=
  let c1_i32_336 : BitVec 32 := 1#32
  let v325 : Index := Scalar.indexCast c1_i32_336
  let c1_i32_337 : BitVec 32 := 1#32
  let v326 : Index := Scalar.indexCast c1_i32_337
  let c12_i32_338 : BitVec 32 := 12#32
  let v327 : Index := Scalar.indexCast c12_i32_338
  let c0_i32_227 : BitVec 32 := 0#32
  let c1_i32_229 : BitVec 32 := 1#32
  let arg13 : BitVec 32 := Scf.iv c0_i32_227 c1_i32_229 k1_t29
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 12, v328.toNat]
def k1_off258 (k1_t29 : Fin k1_t29_loop.trips) (c0_i32_330 : BitVec 32) : Fin 4 → Nat :=
  let c1_i32_339 : BitVec 32 := 1#32
  let v334 : Index := Scalar.indexCast c1_i32_339
  let c2_i32 : BitVec 32 := 2#32
  let v335 : Index := Scalar.indexCast c2_i32
  let c12_i32_340 : BitVec 32 := 12#32
  let v336 : Index := Scalar.indexCast c12_i32_340
  let c0_i32_227 : BitVec 32 := 0#32
  let c1_i32_229 : BitVec 32 := 1#32
  let arg13 : BitVec 32 := Scf.iv c0_i32_227 c1_i32_229 k1_t29
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 12, v337.toNat]
def k1_off259 (k1_t29 : Fin k1_t29_loop.trips) (c0_i32_330 : BitVec 32) : Fin 4 → Nat :=
  let c1_i32_341 : BitVec 32 := 1#32
  let v343 : Index := Scalar.indexCast c1_i32_341
  let c3_i32 : BitVec 32 := 3#32
  let v344 : Index := Scalar.indexCast c3_i32
  let c12_i32_342 : BitVec 32 := 12#32
  let v345 : Index := Scalar.indexCast c12_i32_342
  let c0_i32_227 : BitVec 32 := 0#32
  let c1_i32_229 : BitVec 32 := 1#32
  let arg13 : BitVec 32 := Scf.iv c0_i32_227 c1_i32_229 k1_t29
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 12, v346.toNat]
def k1_off260 (k1_t29 : Fin k1_t29_loop.trips) (c0_i32_330 : BitVec 32) : Fin 4 → Nat :=
  let c1_i32_343 : BitVec 32 := 1#32
  let v352 : Index := Scalar.indexCast c1_i32_343
  let c4_i32_344 : BitVec 32 := 4#32
  let v353 : Index := Scalar.indexCast c4_i32_344
  let c12_i32_345 : BitVec 32 := 12#32
  let v354 : Index := Scalar.indexCast c12_i32_345
  let c0_i32_227 : BitVec 32 := 0#32
  let c1_i32_229 : BitVec 32 := 1#32
  let arg13 : BitVec 32 := Scf.iv c0_i32_227 c1_i32_229 k1_t29
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 12, v355.toNat]
def k1_off261 (k1_t29 : Fin k1_t29_loop.trips) (c0_i32_330 : BitVec 32) : Fin 4 → Nat :=
  let c1_i32_346 : BitVec 32 := 1#32
  let v361 : Index := Scalar.indexCast c1_i32_346
  let c5_i32 : BitVec 32 := 5#32
  let v362 : Index := Scalar.indexCast c5_i32
  let c12_i32_347 : BitVec 32 := 12#32
  let v363 : Index := Scalar.indexCast c12_i32_347
  let c0_i32_227 : BitVec 32 := 0#32
  let c1_i32_229 : BitVec 32 := 1#32
  let arg13 : BitVec 32 := Scf.iv c0_i32_227 c1_i32_229 k1_t29
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 12, v364.toNat]
def k1_off262 (k1_t29 : Fin k1_t29_loop.trips) (c0_i32_330 : BitVec 32) : Fin 4 → Nat :=
  let c1_i32_348 : BitVec 32 := 1#32
  let v370 : Index := Scalar.indexCast c1_i32_348
  let c6_i32_349 : BitVec 32 := 6#32
  let v371 : Index := Scalar.indexCast c6_i32_349
  let c12_i32_350 : BitVec 32 := 12#32
  let v372 : Index := Scalar.indexCast c12_i32_350
  let c0_i32_227 : BitVec 32 := 0#32
  let c1_i32_229 : BitVec 32 := 1#32
  let arg13 : BitVec 32 := Scf.iv c0_i32_227 c1_i32_229 k1_t29
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 12, v373.toNat]
def k1_off263 (k1_t29 : Fin k1_t29_loop.trips) (c0_i32_330 : BitVec 32) : Fin 4 → Nat :=
  let c1_i32_351 : BitVec 32 := 1#32
  let v379 : Index := Scalar.indexCast c1_i32_351
  let c7_i32 : BitVec 32 := 7#32
  let v380 : Index := Scalar.indexCast c7_i32
  let c12_i32_352 : BitVec 32 := 12#32
  let v381 : Index := Scalar.indexCast c12_i32_352
  let c0_i32_227 : BitVec 32 := 0#32
  let c1_i32_229 : BitVec 32 := 1#32
  let arg13 : BitVec 32 := Scf.iv c0_i32_227 c1_i32_229 k1_t29
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 12, v382.toNat]
@[reducible] def k1_t30_loop : Scf.Loop 32 :=
  let c0_i32_231 : BitVec 32 := 0#32
  let c6_i32_232 : BitVec 32 := 6#32
  let v200 : BitVec 32 := Scalar.addi c0_i32_231 c6_i32_232
  let c1_i32_233 : BitVec 32 := 1#32
  ⟨c0_i32_231, v200, c1_i32_233⟩
def k1_off264 (k1_t30 : Fin k1_t30_loop.trips) (c0_i32_330 : BitVec 32) : Fin 3 → Nat :=
  let c1_i32_332 : BitVec 32 := 1#32
  let v311 : Index := Scalar.indexCast c1_i32_332
  let c13_i32 : BitVec 32 := 13#32
  let v312 : Index := Scalar.indexCast c13_i32
  let c0_i32_231 : BitVec 32 := 0#32
  let c1_i32_233 : BitVec 32 := 1#32
  let arg13 : BitVec 32 := Scf.iv c0_i32_231 c1_i32_233 k1_t30
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 13, v313.toNat]
def k1_off265 (k1_t30 : Fin k1_t30_loop.trips) (c0_i32_330 : BitVec 32) : Fin 4 → Nat :=
  let c1_i32_333 : BitVec 32 := 1#32
  let v316 : Index := Scalar.indexCast c1_i32_333
  let c0_i32_334 : BitVec 32 := 0#32
  let v317 : Index := Scalar.indexCast c0_i32_334
  let c13_i32_335 : BitVec 32 := 13#32
  let v318 : Index := Scalar.indexCast c13_i32_335
  let c0_i32_231 : BitVec 32 := 0#32
  let c1_i32_233 : BitVec 32 := 1#32
  let arg13 : BitVec 32 := Scf.iv c0_i32_231 c1_i32_233 k1_t30
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 13, v319.toNat]
def k1_off266 (k1_t30 : Fin k1_t30_loop.trips) (c0_i32_330 : BitVec 32) : Fin 4 → Nat :=
  let c1_i32_336 : BitVec 32 := 1#32
  let v325 : Index := Scalar.indexCast c1_i32_336
  let c1_i32_337 : BitVec 32 := 1#32
  let v326 : Index := Scalar.indexCast c1_i32_337
  let c13_i32_338 : BitVec 32 := 13#32
  let v327 : Index := Scalar.indexCast c13_i32_338
  let c0_i32_231 : BitVec 32 := 0#32
  let c1_i32_233 : BitVec 32 := 1#32
  let arg13 : BitVec 32 := Scf.iv c0_i32_231 c1_i32_233 k1_t30
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 13, v328.toNat]
def k1_off267 (k1_t30 : Fin k1_t30_loop.trips) (c0_i32_330 : BitVec 32) : Fin 4 → Nat :=
  let c1_i32_339 : BitVec 32 := 1#32
  let v334 : Index := Scalar.indexCast c1_i32_339
  let c2_i32 : BitVec 32 := 2#32
  let v335 : Index := Scalar.indexCast c2_i32
  let c13_i32_340 : BitVec 32 := 13#32
  let v336 : Index := Scalar.indexCast c13_i32_340
  let c0_i32_231 : BitVec 32 := 0#32
  let c1_i32_233 : BitVec 32 := 1#32
  let arg13 : BitVec 32 := Scf.iv c0_i32_231 c1_i32_233 k1_t30
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 13, v337.toNat]
def k1_off268 (k1_t30 : Fin k1_t30_loop.trips) (c0_i32_330 : BitVec 32) : Fin 4 → Nat :=
  let c1_i32_341 : BitVec 32 := 1#32
  let v343 : Index := Scalar.indexCast c1_i32_341
  let c3_i32 : BitVec 32 := 3#32
  let v344 : Index := Scalar.indexCast c3_i32
  let c13_i32_342 : BitVec 32 := 13#32
  let v345 : Index := Scalar.indexCast c13_i32_342
  let c0_i32_231 : BitVec 32 := 0#32
  let c1_i32_233 : BitVec 32 := 1#32
  let arg13 : BitVec 32 := Scf.iv c0_i32_231 c1_i32_233 k1_t30
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 13, v346.toNat]
def k1_off269 (k1_t30 : Fin k1_t30_loop.trips) (c0_i32_330 : BitVec 32) : Fin 4 → Nat :=
  let c1_i32_343 : BitVec 32 := 1#32
  let v352 : Index := Scalar.indexCast c1_i32_343
  let c4_i32_344 : BitVec 32 := 4#32
  let v353 : Index := Scalar.indexCast c4_i32_344
  let c13_i32_345 : BitVec 32 := 13#32
  let v354 : Index := Scalar.indexCast c13_i32_345
  let c0_i32_231 : BitVec 32 := 0#32
  let c1_i32_233 : BitVec 32 := 1#32
  let arg13 : BitVec 32 := Scf.iv c0_i32_231 c1_i32_233 k1_t30
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 13, v355.toNat]
def k1_off270 (k1_t30 : Fin k1_t30_loop.trips) (c0_i32_330 : BitVec 32) : Fin 4 → Nat :=
  let c1_i32_346 : BitVec 32 := 1#32
  let v361 : Index := Scalar.indexCast c1_i32_346
  let c5_i32 : BitVec 32 := 5#32
  let v362 : Index := Scalar.indexCast c5_i32
  let c13_i32_347 : BitVec 32 := 13#32
  let v363 : Index := Scalar.indexCast c13_i32_347
  let c0_i32_231 : BitVec 32 := 0#32
  let c1_i32_233 : BitVec 32 := 1#32
  let arg13 : BitVec 32 := Scf.iv c0_i32_231 c1_i32_233 k1_t30
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 13, v364.toNat]
def k1_off271 (k1_t30 : Fin k1_t30_loop.trips) (c0_i32_330 : BitVec 32) : Fin 4 → Nat :=
  let c1_i32_348 : BitVec 32 := 1#32
  let v370 : Index := Scalar.indexCast c1_i32_348
  let c6_i32_349 : BitVec 32 := 6#32
  let v371 : Index := Scalar.indexCast c6_i32_349
  let c13_i32_350 : BitVec 32 := 13#32
  let v372 : Index := Scalar.indexCast c13_i32_350
  let c0_i32_231 : BitVec 32 := 0#32
  let c1_i32_233 : BitVec 32 := 1#32
  let arg13 : BitVec 32 := Scf.iv c0_i32_231 c1_i32_233 k1_t30
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 13, v373.toNat]
def k1_off272 (k1_t30 : Fin k1_t30_loop.trips) (c0_i32_330 : BitVec 32) : Fin 4 → Nat :=
  let c1_i32_351 : BitVec 32 := 1#32
  let v379 : Index := Scalar.indexCast c1_i32_351
  let c7_i32 : BitVec 32 := 7#32
  let v380 : Index := Scalar.indexCast c7_i32
  let c13_i32_352 : BitVec 32 := 13#32
  let v381 : Index := Scalar.indexCast c13_i32_352
  let c0_i32_231 : BitVec 32 := 0#32
  let c1_i32_233 : BitVec 32 := 1#32
  let arg13 : BitVec 32 := Scf.iv c0_i32_231 c1_i32_233 k1_t30
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 13, v382.toNat]
@[reducible] def k1_t31_loop : Scf.Loop 32 :=
  let c0_i32_235 : BitVec 32 := 0#32
  let c6_i32_236 : BitVec 32 := 6#32
  let v202 : BitVec 32 := Scalar.addi c0_i32_235 c6_i32_236
  let c1_i32_237 : BitVec 32 := 1#32
  ⟨c0_i32_235, v202, c1_i32_237⟩
def k1_off273 (k1_t31 : Fin k1_t31_loop.trips) (c0_i32_330 : BitVec 32) : Fin 3 → Nat :=
  let c1_i32_332 : BitVec 32 := 1#32
  let v311 : Index := Scalar.indexCast c1_i32_332
  let c14_i32 : BitVec 32 := 14#32
  let v312 : Index := Scalar.indexCast c14_i32
  let c0_i32_235 : BitVec 32 := 0#32
  let c1_i32_237 : BitVec 32 := 1#32
  let arg13 : BitVec 32 := Scf.iv c0_i32_235 c1_i32_237 k1_t31
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 14, v313.toNat]
def k1_off274 (k1_t31 : Fin k1_t31_loop.trips) (c0_i32_330 : BitVec 32) : Fin 4 → Nat :=
  let c1_i32_333 : BitVec 32 := 1#32
  let v316 : Index := Scalar.indexCast c1_i32_333
  let c0_i32_334 : BitVec 32 := 0#32
  let v317 : Index := Scalar.indexCast c0_i32_334
  let c14_i32_335 : BitVec 32 := 14#32
  let v318 : Index := Scalar.indexCast c14_i32_335
  let c0_i32_235 : BitVec 32 := 0#32
  let c1_i32_237 : BitVec 32 := 1#32
  let arg13 : BitVec 32 := Scf.iv c0_i32_235 c1_i32_237 k1_t31
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 14, v319.toNat]
def k1_off275 (k1_t31 : Fin k1_t31_loop.trips) (c0_i32_330 : BitVec 32) : Fin 4 → Nat :=
  let c1_i32_336 : BitVec 32 := 1#32
  let v325 : Index := Scalar.indexCast c1_i32_336
  let c1_i32_337 : BitVec 32 := 1#32
  let v326 : Index := Scalar.indexCast c1_i32_337
  let c14_i32_338 : BitVec 32 := 14#32
  let v327 : Index := Scalar.indexCast c14_i32_338
  let c0_i32_235 : BitVec 32 := 0#32
  let c1_i32_237 : BitVec 32 := 1#32
  let arg13 : BitVec 32 := Scf.iv c0_i32_235 c1_i32_237 k1_t31
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 14, v328.toNat]
def k1_off276 (k1_t31 : Fin k1_t31_loop.trips) (c0_i32_330 : BitVec 32) : Fin 4 → Nat :=
  let c1_i32_339 : BitVec 32 := 1#32
  let v334 : Index := Scalar.indexCast c1_i32_339
  let c2_i32 : BitVec 32 := 2#32
  let v335 : Index := Scalar.indexCast c2_i32
  let c14_i32_340 : BitVec 32 := 14#32
  let v336 : Index := Scalar.indexCast c14_i32_340
  let c0_i32_235 : BitVec 32 := 0#32
  let c1_i32_237 : BitVec 32 := 1#32
  let arg13 : BitVec 32 := Scf.iv c0_i32_235 c1_i32_237 k1_t31
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 14, v337.toNat]
def k1_off277 (k1_t31 : Fin k1_t31_loop.trips) (c0_i32_330 : BitVec 32) : Fin 4 → Nat :=
  let c1_i32_341 : BitVec 32 := 1#32
  let v343 : Index := Scalar.indexCast c1_i32_341
  let c3_i32 : BitVec 32 := 3#32
  let v344 : Index := Scalar.indexCast c3_i32
  let c14_i32_342 : BitVec 32 := 14#32
  let v345 : Index := Scalar.indexCast c14_i32_342
  let c0_i32_235 : BitVec 32 := 0#32
  let c1_i32_237 : BitVec 32 := 1#32
  let arg13 : BitVec 32 := Scf.iv c0_i32_235 c1_i32_237 k1_t31
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 14, v346.toNat]
def k1_off278 (k1_t31 : Fin k1_t31_loop.trips) (c0_i32_330 : BitVec 32) : Fin 4 → Nat :=
  let c1_i32_343 : BitVec 32 := 1#32
  let v352 : Index := Scalar.indexCast c1_i32_343
  let c4_i32_344 : BitVec 32 := 4#32
  let v353 : Index := Scalar.indexCast c4_i32_344
  let c14_i32_345 : BitVec 32 := 14#32
  let v354 : Index := Scalar.indexCast c14_i32_345
  let c0_i32_235 : BitVec 32 := 0#32
  let c1_i32_237 : BitVec 32 := 1#32
  let arg13 : BitVec 32 := Scf.iv c0_i32_235 c1_i32_237 k1_t31
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 14, v355.toNat]
def k1_off279 (k1_t31 : Fin k1_t31_loop.trips) (c0_i32_330 : BitVec 32) : Fin 4 → Nat :=
  let c1_i32_346 : BitVec 32 := 1#32
  let v361 : Index := Scalar.indexCast c1_i32_346
  let c5_i32 : BitVec 32 := 5#32
  let v362 : Index := Scalar.indexCast c5_i32
  let c14_i32_347 : BitVec 32 := 14#32
  let v363 : Index := Scalar.indexCast c14_i32_347
  let c0_i32_235 : BitVec 32 := 0#32
  let c1_i32_237 : BitVec 32 := 1#32
  let arg13 : BitVec 32 := Scf.iv c0_i32_235 c1_i32_237 k1_t31
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 14, v364.toNat]
def k1_off280 (k1_t31 : Fin k1_t31_loop.trips) (c0_i32_330 : BitVec 32) : Fin 4 → Nat :=
  let c1_i32_348 : BitVec 32 := 1#32
  let v370 : Index := Scalar.indexCast c1_i32_348
  let c6_i32_349 : BitVec 32 := 6#32
  let v371 : Index := Scalar.indexCast c6_i32_349
  let c14_i32_350 : BitVec 32 := 14#32
  let v372 : Index := Scalar.indexCast c14_i32_350
  let c0_i32_235 : BitVec 32 := 0#32
  let c1_i32_237 : BitVec 32 := 1#32
  let arg13 : BitVec 32 := Scf.iv c0_i32_235 c1_i32_237 k1_t31
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 14, v373.toNat]
def k1_off281 (k1_t31 : Fin k1_t31_loop.trips) (c0_i32_330 : BitVec 32) : Fin 4 → Nat :=
  let c1_i32_351 : BitVec 32 := 1#32
  let v379 : Index := Scalar.indexCast c1_i32_351
  let c7_i32 : BitVec 32 := 7#32
  let v380 : Index := Scalar.indexCast c7_i32
  let c14_i32_352 : BitVec 32 := 14#32
  let v381 : Index := Scalar.indexCast c14_i32_352
  let c0_i32_235 : BitVec 32 := 0#32
  let c1_i32_237 : BitVec 32 := 1#32
  let arg13 : BitVec 32 := Scf.iv c0_i32_235 c1_i32_237 k1_t31
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 14, v382.toNat]
@[reducible] def k1_t32_loop : Scf.Loop 32 :=
  let c0_i32_239 : BitVec 32 := 0#32
  let c6_i32_240 : BitVec 32 := 6#32
  let v204 : BitVec 32 := Scalar.addi c0_i32_239 c6_i32_240
  let c1_i32_241 : BitVec 32 := 1#32
  ⟨c0_i32_239, v204, c1_i32_241⟩
def k1_off282 (k1_t32 : Fin k1_t32_loop.trips) (c0_i32_330 : BitVec 32) : Fin 3 → Nat :=
  let c1_i32_332 : BitVec 32 := 1#32
  let v311 : Index := Scalar.indexCast c1_i32_332
  let c15_i32 : BitVec 32 := 15#32
  let v312 : Index := Scalar.indexCast c15_i32
  let c0_i32_239 : BitVec 32 := 0#32
  let c1_i32_241 : BitVec 32 := 1#32
  let arg13 : BitVec 32 := Scf.iv c0_i32_239 c1_i32_241 k1_t32
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![1, 15, v313.toNat]
def k1_off283 (k1_t32 : Fin k1_t32_loop.trips) (c0_i32_330 : BitVec 32) : Fin 4 → Nat :=
  let c1_i32_333 : BitVec 32 := 1#32
  let v316 : Index := Scalar.indexCast c1_i32_333
  let c0_i32_334 : BitVec 32 := 0#32
  let v317 : Index := Scalar.indexCast c0_i32_334
  let c15_i32_335 : BitVec 32 := 15#32
  let v318 : Index := Scalar.indexCast c15_i32_335
  let c0_i32_239 : BitVec 32 := 0#32
  let c1_i32_241 : BitVec 32 := 1#32
  let arg13 : BitVec 32 := Scf.iv c0_i32_239 c1_i32_241 k1_t32
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![1, 0, 15, v319.toNat]
def k1_off284 (k1_t32 : Fin k1_t32_loop.trips) (c0_i32_330 : BitVec 32) : Fin 4 → Nat :=
  let c1_i32_336 : BitVec 32 := 1#32
  let v325 : Index := Scalar.indexCast c1_i32_336
  let c1_i32_337 : BitVec 32 := 1#32
  let v326 : Index := Scalar.indexCast c1_i32_337
  let c15_i32_338 : BitVec 32 := 15#32
  let v327 : Index := Scalar.indexCast c15_i32_338
  let c0_i32_239 : BitVec 32 := 0#32
  let c1_i32_241 : BitVec 32 := 1#32
  let arg13 : BitVec 32 := Scf.iv c0_i32_239 c1_i32_241 k1_t32
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![1, 1, 15, v328.toNat]
def k1_off285 (k1_t32 : Fin k1_t32_loop.trips) (c0_i32_330 : BitVec 32) : Fin 4 → Nat :=
  let c1_i32_339 : BitVec 32 := 1#32
  let v334 : Index := Scalar.indexCast c1_i32_339
  let c2_i32 : BitVec 32 := 2#32
  let v335 : Index := Scalar.indexCast c2_i32
  let c15_i32_340 : BitVec 32 := 15#32
  let v336 : Index := Scalar.indexCast c15_i32_340
  let c0_i32_239 : BitVec 32 := 0#32
  let c1_i32_241 : BitVec 32 := 1#32
  let arg13 : BitVec 32 := Scf.iv c0_i32_239 c1_i32_241 k1_t32
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![1, 2, 15, v337.toNat]
def k1_off286 (k1_t32 : Fin k1_t32_loop.trips) (c0_i32_330 : BitVec 32) : Fin 4 → Nat :=
  let c1_i32_341 : BitVec 32 := 1#32
  let v343 : Index := Scalar.indexCast c1_i32_341
  let c3_i32 : BitVec 32 := 3#32
  let v344 : Index := Scalar.indexCast c3_i32
  let c15_i32_342 : BitVec 32 := 15#32
  let v345 : Index := Scalar.indexCast c15_i32_342
  let c0_i32_239 : BitVec 32 := 0#32
  let c1_i32_241 : BitVec 32 := 1#32
  let arg13 : BitVec 32 := Scf.iv c0_i32_239 c1_i32_241 k1_t32
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![1, 3, 15, v346.toNat]
def k1_off287 (k1_t32 : Fin k1_t32_loop.trips) (c0_i32_330 : BitVec 32) : Fin 4 → Nat :=
  let c1_i32_343 : BitVec 32 := 1#32
  let v352 : Index := Scalar.indexCast c1_i32_343
  let c4_i32_344 : BitVec 32 := 4#32
  let v353 : Index := Scalar.indexCast c4_i32_344
  let c15_i32_345 : BitVec 32 := 15#32
  let v354 : Index := Scalar.indexCast c15_i32_345
  let c0_i32_239 : BitVec 32 := 0#32
  let c1_i32_241 : BitVec 32 := 1#32
  let arg13 : BitVec 32 := Scf.iv c0_i32_239 c1_i32_241 k1_t32
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![1, 4, 15, v355.toNat]
def k1_off288 (k1_t32 : Fin k1_t32_loop.trips) (c0_i32_330 : BitVec 32) : Fin 4 → Nat :=
  let c1_i32_346 : BitVec 32 := 1#32
  let v361 : Index := Scalar.indexCast c1_i32_346
  let c5_i32 : BitVec 32 := 5#32
  let v362 : Index := Scalar.indexCast c5_i32
  let c15_i32_347 : BitVec 32 := 15#32
  let v363 : Index := Scalar.indexCast c15_i32_347
  let c0_i32_239 : BitVec 32 := 0#32
  let c1_i32_241 : BitVec 32 := 1#32
  let arg13 : BitVec 32 := Scf.iv c0_i32_239 c1_i32_241 k1_t32
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![1, 5, 15, v364.toNat]
def k1_off289 (k1_t32 : Fin k1_t32_loop.trips) (c0_i32_330 : BitVec 32) : Fin 4 → Nat :=
  let c1_i32_348 : BitVec 32 := 1#32
  let v370 : Index := Scalar.indexCast c1_i32_348
  let c6_i32_349 : BitVec 32 := 6#32
  let v371 : Index := Scalar.indexCast c6_i32_349
  let c15_i32_350 : BitVec 32 := 15#32
  let v372 : Index := Scalar.indexCast c15_i32_350
  let c0_i32_239 : BitVec 32 := 0#32
  let c1_i32_241 : BitVec 32 := 1#32
  let arg13 : BitVec 32 := Scf.iv c0_i32_239 c1_i32_241 k1_t32
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![1, 6, 15, v373.toNat]
def k1_off290 (k1_t32 : Fin k1_t32_loop.trips) (c0_i32_330 : BitVec 32) : Fin 4 → Nat :=
  let c1_i32_351 : BitVec 32 := 1#32
  let v379 : Index := Scalar.indexCast c1_i32_351
  let c7_i32 : BitVec 32 := 7#32
  let v380 : Index := Scalar.indexCast c7_i32
  let c15_i32_352 : BitVec 32 := 15#32
  let v381 : Index := Scalar.indexCast c15_i32_352
  let c0_i32_239 : BitVec 32 := 0#32
  let c1_i32_241 : BitVec 32 := 1#32
  let arg13 : BitVec 32 := Scf.iv c0_i32_239 c1_i32_241 k1_t32
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![1, 7, 15, v382.toNat]
@[reducible] def k1_t33_loop : Scf.Loop 32 :=
  let c0_i32_261 : BitVec 32 := 0#32
  let c6_i32_262 : BitVec 32 := 6#32
  let v222 : BitVec 32 := Scalar.addi c0_i32_261 c6_i32_262
  let c1_i32_263 : BitVec 32 := 1#32
  ⟨c0_i32_261, v222, c1_i32_263⟩
def k1_off291 (k1_t33 : Fin k1_t33_loop.trips) (c0_i32_330 : BitVec 32) : Fin 3 → Nat :=
  let c0_i32_332 : BitVec 32 := 0#32
  let v311 : Index := Scalar.indexCast c0_i32_332
  let c0_i32_333 : BitVec 32 := 0#32
  let v312 : Index := Scalar.indexCast c0_i32_333
  let c0_i32_261 : BitVec 32 := 0#32
  let c1_i32_263 : BitVec 32 := 1#32
  let arg13 : BitVec 32 := Scf.iv c0_i32_261 c1_i32_263 k1_t33
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 0, v313.toNat]
def k1_off292 (k1_t33 : Fin k1_t33_loop.trips) (c0_i32_330 : BitVec 32) : Fin 4 → Nat :=
  let c0_i32_334 : BitVec 32 := 0#32
  let v316 : Index := Scalar.indexCast c0_i32_334
  let c0_i32_335 : BitVec 32 := 0#32
  let v317 : Index := Scalar.indexCast c0_i32_335
  let c0_i32_336 : BitVec 32 := 0#32
  let v318 : Index := Scalar.indexCast c0_i32_336
  let c0_i32_261 : BitVec 32 := 0#32
  let c1_i32_263 : BitVec 32 := 1#32
  let arg13 : BitVec 32 := Scf.iv c0_i32_261 c1_i32_263 k1_t33
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 0, v319.toNat]
def k1_off293 (k1_t33 : Fin k1_t33_loop.trips) (c0_i32_330 : BitVec 32) : Fin 4 → Nat :=
  let c0_i32_337 : BitVec 32 := 0#32
  let v325 : Index := Scalar.indexCast c0_i32_337
  let c1_i32_338 : BitVec 32 := 1#32
  let v326 : Index := Scalar.indexCast c1_i32_338
  let c0_i32_339 : BitVec 32 := 0#32
  let v327 : Index := Scalar.indexCast c0_i32_339
  let c0_i32_261 : BitVec 32 := 0#32
  let c1_i32_263 : BitVec 32 := 1#32
  let arg13 : BitVec 32 := Scf.iv c0_i32_261 c1_i32_263 k1_t33
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 0, v328.toNat]
def k1_off294 (k1_t33 : Fin k1_t33_loop.trips) (c0_i32_330 : BitVec 32) : Fin 4 → Nat :=
  let c0_i32_340 : BitVec 32 := 0#32
  let v334 : Index := Scalar.indexCast c0_i32_340
  let c2_i32 : BitVec 32 := 2#32
  let v335 : Index := Scalar.indexCast c2_i32
  let c0_i32_341 : BitVec 32 := 0#32
  let v336 : Index := Scalar.indexCast c0_i32_341
  let c0_i32_261 : BitVec 32 := 0#32
  let c1_i32_263 : BitVec 32 := 1#32
  let arg13 : BitVec 32 := Scf.iv c0_i32_261 c1_i32_263 k1_t33
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 0, v337.toNat]
def k1_off295 (k1_t33 : Fin k1_t33_loop.trips) (c0_i32_330 : BitVec 32) : Fin 4 → Nat :=
  let c0_i32_342 : BitVec 32 := 0#32
  let v343 : Index := Scalar.indexCast c0_i32_342
  let c3_i32 : BitVec 32 := 3#32
  let v344 : Index := Scalar.indexCast c3_i32
  let c0_i32_343 : BitVec 32 := 0#32
  let v345 : Index := Scalar.indexCast c0_i32_343
  let c0_i32_261 : BitVec 32 := 0#32
  let c1_i32_263 : BitVec 32 := 1#32
  let arg13 : BitVec 32 := Scf.iv c0_i32_261 c1_i32_263 k1_t33
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 0, v346.toNat]
def k1_off296 (k1_t33 : Fin k1_t33_loop.trips) (c0_i32_330 : BitVec 32) : Fin 4 → Nat :=
  let c0_i32_344 : BitVec 32 := 0#32
  let v352 : Index := Scalar.indexCast c0_i32_344
  let c4_i32_345 : BitVec 32 := 4#32
  let v353 : Index := Scalar.indexCast c4_i32_345
  let c0_i32_346 : BitVec 32 := 0#32
  let v354 : Index := Scalar.indexCast c0_i32_346
  let c0_i32_261 : BitVec 32 := 0#32
  let c1_i32_263 : BitVec 32 := 1#32
  let arg13 : BitVec 32 := Scf.iv c0_i32_261 c1_i32_263 k1_t33
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 0, v355.toNat]
def k1_off297 (k1_t33 : Fin k1_t33_loop.trips) (c0_i32_330 : BitVec 32) : Fin 4 → Nat :=
  let c0_i32_347 : BitVec 32 := 0#32
  let v361 : Index := Scalar.indexCast c0_i32_347
  let c5_i32 : BitVec 32 := 5#32
  let v362 : Index := Scalar.indexCast c5_i32
  let c0_i32_348 : BitVec 32 := 0#32
  let v363 : Index := Scalar.indexCast c0_i32_348
  let c0_i32_261 : BitVec 32 := 0#32
  let c1_i32_263 : BitVec 32 := 1#32
  let arg13 : BitVec 32 := Scf.iv c0_i32_261 c1_i32_263 k1_t33
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 0, v364.toNat]
def k1_off298 (k1_t33 : Fin k1_t33_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c0_i32_351 : BitVec 32 := 0#32
  let v372 : Index := Scalar.indexCast c0_i32_351
  let c0_i32_261 : BitVec 32 := 0#32
  let c1_i32_263 : BitVec 32 := 1#32
  let arg13 : BitVec 32 := Scf.iv c0_i32_261 c1_i32_263 k1_t33
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 0, v373.toNat]
def k1_off299 (k1_t33 : Fin k1_t33_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c0_i32_353 : BitVec 32 := 0#32
  let v381 : Index := Scalar.indexCast c0_i32_353
  let c0_i32_261 : BitVec 32 := 0#32
  let c1_i32_263 : BitVec 32 := 1#32
  let arg13 : BitVec 32 := Scf.iv c0_i32_261 c1_i32_263 k1_t33
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 0, v382.toNat]
@[reducible] def k1_t34_loop : Scf.Loop 32 :=
  let c0_i32_265 : BitVec 32 := 0#32
  let c6_i32_266 : BitVec 32 := 6#32
  let v224 : BitVec 32 := Scalar.addi c0_i32_265 c6_i32_266
  let c1_i32_267 : BitVec 32 := 1#32
  ⟨c0_i32_265, v224, c1_i32_267⟩
def k1_off300 (k1_t34 : Fin k1_t34_loop.trips) (c0_i32_330 : BitVec 32) : Fin 3 → Nat :=
  let c0_i32_332 : BitVec 32 := 0#32
  let v311 : Index := Scalar.indexCast c0_i32_332
  let c1_i32_333 : BitVec 32 := 1#32
  let v312 : Index := Scalar.indexCast c1_i32_333
  let c0_i32_265 : BitVec 32 := 0#32
  let c1_i32_267 : BitVec 32 := 1#32
  let arg13 : BitVec 32 := Scf.iv c0_i32_265 c1_i32_267 k1_t34
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 1, v313.toNat]
def k1_off301 (k1_t34 : Fin k1_t34_loop.trips) (c0_i32_330 : BitVec 32) : Fin 4 → Nat :=
  let c0_i32_334 : BitVec 32 := 0#32
  let v316 : Index := Scalar.indexCast c0_i32_334
  let c0_i32_335 : BitVec 32 := 0#32
  let v317 : Index := Scalar.indexCast c0_i32_335
  let c1_i32_336 : BitVec 32 := 1#32
  let v318 : Index := Scalar.indexCast c1_i32_336
  let c0_i32_265 : BitVec 32 := 0#32
  let c1_i32_267 : BitVec 32 := 1#32
  let arg13 : BitVec 32 := Scf.iv c0_i32_265 c1_i32_267 k1_t34
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 1, v319.toNat]
def k1_off302 (k1_t34 : Fin k1_t34_loop.trips) (c0_i32_330 : BitVec 32) : Fin 4 → Nat :=
  let c0_i32_337 : BitVec 32 := 0#32
  let v325 : Index := Scalar.indexCast c0_i32_337
  let c1_i32_338 : BitVec 32 := 1#32
  let v326 : Index := Scalar.indexCast c1_i32_338
  let c1_i32_339 : BitVec 32 := 1#32
  let v327 : Index := Scalar.indexCast c1_i32_339
  let c0_i32_265 : BitVec 32 := 0#32
  let c1_i32_267 : BitVec 32 := 1#32
  let arg13 : BitVec 32 := Scf.iv c0_i32_265 c1_i32_267 k1_t34
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 1, v328.toNat]
def k1_off303 (k1_t34 : Fin k1_t34_loop.trips) (c0_i32_330 : BitVec 32) : Fin 4 → Nat :=
  let c0_i32_340 : BitVec 32 := 0#32
  let v334 : Index := Scalar.indexCast c0_i32_340
  let c2_i32 : BitVec 32 := 2#32
  let v335 : Index := Scalar.indexCast c2_i32
  let c1_i32_341 : BitVec 32 := 1#32
  let v336 : Index := Scalar.indexCast c1_i32_341
  let c0_i32_265 : BitVec 32 := 0#32
  let c1_i32_267 : BitVec 32 := 1#32
  let arg13 : BitVec 32 := Scf.iv c0_i32_265 c1_i32_267 k1_t34
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 1, v337.toNat]
def k1_off304 (k1_t34 : Fin k1_t34_loop.trips) (c0_i32_330 : BitVec 32) : Fin 4 → Nat :=
  let c0_i32_342 : BitVec 32 := 0#32
  let v343 : Index := Scalar.indexCast c0_i32_342
  let c3_i32 : BitVec 32 := 3#32
  let v344 : Index := Scalar.indexCast c3_i32
  let c1_i32_343 : BitVec 32 := 1#32
  let v345 : Index := Scalar.indexCast c1_i32_343
  let c0_i32_265 : BitVec 32 := 0#32
  let c1_i32_267 : BitVec 32 := 1#32
  let arg13 : BitVec 32 := Scf.iv c0_i32_265 c1_i32_267 k1_t34
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 1, v346.toNat]
def k1_off305 (k1_t34 : Fin k1_t34_loop.trips) (c0_i32_330 : BitVec 32) : Fin 4 → Nat :=
  let c0_i32_344 : BitVec 32 := 0#32
  let v352 : Index := Scalar.indexCast c0_i32_344
  let c4_i32_345 : BitVec 32 := 4#32
  let v353 : Index := Scalar.indexCast c4_i32_345
  let c1_i32_346 : BitVec 32 := 1#32
  let v354 : Index := Scalar.indexCast c1_i32_346
  let c0_i32_265 : BitVec 32 := 0#32
  let c1_i32_267 : BitVec 32 := 1#32
  let arg13 : BitVec 32 := Scf.iv c0_i32_265 c1_i32_267 k1_t34
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 1, v355.toNat]
def k1_off306 (k1_t34 : Fin k1_t34_loop.trips) (c0_i32_330 : BitVec 32) : Fin 4 → Nat :=
  let c0_i32_347 : BitVec 32 := 0#32
  let v361 : Index := Scalar.indexCast c0_i32_347
  let c5_i32 : BitVec 32 := 5#32
  let v362 : Index := Scalar.indexCast c5_i32
  let c1_i32_348 : BitVec 32 := 1#32
  let v363 : Index := Scalar.indexCast c1_i32_348
  let c0_i32_265 : BitVec 32 := 0#32
  let c1_i32_267 : BitVec 32 := 1#32
  let arg13 : BitVec 32 := Scf.iv c0_i32_265 c1_i32_267 k1_t34
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 1, v364.toNat]
def k1_off307 (k1_t34 : Fin k1_t34_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c1_i32_351 : BitVec 32 := 1#32
  let v372 : Index := Scalar.indexCast c1_i32_351
  let c0_i32_265 : BitVec 32 := 0#32
  let c1_i32_267 : BitVec 32 := 1#32
  let arg13 : BitVec 32 := Scf.iv c0_i32_265 c1_i32_267 k1_t34
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 1, v373.toNat]
def k1_off308 (k1_t34 : Fin k1_t34_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c1_i32_353 : BitVec 32 := 1#32
  let v381 : Index := Scalar.indexCast c1_i32_353
  let c0_i32_265 : BitVec 32 := 0#32
  let c1_i32_267 : BitVec 32 := 1#32
  let arg13 : BitVec 32 := Scf.iv c0_i32_265 c1_i32_267 k1_t34
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 1, v382.toNat]
@[reducible] def k1_t35_loop : Scf.Loop 32 :=
  let c0_i32_269 : BitVec 32 := 0#32
  let c6_i32_270 : BitVec 32 := 6#32
  let v226 : BitVec 32 := Scalar.addi c0_i32_269 c6_i32_270
  let c1_i32_271 : BitVec 32 := 1#32
  ⟨c0_i32_269, v226, c1_i32_271⟩
def k1_off309 (k1_t35 : Fin k1_t35_loop.trips) (c0_i32_330 : BitVec 32) : Fin 3 → Nat :=
  let c0_i32_332 : BitVec 32 := 0#32
  let v311 : Index := Scalar.indexCast c0_i32_332
  let c2_i32 : BitVec 32 := 2#32
  let v312 : Index := Scalar.indexCast c2_i32
  let c0_i32_269 : BitVec 32 := 0#32
  let c1_i32_271 : BitVec 32 := 1#32
  let arg13 : BitVec 32 := Scf.iv c0_i32_269 c1_i32_271 k1_t35
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 2, v313.toNat]
def k1_off310 (k1_t35 : Fin k1_t35_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c2_i32_335 : BitVec 32 := 2#32
  let v318 : Index := Scalar.indexCast c2_i32_335
  let c0_i32_269 : BitVec 32 := 0#32
  let c1_i32_271 : BitVec 32 := 1#32
  let arg13 : BitVec 32 := Scf.iv c0_i32_269 c1_i32_271 k1_t35
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 2, v319.toNat]
def k1_off311 (k1_t35 : Fin k1_t35_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c2_i32_338 : BitVec 32 := 2#32
  let v327 : Index := Scalar.indexCast c2_i32_338
  let c0_i32_269 : BitVec 32 := 0#32
  let c1_i32_271 : BitVec 32 := 1#32
  let arg13 : BitVec 32 := Scf.iv c0_i32_269 c1_i32_271 k1_t35
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 2, v328.toNat]
def k1_off312 (k1_t35 : Fin k1_t35_loop.trips) (c0_i32_330 : BitVec 32) : Fin 4 → Nat :=
  let c0_i32_339 : BitVec 32 := 0#32
  let v334 : Index := Scalar.indexCast c0_i32_339
  let c2_i32_340 : BitVec 32 := 2#32
  let v335 : Index := Scalar.indexCast c2_i32_340
  let c2_i32_341 : BitVec 32 := 2#32
  let v336 : Index := Scalar.indexCast c2_i32_341
  let c0_i32_269 : BitVec 32 := 0#32
  let c1_i32_271 : BitVec 32 := 1#32
  let arg13 : BitVec 32 := Scf.iv c0_i32_269 c1_i32_271 k1_t35
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 2, v337.toNat]
def k1_off313 (k1_t35 : Fin k1_t35_loop.trips) (c0_i32_330 : BitVec 32) : Fin 4 → Nat :=
  let c0_i32_342 : BitVec 32 := 0#32
  let v343 : Index := Scalar.indexCast c0_i32_342
  let c3_i32 : BitVec 32 := 3#32
  let v344 : Index := Scalar.indexCast c3_i32
  let c2_i32_343 : BitVec 32 := 2#32
  let v345 : Index := Scalar.indexCast c2_i32_343
  let c0_i32_269 : BitVec 32 := 0#32
  let c1_i32_271 : BitVec 32 := 1#32
  let arg13 : BitVec 32 := Scf.iv c0_i32_269 c1_i32_271 k1_t35
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 2, v346.toNat]
def k1_off314 (k1_t35 : Fin k1_t35_loop.trips) (c0_i32_330 : BitVec 32) : Fin 4 → Nat :=
  let c0_i32_344 : BitVec 32 := 0#32
  let v352 : Index := Scalar.indexCast c0_i32_344
  let c4_i32_345 : BitVec 32 := 4#32
  let v353 : Index := Scalar.indexCast c4_i32_345
  let c2_i32_346 : BitVec 32 := 2#32
  let v354 : Index := Scalar.indexCast c2_i32_346
  let c0_i32_269 : BitVec 32 := 0#32
  let c1_i32_271 : BitVec 32 := 1#32
  let arg13 : BitVec 32 := Scf.iv c0_i32_269 c1_i32_271 k1_t35
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 2, v355.toNat]
def k1_off315 (k1_t35 : Fin k1_t35_loop.trips) (c0_i32_330 : BitVec 32) : Fin 4 → Nat :=
  let c0_i32_347 : BitVec 32 := 0#32
  let v361 : Index := Scalar.indexCast c0_i32_347
  let c5_i32 : BitVec 32 := 5#32
  let v362 : Index := Scalar.indexCast c5_i32
  let c2_i32_348 : BitVec 32 := 2#32
  let v363 : Index := Scalar.indexCast c2_i32_348
  let c0_i32_269 : BitVec 32 := 0#32
  let c1_i32_271 : BitVec 32 := 1#32
  let arg13 : BitVec 32 := Scf.iv c0_i32_269 c1_i32_271 k1_t35
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 2, v364.toNat]
def k1_off316 (k1_t35 : Fin k1_t35_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c2_i32_351 : BitVec 32 := 2#32
  let v372 : Index := Scalar.indexCast c2_i32_351
  let c0_i32_269 : BitVec 32 := 0#32
  let c1_i32_271 : BitVec 32 := 1#32
  let arg13 : BitVec 32 := Scf.iv c0_i32_269 c1_i32_271 k1_t35
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 2, v373.toNat]
def k1_off317 (k1_t35 : Fin k1_t35_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c2_i32_353 : BitVec 32 := 2#32
  let v381 : Index := Scalar.indexCast c2_i32_353
  let c0_i32_269 : BitVec 32 := 0#32
  let c1_i32_271 : BitVec 32 := 1#32
  let arg13 : BitVec 32 := Scf.iv c0_i32_269 c1_i32_271 k1_t35
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 2, v382.toNat]
@[reducible] def k1_t36_loop : Scf.Loop 32 :=
  let c0_i32_273 : BitVec 32 := 0#32
  let c6_i32_274 : BitVec 32 := 6#32
  let v228 : BitVec 32 := Scalar.addi c0_i32_273 c6_i32_274
  let c1_i32_275 : BitVec 32 := 1#32
  ⟨c0_i32_273, v228, c1_i32_275⟩
def k1_off318 (k1_t36 : Fin k1_t36_loop.trips) (c0_i32_330 : BitVec 32) : Fin 3 → Nat :=
  let c0_i32_332 : BitVec 32 := 0#32
  let v311 : Index := Scalar.indexCast c0_i32_332
  let c3_i32 : BitVec 32 := 3#32
  let v312 : Index := Scalar.indexCast c3_i32
  let c0_i32_273 : BitVec 32 := 0#32
  let c1_i32_275 : BitVec 32 := 1#32
  let arg13 : BitVec 32 := Scf.iv c0_i32_273 c1_i32_275 k1_t36
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 3, v313.toNat]
def k1_off319 (k1_t36 : Fin k1_t36_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c3_i32_335 : BitVec 32 := 3#32
  let v318 : Index := Scalar.indexCast c3_i32_335
  let c0_i32_273 : BitVec 32 := 0#32
  let c1_i32_275 : BitVec 32 := 1#32
  let arg13 : BitVec 32 := Scf.iv c0_i32_273 c1_i32_275 k1_t36
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 3, v319.toNat]
def k1_off320 (k1_t36 : Fin k1_t36_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c3_i32_338 : BitVec 32 := 3#32
  let v327 : Index := Scalar.indexCast c3_i32_338
  let c0_i32_273 : BitVec 32 := 0#32
  let c1_i32_275 : BitVec 32 := 1#32
  let arg13 : BitVec 32 := Scf.iv c0_i32_273 c1_i32_275 k1_t36
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 3, v328.toNat]
def k1_off321 (k1_t36 : Fin k1_t36_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c3_i32_340 : BitVec 32 := 3#32
  let v336 : Index := Scalar.indexCast c3_i32_340
  let c0_i32_273 : BitVec 32 := 0#32
  let c1_i32_275 : BitVec 32 := 1#32
  let arg13 : BitVec 32 := Scf.iv c0_i32_273 c1_i32_275 k1_t36
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 3, v337.toNat]
def k1_off322 (k1_t36 : Fin k1_t36_loop.trips) (c0_i32_330 : BitVec 32) : Fin 4 → Nat :=
  let c0_i32_341 : BitVec 32 := 0#32
  let v343 : Index := Scalar.indexCast c0_i32_341
  let c3_i32_342 : BitVec 32 := 3#32
  let v344 : Index := Scalar.indexCast c3_i32_342
  let c3_i32_343 : BitVec 32 := 3#32
  let v345 : Index := Scalar.indexCast c3_i32_343
  let c0_i32_273 : BitVec 32 := 0#32
  let c1_i32_275 : BitVec 32 := 1#32
  let arg13 : BitVec 32 := Scf.iv c0_i32_273 c1_i32_275 k1_t36
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 3, v346.toNat]
def k1_off323 (k1_t36 : Fin k1_t36_loop.trips) (c0_i32_330 : BitVec 32) : Fin 4 → Nat :=
  let c0_i32_344 : BitVec 32 := 0#32
  let v352 : Index := Scalar.indexCast c0_i32_344
  let c4_i32_345 : BitVec 32 := 4#32
  let v353 : Index := Scalar.indexCast c4_i32_345
  let c3_i32_346 : BitVec 32 := 3#32
  let v354 : Index := Scalar.indexCast c3_i32_346
  let c0_i32_273 : BitVec 32 := 0#32
  let c1_i32_275 : BitVec 32 := 1#32
  let arg13 : BitVec 32 := Scf.iv c0_i32_273 c1_i32_275 k1_t36
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 3, v355.toNat]
def k1_off324 (k1_t36 : Fin k1_t36_loop.trips) (c0_i32_330 : BitVec 32) : Fin 4 → Nat :=
  let c0_i32_347 : BitVec 32 := 0#32
  let v361 : Index := Scalar.indexCast c0_i32_347
  let c5_i32 : BitVec 32 := 5#32
  let v362 : Index := Scalar.indexCast c5_i32
  let c3_i32_348 : BitVec 32 := 3#32
  let v363 : Index := Scalar.indexCast c3_i32_348
  let c0_i32_273 : BitVec 32 := 0#32
  let c1_i32_275 : BitVec 32 := 1#32
  let arg13 : BitVec 32 := Scf.iv c0_i32_273 c1_i32_275 k1_t36
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 3, v364.toNat]
def k1_off325 (k1_t36 : Fin k1_t36_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c3_i32_351 : BitVec 32 := 3#32
  let v372 : Index := Scalar.indexCast c3_i32_351
  let c0_i32_273 : BitVec 32 := 0#32
  let c1_i32_275 : BitVec 32 := 1#32
  let arg13 : BitVec 32 := Scf.iv c0_i32_273 c1_i32_275 k1_t36
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 3, v373.toNat]
def k1_off326 (k1_t36 : Fin k1_t36_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c3_i32_353 : BitVec 32 := 3#32
  let v381 : Index := Scalar.indexCast c3_i32_353
  let c0_i32_273 : BitVec 32 := 0#32
  let c1_i32_275 : BitVec 32 := 1#32
  let arg13 : BitVec 32 := Scf.iv c0_i32_273 c1_i32_275 k1_t36
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 3, v382.toNat]
@[reducible] def k1_t37_loop : Scf.Loop 32 :=
  let c0_i32_277 : BitVec 32 := 0#32
  let c6_i32_278 : BitVec 32 := 6#32
  let v230 : BitVec 32 := Scalar.addi c0_i32_277 c6_i32_278
  let c1_i32_279 : BitVec 32 := 1#32
  ⟨c0_i32_277, v230, c1_i32_279⟩
def k1_off327 (k1_t37 : Fin k1_t37_loop.trips) (c0_i32_330 : BitVec 32) : Fin 3 → Nat :=
  let c0_i32_332 : BitVec 32 := 0#32
  let v311 : Index := Scalar.indexCast c0_i32_332
  let c4_i32_333 : BitVec 32 := 4#32
  let v312 : Index := Scalar.indexCast c4_i32_333
  let c0_i32_277 : BitVec 32 := 0#32
  let c1_i32_279 : BitVec 32 := 1#32
  let arg13 : BitVec 32 := Scf.iv c0_i32_277 c1_i32_279 k1_t37
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 4, v313.toNat]
def k1_off328 (k1_t37 : Fin k1_t37_loop.trips) (c0_i32_330 : BitVec 32) : Fin 4 → Nat :=
  let c0_i32_334 : BitVec 32 := 0#32
  let v316 : Index := Scalar.indexCast c0_i32_334
  let c0_i32_335 : BitVec 32 := 0#32
  let v317 : Index := Scalar.indexCast c0_i32_335
  let c4_i32_336 : BitVec 32 := 4#32
  let v318 : Index := Scalar.indexCast c4_i32_336
  let c0_i32_277 : BitVec 32 := 0#32
  let c1_i32_279 : BitVec 32 := 1#32
  let arg13 : BitVec 32 := Scf.iv c0_i32_277 c1_i32_279 k1_t37
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 4, v319.toNat]
def k1_off329 (k1_t37 : Fin k1_t37_loop.trips) (c0_i32_330 : BitVec 32) : Fin 4 → Nat :=
  let c0_i32_337 : BitVec 32 := 0#32
  let v325 : Index := Scalar.indexCast c0_i32_337
  let c1_i32_338 : BitVec 32 := 1#32
  let v326 : Index := Scalar.indexCast c1_i32_338
  let c4_i32_339 : BitVec 32 := 4#32
  let v327 : Index := Scalar.indexCast c4_i32_339
  let c0_i32_277 : BitVec 32 := 0#32
  let c1_i32_279 : BitVec 32 := 1#32
  let arg13 : BitVec 32 := Scf.iv c0_i32_277 c1_i32_279 k1_t37
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 4, v328.toNat]
def k1_off330 (k1_t37 : Fin k1_t37_loop.trips) (c0_i32_330 : BitVec 32) : Fin 4 → Nat :=
  let c0_i32_340 : BitVec 32 := 0#32
  let v334 : Index := Scalar.indexCast c0_i32_340
  let c2_i32 : BitVec 32 := 2#32
  let v335 : Index := Scalar.indexCast c2_i32
  let c4_i32_341 : BitVec 32 := 4#32
  let v336 : Index := Scalar.indexCast c4_i32_341
  let c0_i32_277 : BitVec 32 := 0#32
  let c1_i32_279 : BitVec 32 := 1#32
  let arg13 : BitVec 32 := Scf.iv c0_i32_277 c1_i32_279 k1_t37
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 4, v337.toNat]
def k1_off331 (k1_t37 : Fin k1_t37_loop.trips) (c0_i32_330 : BitVec 32) : Fin 4 → Nat :=
  let c0_i32_342 : BitVec 32 := 0#32
  let v343 : Index := Scalar.indexCast c0_i32_342
  let c3_i32 : BitVec 32 := 3#32
  let v344 : Index := Scalar.indexCast c3_i32
  let c4_i32_343 : BitVec 32 := 4#32
  let v345 : Index := Scalar.indexCast c4_i32_343
  let c0_i32_277 : BitVec 32 := 0#32
  let c1_i32_279 : BitVec 32 := 1#32
  let arg13 : BitVec 32 := Scf.iv c0_i32_277 c1_i32_279 k1_t37
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 4, v346.toNat]
def k1_off332 (k1_t37 : Fin k1_t37_loop.trips) (c0_i32_330 : BitVec 32) : Fin 4 → Nat :=
  let c0_i32_344 : BitVec 32 := 0#32
  let v352 : Index := Scalar.indexCast c0_i32_344
  let c4_i32_345 : BitVec 32 := 4#32
  let v353 : Index := Scalar.indexCast c4_i32_345
  let c4_i32_346 : BitVec 32 := 4#32
  let v354 : Index := Scalar.indexCast c4_i32_346
  let c0_i32_277 : BitVec 32 := 0#32
  let c1_i32_279 : BitVec 32 := 1#32
  let arg13 : BitVec 32 := Scf.iv c0_i32_277 c1_i32_279 k1_t37
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 4, v355.toNat]
def k1_off333 (k1_t37 : Fin k1_t37_loop.trips) (c0_i32_330 : BitVec 32) : Fin 4 → Nat :=
  let c0_i32_347 : BitVec 32 := 0#32
  let v361 : Index := Scalar.indexCast c0_i32_347
  let c5_i32 : BitVec 32 := 5#32
  let v362 : Index := Scalar.indexCast c5_i32
  let c4_i32_348 : BitVec 32 := 4#32
  let v363 : Index := Scalar.indexCast c4_i32_348
  let c0_i32_277 : BitVec 32 := 0#32
  let c1_i32_279 : BitVec 32 := 1#32
  let arg13 : BitVec 32 := Scf.iv c0_i32_277 c1_i32_279 k1_t37
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 4, v364.toNat]
def k1_off334 (k1_t37 : Fin k1_t37_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c4_i32_351 : BitVec 32 := 4#32
  let v372 : Index := Scalar.indexCast c4_i32_351
  let c0_i32_277 : BitVec 32 := 0#32
  let c1_i32_279 : BitVec 32 := 1#32
  let arg13 : BitVec 32 := Scf.iv c0_i32_277 c1_i32_279 k1_t37
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 4, v373.toNat]
def k1_off335 (k1_t37 : Fin k1_t37_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c4_i32_353 : BitVec 32 := 4#32
  let v381 : Index := Scalar.indexCast c4_i32_353
  let c0_i32_277 : BitVec 32 := 0#32
  let c1_i32_279 : BitVec 32 := 1#32
  let arg13 : BitVec 32 := Scf.iv c0_i32_277 c1_i32_279 k1_t37
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 4, v382.toNat]
@[reducible] def k1_t38_loop : Scf.Loop 32 :=
  let c0_i32_281 : BitVec 32 := 0#32
  let c6_i32_282 : BitVec 32 := 6#32
  let v232 : BitVec 32 := Scalar.addi c0_i32_281 c6_i32_282
  let c1_i32_283 : BitVec 32 := 1#32
  ⟨c0_i32_281, v232, c1_i32_283⟩
def k1_off336 (k1_t38 : Fin k1_t38_loop.trips) (c0_i32_330 : BitVec 32) : Fin 3 → Nat :=
  let c0_i32_332 : BitVec 32 := 0#32
  let v311 : Index := Scalar.indexCast c0_i32_332
  let c5_i32 : BitVec 32 := 5#32
  let v312 : Index := Scalar.indexCast c5_i32
  let c0_i32_281 : BitVec 32 := 0#32
  let c1_i32_283 : BitVec 32 := 1#32
  let arg13 : BitVec 32 := Scf.iv c0_i32_281 c1_i32_283 k1_t38
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 5, v313.toNat]
def k1_off337 (k1_t38 : Fin k1_t38_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c5_i32_335 : BitVec 32 := 5#32
  let v318 : Index := Scalar.indexCast c5_i32_335
  let c0_i32_281 : BitVec 32 := 0#32
  let c1_i32_283 : BitVec 32 := 1#32
  let arg13 : BitVec 32 := Scf.iv c0_i32_281 c1_i32_283 k1_t38
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 5, v319.toNat]
def k1_off338 (k1_t38 : Fin k1_t38_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c5_i32_338 : BitVec 32 := 5#32
  let v327 : Index := Scalar.indexCast c5_i32_338
  let c0_i32_281 : BitVec 32 := 0#32
  let c1_i32_283 : BitVec 32 := 1#32
  let arg13 : BitVec 32 := Scf.iv c0_i32_281 c1_i32_283 k1_t38
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 5, v328.toNat]
def k1_off339 (k1_t38 : Fin k1_t38_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c5_i32_340 : BitVec 32 := 5#32
  let v336 : Index := Scalar.indexCast c5_i32_340
  let c0_i32_281 : BitVec 32 := 0#32
  let c1_i32_283 : BitVec 32 := 1#32
  let arg13 : BitVec 32 := Scf.iv c0_i32_281 c1_i32_283 k1_t38
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 5, v337.toNat]
def k1_off340 (k1_t38 : Fin k1_t38_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c5_i32_342 : BitVec 32 := 5#32
  let v345 : Index := Scalar.indexCast c5_i32_342
  let c0_i32_281 : BitVec 32 := 0#32
  let c1_i32_283 : BitVec 32 := 1#32
  let arg13 : BitVec 32 := Scf.iv c0_i32_281 c1_i32_283 k1_t38
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 5, v346.toNat]
def k1_off341 (k1_t38 : Fin k1_t38_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c5_i32_345 : BitVec 32 := 5#32
  let v354 : Index := Scalar.indexCast c5_i32_345
  let c0_i32_281 : BitVec 32 := 0#32
  let c1_i32_283 : BitVec 32 := 1#32
  let arg13 : BitVec 32 := Scf.iv c0_i32_281 c1_i32_283 k1_t38
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 5, v355.toNat]
def k1_off342 (k1_t38 : Fin k1_t38_loop.trips) (c0_i32_330 : BitVec 32) : Fin 4 → Nat :=
  let c0_i32_346 : BitVec 32 := 0#32
  let v361 : Index := Scalar.indexCast c0_i32_346
  let c5_i32_347 : BitVec 32 := 5#32
  let v362 : Index := Scalar.indexCast c5_i32_347
  let c5_i32_348 : BitVec 32 := 5#32
  let v363 : Index := Scalar.indexCast c5_i32_348
  let c0_i32_281 : BitVec 32 := 0#32
  let c1_i32_283 : BitVec 32 := 1#32
  let arg13 : BitVec 32 := Scf.iv c0_i32_281 c1_i32_283 k1_t38
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 5, v364.toNat]
def k1_off343 (k1_t38 : Fin k1_t38_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c5_i32_351 : BitVec 32 := 5#32
  let v372 : Index := Scalar.indexCast c5_i32_351
  let c0_i32_281 : BitVec 32 := 0#32
  let c1_i32_283 : BitVec 32 := 1#32
  let arg13 : BitVec 32 := Scf.iv c0_i32_281 c1_i32_283 k1_t38
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 5, v373.toNat]
def k1_off344 (k1_t38 : Fin k1_t38_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c5_i32_353 : BitVec 32 := 5#32
  let v381 : Index := Scalar.indexCast c5_i32_353
  let c0_i32_281 : BitVec 32 := 0#32
  let c1_i32_283 : BitVec 32 := 1#32
  let arg13 : BitVec 32 := Scf.iv c0_i32_281 c1_i32_283 k1_t38
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 5, v382.toNat]
@[reducible] def k1_t39_loop : Scf.Loop 32 :=
  let c0_i32_285 : BitVec 32 := 0#32
  let c6_i32_286 : BitVec 32 := 6#32
  let v234 : BitVec 32 := Scalar.addi c0_i32_285 c6_i32_286
  let c1_i32_287 : BitVec 32 := 1#32
  ⟨c0_i32_285, v234, c1_i32_287⟩
def k1_off345 (k1_t39 : Fin k1_t39_loop.trips) (c0_i32_330 : BitVec 32) : Fin 3 → Nat :=
  let c0_i32_332 : BitVec 32 := 0#32
  let v311 : Index := Scalar.indexCast c0_i32_332
  let c6_i32_333 : BitVec 32 := 6#32
  let v312 : Index := Scalar.indexCast c6_i32_333
  let c0_i32_285 : BitVec 32 := 0#32
  let c1_i32_287 : BitVec 32 := 1#32
  let arg13 : BitVec 32 := Scf.iv c0_i32_285 c1_i32_287 k1_t39
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 6, v313.toNat]
def k1_off346 (k1_t39 : Fin k1_t39_loop.trips) (c0_i32_330 : BitVec 32) : Fin 4 → Nat :=
  let c0_i32_334 : BitVec 32 := 0#32
  let v316 : Index := Scalar.indexCast c0_i32_334
  let c0_i32_335 : BitVec 32 := 0#32
  let v317 : Index := Scalar.indexCast c0_i32_335
  let c6_i32_336 : BitVec 32 := 6#32
  let v318 : Index := Scalar.indexCast c6_i32_336
  let c0_i32_285 : BitVec 32 := 0#32
  let c1_i32_287 : BitVec 32 := 1#32
  let arg13 : BitVec 32 := Scf.iv c0_i32_285 c1_i32_287 k1_t39
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 6, v319.toNat]
def k1_off347 (k1_t39 : Fin k1_t39_loop.trips) (c0_i32_330 : BitVec 32) : Fin 4 → Nat :=
  let c0_i32_337 : BitVec 32 := 0#32
  let v325 : Index := Scalar.indexCast c0_i32_337
  let c1_i32_338 : BitVec 32 := 1#32
  let v326 : Index := Scalar.indexCast c1_i32_338
  let c6_i32_339 : BitVec 32 := 6#32
  let v327 : Index := Scalar.indexCast c6_i32_339
  let c0_i32_285 : BitVec 32 := 0#32
  let c1_i32_287 : BitVec 32 := 1#32
  let arg13 : BitVec 32 := Scf.iv c0_i32_285 c1_i32_287 k1_t39
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 6, v328.toNat]
def k1_off348 (k1_t39 : Fin k1_t39_loop.trips) (c0_i32_330 : BitVec 32) : Fin 4 → Nat :=
  let c0_i32_340 : BitVec 32 := 0#32
  let v334 : Index := Scalar.indexCast c0_i32_340
  let c2_i32 : BitVec 32 := 2#32
  let v335 : Index := Scalar.indexCast c2_i32
  let c6_i32_341 : BitVec 32 := 6#32
  let v336 : Index := Scalar.indexCast c6_i32_341
  let c0_i32_285 : BitVec 32 := 0#32
  let c1_i32_287 : BitVec 32 := 1#32
  let arg13 : BitVec 32 := Scf.iv c0_i32_285 c1_i32_287 k1_t39
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 6, v337.toNat]
def k1_off349 (k1_t39 : Fin k1_t39_loop.trips) (c0_i32_330 : BitVec 32) : Fin 4 → Nat :=
  let c0_i32_342 : BitVec 32 := 0#32
  let v343 : Index := Scalar.indexCast c0_i32_342
  let c3_i32 : BitVec 32 := 3#32
  let v344 : Index := Scalar.indexCast c3_i32
  let c6_i32_343 : BitVec 32 := 6#32
  let v345 : Index := Scalar.indexCast c6_i32_343
  let c0_i32_285 : BitVec 32 := 0#32
  let c1_i32_287 : BitVec 32 := 1#32
  let arg13 : BitVec 32 := Scf.iv c0_i32_285 c1_i32_287 k1_t39
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 6, v346.toNat]
def k1_off350 (k1_t39 : Fin k1_t39_loop.trips) (c0_i32_330 : BitVec 32) : Fin 4 → Nat :=
  let c0_i32_344 : BitVec 32 := 0#32
  let v352 : Index := Scalar.indexCast c0_i32_344
  let c4_i32_345 : BitVec 32 := 4#32
  let v353 : Index := Scalar.indexCast c4_i32_345
  let c6_i32_346 : BitVec 32 := 6#32
  let v354 : Index := Scalar.indexCast c6_i32_346
  let c0_i32_285 : BitVec 32 := 0#32
  let c1_i32_287 : BitVec 32 := 1#32
  let arg13 : BitVec 32 := Scf.iv c0_i32_285 c1_i32_287 k1_t39
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 6, v355.toNat]
def k1_off351 (k1_t39 : Fin k1_t39_loop.trips) (c0_i32_330 : BitVec 32) : Fin 4 → Nat :=
  let c0_i32_347 : BitVec 32 := 0#32
  let v361 : Index := Scalar.indexCast c0_i32_347
  let c5_i32 : BitVec 32 := 5#32
  let v362 : Index := Scalar.indexCast c5_i32
  let c6_i32_348 : BitVec 32 := 6#32
  let v363 : Index := Scalar.indexCast c6_i32_348
  let c0_i32_285 : BitVec 32 := 0#32
  let c1_i32_287 : BitVec 32 := 1#32
  let arg13 : BitVec 32 := Scf.iv c0_i32_285 c1_i32_287 k1_t39
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 6, v364.toNat]
def k1_off352 (k1_t39 : Fin k1_t39_loop.trips) (c0_i32_330 : BitVec 32) : Fin 4 → Nat :=
  let c0_i32_349 : BitVec 32 := 0#32
  let v370 : Index := Scalar.indexCast c0_i32_349
  let c6_i32_350 : BitVec 32 := 6#32
  let v371 : Index := Scalar.indexCast c6_i32_350
  let c6_i32_351 : BitVec 32 := 6#32
  let v372 : Index := Scalar.indexCast c6_i32_351
  let c0_i32_285 : BitVec 32 := 0#32
  let c1_i32_287 : BitVec 32 := 1#32
  let arg13 : BitVec 32 := Scf.iv c0_i32_285 c1_i32_287 k1_t39
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 6, v373.toNat]
def k1_off353 (k1_t39 : Fin k1_t39_loop.trips) (c0_i32_330 : BitVec 32) : Fin 4 → Nat :=
  let c0_i32_352 : BitVec 32 := 0#32
  let v379 : Index := Scalar.indexCast c0_i32_352
  let c7_i32 : BitVec 32 := 7#32
  let v380 : Index := Scalar.indexCast c7_i32
  let c6_i32_353 : BitVec 32 := 6#32
  let v381 : Index := Scalar.indexCast c6_i32_353
  let c0_i32_285 : BitVec 32 := 0#32
  let c1_i32_287 : BitVec 32 := 1#32
  let arg13 : BitVec 32 := Scf.iv c0_i32_285 c1_i32_287 k1_t39
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 6, v382.toNat]
@[reducible] def k1_t40_loop : Scf.Loop 32 :=
  let c0_i32_289 : BitVec 32 := 0#32
  let c6_i32_290 : BitVec 32 := 6#32
  let v236 : BitVec 32 := Scalar.addi c0_i32_289 c6_i32_290
  let c1_i32_291 : BitVec 32 := 1#32
  ⟨c0_i32_289, v236, c1_i32_291⟩
def k1_off354 (k1_t40 : Fin k1_t40_loop.trips) (c0_i32_330 : BitVec 32) : Fin 3 → Nat :=
  let c0_i32_332 : BitVec 32 := 0#32
  let v311 : Index := Scalar.indexCast c0_i32_332
  let c7_i32 : BitVec 32 := 7#32
  let v312 : Index := Scalar.indexCast c7_i32
  let c0_i32_289 : BitVec 32 := 0#32
  let c1_i32_291 : BitVec 32 := 1#32
  let arg13 : BitVec 32 := Scf.iv c0_i32_289 c1_i32_291 k1_t40
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 7, v313.toNat]
def k1_off355 (k1_t40 : Fin k1_t40_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c7_i32_335 : BitVec 32 := 7#32
  let v318 : Index := Scalar.indexCast c7_i32_335
  let c0_i32_289 : BitVec 32 := 0#32
  let c1_i32_291 : BitVec 32 := 1#32
  let arg13 : BitVec 32 := Scf.iv c0_i32_289 c1_i32_291 k1_t40
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 7, v319.toNat]
def k1_off356 (k1_t40 : Fin k1_t40_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c7_i32_338 : BitVec 32 := 7#32
  let v327 : Index := Scalar.indexCast c7_i32_338
  let c0_i32_289 : BitVec 32 := 0#32
  let c1_i32_291 : BitVec 32 := 1#32
  let arg13 : BitVec 32 := Scf.iv c0_i32_289 c1_i32_291 k1_t40
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 7, v328.toNat]
def k1_off357 (k1_t40 : Fin k1_t40_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c7_i32_340 : BitVec 32 := 7#32
  let v336 : Index := Scalar.indexCast c7_i32_340
  let c0_i32_289 : BitVec 32 := 0#32
  let c1_i32_291 : BitVec 32 := 1#32
  let arg13 : BitVec 32 := Scf.iv c0_i32_289 c1_i32_291 k1_t40
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 7, v337.toNat]
def k1_off358 (k1_t40 : Fin k1_t40_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c7_i32_342 : BitVec 32 := 7#32
  let v345 : Index := Scalar.indexCast c7_i32_342
  let c0_i32_289 : BitVec 32 := 0#32
  let c1_i32_291 : BitVec 32 := 1#32
  let arg13 : BitVec 32 := Scf.iv c0_i32_289 c1_i32_291 k1_t40
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 7, v346.toNat]
def k1_off359 (k1_t40 : Fin k1_t40_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c7_i32_345 : BitVec 32 := 7#32
  let v354 : Index := Scalar.indexCast c7_i32_345
  let c0_i32_289 : BitVec 32 := 0#32
  let c1_i32_291 : BitVec 32 := 1#32
  let arg13 : BitVec 32 := Scf.iv c0_i32_289 c1_i32_291 k1_t40
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 7, v355.toNat]
def k1_off360 (k1_t40 : Fin k1_t40_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c7_i32_347 : BitVec 32 := 7#32
  let v363 : Index := Scalar.indexCast c7_i32_347
  let c0_i32_289 : BitVec 32 := 0#32
  let c1_i32_291 : BitVec 32 := 1#32
  let arg13 : BitVec 32 := Scf.iv c0_i32_289 c1_i32_291 k1_t40
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 7, v364.toNat]
def k1_off361 (k1_t40 : Fin k1_t40_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c7_i32_350 : BitVec 32 := 7#32
  let v372 : Index := Scalar.indexCast c7_i32_350
  let c0_i32_289 : BitVec 32 := 0#32
  let c1_i32_291 : BitVec 32 := 1#32
  let arg13 : BitVec 32 := Scf.iv c0_i32_289 c1_i32_291 k1_t40
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 7, v373.toNat]
def k1_off362 (k1_t40 : Fin k1_t40_loop.trips) (c0_i32_330 : BitVec 32) : Fin 4 → Nat :=
  let c0_i32_351 : BitVec 32 := 0#32
  let v379 : Index := Scalar.indexCast c0_i32_351
  let c7_i32_352 : BitVec 32 := 7#32
  let v380 : Index := Scalar.indexCast c7_i32_352
  let c7_i32_353 : BitVec 32 := 7#32
  let v381 : Index := Scalar.indexCast c7_i32_353
  let c0_i32_289 : BitVec 32 := 0#32
  let c1_i32_291 : BitVec 32 := 1#32
  let arg13 : BitVec 32 := Scf.iv c0_i32_289 c1_i32_291 k1_t40
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 7, v382.toNat]
@[reducible] def k1_t41_loop : Scf.Loop 32 :=
  let c0_i32_293 : BitVec 32 := 0#32
  let c6_i32_294 : BitVec 32 := 6#32
  let v238 : BitVec 32 := Scalar.addi c0_i32_293 c6_i32_294
  let c1_i32_295 : BitVec 32 := 1#32
  ⟨c0_i32_293, v238, c1_i32_295⟩
def k1_off363 (k1_t41 : Fin k1_t41_loop.trips) (c0_i32_330 : BitVec 32) : Fin 3 → Nat :=
  let c0_i32_332 : BitVec 32 := 0#32
  let v311 : Index := Scalar.indexCast c0_i32_332
  let c8_i32 : BitVec 32 := 8#32
  let v312 : Index := Scalar.indexCast c8_i32
  let c0_i32_293 : BitVec 32 := 0#32
  let c1_i32_295 : BitVec 32 := 1#32
  let arg13 : BitVec 32 := Scf.iv c0_i32_293 c1_i32_295 k1_t41
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 8, v313.toNat]
def k1_off364 (k1_t41 : Fin k1_t41_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c8_i32_335 : BitVec 32 := 8#32
  let v318 : Index := Scalar.indexCast c8_i32_335
  let c0_i32_293 : BitVec 32 := 0#32
  let c1_i32_295 : BitVec 32 := 1#32
  let arg13 : BitVec 32 := Scf.iv c0_i32_293 c1_i32_295 k1_t41
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 8, v319.toNat]
def k1_off365 (k1_t41 : Fin k1_t41_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c8_i32_338 : BitVec 32 := 8#32
  let v327 : Index := Scalar.indexCast c8_i32_338
  let c0_i32_293 : BitVec 32 := 0#32
  let c1_i32_295 : BitVec 32 := 1#32
  let arg13 : BitVec 32 := Scf.iv c0_i32_293 c1_i32_295 k1_t41
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 8, v328.toNat]
def k1_off366 (k1_t41 : Fin k1_t41_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c8_i32_340 : BitVec 32 := 8#32
  let v336 : Index := Scalar.indexCast c8_i32_340
  let c0_i32_293 : BitVec 32 := 0#32
  let c1_i32_295 : BitVec 32 := 1#32
  let arg13 : BitVec 32 := Scf.iv c0_i32_293 c1_i32_295 k1_t41
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 8, v337.toNat]
def k1_off367 (k1_t41 : Fin k1_t41_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c8_i32_342 : BitVec 32 := 8#32
  let v345 : Index := Scalar.indexCast c8_i32_342
  let c0_i32_293 : BitVec 32 := 0#32
  let c1_i32_295 : BitVec 32 := 1#32
  let arg13 : BitVec 32 := Scf.iv c0_i32_293 c1_i32_295 k1_t41
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 8, v346.toNat]
def k1_off368 (k1_t41 : Fin k1_t41_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c8_i32_345 : BitVec 32 := 8#32
  let v354 : Index := Scalar.indexCast c8_i32_345
  let c0_i32_293 : BitVec 32 := 0#32
  let c1_i32_295 : BitVec 32 := 1#32
  let arg13 : BitVec 32 := Scf.iv c0_i32_293 c1_i32_295 k1_t41
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 8, v355.toNat]
def k1_off369 (k1_t41 : Fin k1_t41_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c8_i32_347 : BitVec 32 := 8#32
  let v363 : Index := Scalar.indexCast c8_i32_347
  let c0_i32_293 : BitVec 32 := 0#32
  let c1_i32_295 : BitVec 32 := 1#32
  let arg13 : BitVec 32 := Scf.iv c0_i32_293 c1_i32_295 k1_t41
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 8, v364.toNat]
def k1_off370 (k1_t41 : Fin k1_t41_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c8_i32_350 : BitVec 32 := 8#32
  let v372 : Index := Scalar.indexCast c8_i32_350
  let c0_i32_293 : BitVec 32 := 0#32
  let c1_i32_295 : BitVec 32 := 1#32
  let arg13 : BitVec 32 := Scf.iv c0_i32_293 c1_i32_295 k1_t41
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 8, v373.toNat]
def k1_off371 (k1_t41 : Fin k1_t41_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c8_i32_352 : BitVec 32 := 8#32
  let v381 : Index := Scalar.indexCast c8_i32_352
  let c0_i32_293 : BitVec 32 := 0#32
  let c1_i32_295 : BitVec 32 := 1#32
  let arg13 : BitVec 32 := Scf.iv c0_i32_293 c1_i32_295 k1_t41
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 8, v382.toNat]
@[reducible] def k1_t42_loop : Scf.Loop 32 :=
  let c0_i32_297 : BitVec 32 := 0#32
  let c6_i32_298 : BitVec 32 := 6#32
  let v240 : BitVec 32 := Scalar.addi c0_i32_297 c6_i32_298
  let c1_i32_299 : BitVec 32 := 1#32
  ⟨c0_i32_297, v240, c1_i32_299⟩
def k1_off372 (k1_t42 : Fin k1_t42_loop.trips) (c0_i32_330 : BitVec 32) : Fin 3 → Nat :=
  let c0_i32_332 : BitVec 32 := 0#32
  let v311 : Index := Scalar.indexCast c0_i32_332
  let c9_i32 : BitVec 32 := 9#32
  let v312 : Index := Scalar.indexCast c9_i32
  let c0_i32_297 : BitVec 32 := 0#32
  let c1_i32_299 : BitVec 32 := 1#32
  let arg13 : BitVec 32 := Scf.iv c0_i32_297 c1_i32_299 k1_t42
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 9, v313.toNat]
def k1_off373 (k1_t42 : Fin k1_t42_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c9_i32_335 : BitVec 32 := 9#32
  let v318 : Index := Scalar.indexCast c9_i32_335
  let c0_i32_297 : BitVec 32 := 0#32
  let c1_i32_299 : BitVec 32 := 1#32
  let arg13 : BitVec 32 := Scf.iv c0_i32_297 c1_i32_299 k1_t42
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 9, v319.toNat]
def k1_off374 (k1_t42 : Fin k1_t42_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c9_i32_338 : BitVec 32 := 9#32
  let v327 : Index := Scalar.indexCast c9_i32_338
  let c0_i32_297 : BitVec 32 := 0#32
  let c1_i32_299 : BitVec 32 := 1#32
  let arg13 : BitVec 32 := Scf.iv c0_i32_297 c1_i32_299 k1_t42
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 9, v328.toNat]
def k1_off375 (k1_t42 : Fin k1_t42_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c9_i32_340 : BitVec 32 := 9#32
  let v336 : Index := Scalar.indexCast c9_i32_340
  let c0_i32_297 : BitVec 32 := 0#32
  let c1_i32_299 : BitVec 32 := 1#32
  let arg13 : BitVec 32 := Scf.iv c0_i32_297 c1_i32_299 k1_t42
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 9, v337.toNat]
def k1_off376 (k1_t42 : Fin k1_t42_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c9_i32_342 : BitVec 32 := 9#32
  let v345 : Index := Scalar.indexCast c9_i32_342
  let c0_i32_297 : BitVec 32 := 0#32
  let c1_i32_299 : BitVec 32 := 1#32
  let arg13 : BitVec 32 := Scf.iv c0_i32_297 c1_i32_299 k1_t42
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 9, v346.toNat]
def k1_off377 (k1_t42 : Fin k1_t42_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c9_i32_345 : BitVec 32 := 9#32
  let v354 : Index := Scalar.indexCast c9_i32_345
  let c0_i32_297 : BitVec 32 := 0#32
  let c1_i32_299 : BitVec 32 := 1#32
  let arg13 : BitVec 32 := Scf.iv c0_i32_297 c1_i32_299 k1_t42
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 9, v355.toNat]
def k1_off378 (k1_t42 : Fin k1_t42_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c9_i32_347 : BitVec 32 := 9#32
  let v363 : Index := Scalar.indexCast c9_i32_347
  let c0_i32_297 : BitVec 32 := 0#32
  let c1_i32_299 : BitVec 32 := 1#32
  let arg13 : BitVec 32 := Scf.iv c0_i32_297 c1_i32_299 k1_t42
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 9, v364.toNat]
def k1_off379 (k1_t42 : Fin k1_t42_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c9_i32_350 : BitVec 32 := 9#32
  let v372 : Index := Scalar.indexCast c9_i32_350
  let c0_i32_297 : BitVec 32 := 0#32
  let c1_i32_299 : BitVec 32 := 1#32
  let arg13 : BitVec 32 := Scf.iv c0_i32_297 c1_i32_299 k1_t42
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 9, v373.toNat]
def k1_off380 (k1_t42 : Fin k1_t42_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c9_i32_352 : BitVec 32 := 9#32
  let v381 : Index := Scalar.indexCast c9_i32_352
  let c0_i32_297 : BitVec 32 := 0#32
  let c1_i32_299 : BitVec 32 := 1#32
  let arg13 : BitVec 32 := Scf.iv c0_i32_297 c1_i32_299 k1_t42
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 9, v382.toNat]
@[reducible] def k1_t43_loop : Scf.Loop 32 :=
  let c0_i32_301 : BitVec 32 := 0#32
  let c6_i32_302 : BitVec 32 := 6#32
  let v242 : BitVec 32 := Scalar.addi c0_i32_301 c6_i32_302
  let c1_i32_303 : BitVec 32 := 1#32
  ⟨c0_i32_301, v242, c1_i32_303⟩
def k1_off381 (k1_t43 : Fin k1_t43_loop.trips) (c0_i32_330 : BitVec 32) : Fin 3 → Nat :=
  let c0_i32_332 : BitVec 32 := 0#32
  let v311 : Index := Scalar.indexCast c0_i32_332
  let c10_i32 : BitVec 32 := 10#32
  let v312 : Index := Scalar.indexCast c10_i32
  let c0_i32_301 : BitVec 32 := 0#32
  let c1_i32_303 : BitVec 32 := 1#32
  let arg13 : BitVec 32 := Scf.iv c0_i32_301 c1_i32_303 k1_t43
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 10, v313.toNat]
def k1_off382 (k1_t43 : Fin k1_t43_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c10_i32_335 : BitVec 32 := 10#32
  let v318 : Index := Scalar.indexCast c10_i32_335
  let c0_i32_301 : BitVec 32 := 0#32
  let c1_i32_303 : BitVec 32 := 1#32
  let arg13 : BitVec 32 := Scf.iv c0_i32_301 c1_i32_303 k1_t43
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 10, v319.toNat]
def k1_off383 (k1_t43 : Fin k1_t43_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c10_i32_338 : BitVec 32 := 10#32
  let v327 : Index := Scalar.indexCast c10_i32_338
  let c0_i32_301 : BitVec 32 := 0#32
  let c1_i32_303 : BitVec 32 := 1#32
  let arg13 : BitVec 32 := Scf.iv c0_i32_301 c1_i32_303 k1_t43
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 10, v328.toNat]
def k1_off384 (k1_t43 : Fin k1_t43_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c10_i32_340 : BitVec 32 := 10#32
  let v336 : Index := Scalar.indexCast c10_i32_340
  let c0_i32_301 : BitVec 32 := 0#32
  let c1_i32_303 : BitVec 32 := 1#32
  let arg13 : BitVec 32 := Scf.iv c0_i32_301 c1_i32_303 k1_t43
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 10, v337.toNat]
def k1_off385 (k1_t43 : Fin k1_t43_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c10_i32_342 : BitVec 32 := 10#32
  let v345 : Index := Scalar.indexCast c10_i32_342
  let c0_i32_301 : BitVec 32 := 0#32
  let c1_i32_303 : BitVec 32 := 1#32
  let arg13 : BitVec 32 := Scf.iv c0_i32_301 c1_i32_303 k1_t43
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 10, v346.toNat]
def k1_off386 (k1_t43 : Fin k1_t43_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c10_i32_345 : BitVec 32 := 10#32
  let v354 : Index := Scalar.indexCast c10_i32_345
  let c0_i32_301 : BitVec 32 := 0#32
  let c1_i32_303 : BitVec 32 := 1#32
  let arg13 : BitVec 32 := Scf.iv c0_i32_301 c1_i32_303 k1_t43
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 10, v355.toNat]
def k1_off387 (k1_t43 : Fin k1_t43_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c10_i32_347 : BitVec 32 := 10#32
  let v363 : Index := Scalar.indexCast c10_i32_347
  let c0_i32_301 : BitVec 32 := 0#32
  let c1_i32_303 : BitVec 32 := 1#32
  let arg13 : BitVec 32 := Scf.iv c0_i32_301 c1_i32_303 k1_t43
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 10, v364.toNat]
def k1_off388 (k1_t43 : Fin k1_t43_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c10_i32_350 : BitVec 32 := 10#32
  let v372 : Index := Scalar.indexCast c10_i32_350
  let c0_i32_301 : BitVec 32 := 0#32
  let c1_i32_303 : BitVec 32 := 1#32
  let arg13 : BitVec 32 := Scf.iv c0_i32_301 c1_i32_303 k1_t43
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 10, v373.toNat]
def k1_off389 (k1_t43 : Fin k1_t43_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c10_i32_352 : BitVec 32 := 10#32
  let v381 : Index := Scalar.indexCast c10_i32_352
  let c0_i32_301 : BitVec 32 := 0#32
  let c1_i32_303 : BitVec 32 := 1#32
  let arg13 : BitVec 32 := Scf.iv c0_i32_301 c1_i32_303 k1_t43
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 10, v382.toNat]
@[reducible] def k1_t44_loop : Scf.Loop 32 :=
  let c0_i32_305 : BitVec 32 := 0#32
  let c6_i32_306 : BitVec 32 := 6#32
  let v244 : BitVec 32 := Scalar.addi c0_i32_305 c6_i32_306
  let c1_i32_307 : BitVec 32 := 1#32
  ⟨c0_i32_305, v244, c1_i32_307⟩
def k1_off390 (k1_t44 : Fin k1_t44_loop.trips) (c0_i32_330 : BitVec 32) : Fin 3 → Nat :=
  let c0_i32_332 : BitVec 32 := 0#32
  let v311 : Index := Scalar.indexCast c0_i32_332
  let c11_i32 : BitVec 32 := 11#32
  let v312 : Index := Scalar.indexCast c11_i32
  let c0_i32_305 : BitVec 32 := 0#32
  let c1_i32_307 : BitVec 32 := 1#32
  let arg13 : BitVec 32 := Scf.iv c0_i32_305 c1_i32_307 k1_t44
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 11, v313.toNat]
def k1_off391 (k1_t44 : Fin k1_t44_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c11_i32_335 : BitVec 32 := 11#32
  let v318 : Index := Scalar.indexCast c11_i32_335
  let c0_i32_305 : BitVec 32 := 0#32
  let c1_i32_307 : BitVec 32 := 1#32
  let arg13 : BitVec 32 := Scf.iv c0_i32_305 c1_i32_307 k1_t44
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 11, v319.toNat]
def k1_off392 (k1_t44 : Fin k1_t44_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c11_i32_338 : BitVec 32 := 11#32
  let v327 : Index := Scalar.indexCast c11_i32_338
  let c0_i32_305 : BitVec 32 := 0#32
  let c1_i32_307 : BitVec 32 := 1#32
  let arg13 : BitVec 32 := Scf.iv c0_i32_305 c1_i32_307 k1_t44
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 11, v328.toNat]
def k1_off393 (k1_t44 : Fin k1_t44_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c11_i32_340 : BitVec 32 := 11#32
  let v336 : Index := Scalar.indexCast c11_i32_340
  let c0_i32_305 : BitVec 32 := 0#32
  let c1_i32_307 : BitVec 32 := 1#32
  let arg13 : BitVec 32 := Scf.iv c0_i32_305 c1_i32_307 k1_t44
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 11, v337.toNat]
def k1_off394 (k1_t44 : Fin k1_t44_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c11_i32_342 : BitVec 32 := 11#32
  let v345 : Index := Scalar.indexCast c11_i32_342
  let c0_i32_305 : BitVec 32 := 0#32
  let c1_i32_307 : BitVec 32 := 1#32
  let arg13 : BitVec 32 := Scf.iv c0_i32_305 c1_i32_307 k1_t44
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 11, v346.toNat]
def k1_off395 (k1_t44 : Fin k1_t44_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c11_i32_345 : BitVec 32 := 11#32
  let v354 : Index := Scalar.indexCast c11_i32_345
  let c0_i32_305 : BitVec 32 := 0#32
  let c1_i32_307 : BitVec 32 := 1#32
  let arg13 : BitVec 32 := Scf.iv c0_i32_305 c1_i32_307 k1_t44
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 11, v355.toNat]
def k1_off396 (k1_t44 : Fin k1_t44_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c11_i32_347 : BitVec 32 := 11#32
  let v363 : Index := Scalar.indexCast c11_i32_347
  let c0_i32_305 : BitVec 32 := 0#32
  let c1_i32_307 : BitVec 32 := 1#32
  let arg13 : BitVec 32 := Scf.iv c0_i32_305 c1_i32_307 k1_t44
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 11, v364.toNat]
def k1_off397 (k1_t44 : Fin k1_t44_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c11_i32_350 : BitVec 32 := 11#32
  let v372 : Index := Scalar.indexCast c11_i32_350
  let c0_i32_305 : BitVec 32 := 0#32
  let c1_i32_307 : BitVec 32 := 1#32
  let arg13 : BitVec 32 := Scf.iv c0_i32_305 c1_i32_307 k1_t44
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 11, v373.toNat]
def k1_off398 (k1_t44 : Fin k1_t44_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c11_i32_352 : BitVec 32 := 11#32
  let v381 : Index := Scalar.indexCast c11_i32_352
  let c0_i32_305 : BitVec 32 := 0#32
  let c1_i32_307 : BitVec 32 := 1#32
  let arg13 : BitVec 32 := Scf.iv c0_i32_305 c1_i32_307 k1_t44
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 11, v382.toNat]
@[reducible] def k1_t45_loop : Scf.Loop 32 :=
  let c0_i32_309 : BitVec 32 := 0#32
  let c6_i32_310 : BitVec 32 := 6#32
  let v246 : BitVec 32 := Scalar.addi c0_i32_309 c6_i32_310
  let c1_i32_311 : BitVec 32 := 1#32
  ⟨c0_i32_309, v246, c1_i32_311⟩
def k1_off399 (k1_t45 : Fin k1_t45_loop.trips) (c0_i32_330 : BitVec 32) : Fin 3 → Nat :=
  let c0_i32_332 : BitVec 32 := 0#32
  let v311 : Index := Scalar.indexCast c0_i32_332
  let c12_i32 : BitVec 32 := 12#32
  let v312 : Index := Scalar.indexCast c12_i32
  let c0_i32_309 : BitVec 32 := 0#32
  let c1_i32_311 : BitVec 32 := 1#32
  let arg13 : BitVec 32 := Scf.iv c0_i32_309 c1_i32_311 k1_t45
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 12, v313.toNat]
def k1_off400 (k1_t45 : Fin k1_t45_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c12_i32_335 : BitVec 32 := 12#32
  let v318 : Index := Scalar.indexCast c12_i32_335
  let c0_i32_309 : BitVec 32 := 0#32
  let c1_i32_311 : BitVec 32 := 1#32
  let arg13 : BitVec 32 := Scf.iv c0_i32_309 c1_i32_311 k1_t45
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 12, v319.toNat]
def k1_off401 (k1_t45 : Fin k1_t45_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c12_i32_338 : BitVec 32 := 12#32
  let v327 : Index := Scalar.indexCast c12_i32_338
  let c0_i32_309 : BitVec 32 := 0#32
  let c1_i32_311 : BitVec 32 := 1#32
  let arg13 : BitVec 32 := Scf.iv c0_i32_309 c1_i32_311 k1_t45
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 12, v328.toNat]
def k1_off402 (k1_t45 : Fin k1_t45_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c12_i32_340 : BitVec 32 := 12#32
  let v336 : Index := Scalar.indexCast c12_i32_340
  let c0_i32_309 : BitVec 32 := 0#32
  let c1_i32_311 : BitVec 32 := 1#32
  let arg13 : BitVec 32 := Scf.iv c0_i32_309 c1_i32_311 k1_t45
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 12, v337.toNat]
def k1_off403 (k1_t45 : Fin k1_t45_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c12_i32_342 : BitVec 32 := 12#32
  let v345 : Index := Scalar.indexCast c12_i32_342
  let c0_i32_309 : BitVec 32 := 0#32
  let c1_i32_311 : BitVec 32 := 1#32
  let arg13 : BitVec 32 := Scf.iv c0_i32_309 c1_i32_311 k1_t45
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 12, v346.toNat]
def k1_off404 (k1_t45 : Fin k1_t45_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c12_i32_345 : BitVec 32 := 12#32
  let v354 : Index := Scalar.indexCast c12_i32_345
  let c0_i32_309 : BitVec 32 := 0#32
  let c1_i32_311 : BitVec 32 := 1#32
  let arg13 : BitVec 32 := Scf.iv c0_i32_309 c1_i32_311 k1_t45
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 12, v355.toNat]
def k1_off405 (k1_t45 : Fin k1_t45_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c12_i32_347 : BitVec 32 := 12#32
  let v363 : Index := Scalar.indexCast c12_i32_347
  let c0_i32_309 : BitVec 32 := 0#32
  let c1_i32_311 : BitVec 32 := 1#32
  let arg13 : BitVec 32 := Scf.iv c0_i32_309 c1_i32_311 k1_t45
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 12, v364.toNat]
def k1_off406 (k1_t45 : Fin k1_t45_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c12_i32_350 : BitVec 32 := 12#32
  let v372 : Index := Scalar.indexCast c12_i32_350
  let c0_i32_309 : BitVec 32 := 0#32
  let c1_i32_311 : BitVec 32 := 1#32
  let arg13 : BitVec 32 := Scf.iv c0_i32_309 c1_i32_311 k1_t45
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 12, v373.toNat]
def k1_off407 (k1_t45 : Fin k1_t45_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c12_i32_352 : BitVec 32 := 12#32
  let v381 : Index := Scalar.indexCast c12_i32_352
  let c0_i32_309 : BitVec 32 := 0#32
  let c1_i32_311 : BitVec 32 := 1#32
  let arg13 : BitVec 32 := Scf.iv c0_i32_309 c1_i32_311 k1_t45
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 12, v382.toNat]
@[reducible] def k1_t46_loop : Scf.Loop 32 :=
  let c0_i32_313 : BitVec 32 := 0#32
  let c6_i32_314 : BitVec 32 := 6#32
  let v248 : BitVec 32 := Scalar.addi c0_i32_313 c6_i32_314
  let c1_i32_315 : BitVec 32 := 1#32
  ⟨c0_i32_313, v248, c1_i32_315⟩
def k1_off408 (k1_t46 : Fin k1_t46_loop.trips) (c0_i32_330 : BitVec 32) : Fin 3 → Nat :=
  let c0_i32_332 : BitVec 32 := 0#32
  let v311 : Index := Scalar.indexCast c0_i32_332
  let c13_i32 : BitVec 32 := 13#32
  let v312 : Index := Scalar.indexCast c13_i32
  let c0_i32_313 : BitVec 32 := 0#32
  let c1_i32_315 : BitVec 32 := 1#32
  let arg13 : BitVec 32 := Scf.iv c0_i32_313 c1_i32_315 k1_t46
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 13, v313.toNat]
def k1_off409 (k1_t46 : Fin k1_t46_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c13_i32_335 : BitVec 32 := 13#32
  let v318 : Index := Scalar.indexCast c13_i32_335
  let c0_i32_313 : BitVec 32 := 0#32
  let c1_i32_315 : BitVec 32 := 1#32
  let arg13 : BitVec 32 := Scf.iv c0_i32_313 c1_i32_315 k1_t46
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 13, v319.toNat]
def k1_off410 (k1_t46 : Fin k1_t46_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c13_i32_338 : BitVec 32 := 13#32
  let v327 : Index := Scalar.indexCast c13_i32_338
  let c0_i32_313 : BitVec 32 := 0#32
  let c1_i32_315 : BitVec 32 := 1#32
  let arg13 : BitVec 32 := Scf.iv c0_i32_313 c1_i32_315 k1_t46
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 13, v328.toNat]
def k1_off411 (k1_t46 : Fin k1_t46_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c13_i32_340 : BitVec 32 := 13#32
  let v336 : Index := Scalar.indexCast c13_i32_340
  let c0_i32_313 : BitVec 32 := 0#32
  let c1_i32_315 : BitVec 32 := 1#32
  let arg13 : BitVec 32 := Scf.iv c0_i32_313 c1_i32_315 k1_t46
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 13, v337.toNat]
def k1_off412 (k1_t46 : Fin k1_t46_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c13_i32_342 : BitVec 32 := 13#32
  let v345 : Index := Scalar.indexCast c13_i32_342
  let c0_i32_313 : BitVec 32 := 0#32
  let c1_i32_315 : BitVec 32 := 1#32
  let arg13 : BitVec 32 := Scf.iv c0_i32_313 c1_i32_315 k1_t46
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 13, v346.toNat]
def k1_off413 (k1_t46 : Fin k1_t46_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c13_i32_345 : BitVec 32 := 13#32
  let v354 : Index := Scalar.indexCast c13_i32_345
  let c0_i32_313 : BitVec 32 := 0#32
  let c1_i32_315 : BitVec 32 := 1#32
  let arg13 : BitVec 32 := Scf.iv c0_i32_313 c1_i32_315 k1_t46
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 13, v355.toNat]
def k1_off414 (k1_t46 : Fin k1_t46_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c13_i32_347 : BitVec 32 := 13#32
  let v363 : Index := Scalar.indexCast c13_i32_347
  let c0_i32_313 : BitVec 32 := 0#32
  let c1_i32_315 : BitVec 32 := 1#32
  let arg13 : BitVec 32 := Scf.iv c0_i32_313 c1_i32_315 k1_t46
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 13, v364.toNat]
def k1_off415 (k1_t46 : Fin k1_t46_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c13_i32_350 : BitVec 32 := 13#32
  let v372 : Index := Scalar.indexCast c13_i32_350
  let c0_i32_313 : BitVec 32 := 0#32
  let c1_i32_315 : BitVec 32 := 1#32
  let arg13 : BitVec 32 := Scf.iv c0_i32_313 c1_i32_315 k1_t46
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 13, v373.toNat]
def k1_off416 (k1_t46 : Fin k1_t46_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c13_i32_352 : BitVec 32 := 13#32
  let v381 : Index := Scalar.indexCast c13_i32_352
  let c0_i32_313 : BitVec 32 := 0#32
  let c1_i32_315 : BitVec 32 := 1#32
  let arg13 : BitVec 32 := Scf.iv c0_i32_313 c1_i32_315 k1_t46
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 13, v382.toNat]
@[reducible] def k1_t47_loop : Scf.Loop 32 :=
  let c0_i32_317 : BitVec 32 := 0#32
  let c6_i32_318 : BitVec 32 := 6#32
  let v250 : BitVec 32 := Scalar.addi c0_i32_317 c6_i32_318
  let c1_i32_319 : BitVec 32 := 1#32
  ⟨c0_i32_317, v250, c1_i32_319⟩
def k1_off417 (k1_t47 : Fin k1_t47_loop.trips) (c0_i32_330 : BitVec 32) : Fin 3 → Nat :=
  let c0_i32_332 : BitVec 32 := 0#32
  let v311 : Index := Scalar.indexCast c0_i32_332
  let c14_i32 : BitVec 32 := 14#32
  let v312 : Index := Scalar.indexCast c14_i32
  let c0_i32_317 : BitVec 32 := 0#32
  let c1_i32_319 : BitVec 32 := 1#32
  let arg13 : BitVec 32 := Scf.iv c0_i32_317 c1_i32_319 k1_t47
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 14, v313.toNat]
def k1_off418 (k1_t47 : Fin k1_t47_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c14_i32_335 : BitVec 32 := 14#32
  let v318 : Index := Scalar.indexCast c14_i32_335
  let c0_i32_317 : BitVec 32 := 0#32
  let c1_i32_319 : BitVec 32 := 1#32
  let arg13 : BitVec 32 := Scf.iv c0_i32_317 c1_i32_319 k1_t47
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 14, v319.toNat]
def k1_off419 (k1_t47 : Fin k1_t47_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c14_i32_338 : BitVec 32 := 14#32
  let v327 : Index := Scalar.indexCast c14_i32_338
  let c0_i32_317 : BitVec 32 := 0#32
  let c1_i32_319 : BitVec 32 := 1#32
  let arg13 : BitVec 32 := Scf.iv c0_i32_317 c1_i32_319 k1_t47
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 14, v328.toNat]
def k1_off420 (k1_t47 : Fin k1_t47_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c14_i32_340 : BitVec 32 := 14#32
  let v336 : Index := Scalar.indexCast c14_i32_340
  let c0_i32_317 : BitVec 32 := 0#32
  let c1_i32_319 : BitVec 32 := 1#32
  let arg13 : BitVec 32 := Scf.iv c0_i32_317 c1_i32_319 k1_t47
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 14, v337.toNat]
def k1_off421 (k1_t47 : Fin k1_t47_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c14_i32_342 : BitVec 32 := 14#32
  let v345 : Index := Scalar.indexCast c14_i32_342
  let c0_i32_317 : BitVec 32 := 0#32
  let c1_i32_319 : BitVec 32 := 1#32
  let arg13 : BitVec 32 := Scf.iv c0_i32_317 c1_i32_319 k1_t47
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 14, v346.toNat]
def k1_off422 (k1_t47 : Fin k1_t47_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c14_i32_345 : BitVec 32 := 14#32
  let v354 : Index := Scalar.indexCast c14_i32_345
  let c0_i32_317 : BitVec 32 := 0#32
  let c1_i32_319 : BitVec 32 := 1#32
  let arg13 : BitVec 32 := Scf.iv c0_i32_317 c1_i32_319 k1_t47
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 14, v355.toNat]
def k1_off423 (k1_t47 : Fin k1_t47_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c14_i32_347 : BitVec 32 := 14#32
  let v363 : Index := Scalar.indexCast c14_i32_347
  let c0_i32_317 : BitVec 32 := 0#32
  let c1_i32_319 : BitVec 32 := 1#32
  let arg13 : BitVec 32 := Scf.iv c0_i32_317 c1_i32_319 k1_t47
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 14, v364.toNat]
def k1_off424 (k1_t47 : Fin k1_t47_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c14_i32_350 : BitVec 32 := 14#32
  let v372 : Index := Scalar.indexCast c14_i32_350
  let c0_i32_317 : BitVec 32 := 0#32
  let c1_i32_319 : BitVec 32 := 1#32
  let arg13 : BitVec 32 := Scf.iv c0_i32_317 c1_i32_319 k1_t47
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 14, v373.toNat]
def k1_off425 (k1_t47 : Fin k1_t47_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c14_i32_352 : BitVec 32 := 14#32
  let v381 : Index := Scalar.indexCast c14_i32_352
  let c0_i32_317 : BitVec 32 := 0#32
  let c1_i32_319 : BitVec 32 := 1#32
  let arg13 : BitVec 32 := Scf.iv c0_i32_317 c1_i32_319 k1_t47
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 14, v382.toNat]
@[reducible] def k1_t48_loop : Scf.Loop 32 :=
  let c0_i32_321 : BitVec 32 := 0#32
  let c6_i32_322 : BitVec 32 := 6#32
  let v252 : BitVec 32 := Scalar.addi c0_i32_321 c6_i32_322
  let c1_i32_323 : BitVec 32 := 1#32
  ⟨c0_i32_321, v252, c1_i32_323⟩
def k1_off426 (k1_t48 : Fin k1_t48_loop.trips) (c0_i32_330 : BitVec 32) : Fin 3 → Nat :=
  let c0_i32_332 : BitVec 32 := 0#32
  let v311 : Index := Scalar.indexCast c0_i32_332
  let c15_i32 : BitVec 32 := 15#32
  let v312 : Index := Scalar.indexCast c15_i32
  let c0_i32_321 : BitVec 32 := 0#32
  let c1_i32_323 : BitVec 32 := 1#32
  let arg13 : BitVec 32 := Scf.iv c0_i32_321 c1_i32_323 k1_t48
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v313 : Index := Scalar.indexCast v310
  ![0, 15, v313.toNat]
def k1_off427 (k1_t48 : Fin k1_t48_loop.trips) (c0_i32_330 : BitVec 32) : Fin 4 → Nat :=
  let c0_i32_333 : BitVec 32 := 0#32
  let v316 : Index := Scalar.indexCast c0_i32_333
  let c0_i32_334 : BitVec 32 := 0#32
  let v317 : Index := Scalar.indexCast c0_i32_334
  let c15_i32_335 : BitVec 32 := 15#32
  let v318 : Index := Scalar.indexCast c15_i32_335
  let c0_i32_321 : BitVec 32 := 0#32
  let c1_i32_323 : BitVec 32 := 1#32
  let arg13 : BitVec 32 := Scf.iv c0_i32_321 c1_i32_323 k1_t48
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v319 : Index := Scalar.indexCast v310
  ![0, 0, 15, v319.toNat]
def k1_off428 (k1_t48 : Fin k1_t48_loop.trips) (c0_i32_330 : BitVec 32) : Fin 4 → Nat :=
  let c0_i32_336 : BitVec 32 := 0#32
  let v325 : Index := Scalar.indexCast c0_i32_336
  let c1_i32_337 : BitVec 32 := 1#32
  let v326 : Index := Scalar.indexCast c1_i32_337
  let c15_i32_338 : BitVec 32 := 15#32
  let v327 : Index := Scalar.indexCast c15_i32_338
  let c0_i32_321 : BitVec 32 := 0#32
  let c1_i32_323 : BitVec 32 := 1#32
  let arg13 : BitVec 32 := Scf.iv c0_i32_321 c1_i32_323 k1_t48
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v328 : Index := Scalar.indexCast v310
  ![0, 1, 15, v328.toNat]
def k1_off429 (k1_t48 : Fin k1_t48_loop.trips) (c0_i32_330 : BitVec 32) : Fin 4 → Nat :=
  let c0_i32_339 : BitVec 32 := 0#32
  let v334 : Index := Scalar.indexCast c0_i32_339
  let c2_i32 : BitVec 32 := 2#32
  let v335 : Index := Scalar.indexCast c2_i32
  let c15_i32_340 : BitVec 32 := 15#32
  let v336 : Index := Scalar.indexCast c15_i32_340
  let c0_i32_321 : BitVec 32 := 0#32
  let c1_i32_323 : BitVec 32 := 1#32
  let arg13 : BitVec 32 := Scf.iv c0_i32_321 c1_i32_323 k1_t48
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v337 : Index := Scalar.indexCast v310
  ![0, 2, 15, v337.toNat]
def k1_off430 (k1_t48 : Fin k1_t48_loop.trips) (c0_i32_330 : BitVec 32) : Fin 4 → Nat :=
  let c0_i32_341 : BitVec 32 := 0#32
  let v343 : Index := Scalar.indexCast c0_i32_341
  let c3_i32 : BitVec 32 := 3#32
  let v344 : Index := Scalar.indexCast c3_i32
  let c15_i32_342 : BitVec 32 := 15#32
  let v345 : Index := Scalar.indexCast c15_i32_342
  let c0_i32_321 : BitVec 32 := 0#32
  let c1_i32_323 : BitVec 32 := 1#32
  let arg13 : BitVec 32 := Scf.iv c0_i32_321 c1_i32_323 k1_t48
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v346 : Index := Scalar.indexCast v310
  ![0, 3, 15, v346.toNat]
def k1_off431 (k1_t48 : Fin k1_t48_loop.trips) (c0_i32_330 : BitVec 32) : Fin 4 → Nat :=
  let c0_i32_343 : BitVec 32 := 0#32
  let v352 : Index := Scalar.indexCast c0_i32_343
  let c4_i32_344 : BitVec 32 := 4#32
  let v353 : Index := Scalar.indexCast c4_i32_344
  let c15_i32_345 : BitVec 32 := 15#32
  let v354 : Index := Scalar.indexCast c15_i32_345
  let c0_i32_321 : BitVec 32 := 0#32
  let c1_i32_323 : BitVec 32 := 1#32
  let arg13 : BitVec 32 := Scf.iv c0_i32_321 c1_i32_323 k1_t48
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v355 : Index := Scalar.indexCast v310
  ![0, 4, 15, v355.toNat]
def k1_off432 (k1_t48 : Fin k1_t48_loop.trips) (c0_i32_330 : BitVec 32) : Fin 4 → Nat :=
  let c0_i32_346 : BitVec 32 := 0#32
  let v361 : Index := Scalar.indexCast c0_i32_346
  let c5_i32 : BitVec 32 := 5#32
  let v362 : Index := Scalar.indexCast c5_i32
  let c15_i32_347 : BitVec 32 := 15#32
  let v363 : Index := Scalar.indexCast c15_i32_347
  let c0_i32_321 : BitVec 32 := 0#32
  let c1_i32_323 : BitVec 32 := 1#32
  let arg13 : BitVec 32 := Scf.iv c0_i32_321 c1_i32_323 k1_t48
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v364 : Index := Scalar.indexCast v310
  ![0, 5, 15, v364.toNat]
def k1_off433 (k1_t48 : Fin k1_t48_loop.trips) (c0_i32_330 : BitVec 32) : Fin 4 → Nat :=
  let c0_i32_348 : BitVec 32 := 0#32
  let v370 : Index := Scalar.indexCast c0_i32_348
  let c6_i32_349 : BitVec 32 := 6#32
  let v371 : Index := Scalar.indexCast c6_i32_349
  let c15_i32_350 : BitVec 32 := 15#32
  let v372 : Index := Scalar.indexCast c15_i32_350
  let c0_i32_321 : BitVec 32 := 0#32
  let c1_i32_323 : BitVec 32 := 1#32
  let arg13 : BitVec 32 := Scf.iv c0_i32_321 c1_i32_323 k1_t48
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v373 : Index := Scalar.indexCast v310
  ![0, 6, 15, v373.toNat]
def k1_off434 (k1_t48 : Fin k1_t48_loop.trips) (c0_i32_330 : BitVec 32) : Fin 4 → Nat :=
  let c0_i32_351 : BitVec 32 := 0#32
  let v379 : Index := Scalar.indexCast c0_i32_351
  let c7_i32 : BitVec 32 := 7#32
  let v380 : Index := Scalar.indexCast c7_i32
  let c15_i32_352 : BitVec 32 := 15#32
  let v381 : Index := Scalar.indexCast c15_i32_352
  let c0_i32_321 : BitVec 32 := 0#32
  let c1_i32_323 : BitVec 32 := 1#32
  let arg13 : BitVec 32 := Scf.iv c0_i32_321 c1_i32_323 k1_t48
  let c4_i32_329 : BitVec 32 := 4#32
  let v308 : BitVec 32 := Scalar.muli arg13 c4_i32_329
  let v309 : BitVec 32 := Scalar.addi v308 c0_i32_330
  let c16_i32_331 : BitVec 32 := 16#32
  let v310 : BitVec 32 := Scalar.muli v309 c16_i32_331
  let v382 : Index := Scalar.indexCast v310
  ![0, 7, 15, v382.toNat]
def k1_cond1 (i : grid1.Coords) : BitVec 1 :=
  let arg0 : BitVec 32 := BitVec.ofNat 32 (i 0).val
  let c0_i32_325 : BitVec 32 := 0#32
  let v302 : BitVec 1 := Scalar.cmpi .eq arg0 c0_i32_325
  let v303 : BitVec 32 := Scalar.extui v302
  let c0_i32_326 : BitVec 32 := 0#32
  let v304 : BitVec 1 := Scalar.cmpi .ne v303 c0_i32_326
  v304

def k1_off435 (i : grid1.Coords) : Fin 2 → Nat :=
  let arg1 : BitVec 32 := BitVec.ofNat 32 (i 1).val
  let c0_i32_329_r0 : BitVec 32 := 0#32
  ![arg1.toNat, 0]
def k1_cond2 (i : grid1.Coords) : BitVec 1 :=
  let arg0 : BitVec 32 := BitVec.ofNat 32 (i 0).val
  let c1_i32_327 : BitVec 32 := 1#32
  let v305 : BitVec 1 := Scalar.cmpi .eq arg0 c1_i32_327
  let v306 : BitVec 32 := Scalar.extui v305
  let c0_i32_328 : BitVec 32 := 0#32
  let v307 : BitVec 1 := Scalar.cmpi .ne v306 c0_i32_328
  v307

def k1_off436 (i : grid1.Coords) : Fin 2 → Nat :=
  let arg1 : BitVec 32 := BitVec.ofNat 32 (i 1).val
  let c0_i32_329_r1 : BitVec 32 := 0#32
  ![arg1.toNat, 0]
abbrev grid2 : Pipeline.Grid := .none

abbrev stage2_0 : Fin 1 → Memref sig .tc .vmem S4x4x8x2x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x4x8x2x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S8x8x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .smem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x5x384x384 : Shape := ⟨4, ![2, 5, 384, 384]⟩
abbrev S2x5x8x384x384 : Shape := ⟨5, ![2, 5, 8, 384, 384]⟩
abbrev S2x4x384x384 : Shape := ⟨4, ![2, 4, 384, 384]⟩
abbrev S2x4x8x384x384 : Shape := ⟨5, ![2, 4, 8, 384, 384]⟩
abbrev S_ : Shape := ⟨0, ![]⟩
abbrev S2x4x8 : Shape := ⟨3, ![2, 4, 8]⟩
abbrev S2x4x1x384x384 : Shape := ⟨5, ![2, 4, 1, 384, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x5x384x384, .f32⟩
  | .hbm, ⟨1, _⟩ => ⟨S2x5x8x384x384, .f32⟩
  | .hbm, ⟨2, _⟩ => ⟨S2x4x384x384, .f32⟩
  | .hbm, ⟨3, _⟩ => ⟨S2x4x8x384x384, .f32⟩
  | .hbm, ⟨4, _⟩ => ⟨S_, .f32⟩
  | .hbm, ⟨5, _⟩ => ⟨S2x4x8, .f32⟩
  | .hbm, ⟨6, _⟩ => ⟨S_, .f32⟩
  | .hbm, ⟨7, _⟩ => ⟨S2x4x8, .f32⟩
  | .hbm, ⟨8, _⟩ => ⟨S2x4x8, .f32⟩
  | .hbm, ⟨9, _⟩ => ⟨S_, .f32⟩
  | .hbm, ⟨10, _⟩ => ⟨S2x4x8, .f32⟩
  | .hbm, ⟨11, _⟩ => ⟨S2x4x8, .f32⟩
  | .hbm, ⟨12, _⟩ => ⟨S2x4x1x384x384, .f32⟩
  | .hbm, ⟨13, _⟩ => ⟨S2x4x8x384x384, .f32⟩
  | .hbm, ⟨14, _⟩ => ⟨S2x4x8x384x384, .f32⟩
  | .hbm, ⟨15, _⟩ => ⟨S_, .f32⟩
  | .hbm, ⟨16, _⟩ => ⟨S2x4x8, .f32⟩
  | .hbm, ⟨17, _⟩ => ⟨S2x4x8, .f32⟩
  | .hbm, ⟨18, _⟩ => ⟨S_, .f32⟩
  | .hbm, ⟨19, _⟩ => ⟨S2x4x8, .f32⟩
  | .hbm, ⟨20, _⟩ => ⟨S2x4x8, .i1⟩
  | .hbm, ⟨21, _⟩ => ⟨S2x4x8, .f32⟩
  | .hbm, ⟨22, _⟩ => ⟨S_, .f32⟩
  | .hbm, ⟨23, _⟩ => ⟨S_, .f32⟩
  | .hbm, ⟨24, _⟩ => ⟨S2x4x8, .f32⟩
  | .hbm, ⟨25, _⟩ => ⟨S2x4x8, .f32⟩
  | .hbm, ⟨26, _⟩ => ⟨S2x4x8, .f32⟩
  | .hbm, ⟨27, _⟩ => ⟨S_, .f32⟩
  | .hbm, ⟨28, _⟩ => ⟨S2x4x8, .f32⟩
  | .hbm, ⟨29, _⟩ => ⟨S2x4x8, .i1⟩
  | .hbm, ⟨30, _⟩ => ⟨S2x4x8, .f32⟩
  | .hbm, ⟨31, _⟩ => ⟨S_, .f32⟩
  | .hbm, ⟨32, _⟩ => ⟨S_, .f32⟩
  | .hbm, ⟨33, _⟩ => ⟨S2x4x8, .f32⟩
  | .hbm, ⟨34, _⟩ => ⟨S2x4x8, .f32⟩
  | .hbm, ⟨35, _⟩ => ⟨S2x4x8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S2x5x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Proof.SameText.lean ====
/-
  The lowered kernel and the idealized one are the same text: no operation was rewritten, so at the machine's floats
  their body tables and their threads are equal.
-/
module

public import proofs.«01_k».proof.Proof.Gen.Kernel
public import proofs.«01_k».proof.Proof.Gen.KernelIdeal
public import Idealize.ShloMosaic.PureOps.BitExact

@[expose] public section

noncomputable section

namespace Cert.Proof

open Idealize.ShloMosaic Idealize.SL.Sem

set_option maxRecDepth 65536
set_option maxHeartbeats 4000000

/-- Body by body. -/
theorem body_same (p ℓ a) :
    @Cert.Kernel.defs₀ Bits _ Cert.Kernel.Gen.facts p ℓ a = @Cert.KernelIdeal.defs₀ Bits _ Cert.KernelIdeal.Gen.facts p ℓ a :=
  match p, ℓ, a with
  | .tc, 0, (_, _) => rfl
  | .tc, 1, _ => rfl
  | .tc, 2, (_, _) => rfl
  | .scScalar _, 0, _ => rfl
  | .scScalar _, 1, _ => rfl
  | .scScalar _, 2, _ => rfl
  | .scVector _ _, 0, _ => rfl
  | .scVector _ _, 1, _ => by
    unfold Cert.Kernel.defs₀ Cert.KernelIdeal.defs₀
    dsimp only
    unfold SparseCore.onTile
    exact dite_congr rfl (fun _ => rfl) (fun _ => rfl)
  | .scVector _ _, 2, _ => rfl

theorem bodies_same : @Cert.Kernel.defs₀ Bits _ Cert.Kernel.Gen.facts = @Cert.KernelIdeal.defs₀ Bits _ Cert.KernelIdeal.Gen.facts :=
  funext fun p => funext fun l => funext fun a => body_same p l a

theorem tables_same : Cert.Kernel.sc.defs (Pipeline.defs Cert.Kernel.pcfgs (@Cert.KernelIdeal.defs₀ Bits _ Cert.KernelIdeal.Gen.facts))
    = Cert.KernelIdeal.sc.defs (Pipeline.defs Cert.KernelIdeal.pcfgs (@Cert.KernelIdeal.defs₀ Bits _ Cert.KernelIdeal.Gen.facts)) := rfl

theorem defs_same : @Cert.Kernel.defs Bits _ Cert.Kernel.Gen.facts = @Cert.KernelIdeal.defs Bits _ Cert.KernelIdeal.Gen.facts :=
  (congrArg (fun b => Cert.Kernel.sc.defs (Pipeline.defs Cert.Kernel.pcfgs b)) bodies_same).trans tables_same

theorem threads_same : @Cert.Kernel.threads Bits _ Cert.Kernel.Gen.facts = @Cert.KernelIdeal.threads Bits _ Cert.KernelIdeal.Gen.facts := rfl

end Cert.Proof

end
-- ==== Proof.RowProg.lean ====
/-
  One row of a band, and the sixteen rows of it, as one program over the slot and the row.

  The printed kernel unrolls the sixteen rows of a band into sixteen counted loops, and each trip of one into
  four vector columns. Here the trip is written once; the printed loops are it by unfolding.
-/
module

public import proofs.«01_k».proof.KernelIdeal

@[expose] public section

noncomputable section

namespace Cert.Proof

open Cert.KernelIdeal
open Idealize.ShloMosaic
open Idealize.SL.Sem

variable {F : FTy → Type} [FloatOps F] [Facts]

open Facts₀ Facts

/-- A register of sixteen lanes. -/
abbrev V16 (F : FTy → Type) := FVec F S16 .f32

/-- The loop's sixteen carried registers: eight sums of masks, then eight sums of masks times logits. -/
abbrev Acc (F : FTy → Type) :=
  V16 F × V16 F × V16 F × V16 F × V16 F × V16 F × V16 F × V16 F
    × V16 F × V16 F × V16 F × V16 F × V16 F × V16 F × V16 F × V16 F

/-- The carried registers, from the two families. -/
def tup (b a : Fin 8 → V16 F) : Acc F :=
  (b 0, b 1, b 2, b 3, b 4, b 5, b 6, b 7, a 0, a 1, a 2, a 3, a 4, a 5, a 6, a 7)

/-- The six trips of a row. -/
@[reducible] def rowLoop : Scf.Loop 32 := ⟨0#32, Scalar.addi 0#32 6#32, 1#32⟩

theorem rowLoop_ok : rowLoop.OK := by decide

/-- The first lane's column at trip `k`, vector `u` of the four. -/
def col (k : Fin rowLoop.trips) (u : BitVec 32) : ℕ :=
  (Scalar.indexCast (Scalar.muli (Scalar.addi (Scalar.muli (Scf.iv 0#32 1#32 k) 4#32) u) 16#32)).toNat

theorem col_eq : ∀ (k : Fin rowLoop.trips) (u : Fin 4), col k (BitVec.ofNat 32 u.val) = 64 * k.val + 16 * u.val := by
  decide +kernel

/-- Where the logits of row `r` of slot `sl` are read at column `c`. -/
def offL (sl r c : ℕ) : Fin 3 → ℕ := ![sl, r, c]

/-- Where mask `n` of row `r` of slot `sl` is read at column `c`. -/
def offM (sl n r c : ℕ) : Fin 4 → ℕ := ![sl, n, r, c]

theorem offL_inb {sl r c : ℕ} (hs : sl < 2) (hr : r < 16) (hc : c + 16 ≤ 384) :
    ∀ a, offL sl r c a + S1x1x16.size a ≤ S2x16x384.size a := by
  intro a
  match a with
  | 0 => exact hs
  | 1 => exact hr
  | 2 => exact hc

theorem offM_inb {sl n r c : ℕ} (hs : sl < 2) (hn : n < 8) (hr : r < 16) (hc : c + 16 ≤ 384) :
    ∀ a, offM sl n r c a + S1x1x1x16.size a ≤ S2x8x16x384.size a := by
  intro a
  match a with
  | 0 => exact hs
  | 1 => exact hn
  | 2 => exact hr
  | 3 => exact hc

theorem col_le (k : Fin rowLoop.trips) (u : Fin 4) : col k (BitVec.ofNat 32 u.val) + 16 ≤ 384 := by
  have hk : k.val < 6 := k.isLt
  have := u.isLt
  rw [col_eq]; omega

abbrev TP (F : FTy → Type) (i : grid1.Coords) (α : Type) :=
  Prog (TpuEff nD τ sig (Elt F) Λ₀ (.scVector ((i 0).castLE hcore1) ((i 1).castLE hsub1))) α

section
variable (i : grid1.Coords) (arg6 : Memref sig .scVector .vmem S2x16x384 .f32)
  (arg7 : Memref sig .scVector .vmem S2x8x16x384 .f32) (sl r : ℕ) (hs : sl < 2) (hr : r < 16)

/-- The logits' sixteen lanes. -/
def ldL (k : Fin rowLoop.trips) (u : Fin 4) : TP F i (Vec F S1x1x16 .f32) :=
  Prog.lift (.load arg6 (Rect.unit (s := S2x16x384) (offL sl r (col k (BitVec.ofNat 32 u.val))) S1x1x16.size
    (offL_inb hs hr (col_le k u))).toLoadRect (View.loadsAt_vmem h_S1x1x16))

/-- Mask `n`'s sixteen lanes. -/
def ldM (k : Fin rowLoop.trips) (u : Fin 4) (n : ℕ) (hn : n < 8) : TP F i (Vec F S1x1x1x16 .f32) :=
  Prog.lift (.load arg7 (Rect.unit (s := S2x8x16x384) (offM sl n r (col k (BitVec.ofNat 32 u.val))) S1x1x1x16.size
    (offM_inb hs hn hr (col_le k u))).toLoadRect (View.loadsAt_vmem h_S1x1x1x16))

/-- One mask's two sums carried on by one vector. -/
def stepV (b a : V16 F) (l : Vec F S1x1x16 .f32) (m : Vec F S1x1x1x16 .f32) : V16 F × V16 F :=
  (addf b (shapeCast S16 m shapeCasts_S1x1x1x16_S16),
   addf a (mulf (shapeCast S16 m shapeCasts_S1x1x1x16_S16) (shapeCast S16 l shapeCasts_S1x1x16_S16)))

/-- One vector column: the logits' lanes once, each mask's lanes, and the sixteen sums. -/
def rowStep (k : Fin rowLoop.trips) (u : Fin 4) : Acc F → TP F i (Acc F) :=
  fun (b0, b1, b2, b3, b4, b5, b6, b7, a0, a1, a2, a3, a4, a5, a6, a7) => do
    let l ← ldL i arg6 sl r hs hr k u
    let m0 ← ldM i arg7 sl r hs hr k u 0 (by decide)
    let m1 ← ldM i arg7 sl r hs hr k u 1 (by decide)
    let m2 ← ldM i arg7 sl r hs hr k u 2 (by decide)
    let m3 ← ldM i arg7 sl r hs hr k u 3 (by decide)
    let m4 ← ldM i arg7 sl r hs hr k u 4 (by decide)
    let m5 ← ldM i arg7 sl r hs hr k u 5 (by decide)
    let m6 ← ldM i arg7 sl r hs hr k u 6 (by decide)
    let m7 ← ldM i arg7 sl r hs hr k u 7 (by decide)
    pure ((stepV b0 a0 l m0).1, (stepV b1 a1 l m1).1, (stepV b2 a2 l m2).1, (stepV b3 a3 l m3).1,
      (stepV b4 a4 l m4).1, (stepV b5 a5 l m5).1, (stepV b6 a6 l m6).1, (stepV b7 a7 l m7).1,
      (stepV b0 a0 l m0).2, (stepV b1 a1 l m1).2, (stepV b2 a2 l m2).2, (stepV b3 a3 l m3).2,
      (stepV b4 a4 l m4).2, (stepV b5 a5 l m5).2, (stepV b6 a6 l m6).2, (stepV b7 a7 l m7).2)

/-- One trip: four vector columns. -/
def rowBody (k : Fin rowLoop.trips) (c : Acc F) : TP F i (Acc F) := do
  let c ← rowStep i arg6 arg7 sl r hs hr k 0 c
  let c ← rowStep i arg6 arg7 sl r hs hr k 1 c
  let c ← rowStep i arg6 arg7 sl r hs hr k 2 c
  rowStep i arg6 arg7 sl r hs hr k 3 c

/-- One row: six trips. -/
def rowProg (c : Acc F) : TP F i (Acc F) :=
  Scf.Loop.for rowLoop rowLoop_ok c (rowBody i arg6 arg7 sl r hs hr)
end

/-- Some rows of a slot, one after the other, and then `g`. -/
def rowsProg (i : grid1.Coords) (arg6 : Memref sig .scVector .vmem S2x16x384 .f32)
    (arg7 : Memref sig .scVector .vmem S2x8x16x384 .f32) (sl : ℕ) (hs : sl < 2) {α : Type} :
    List (Fin 16) → Acc F → (Acc F → TP F i α) → TP F i α
  | [], c, g => g c
  | r :: rs, c, g => rowProg i arg6 arg7 sl r.val hs r.isLt c >>= fun c => rowsProg i arg6 arg7 sl hs rs c g

end Cert.Proof
-- ==== Proof.TileProg.lean ====
/-
  The SparseCore kernel's transfers and waits, over the band and the slot, and the shapes of what its windows hand on.
-/
module

public import proofs.«01_k».proof.Proof.RowProg

@[expose] public section

noncomputable section

namespace Cert.Proof

open Cert.KernelIdeal
open Idealize.ShloMosaic
open Idealize.SL.Sem

variable {F : FTy → Type} [FloatOps F] [Facts]

open Facts₀ Facts

/-- Sixteen registers handed from one window of the kernel to the next. -/
abbrev OutV (F : FTy → Type) := Σ' (_ : V16 F) (_ : V16 F) (_ : V16 F) (_ : V16 F) (_ : V16 F) (_ : V16 F) (_ : V16 F) (_ : V16 F)
  (_ : V16 F) (_ : V16 F) (_ : V16 F) (_ : V16 F) (_ : V16 F) (_ : V16 F) (_ : V16 F), V16 F

/-- The same with a word after them. -/
abbrev OutB (F : FTy → Type) := Σ' (_ : V16 F) (_ : V16 F) (_ : V16 F) (_ : V16 F) (_ : V16 F) (_ : V16 F) (_ : V16 F) (_ : V16 F)
  (_ : V16 F) (_ : V16 F) (_ : V16 F) (_ : V16 F) (_ : V16 F) (_ : V16 F) (_ : V16 F) (_ : V16 F), BitVec 32

def outV : Acc F → OutV F :=
  fun (b0, b1, b2, b3, b4, b5, b6, b7, a0, a1, a2, a3, a4, a5, a6, a7) =>
    ⟨b0, b1, b2, b3, b4, b5, b6, b7, a0, a1, a2, a3, a4, a5, a6, a7⟩

def outB (w : BitVec 32) : Acc F → OutB F :=
  fun (b0, b1, b2, b3, b4, b5, b6, b7, a0, a1, a2, a3, a4, a5, a6, a7) =>
    ⟨b0, b1, b2, b3, b4, b5, b6, b7, a0, a1, a2, a3, a4, a5, a6, a7, w⟩

/-- Band `r`'s rows of the logits, in the argument. -/
@[reducible] def srcL (i : grid1.Coords) (arg2 : Memref sig .scVector .hbm S2x5x384x384 .f32) (r : Fin 3) :
    Memref sig .scVector .hbm S16x384 .f32 :=
  (arg2.slice (Rect.unit (s := S2x5x384x384) (k1_off1 i (BitVec.ofNat 32 (16 * r.val))) S1x1x16x384.size (k1_off1_inb i r)) (fun _ => rfl)).squeeze
    S16x384 squeezes_S1x1x16x384_S16x384

/-- Band `r`'s rows of the eight masks, in the argument. -/
@[reducible] def srcM (i : grid1.Coords) (arg3 : Memref sig .scVector .hbm S2x5x8x384x384 .f32) (r : Fin 3) :
    Memref sig .scVector .hbm S8x16x384 .f32 :=
  (arg3.slice (Rect.unit (s := S2x5x8x384x384) (k1_off2 i (BitVec.ofNat 32 (16 * r.val))) S1x1x8x16x384.size (k1_off2_inb i r)) (fun _ => rfl)).squeeze
    S8x16x384 squeezes_S1x1x8x16x384_S8x16x384

theorem slotL_inb {sl : ℕ} (hs : sl < 2) : ∀ a, (![sl, 0, 0] : Fin 3 → ℕ) a + S1x16x384.size a ≤ S2x16x384.size a := by
  intro a
  match a with
  | 0 => exact hs
  | 1 => exact Nat.le_of_eq rfl
  | 2 => exact Nat.le_of_eq rfl

theorem slotM_inb {sl : ℕ} (hs : sl < 2) : ∀ a, (![sl, 0, 0, 0] : Fin 4 → ℕ) a + S1x8x16x384.size a ≤ S2x8x16x384.size a := by
  intro a
  match a with
  | 0 => exact hs
  | 1 => exact Nat.le_of_eq rfl
  | 2 => exact Nat.le_of_eq rfl
  | 3 => exact Nat.le_of_eq rfl

/-- Slot `sl` of the logits' scratch. -/
@[reducible] def dstL (arg6 : Memref sig .scVector .vmem S2x16x384 .f32) {sl : ℕ} (hs : sl < 2) :
    Memref sig .scVector .vmem S16x384 .f32 :=
  (arg6.slice (Rect.unit (s := S2x16x384) ![sl, 0, 0] S1x16x384.size (slotL_inb hs)) (fun _ => rfl)).squeeze
    S16x384 squeezes_S1x16x384_S16x384

/-- Slot `sl` of the masks' scratch. -/
@[reducible] def dstM (arg7 : Memref sig .scVector .vmem S2x8x16x384 .f32) {sl : ℕ} (hs : sl < 2) :
    Memref sig .scVector .vmem S8x16x384 .f32 :=
  (arg7.slice (Rect.unit (s := S2x8x16x384) ![sl, 0, 0, 0] S1x8x16x384.size (slotM_inb hs)) (fun _ => rfl)).squeeze
    S8x16x384 squeezes_S1x8x16x384_S8x16x384

section
variable (i : grid1.Coords) (arg2 : Memref sig .scVector .hbm S2x5x384x384 .f32) (arg3 : Memref sig .scVector .hbm S2x5x8x384x384 .f32)
  (arg6 : Memref sig .scVector .vmem S2x16x384 .f32) (arg7 : Memref sig .scVector .vmem S2x8x16x384 .f32)
  (sem : DmaSems sig S_) (r : Fin 3) {sl : ℕ} (hs : sl < 2)

/-- Band `r`'s logits set going into slot `sl`. -/
def enqL : TP F i PUnit :=
  Prog.lift (.enqueueDma (srcL i arg2 r) (.here (dstL arg6 hs)) (.dma sem.sem) ((View.wordExact_bits rfl).reshape _ _)
    ((View.wordExact_bits rfl).reshape _ _) ⟨Or.inl rfl, trivial⟩)

/-- Band `r`'s masks set going into slot `sl`. -/
def enqM : TP F i PUnit :=
  Prog.lift (.enqueueDma (srcM i arg3 r) (.here (dstM arg7 hs)) (.dma sem.sem) ((View.wordExact_bits rfl).reshape _ _)
    ((View.wordExact_bits rfl).reshape _ _) ⟨Or.inl rfl, trivial⟩)

/-- The wait for band `r`'s logits. -/
def waitL : TP F i PUnit :=
  Prog.lift (.waitDma2 sem.sem (srcL i arg2 r) (dstL arg6 hs) ((View.wordExact_bits rfl).reshape _ _) ((View.wordExact_bits rfl).reshape _ _))

/-- The wait for band `r`'s masks. -/
def waitM : TP F i PUnit :=
  Prog.lift (.waitDma2 sem.sem (srcM i arg3 r) (dstM arg7 hs) ((View.wordExact_bits rfl).reshape _ _) ((View.wordExact_bits rfl).reshape _ _))
end

/-- The register of zeros every sum starts from. -/
def zero16 : V16 F := broadcast S16 (Scalar.ofBits .f32 0x00000000#32)

end Cert.Proof
-- ==== Proof.Base.lean ====
/-
  The program as the launch theorem sees it, its buffers, and the threads of its SparseCores.
-/
module

public import proofs.«01_k».proof.Proof.TileProg
public import proofs.«01_k».proof.Proof.Gen.KernelIdeal
public import Idealize.ShloMosaic.Lib.SparseCore.Quiescent
public import Idealize.ShloMosaic.Lib.SparseCore.Ops
public import Idealize.ShloMosaic.Lib.SparseCore.FromWhole
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, and the transfers' counters. -/
abbrev UH : Type := URounds (GSem nD τ sig) ℕ
abbrev UP : Type := URounds (GSem nD τ sig) Unit
abbrev UU : Type := UH × (UP × Counters)

/-- The model's resources. -/
abbrev M (F : FTy → Type) : Type := MT nD τ sig (HIx 1) (Elt F) ℕ UU ℕ

abbrev EH : Emb UH (M F) := embL

/-- The pipelines' rounds. -/
def EP : Emb UP (M F) := (Emb.inl : Emb UP (UP × Counters)).trans embR
instance : (EP (F := F)).LandsIn (upEmb : UEmb _ (M F)) := by unfold EP; infer_instance

/-- The counters of the local transfers. -/
abbrev EC : UEmb Counters (M F) := countersEmb

/-- The kernel's operands: the two arguments, the two results, the three scratch buffers. -/
abbrev xV : Memref sig .scVector .hbm S2x5x384x384 .f32 := Memref.whole main_arg0_scv
abbrev yV : Memref sig .scVector .hbm S2x5x8x384x384 .f32 := Memref.whole main_arg1_scv
abbrev oV0 : Memref sig .scVector .hbm S16x256 .f32 := Memref.whole main_v1_0_scv
abbrev oV1 : Memref sig .scVector .hbm S16x256 .f32 := Memref.whole main_v1_1_scv
abbrev lV : Memref sig .scVector .vmem S2x16x384 .f32 := Memref.whole cc1_scratch0
abbrev mV : Memref sig .scVector .vmem S2x8x16x384 .f32 := Memref.whole cc1_scratch1
abbrev aV : Memref sig .scVector .vmem S256 .f32 := Memref.whole cc1_scratch2

/-- The subcore at grid coordinates `L`. -/
abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

end Cert.Proof
-- ==== Proof.TcRuns.lean ====
/-
  The two TensorCore kernels, each run once: what each leaves in its result's staging buffer, as a function of
  what its operands' buffers hold.
-/
module

public import proofs.«01_k».proof.Proof.Base
public import proofs.«01_k».proof.Proof.Gen.KernelIdeal.Skeleton
public import Idealize.ShloMosaic.Lib.VecWindow

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The place of object `n` in a column of the block's result. -/
def ix8 (n : Fin 8) : S1x1x8x1.Idx := fun
  | 0 => ⟨0, by decide⟩ | 1 => ⟨0, by decide⟩ | 2 => n | 3 => ⟨0, by decide⟩

/-- What the first kernel leaves of a block: per object the box sum, then the activation sum. -/
def mainBlk (v0 : Vec F S1x1x192x384 .f32) (v2 : Vec F S1x1x8x192x384 .f32) : Vec F S1x1x8x2 .f32 :=
  fun i => if (i 3).val = 0 then k0_pay2 v2 (ix8 (i 2)) else k0_pay3 v0 v2 (ix8 (i 2))

/-- What the last kernel leaves. -/
def combBlk (v0 v8 : Vec F S4x4x8x2x16 .f32) (v16 : Vec F S8x8x2 .f32) : Vec F S1x1 .f32 :=
  fun _ => k2_pay1 (k2_pay7 v0 v8 v16) (k2_pay8 v0 v8 v16) (k2_pay9 (F := F))

theorem rd_slice {sp : Space} {S : Shape} {e : EltTy} (M : Memref sig .tc sp S e) (r : Rect S) (f : M.view.ty.Contents (Elt F)) (g : r.shape.Idx → Elt F e) (y : r.shape.Idx) :
    M.view.read (Elt F) ((M.access r).write (Elt F) f g Finset.univ) (r.emb y) = g y := by
  have h := congrFun (View.read_write_univ (Val := Elt F) (v := M.access r) f g) y
  exact h

theorem rd_slice_out {sp : Space} {S : Shape} {e : EltTy} (M : Memref sig .tc sp S e) (r : Rect S) (f : M.view.ty.Contents (Elt F)) (g : r.shape.Idx → Elt F e) (x : S.Idx)
    (hx : ∀ y, r.emb y ≠ x) :
    M.view.read (Elt F) ((M.access r).write (Elt F) f g Finset.univ) x = M.view.read (Elt F) f x := by
  rw [View.read_apply, View.read_apply]
  refine congrArg _ (View.write_of_not_mem _ _ _ fun h => ?_)
  obtain ⟨y, -, hy⟩ := Finset.mem_map.mp h
  exact hx y (M.view.emb.injective hy)

/-- The two columns written, the block stands. -/
theorem mainBlk_written (M : Memref sig .tc .vmem S1x1x8x2 .f32) (f : M.view.ty.Contents (Elt F)) (v0 : Vec F S1x1x192x384 .f32) (v2 : Vec F S1x1x8x192x384 .f32)
    (h0 : ∀ a, (![0, 0, 0, 0] : Fin 4 → ℕ) a + S1x1x8x1.size a ≤ S1x1x8x2.size a) (h1 : ∀ a, (![0, 0, 0, 1] : Fin 4 → ℕ) a + S1x1x8x1.size a ≤ S1x1x8x2.size a) :
    M.view.read (Elt F) ((M.access (Rect.unit (s := S1x1x8x2) ![0, 0, 0, 1] S1x1x8x1.size h1)).write (Elt F)
      ((M.access (Rect.unit (s := S1x1x8x2) ![0, 0, 0, 0] S1x1x8x1.size h0)).write (Elt F) f (k0_pay2 v2) Finset.univ) (k0_pay3 v0 v2) Finset.univ) = mainBlk v0 v2 := by
  funext x
  have hx0 : (x 0).val = 0 := by have : (x 0).val < 1 := (x 0).isLt; omega
  have hx1 : (x 1).val = 0 := by have : (x 1).val < 1 := (x 1).isLt; omega
  have hx3 : (x 3).val < 2 := (x 3).isLt
  unfold mainBlk
  split
  · rename_i h
    rw [rd_slice_out]
    · have e : x = (Rect.unit (s := S1x1x8x2) ![0, 0, 0, 0] S1x1x8x1.size h0).emb (ix8 (x 2)) := by
        funext a; apply Fin.ext; rw [Rect.emb_apply]
        match a with
        | 0 => show (x 0).val = 0 + 1 * 0; omega
        | 1 => show (x 1).val = 0 + 1 * 0; omega
        | 2 => show (x 2).val = 0 + 1 * (x 2).val; omega
        | 3 => show (x 3).val = 0 + 1 * 0; omega
      conv_lhs => rw [e]
      exact rd_slice M _ _ _ _
    · intro y hy
      have := congrArg (fun z => (z 3).val) hy
      change 1 + 1 * (y 3).val = (x 3).val at this
      omega
  · rename_i h
    have e : x = (Rect.unit (s := S1x1x8x2) ![0, 0, 0, 1] S1x1x8x1.size h1).emb (ix8 (x 2)) := by
      funext a; apply Fin.ext; rw [Rect.emb_apply]
      match a with
      | 0 => show (x 0).val = 0 + 1 * 0; omega
      | 1 => show (x 1).val = 0 + 1 * 0; omega
      | 2 => show (x 2).val = 0 + 1 * (x 2).val; omega
      | 3 => show (x 3).val = 1 + 1 * 0; omega
    conv_lhs => rw [e]
    exact rd_slice M _ _ _ _

theorem combBlk_written (M : Memref sig .tc .smem S1x1 .f32) (f : M.view.ty.Contents (Elt F)) (v : F .f32)
    (h0 : ∀ a, (![0, 0] : Fin 2 → ℕ) a + S1x1.size a ≤ S1x1.size a) :
    M.view.read (Elt F) ((M.access (Rect.unit (s := S1x1) ![0, 0] S1x1.size h0)).write (Elt F) f (fun _ => v) Finset.univ) = fun _ => v := by
  funext x
  have e : x = (Rect.unit (s := S1x1) ![0, 0] S1x1.size h0).emb x := by
    funext a; apply Fin.ext; rw [Rect.emb_apply]
    match a with
    | 0 => show (x 0).val = 0 + 1 * (x 0).val; omega
    | 1 => show (x 1).val = 0 + 1 * (x 1).val; omega
  conv_lhs => rw [e]
  exact rd_slice M _ _ (fun _ => v) _

variable (c : Dev nD)

local notation "WP" => wp frame (wpE (defs₀ (F := F)) 𝒱₀ (c : Thread nD τ) none) Set.univ

/-- The first kernel's run at a block. -/
theorem main_run (i : grid0.Coords) (M0 : Memref sig .tc .vmem S1x1x192x384 .f32) (h0 : M0.IsWhole) (M1 : Memref sig .tc .vmem S1x1x8x192x384 .f32) (h1 : M1.IsWhole)
    (M2 : Memref sig .tc .vmem S1x1x8x2 .f32) (h2 : M2.IsWhole) (v0 : Vec F S1x1x192x384 .f32) (v2 : Vec F S1x1x8x192x384 .f32) (X : Vec F S1x1x8x2 .f32)
    {Q : PUnit → sProp (M F)} :
    iprop(owns (c : Thread nD τ) M0 fullShare v0 ∗ owns (c : Thread nD τ) M1 fullShare v2 ∗ owns (c : Thread nD τ) M2 fullShare X
        ∗ (iprop(owns (c : Thread nD τ) M0 fullShare v0 ∗ owns (c : Thread nD τ) M1 fullShare v2 ∗ owns (c : Thread nD τ) M2 fullShare (mainBlk v0 v2)) -∗ Q ⟨⟩))
      ⊢ WP (cc0__tc_main_body i M0 h0 M1 h1 M2 h2) Q := by
  rw [cc0__tc_main_body_eq_skeleton]
  unfold cc0__tc_main_body_skel owns
  simp only [Prog.lift, Prog.bind_op, Prog.bind_ret]
  iintro ⟨⟨%f0, %e0, H0⟩, ⟨%f1, %e1, H1⟩, ⟨%f2, -, H2⟩, HQ⟩
  subst e0 e1
  iapply (wp_load 𝒱₀ (c : Thread nD τ) none Set.univ (View.setOn_subset_set _ _)) $$ H0
  iintro H0
  rw [View.readAt_full]
  iapply (wp_load 𝒱₀ (c : Thread nD τ) none Set.univ (View.setOn_subset_set _ _)) $$ H1
  iintro H1
  rw [View.readAt_full]
  iapply (wp_load 𝒱₀ (c : Thread nD τ) none Set.univ (View.setOn_subset_set _ _)) $$ H2
  iintro H2
  iapply (wp_store (m := M2) (r := Rect.unit (s := S1x1x8x2) ![0, 0, 0, 0] S1x1x8x1.size inb_S1x1x8x2_S1x1x8x1_0_0_0_0) 𝒱₀ (c : Thread nD τ) none Set.univ
    ((View.setOn_subset_set _ _).trans (View.set_slice_subset _ _))) $$ H2
  iintro H2
  iapply (wp_load 𝒱₀ (c : Thread nD τ) none Set.univ (View.setOn_subset_set _ _)) $$ H2
  iintro H2
  iapply (wp_store (m := M2) (r := Rect.unit (s := S1x1x8x2) ![0, 0, 0, 1] S1x1x8x1.size inb_S1x1x8x2_S1x1x8x1_0_0_0_1) 𝒱₀ (c : Thread nD τ) none Set.univ
    ((View.setOn_subset_set _ _).trans (View.set_slice_subset _ _))) $$ H2
  iintro H2
  rw [wp_pure]
  imodintro
  iapply HQ
  isplitl [H0]
  · iexists f0; isplitr; · ipureintro; rfl
    iexact H0
  isplitl [H1]
  · iexists f1; isplitr; · ipureintro; rfl
    iexact H1
  iexists _
  isplitr
  swap
  · iexact H2
  ipureintro
  exact mainBlk_written M2 f2 _ _ _ _

/-- The last kernel's run. -/
theorem comb_run (M0 : Memref sig .tc .vmem S4x4x8x2x16 .f32) (h0 : M0.IsWhole) (M1 : Memref sig .tc .vmem S4x4x8x2x16 .f32) (h1 : M1.IsWhole)
    (M2 : Memref sig .tc .vmem S8x8x2 .f32) (h2 : M2.IsWhole) (M3 : Memref sig .tc .smem S1x1 .f32) (h3 : M3.IsWhole)
    (v0 v8 : Vec F S4x4x8x2x16 .f32) (v16 : Vec F S8x8x2 .f32) (X : Vec F S1x1 .f32) {Q : PUnit → sProp (M F)} :
    iprop(owns (c : Thread nD τ) M0 fullShare v0 ∗ owns (c : Thread nD τ) M1 fullShare v8 ∗ owns (c : Thread nD τ) M2 fullShare v16 ∗ owns (c : Thread nD τ) M3 fullShare X
        ∗ (iprop(owns (c : Thread nD τ) M0 fullShare v0 ∗ owns (c : Thread nD τ) M1 fullShare v8 ∗ owns (c : Thread nD τ) M2 fullShare v16
            ∗ owns (c : Thread nD τ) M3 fullShare (combBlk v0 v8 v16)) -∗ Q ⟨⟩))
      ⊢ WP (cc2__combine_body M0 h0 M1 h1 M2 h2 M3 h3) Q := by
  rw [cc2__combine_body_eq_skeleton]
  unfold cc2__combine_body_skel
  rw [k2_part1_eq_skeleton]
  unfold k2_part1_skel owns
  simp only [Prog.lift, Prog.bind_op, Prog.bind_ret, bind_assoc, pure_bind, smemLoad, smemLoadElt]
  iintro ⟨⟨%f0, %e0, H0⟩, ⟨%f1, %e1, H1⟩, ⟨%f2, %e2, H2⟩, ⟨%f3, -, H3⟩, HQ⟩
  subst e0 e1 e2
  iapply (wp_load 𝒱₀ (c : Thread nD τ) none Set.univ (View.setOn_subset_set _ _)) $$ H0
  iintro H0
  rw [View.readAt_full]
  iapply (wp_load 𝒱₀ (c : Thread nD τ) none Set.univ (View.setOn_subset_set _ _)) $$ H1
  iintro H1
  rw [View.readAt_full]
  iapply (wp_load 𝒱₀ (c : Thread nD τ) none Set.univ (View.setOn_subset_set _ _)) $$ H2
  iintro H2
  rw [View.readAt_full]
  iapply (wp_load 𝒱₀ (c : Thread nD τ) none Set.univ (View.setOn_subset_set _ _)) $$ H3
  iintro H3
  iapply (wp_store (m := M3) (r := Rect.unit (s := S1x1) ![0, 0] S1x1.size inb_S1x1_S1x1_0_0) 𝒱₀ (c : Thread nD τ) none Set.univ
    ((View.setOn_subset_set _ _).trans (View.set_slice_subset _ _))) $$ H3
  iintro H3
  rw [wp_pure]
  imodintro
  iapply HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _
  isplitr
  swap
  · iexact H3
  ipureintro
  exact combBlk_written M3 f3 _ _

end Cert.Proof

end
-- ==== Proof.RowRun.lean ====
/-
  The run of some rows of a slot: from the slot of each scratch buffer, holding known numbers, to the sixteen sums
  carried on by those rows.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The sums, as functions of the numbers read -/

/-- The sixteen registers as two families: sums of masks, sums of masks times logits. -/
abbrev St (F : FTy → Type) := (Fin 8 → V16 F) × (Fin 8 → V16 F)

abbrev tupS (s : St F) : Acc F := tup s.1 s.2

/-- Sixteen lanes of logits from row `r`, column `c` on; of mask `n`. -/
def lanesL (X : ℕ → ℕ → F .f32) (r c : ℕ) : Vec F S1x1x16 .f32 := fun x => X r (c + (x 2).val)
def lanesM (Y : ℕ → ℕ → ℕ → F .f32) (n r c : ℕ) : Vec F S1x1x1x16 .f32 := fun x => Y n r (c + (x 3).val)

/-- One vector column. -/
def stepU (X : ℕ → ℕ → F .f32) (Y : ℕ → ℕ → ℕ → F .f32) (r c : ℕ) (s : St F) : St F :=
  (fun n => (stepV (s.1 n) (s.2 n) (lanesL X r c) (lanesM Y n.val r c)).1,
   fun n => (stepV (s.1 n) (s.2 n) (lanesL X r c) (lanesM Y n.val r c)).2)

/-- One trip: columns `64 k`, … -/
def stepK (X : ℕ → ℕ → F .f32) (Y : ℕ → ℕ → ℕ → F .f32) (r k : ℕ) (s : St F) : St F :=
  stepU X Y r (64 * k + 16 * (3 : Fin 4).val) (stepU X Y r (64 * k + 16 * (2 : Fin 4).val)
    (stepU X Y r (64 * k + 16 * (1 : Fin 4).val) (stepU X Y r (64 * k + 16 * (0 : Fin 4).val) s)))

/-- The first `j` trips of a row. -/
def rowTo (X : ℕ → ℕ → F .f32) (Y : ℕ → ℕ → ℕ → F .f32) (r : ℕ) (s : St F) : ℕ → St F
  | 0 => s
  | j + 1 => stepK X Y r j (rowTo X Y r s j)

/-- Some rows, one after the other. -/
def rowsSt (X : ℕ → ℕ → F .f32) (Y : ℕ → ℕ → ℕ → F .f32) : List (Fin 16) → St F → St F
  | [], s => s
  | r :: rs, s => rowsSt X Y rs (rowTo X Y r.val s 6)

/-! ## The slots -/

/-- The index of row `r`, column `c` of slot `sl` of the logits' scratch; of mask `n` in the masks' scratch. -/
def ix3 (sl r c : ℕ) (hs : sl < 2) (hr : r < 16) (hc : c < 384) : S2x16x384.Idx := fun
  | 0 => ⟨sl, hs⟩ | 1 => ⟨r, hr⟩ | 2 => ⟨c, hc⟩
def ix4 (sl n r c : ℕ) (hs : sl < 2) (hn : n < 8) (hr : r < 16) (hc : c < 384) : S2x8x16x384.Idx := fun
  | 0 => ⟨sl, hs⟩ | 1 => ⟨n, hn⟩ | 2 => ⟨r, hr⟩ | 3 => ⟨c, hc⟩

section
variable (d : Dev nD) (L : grid1.Coords) {sl : ℕ} (hs : sl < 2)

theorem slotL_set : (dstL lV hs).view.set = (Rect.unit (s := S2x16x384) ![sl, 0, 0] S1x16x384.size (slotL_inb hs)).set :=
  (View.set_reshape _ _).trans (View.set_slice_whole _ _)
theorem slotM_set : (dstM mV hs).view.set = (Rect.unit (s := S2x8x16x384) ![sl, 0, 0, 0] S1x8x16x384.size (slotM_inb hs)).set :=
  (View.set_reshape _ _).trans (View.set_slice_whole _ _)

theorem mem_slotL (x : S2x16x384.Idx) : x ∈ (dstL lV hs).view.set ↔ (x 0).val = sl := by
  rw [slotL_set, Rect.mem_set_unit]
  constructor
  · intro h; have := h 0
    change sl ≤ (x 0).val ∧ (x 0).val < sl + 1 at this; omega
  · intro h a
    match a with
    | 0 => show sl ≤ (x 0).val ∧ (x 0).val < sl + 1; omega
    | 1 => exact ⟨Nat.zero_le _, by have := (x 1).isLt; exact Nat.lt_of_lt_of_eq this (Nat.zero_add _).symm⟩
    | 2 => exact ⟨Nat.zero_le _, by have := (x 2).isLt; exact Nat.lt_of_lt_of_eq this (Nat.zero_add _).symm⟩

theorem mem_slotM (x : S2x8x16x384.Idx) : x ∈ (dstM mV hs).view.set ↔ (x 0).val = sl := by
  rw [slotM_set, Rect.mem_set_unit]
  constructor
  · intro h; have := h 0
    change sl ≤ (x 0).val ∧ (x 0).val < sl + 1 at this; omega
  · intro h a
    match a with
    | 0 => show sl ≤ (x 0).val ∧ (x 0).val < sl + 1; omega
    | 1 => exact ⟨Nat.zero_le _, by have := (x 1).isLt; exact Nat.lt_of_lt_of_eq this (Nat.zero_add _).symm⟩
    | 2 => exact ⟨Nat.zero_le _, by have := (x 2).isLt; exact Nat.lt_of_lt_of_eq this (Nat.zero_add _).symm⟩
    | 3 => exact ⟨Nat.zero_le _, by have := (x 3).isLt; exact Nat.lt_of_lt_of_eq this (Nat.zero_add _).symm⟩

/-- The contents of slot `sl` of the logits' scratch are `X`; of the masks' scratch, `Y`. -/
def HoldsL (f : Buf (Elt F) (lV.view.loc (VT d L))) (X : ℕ → ℕ → F .f32) : Prop :=
  ∀ (r c : ℕ) (hr : r < 16) (hc : c < 384), f (ix3 sl r c hs hr hc) = X r c
def HoldsM (f : Buf (Elt F) (mV.view.loc (VT d L))) (Y : ℕ → ℕ → ℕ → F .f32) : Prop :=
  ∀ (n r c : ℕ) (hn : n < 8) (hr : r < 16) (hc : c < 384), f (ix4 sl n r c hs hn hr hc) = Y n r c

/-- The slot of each scratch buffer. -/
abbrev ptsL (f : Buf (Elt F) (lV.view.loc (VT d L))) : sProp (M F) := lV.view.loc (VT d L) ↦[(dstL lV hs).view.set]{fullShare} f
abbrev ptsM (f : Buf (Elt F) (mV.view.loc (VT d L))) : sProp (M F) := mV.view.loc (VT d L) ↦[(dstM mV hs).view.set]{fullShare} f

variable {r : ℕ} (hr : r < 16) (k : Fin rowLoop.trips) (u : Fin 4)

theorem readL {f : Buf (Elt F) (lV.view.loc (VT d L))} {X : ℕ → ℕ → F .f32} (hX : HoldsL d L hs f X) :
    lV.view.readAt (Elt F) (Rect.unit (s := S2x16x384) (offL sl r (col k (BitVec.ofNat 32 u.val))) S1x1x16.size
      (offL_inb hs hr (col_le k u))).toLoadRect f = lanesL X r (64 * k.val + 16 * u.val) := by
  funext x
  have hk := col_le k u
  have h2 : (x 2).val < 16 := (x 2).isLt
  rw [← col_eq]
  rw [View.readAt_apply, View.read_apply]
  refine Eq.trans ?_ (hX r (col k (BitVec.ofNat 32 u.val) + (x 2).val) hr (by omega))
  rw [cast_eq]
  show f _ = f _
  congr 1; funext a
  have h0 : (x 0).val < 1 := (x 0).isLt
  have h1 : (x 1).val < 1 := (x 1).isLt
  match a with
  | 0 => apply Fin.ext; show sl + 1 * (x 0).val = sl; omega
  | 1 => apply Fin.ext; show r + 1 * (x 1).val = r; omega
  | 2 => apply Fin.ext; show col k (BitVec.ofNat 32 u.val) + 1 * (x 2).val = col k (BitVec.ofNat 32 u.val) + (x 2).val; omega

theorem readM {f : Buf (Elt F) (mV.view.loc (VT d L))} {Y : ℕ → ℕ → ℕ → F .f32} (hY : HoldsM d L hs f Y) (n : ℕ) (hn : n < 8) :
    mV.view.readAt (Elt F) (Rect.unit (s := S2x8x16x384) (offM sl n r (col k (BitVec.ofNat 32 u.val))) S1x1x1x16.size
      (offM_inb hs hn hr (col_le k u))).toLoadRect f = lanesM Y n r (64 * k.val + 16 * u.val) := by
  funext x
  have hk := col_le k u
  have h3 : (x 3).val < 16 := (x 3).isLt
  rw [← col_eq]
  rw [View.readAt_apply, View.read_apply]
  refine Eq.trans ?_ (hY n r (col k (BitVec.ofNat 32 u.val) + (x 3).val) hn hr (by omega))
  rw [cast_eq]
  show f _ = f _
  congr 1; funext a
  have h0 : (x 0).val < 1 := (x 0).isLt
  have h1 : (x 1).val < 1 := (x 1).isLt
  have h2 : (x 2).val < 1 := (x 2).isLt
  match a with
  | 0 => apply Fin.ext; show sl + 1 * (x 0).val = sl; omega
  | 1 => apply Fin.ext; show n + 1 * (x 1).val = n; omega
  | 2 => apply Fin.ext; show r + 1 * (x 2).val = r; omega
  | 3 => apply Fin.ext; show col k (BitVec.ofNat 32 u.val) + 1 * (x 3).val = col k (BitVec.ofNat 32 u.val) + (x 3).val; omega

theorem subL : lV.view.setOn (Rect.unit (s := S2x16x384) (offL sl r (col k (BitVec.ofNat 32 u.val))) S1x1x16.size
      (offL_inb hs hr (col_le k u))).toLoadRect.set ⊆ (dstL lV hs).view.set := by
  intro x hx
  obtain ⟨y, hy, rfl⟩ := Finset.mem_map.1 hx
  have h := (Rect.mem_set_unit.1 hy) 0
  change sl ≤ (y 0).val ∧ (y 0).val < sl + 1 at h
  refine (mem_slotL hs _).2 ?_
  show (y 0).val = sl
  omega

theorem subM (n : ℕ) (hn : n < 8) : mV.view.setOn (Rect.unit (s := S2x8x16x384) (offM sl n r (col k (BitVec.ofNat 32 u.val))) S1x1x1x16.size
      (offM_inb hs hn hr (col_le k u))).toLoadRect.set ⊆ (dstM mV hs).view.set := by
  intro x hx
  obtain ⟨y, hy, rfl⟩ := Finset.mem_map.1 hx
  have h := (Rect.mem_set_unit.1 hy) 0
  change sl ≤ (y 0).val ∧ (y 0).val < sl + 1 at h
  refine (mem_slotM hs _).2 ?_
  show (y 0).val = sl
  omega

variable {f : Buf (Elt F) (lV.view.loc (VT d L))} {g : Buf (Elt F) (mV.view.loc (VT d L))}
  {X : ℕ → ℕ → F .f32} {Y : ℕ → ℕ → ℕ → F .f32}

local notation "WP" => wp frame (wpE (defs₀ (F := F)) 𝒱₀ (VT d L) none) Set.univ

theorem wp_ldL (hX : HoldsL d L hs f X) {Q : Vec F S1x1x16 .f32 → sProp (M F)} :
    ptsL d L hs f ⊢ iprop((ptsL d L hs f -∗ Q (lanesL X r (64 * k.val + 16 * u.val))) -∗ WP (ldL L lV sl r hs hr k u) Q) := by
  unfold ldL
  rw [← readL d L hs hr k u hX]
  iintro H HQ
  iapply (wp_load 𝒱₀ (VT d L) none Set.univ (subL hs hr k u)) $$ H
  iintro H
  rw [wp_ret]
  imodintro
  iapply HQ; iexact H

theorem wp_ldM (hY : HoldsM d L hs g Y) (n : ℕ) (hn : n < 8) {Q : Vec F S1x1x1x16 .f32 → sProp (M F)} :
    ptsM d L hs g ⊢ iprop((ptsM d L hs g -∗ Q (lanesM Y n r (64 * k.val + 16 * u.val))) -∗ WP (ldM L mV sl r hs hr k u n hn) Q) := by
  unfold ldM
  rw [← readM d L hs hr k u hY n hn]
  iintro H HQ
  iapply (wp_load 𝒱₀ (VT d L) none Set.univ (subM hs hr k u n hn)) $$ H
  iintro H
  rw [wp_ret]
  imodintro
  iapply HQ; iexact H

/-! ## The run -/

omit [FloatOps F] in
theorem post_congr {α : Type} {Q : α → sProp (M F)} {a b : α} (e : a = b) : Q a ⊢ Q b := by rw [e]

theorem wp_rowStep (hX : HoldsL d L hs f X) (hY : HoldsM d L hs g Y) (s : St F) {Q : Acc F → sProp (M F)} :
    iprop(ptsL d L hs f ∗ ptsM d L hs g)
      ⊢ iprop((iprop(ptsL d L hs f ∗ ptsM d L hs g) -∗ Q (tupS (stepU X Y r (64 * k.val + 16 * u.val) s)))
          -∗ WP (rowStep L lV mV sl r hs hr k u (tupS s)) Q) := by
  obtain ⟨t, ht⟩ : ∃ t, t = tupS (stepU X Y r (64 * k.val + 16 * u.val) s) := ⟨_, rfl⟩
  rw [← ht]
  iintro ⟨Hl, Hm⟩ HQ
  simp only [rowStep, tup, wp_bind]
  iapply (wp_ldL d L hs hr k u hX) $$ Hl
  iintro Hl
  iapply (wp_ldM d L hs hr k u hY 0 _) $$ Hm
  iintro Hm
  iapply (wp_ldM d L hs hr k u hY 1 _) $$ Hm
  iintro Hm
  iapply (wp_ldM d L hs hr k u hY 2 _) $$ Hm
  iintro Hm
  iapply (wp_ldM d L hs hr k u hY 3 _) $$ Hm
  iintro Hm
  iapply (wp_ldM d L hs hr k u hY 4 _) $$ Hm
  iintro Hm
  iapply (wp_ldM d L hs hr k u hY 5 _) $$ Hm
  iintro Hm
  iapply (wp_ldM d L hs hr k u hY 6 _) $$ Hm
  iintro Hm
  iapply (wp_ldM d L hs hr k u hY 7 _) $$ Hm
  iintro Hm
  rw [wp_pure]
  imodintro
  iapply (post_congr (Q := Q) (a := t) ?_)
  · rw [ht]; rfl
  iapply HQ
  isplitl [Hl] <;> iassumption

theorem wp_rowBody (hX : HoldsL d L hs f X) (hY : HoldsM d L hs g Y) (s : St F) {Q : Acc F → sProp (M F)} :
    iprop(ptsL d L hs f ∗ ptsM d L hs g)
      ⊢ iprop((iprop(ptsL d L hs f ∗ ptsM d L hs g) -∗ Q (tupS (stepK X Y r k.val s)))
          -∗ WP (rowBody L lV mV sl r hs hr k (tupS s)) Q) := by
  iintro H HQ
  simp only [rowBody, stepK, wp_bind]
  iapply (wp_rowStep d L hs hr k 0 hX hY s) $$ H
  iintro H
  iapply (wp_rowStep d L hs hr k 1 hX hY _) $$ H
  iintro H
  iapply (wp_rowStep d L hs hr k 2 hX hY _) $$ H
  iintro H
  iapply (wp_rowStep d L hs hr k 3 hX hY _) $$ H
  iintro H
  iapply HQ; iexact H

omit k in
/-- One row: the six trips carry the sums on. -/
theorem wp_row (hX : HoldsL d L hs f X) (hY : HoldsM d L hs g Y) (s : St F) {Q : Acc F → sProp (M F)} :
    iprop(ptsL d L hs f ∗ ptsM d L hs g)
      ⊢ iprop((iprop(ptsL d L hs f ∗ ptsM d L hs g) -∗ Q (tupS (rowTo X Y r s 6)))
          -∗ WP (rowProg L lV mV sl r hs hr (tupS s)) Q) := by
  have hbody : ∀ (k : Fin rowLoop.trips) (acc : Acc F),
      iprop(⌜acc = tupS (rowTo X Y r s k.val)⌝ ∗ ptsL d L hs f ∗ ptsM d L hs g)
        ⊢ WP (rowBody L lV mV sl r hs hr k acc) fun acc => iprop(⌜acc = tupS (rowTo X Y r s (k.val + 1))⌝ ∗ ptsL d L hs f ∗ ptsM d L hs g) := by
    intro k acc
    iintro ⟨%e, H⟩
    subst e
    iapply (wp_rowBody d L hs hr k hX hY _) $$ H
    iintro H
    isplitr; · ipureintro; rfl
    iexact H
  iintro H HQ
  unfold rowProg
  iapply (Scf.wp_for frame (wpE (defs₀ (F := F)) 𝒱₀ (VT d L) none) Set.univ _ _ _ rowLoop_ok (tupS s) _
    (fun j acc => iprop(⌜acc = tupS (rowTo X Y r s j)⌝ ∗ ptsL d L hs f ∗ ptsM d L hs g)) hbody)
  isplitl [H]
  · isplitr; · ipureintro; rfl
    iexact H
  · iintro %acc ⟨%e, H⟩
    subst e
    iapply (post_congr (Q := Q) (a := tupS (rowTo X Y r s 6)) ?_)
    · rfl
    iapply HQ; iexact H

omit r hr k u in
/-- Some rows, and what comes after them. -/
theorem wp_rows (hX : HoldsL d L hs f X) (hY : HoldsM d L hs g Y) {α : Type} {G : Acc F → TP F L α} {Q : α → sProp (M F)} :
    ∀ (rs : List (Fin 16)) (s : St F), iprop(ptsL d L hs f ∗ ptsM d L hs g)
      ⊢ iprop((iprop(ptsL d L hs f ∗ ptsM d L hs g) -∗ WP (G (tupS (rowsSt X Y rs s))) Q)
          -∗ WP (rowsProg L lV mV sl hs rs (tupS s) G) Q)
  | [], s => by
    iintro H HQ
    iapply HQ; iexact H
  | r :: rs, s => by
    iintro H HQ
    simp only [rowsProg, wp_bind]
    iapply (wp_row d L hs r.isLt hX hY s) $$ H
    iintro H
    iapply (wp_rows hX hY rs _) $$ H
    iexact HQ

end

end Cert.Proof
-- ==== Proof.Move.lean ====
/-
  The bands' transfers: what slot they land in and what it then holds, and the runs of a transfer's start and of the wait for it.
-/
module

public import proofs.«01_k».proof.Proof.RowRun

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## What a task reads -/

/-- The index of image `b`, class `c`, row `r`, column `w` of the logits, each taken modulo its extent. -/
def ixX (b c r w : ℕ) : S2x5x384x384.Idx := fun
  | 0 => ⟨b % 2, Nat.mod_lt _ (by decide)⟩ | 1 => ⟨c % 5, Nat.mod_lt _ (by decide)⟩
  | 2 => ⟨r % 384, Nat.mod_lt _ (by decide)⟩ | 3 => ⟨w % 384, Nat.mod_lt _ (by decide)⟩
/-- The same of mask `n`. -/
def ixY (b c n r w : ℕ) : S2x5x8x384x384.Idx := fun
  | 0 => ⟨b % 2, Nat.mod_lt _ (by decide)⟩ | 1 => ⟨c % 5, Nat.mod_lt _ (by decide)⟩ | 2 => ⟨n % 8, Nat.mod_lt _ (by decide)⟩
  | 3 => ⟨r % 384, Nat.mod_lt _ (by decide)⟩ | 4 => ⟨w % 384, Nat.mod_lt _ (by decide)⟩

/-- The task's number, image, class and first row. -/
def wid (L : grid1.Coords) : ℕ := (L 0).val * 16 + (L 1).val
def tB (L : grid1.Coords) : ℕ := wid L / 16
def tC (L : grid1.Coords) : ℕ := 1 + wid L / 4 % 4
def tR (L : grid1.Coords) : ℕ := wid L % 4 * 48

theorem off1_eq : ∀ (L : grid1.Coords) (r : Fin 3), k1_off1 L (BitVec.ofNat 32 (16 * r.val)) = ![tB L, tC L, tR L + 16 * r.val, 0] := by
  decide +kernel
theorem off2_eq : ∀ (L : grid1.Coords) (r : Fin 3), k1_off2 L (BitVec.ofNat 32 (16 * r.val)) = ![tB L, tC L, 0, tR L + 16 * r.val, 0] := by
  decide +kernel

theorem wid_lt (L : grid1.Coords) : wid L < 32 := by
  have h0 : (L 0).val < 2 := (L 0).isLt
  have h1 : (L 1).val < 16 := (L 1).isLt
  unfold wid; omega

/-- Band `r` of the logits and of the masks, as functions of row and column. -/
def bandX (fs : S2x5x384x384.Idx → F .f32) (L : grid1.Coords) (r : ℕ) (rr c : ℕ) : F .f32 :=
  fs (ixX (tB L) (tC L) (tR L + 16 * r + rr) c)
def bandY (gs : S2x5x8x384x384.Idx → F .f32) (L : grid1.Coords) (r : ℕ) (n rr c : ℕ) : F .f32 :=
  gs (ixY (tB L) (tC L) n (tR L + 16 * r + rr) c)

/-! ## What a landed transfer leaves -/

section
variable (d : Dev nD) (L : grid1.Coords) (r : Fin 3) {sl : ℕ} (hs : sl < 2)

/-- Row `rr`, column `c` of a band. -/
def ix2 (rr c : ℕ) (hr : rr < 16) (hc : c < 384) : S16x384.Idx := fun | 0 => ⟨rr, hr⟩ | 1 => ⟨c, hc⟩
def ix3m (n rr c : ℕ) (hn : n < 8) (hr : rr < 16) (hc : c < 384) : S8x16x384.Idx := fun | 0 => ⟨n, hn⟩ | 1 => ⟨rr, hr⟩ | 2 => ⟨c, hc⟩

theorem resh_dstL (h : S16x384.numel = S1x16x384.numel) (rr c : ℕ) (hr : rr < 16) (hc : c < 384) :
    Shape.reshapeEquiv h (ix2 rr c hr hc) = (fun | 0 => ⟨0, by decide⟩ | 1 => ⟨rr, hr⟩ | 2 => ⟨c, hc⟩ : S1x16x384.Idx) := by
  refine Shape.reshapeEquiv_eq_of_rowMajor _ ?_
  refine (Shape.rowMajor_val_three _).trans (Eq.trans ?_ (Shape.rowMajor_val_two _).symm)
  show (0 * 16 + rr) * 384 + c = rr * 384 + c
  omega
theorem resh_srcL (h : S16x384.numel = S1x1x16x384.numel) (rr c : ℕ) (hr : rr < 16) (hc : c < 384) :
    Shape.reshapeEquiv h (ix2 rr c hr hc) = (fun | 0 => ⟨0, by decide⟩ | 1 => ⟨0, by decide⟩ | 2 => ⟨rr, hr⟩ | 3 => ⟨c, hc⟩ : S1x1x16x384.Idx) := by
  refine Shape.reshapeEquiv_eq_of_rowMajor _ ?_
  refine (Shape.rowMajor_val_four _).trans (Eq.trans ?_ (Shape.rowMajor_val_two _).symm)
  show ((0 * 1 + 0) * 16 + rr) * 384 + c = rr * 384 + c
  omega
theorem resh_dstM (h : S8x16x384.numel = S1x8x16x384.numel) (n rr c : ℕ) (hn : n < 8) (hr : rr < 16) (hc : c < 384) :
    Shape.reshapeEquiv h (ix3m n rr c hn hr hc) = (fun | 0 => ⟨0, by decide⟩ | 1 => ⟨n, hn⟩ | 2 => ⟨rr, hr⟩ | 3 => ⟨c, hc⟩ : S1x8x16x384.Idx) := by
  refine Shape.reshapeEquiv_eq_of_rowMajor _ ?_
  refine (Shape.rowMajor_val_four _).trans (Eq.trans ?_ (Shape.rowMajor_val_three _).symm)
  show ((0 * 8 + n) * 16 + rr) * 384 + c = (n * 16 + rr) * 384 + c
  omega
theorem resh_srcM (h : S8x16x384.numel = S1x1x8x16x384.numel) (n rr c : ℕ) (hn : n < 8) (hr : rr < 16) (hc : c < 384) :
    Shape.reshapeEquiv h (ix3m n rr c hn hr hc)
      = (fun | 0 => ⟨0, by decide⟩ | 1 => ⟨0, by decide⟩ | 2 => ⟨n, hn⟩ | 3 => ⟨rr, hr⟩ | 4 => ⟨c, hc⟩ : S1x1x8x16x384.Idx) := by
  refine Shape.reshapeEquiv_eq_of_rowMajor _ ?_
  refine (Shape.rowMajor_val_five _).trans (Eq.trans ?_ (Shape.rowMajor_val_three _).symm)
  show (((0 * 1 + 0) * 8 + n) * 16 + rr) * 384 + c = (n * 16 + rr) * 384 + c
  omega

/-- The slot after the transfer. -/
abbrev landL (fs : S2x5x384x384.Idx → F .f32) (f₀ : Buf (Elt F) (lV.view.loc (VT d L))) : Buf (Elt F) (lV.view.loc (VT d L)) :=
  (dstL lV hs).view.write (Elt F) f₀ (ReadAs.same.apply ((srcL L xV r).view.read (Elt F) fs)) Finset.univ
abbrev landM (gs : S2x5x8x384x384.Idx → F .f32) (f₀ : Buf (Elt F) (mV.view.loc (VT d L))) : Buf (Elt F) (mV.view.loc (VT d L)) :=
  (dstM mV hs).view.write (Elt F) f₀ (ReadAs.same.apply ((srcM L yV r).view.read (Elt F) gs)) Finset.univ

theorem holds_landL (fs : S2x5x384x384.Idx → F .f32) (f₀ : Buf (Elt F) (lV.view.loc (VT d L))) :
    HoldsL d L hs (landL d L r hs fs f₀) (bandX fs L r.val) := by
  intro rr c hr hc
  have hw := wid_lt L
  have hq : wid L % 4 < 4 := Nat.mod_lt _ (by decide)
  have hr3 := r.isLt
  have e : (dstL lV hs).view.emb (ix2 rr c hr hc) = ix3 sl rr c hs hr hc := by
    funext a
    have := resh_dstL squeezes_S1x16x384_S16x384.numel_eq rr c hr hc
    apply Fin.ext
    show (![sl, 0, 0] : Fin 3 → ℕ) a + 1 * ((Shape.reshapeEquiv squeezes_S1x16x384_S16x384.numel_eq (ix2 rr c hr hc)) a).val = _
    rw [this]
    match a with
    | 0 => show sl + 1 * 0 = sl; omega
    | 1 => show 0 + 1 * rr = rr; omega
    | 2 => show 0 + 1 * c = c; omega
  have e' : (srcL L xV r).view.emb (ix2 rr c hr hc) = ixX (tB L) (tC L) (tR L + 16 * r.val + rr) c := by
    funext a
    have := resh_srcL squeezes_S1x1x16x384_S16x384.numel_eq rr c hr hc
    apply Fin.ext
    show (k1_off1 L (BitVec.ofNat 32 (16 * r.val))) a + 1 * ((Shape.reshapeEquiv squeezes_S1x1x16x384_S16x384.numel_eq (ix2 rr c hr hc)) a).val = _
    rw [this, off1_eq]
    match a with
    | 0 => show tB L + 1 * 0 = tB L % 2; unfold tB; omega
    | 1 => show tC L + 1 * 0 = tC L % 5; unfold tC; omega
    | 2 => show tR L + 16 * r.val + 1 * rr = (tR L + 16 * r.val + rr) % 384; unfold tR; omega
    | 3 => show 0 + 1 * c = c % 384; omega
  rw [← e]
  refine (View.write_emb_of_mem _ _ (Finset.mem_univ _)).trans ?_
  rw [cast_eq]
  show (srcL L xV r).view.read (Elt F) fs (ix2 rr c hr hc) = fs (ixX (tB L) (tC L) (tR L + 16 * r.val + rr) c)
  rw [View.read_apply, cast_eq, e']

theorem holds_landM (gs : S2x5x8x384x384.Idx → F .f32) (f₀ : Buf (Elt F) (mV.view.loc (VT d L))) :
    HoldsM d L hs (landM d L r hs gs f₀) (bandY gs L r.val) := by
  intro n rr c hn hr hc
  have hw := wid_lt L
  have hq : wid L % 4 < 4 := Nat.mod_lt _ (by decide)
  have hr3 := r.isLt
  have e : (dstM mV hs).view.emb (ix3m n rr c hn hr hc) = ix4 sl n rr c hs hn hr hc := by
    funext a
    have := resh_dstM squeezes_S1x8x16x384_S8x16x384.numel_eq n rr c hn hr hc
    apply Fin.ext
    show (![sl, 0, 0, 0] : Fin 4 → ℕ) a + 1 * ((Shape.reshapeEquiv squeezes_S1x8x16x384_S8x16x384.numel_eq (ix3m n rr c hn hr hc)) a).val = _
    rw [this]
    match a with
    | 0 => show sl + 1 * 0 = sl; omega
    | 1 => show 0 + 1 * n = n; omega
    | 2 => show 0 + 1 * rr = rr; omega
    | 3 => show 0 + 1 * c = c; omega
  have e' : (srcM L yV r).view.emb (ix3m n rr c hn hr hc) = ixY (tB L) (tC L) n (tR L + 16 * r.val + rr) c := by
    funext a
    have := resh_srcM squeezes_S1x1x8x16x384_S8x16x384.numel_eq n rr c hn hr hc
    apply Fin.ext
    show (k1_off2 L (BitVec.ofNat 32 (16 * r.val))) a + 1 * ((Shape.reshapeEquiv squeezes_S1x1x8x16x384_S8x16x384.numel_eq (ix3m n rr c hn hr hc)) a).val = _
    rw [this, off2_eq]
    match a with
    | 0 => show tB L + 1 * 0 = tB L % 2; unfold tB; omega
    | 1 => show tC L + 1 * 0 = tC L % 5; unfold tC; omega
    | 2 => show 0 + 1 * n = n % 8; omega
    | 3 => show tR L + 16 * r.val + 1 * rr = (tR L + 16 * r.val + rr) % 384; unfold tR; omega
    | 4 => show 0 + 1 * c = c % 384; omega
  rw [← e]
  refine (View.write_emb_of_mem _ _ (Finset.mem_univ _)).trans ?_
  rw [cast_eq]
  show (srcM L yV r).view.read (Elt F) gs (ix3m n rr c hn hr hc) = gs (ixY (tB L) (tC L) n (tR L + 16 * r.val + rr) c)
  rw [View.read_apply, cast_eq, e']

/-! ## The runs -/

variable [FloatOps F]

local notation "WP" => wp frame (wpE (defs₀ (F := F)) 𝒱₀ (VT d L) none) Set.univ

/-- The arguments, seen from the subcore, at a share. -/
abbrev ptsX (q : PosShare TreeShare) (fs : S2x5x384x384.Idx → F .f32) : sProp (M F) := xV.view.loc (VT d L) ↦{q} (fs : Buf (Elt F) (xV.view.loc (VT d L)))
abbrev ptsY (q : PosShare TreeShare) (gs : S2x5x8x384x384.Idx → F .f32) : sProp (M F) := yV.view.loc (VT d L) ↦{q} (gs : Buf (Elt F) (yV.view.loc (VT d L)))

/-- Band `r` in slot `sl`, and the share of the argument it was read at. -/
abbrev gotL (q : PosShare TreeShare) (fs : S2x5x384x384.Idx → F .f32) : sProp (M F) :=
  iprop(∃ f, ⌜HoldsL d L hs f (bandX fs L r.val)⌝ ∗ ptsL d L hs f ∗ ptsX d L q fs)
abbrev gotM (q : PosShare TreeShare) (gs : S2x5x8x384x384.Idx → F .f32) : sProp (M F) :=
  iprop(∃ g, ⌜HoldsM d L hs g (bandY gs L r.val)⌝ ∗ ptsM d L hs g ∗ ptsY d L q gs)

variable (sem : DmaSems sig S_)

/-- The transfers in flight. -/
abbrev flyL (q : PosShare TreeShare) (fs : S2x5x384x384.Idx → F .f32) : sProp (M F) :=
  Transfers.Flight EC (VT d L) (.dma sem.sem) (default : HIx 1) (dstL lV hs).view.dmaCredit (gotL d L r hs q fs)
abbrev flyM (q : PosShare TreeShare) (gs : S2x5x8x384x384.Idx → F .f32) : sProp (M F) :=
  Transfers.Flight EC (VT d L) (.dma sem.sem) (default : HIx 1) (dstM mV hs).view.dmaCredit (gotM d L r hs q gs)

theorem wp_enqL (q : PosShare TreeShare) (fs : S2x5x384x384.Idx → F .f32) {f₀ : Buf (Elt F) (lV.view.loc (VT d L))} {Q : PUnit → sProp (M F)} :
    iprop(ptsX d L q fs ∗ ptsL d L hs f₀ ∗ semVal (VT d L, .dma sem.sem) 0)
      ⊢ iprop((flyL d L r hs sem q fs -∗ Q ⟨⟩) -∗ WP (enqL L xV lV sem r hs) Q) := by
  unfold enqL
  iintro H HQ
  iapply (Transfers.wp_dmaFromWhole (src := srcL L xV r) (dst := dstL lV hs) EC 𝒱₀ (VT d L) none (default : HIx 1) (dstL lV hs).view.dmaCredit rfl
    (View.dmaCredit_pos _ (Shape.numel_pos (by decide))) (Finset.Subset.refl _)) $$ H
  iintro Hf
  rw [wp_ret]
  imodintro
  iapply HQ
  iapply (Transfers.Flight_mono EC (VT d L) (D := iprop(ptsL d L hs (landL d L r hs fs f₀) ∗ ptsX d L q fs)) ?_) $$ Hf
  iintro ⟨H1, H2⟩
  iexists _
  isplitr; · ipureintro; exact holds_landL d L r hs fs f₀
  isplitl [H1] <;> iassumption

theorem wp_enqM (q : PosShare TreeShare) (gs : S2x5x8x384x384.Idx → F .f32) {f₀ : Buf (Elt F) (mV.view.loc (VT d L))} {Q : PUnit → sProp (M F)} :
    iprop(ptsY d L q gs ∗ ptsM d L hs f₀ ∗ semVal (VT d L, .dma sem.sem) 0)
      ⊢ iprop((flyM d L r hs sem q gs -∗ Q ⟨⟩) -∗ WP (enqM L yV mV sem r hs) Q) := by
  unfold enqM
  iintro H HQ
  iapply (Transfers.wp_dmaFromWhole (src := srcM L yV r) (dst := dstM mV hs) EC 𝒱₀ (VT d L) none (default : HIx 1) (dstM mV hs).view.dmaCredit rfl
    (View.dmaCredit_pos _ (Shape.numel_pos (by decide))) (Finset.Subset.refl _)) $$ H
  iintro Hf
  rw [wp_ret]
  imodintro
  iapply HQ
  iapply (Transfers.Flight_mono EC (VT d L) (D := iprop(ptsM d L hs (landM d L r hs gs f₀) ∗ ptsY d L q gs)) ?_) $$ Hf
  iintro ⟨H1, H2⟩
  iexists _
  isplitr; · ipureintro; exact holds_landM d L r hs gs f₀
  isplitl [H1] <;> iassumption

variable {O : CellTallies nD τ sig (HIx 1)} {W : Waits sig (HIx 1)}

theorem wp_waitL (q : PosShare TreeShare) (fs : S2x5x384x384.Idx → F .f32) {Q : PUnit → sProp (M F)} :
    iprop(flyL d L r hs sem q fs ∗ owes (VT d L) O W ∗ Transfers.MayWaits (VT d L) (default : HIx 1) O)
      ⊢ iprop((iprop(gotL d L r hs q fs ∗ semVal (VT d L, .dma sem.sem) 0 ∗ ∃ W', owes (VT d L) O W') -∗ Q ⟨⟩)
          -∗ WP (waitL L xV lV sem r hs) Q) := by
  unfold waitL
  iintro ⟨Hf, HO, Hmw⟩ HQ
  ihave Hm := (Transfers.MayWaits.elim (.dma sem.sem)) $$ Hmw
  iapply (Transfers.wp_waitLocalO EC 𝒱₀ (VT d L) none (default : HIx 1) rfl) $$ [Hf HO Hm]
  · isplitl [Hf]; · iexact Hf
    isplitl [HO] <;> iassumption
  iintro ⟨Hg, Hv, HO⟩
  rw [wp_ret]
  imodintro
  iapply HQ
  isplitl [Hg]; · iexact Hg
  isplitl [Hv]; · iexact Hv
  iexists _; iexact HO

theorem wp_waitM (q : PosShare TreeShare) (gs : S2x5x8x384x384.Idx → F .f32) {Q : PUnit → sProp (M F)} :
    iprop(flyM d L r hs sem q gs ∗ owes (VT d L) O W ∗ Transfers.MayWaits (VT d L) (default : HIx 1) O)
      ⊢ iprop((iprop(gotM d L r hs q gs ∗ semVal (VT d L, .dma sem.sem) 0 ∗ ∃ W', owes (VT d L) O W') -∗ Q ⟨⟩)
          -∗ WP (waitM L yV mV sem r hs) Q) := by
  unfold waitM
  iintro ⟨Hf, HO, Hmw⟩ HQ
  ihave Hm := (Transfers.MayWaits.elim (.dma sem.sem)) $$ Hmw
  iapply (Transfers.wp_waitLocalO EC 𝒱₀ (VT d L) none (default : HIx 1) rfl) $$ [Hf HO Hm]
  · isplitl [Hf]; · iexact Hf
    isplitl [HO] <;> iassumption
  iintro ⟨Hg, Hv, HO⟩
  rw [wp_ret]
  imodintro
  iapply HQ
  isplitl [Hg]; · iexact Hg
  isplitl [Hv]; · iexact Hv
  iexists _; iexact HO

end

end Cert.Proof
-- ==== Proof.TcData.lean ====
/-
  The TensorCore kernels' pipelines: what their arrays hold before and after, and their bodies' obligations.
-/
module

public import proofs.«01_k».proof.Proof.TcRuns
public import proofs.«01_k».proof.Proof.Move
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.Value

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The values -/

/-- The block of image `b`, class `c + 1`: the lower half of the logits and of the masks. -/
def xBlk (fs : Vec F S2x5x384x384 .f32) (b c : ℕ) : Vec F S1x1x192x384 .f32 := fun i => fs (ixX b (c + 1) (192 + (i 2).val) (i 3).val)
def yBlk (gs : Vec F S2x5x8x384x384 .f32) (b c : ℕ) : Vec F S1x1x8x192x384 .f32 := fun i => gs (ixY b (c + 1) (i 2).val (192 + (i 3).val) (i 4).val)

/-- A place of the first kernel's result within its block. -/
def inBlk (x : S2x4x8x2.Idx) : S1x1x8x2.Idx := fun
  | 0 => ⟨0, by decide⟩ | 1 => ⟨0, by decide⟩ | 2 => x 2 | 3 => x 3

/-- The first kernel's result. -/
def mainOut (fs : Vec F S2x5x384x384 .f32) (gs : Vec F S2x5x8x384x384 .f32) : Vec F S2x4x8x2 .f32 :=
  fun x => mainBlk (xBlk fs (x 0).val (x 1).val) (yBlk gs (x 0).val (x 1).val) (inBlk x)

/-! ## The proof data -/

/-- What the pipelines' arrays hold at their entries, what the core owes, and what bounds its recorded waits. -/
structure Ent (F : FTy → Type) where
  fs : Vec F S2x5x384x384 .f32
  gs : Vec F S2x5x8x384x384 .f32
  z : Vec F S2x4x8x2 .f32
  p0 : Vec F S4x4x8x2x16 .f32
  p1 : Vec F S4x4x8x2x16 .f32
  t : Vec F S8x8x2 .f32
  r : Vec F S1x1 .f32
  O : CellTallies nD τ sig (HIx 1)
  W : Set (SemLoc sig × HIx 1)

variable (e : Ent F)

def dat0 (c : Dev nD) : Dat τ (Elt F) (HIx 1) ℕ UU ℕ cfg0 c where
  A w := match w with
    | ⟨0, _⟩ => e.fs | ⟨1, _⟩ => e.gs | ⟨2, _⟩ => e.z
  after w t := match w with
    | ⟨0, _⟩ => xBlk e.fs (t.val / 4) (t.val % 4) | ⟨1, _⟩ => yBlk e.gs (t.val / 4) (t.val % 4)
    | ⟨2, _⟩ => mainBlk (xBlk e.fs (t.val / 4) (t.val % 4)) (yBlk e.gs (t.val / 4) (t.val % 4))
  Φ _ := Pipeline.scopedRest (Ix := HIx 1) (Name := ℕ) (U := UU) (Lvl := ℕ) (Val := Elt F) spec0 c
  q _ := fullShare
  owed _ := e.O
  recorded _ := e.W

def dat2 (c : Dev nD) : Dat τ (Elt F) (HIx 1) ℕ UU ℕ cfg2 c where
  A w := match w with
    | ⟨0, _⟩ => e.p0 | ⟨1, _⟩ => e.p1 | ⟨2, _⟩ => e.t | ⟨3, _⟩ => e.r
  after w _ := match w with
    | ⟨0, _⟩ => e.p0 | ⟨1, _⟩ => e.p1 | ⟨2, _⟩ => e.t | ⟨3, _⟩ => combBlk e.p0 e.p1 e.t
  Φ _ := Pipeline.scopedRest (Ix := HIx 1) (Name := ℕ) (U := UU) (Lvl := ℕ) (Val := Elt F) spec2 c
  q _ := fullShare
  owed _ := e.O
  recorded _ := e.W

/-- No pipeline has a table. -/
def adm : (p : Fin 2) → (pcfgs (F := F) p).Adm := fun p => ⟨fun k => k.elim0, trivial⟩

def pdats : (p : Fin 2) → (c : Dev nD) → Dat τ (Elt F) (HIx 1) ℕ UU ℕ (Pipeline.pin (pcfgs (F := F)) adm p) c
  | ⟨0, _⟩ => fun c => dat0 e c
  | ⟨1, _⟩ => fun c => dat2 e c

/-! ## The windows' blocks -/

theorem idx0 : ∀ t : Fin grid0.N, win0_0.index t = ![t.val / 4, t.val % 4 + 1, 1, 0] := by decide +kernel
theorem idx1 : ∀ t : Fin grid0.N, win0_1.index t = ![t.val / 4, t.val % 4 + 1, 0, 1, 0] := by decide +kernel
theorem idx2 : ∀ t : Fin grid0.N, win0_2.index t = ![t.val / 4, t.val % 4, 0, 0] := by decide +kernel

theorem t_lt (t : Fin grid0.N) : t.val < 8 := by have := t.isLt; have h := N_0; omega

theorem blk0_eq (c : Dev nD) (t : Fin cfg0.N) : (dat0 e c).blockOf 0 t = xBlk e.fs (t.val / 4) (t.val % 4) := by
  funext y
  have ht := t_lt t
  refine congrArg e.fs (?_ : (win0_0.rect t).emb y = _)
  have y0 : (y 0).val < 1 := (y 0).isLt
  have y1 : (y 1).val < 1 := (y 1).isLt
  have y2 : (y 2).val < 192 := (y 2).isLt
  have y3 : (y 3).val < 384 := (y 3).isLt
  funext a; apply Fin.ext; rw [Pipeline.Window.rect_emb_val win0_0 t y a rfl, idx0]
  match a with
  | 0 => show t.val / 4 * 1 + (y 0).val = t.val / 4 % 2; omega
  | 1 => show (t.val % 4 + 1) * 1 + (y 1).val = (t.val % 4 + 1) % 5; omega
  | 2 => show 1 * 192 + (y 2).val = (192 + (y 2).val) % 384; omega
  | 3 => show 0 * 384 + (y 3).val = (y 3).val % 384; omega

theorem blk1_eq (c : Dev nD) (t : Fin cfg0.N) : (dat0 e c).blockOf 1 t = yBlk e.gs (t.val / 4) (t.val % 4) := by
  funext y
  have ht := t_lt t
  refine congrArg e.gs (?_ : (win0_1.rect t).emb y = _)
  have y0 : (y 0).val < 1 := (y 0).isLt
  have y1 : (y 1).val < 1 := (y 1).isLt
  have y2 : (y 2).val < 8 := (y 2).isLt
  have y3 : (y 3).val < 192 := (y 3).isLt
  have y4 : (y 4).val < 384 := (y 4).isLt
  funext a; apply Fin.ext; rw [Pipeline.Window.rect_emb_val win0_1 t y a rfl, idx1]
  match a with
  | 0 => show t.val / 4 * 1 + (y 0).val = t.val / 4 % 2; omega
  | 1 => show (t.val % 4 + 1) * 1 + (y 1).val = (t.val % 4 + 1) % 5; omega
  | 2 => show 0 * 8 + (y 2).val = (y 2).val % 8; omega
  | 3 => show 1 * 192 + (y 3).val = (192 + (y 3).val) % 384; omega
  | 4 => show 0 * 384 + (y 4).val = (y 4).val % 384; omega

theorem emb2_eq (t : Fin cfg0.N) (y : S1x1x8x2.Idx) :
    (win0_2.rect t).emb y = (fun | 0 => ⟨t.val / 4, by have := t_lt t; show _ < 2; omega⟩ | 1 => ⟨t.val % 4, by show _ < 4; omega⟩ | 2 => y 2 | 3 => y 3 : S2x4x8x2.Idx) := by
  have ht := t_lt t
  have y0 : (y 0).val < 1 := (y 0).isLt
  have y1 : (y 1).val < 1 := (y 1).isLt
  funext a; apply Fin.ext; rw [Pipeline.Window.rect_emb_val win0_2 t y a rfl, idx2]
  match a with
  | 0 => show t.val / 4 * 1 + (y 0).val = t.val / 4; omega
  | 1 => show t.val % 4 * 1 + (y 1).val = t.val % 4; omega
  | 2 => show 0 * 8 + (y 2).val = (y 2).val; omega
  | 3 => show 0 * 2 + (y 3).val = (y 3).val; omega

/-- The first kernel's array when the pipeline has run. -/
theorem arr0_out (c : Dev nD) : (dat0 e c).arrAt 2 cfg0.N = mainOut e.fs e.gs := by
  refine Dat.arrAt_eq_of_cover (dat0 e c) 2 (mainOut e.fs e.gs) (fun t _ => ?_) fun x => ?_
  · funext y
    show mainBlk (xBlk e.fs (t.val / 4) (t.val % 4)) (yBlk e.gs (t.val / 4) (t.val % 4)) y = mainOut e.fs e.gs ((win0_2.rect t).emb y)
    rw [emb2_eq]
    unfold mainOut
    refine congrArg (mainBlk (xBlk e.fs (t.val / 4) (t.val % 4)) (yBlk e.gs (t.val / 4) (t.val % 4))) ?_
    funext a
    match a with
    | 0 => exact Subsingleton.elim (α := Fin 1) _ _
    | 1 => exact Subsingleton.elim (α := Fin 1) _ _
    | 2 => rfl
    | 3 => rfl
  · have x0 : (x 0).val < 2 := (x 0).isLt
    have x1 : (x 1).val < 4 := (x 1).isLt
    refine ⟨⟨4 * (x 0).val + (x 1).val, by show _ < grid0.N; rw [N_0]; omega⟩, flush0_2 _, ?_⟩
    refine Finset.mem_map.mpr ⟨inBlk x, Finset.mem_univ _, ?_⟩
    refine (emb2_eq ⟨4 * (x 0).val + (x 1).val, by show _ < grid0.N; rw [N_0]; omega⟩ (inBlk x)).trans ?_
    funext a
    match a with
    | 0 => apply Fin.ext; show (4 * (x 0).val + (x 1).val) / 4 = (x 0).val; omega
    | 1 => apply Fin.ext; show (4 * (x 0).val + (x 1).val) % 4 = (x 1).val; omega
    | 2 => rfl
    | 3 => rfl

theorem before0_0 (c : Dev nD) (t : Fin cfg0.N) (d) : (dat0 e c).before 0 t d = xBlk e.fs (t.val / 4) (t.val % 4) := by
  unfold Dat.before; rw [if_pos (fetch0_0 t)]; exact blk0_eq e c t
theorem before0_1 (c : Dev nD) (t : Fin cfg0.N) (d) : (dat0 e c).before 1 t d = yBlk e.gs (t.val / 4) (t.val % 4) := by
  unfold Dat.before; rw [if_pos (fetch0_1 t)]; exact blk1_eq e c t

theorem body0 (c : Dev nD) : BodyObligation (dat0 e c) (defs₀ (F := F)) 𝒱₀ none Set.univ := fun t => by
  rw [bigSep_W0, bigSep_W0, show (dat0 e c).Φ t.succ = (dat0 e c).Φ t.castSucc from rfl,
    show (dat0 e c).owesAt none t.succ = (dat0 e c).owesAt none t.castSucc from rfl]
  iintro ⟨HΦ, Howes, ⟨%d0, H0⟩, ⟨%d1, H1⟩, ⟨%d2, H2⟩⟩
  rw [before0_0, before0_1]
  iapply (main_run c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (xBlk e.fs (t.val / 4) (t.val % 4)) (yBlk e.gs (t.val / 4) (t.val % 4)) ((dat0 e c).before 2 t d2))
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The last kernel's windows: the whole arrays -/

theorem idx2_0 : ∀ t : Fin grid2.N, win2_0.index t = fun _ => 0 := by decide +kernel
theorem idx2_1 : ∀ t : Fin grid2.N, win2_1.index t = fun _ => 0 := by decide +kernel
theorem idx2_2 : ∀ t : Fin grid2.N, win2_2.index t = fun _ => 0 := by decide +kernel
theorem idx2_3 : ∀ t : Fin grid2.N, win2_3.index t = fun _ => 0 := by decide +kernel

theorem before2_0 (c : Dev nD) (t : Fin cfg2.N) (d) : (dat2 e c).before 0 t d = e.p0 := by
  unfold Dat.before; rw [if_pos (fetch2_0 t)]
  funext y
  exact congrArg e.p0 (funext fun a => Fin.ext (Pipeline.Window.rect_emb_val_of_index_zero win2_0 t a (congrFun (idx2_0 t) a) y))
theorem before2_1 (c : Dev nD) (t : Fin cfg2.N) (d) : (dat2 e c).before 1 t d = e.p1 := by
  unfold Dat.before; rw [if_pos (fetch2_1 t)]
  funext y
  exact congrArg e.p1 (funext fun a => Fin.ext (Pipeline.Window.rect_emb_val_of_index_zero win2_1 t a (congrFun (idx2_1 t) a) y))
theorem before2_2 (c : Dev nD) (t : Fin cfg2.N) (d) : (dat2 e c).before 2 t d = e.t := by
  unfold Dat.before; rw [if_pos (fetch2_2 t)]
  funext y
  exact congrArg e.t (funext fun a => Fin.ext (Pipeline.Window.rect_emb_val_of_index_zero win2_2 t a (congrFun (idx2_2 t) a) y))

/-- The last kernel's array when the pipeline has run. -/
theorem arr2_out (c : Dev nD) : (dat2 e c).arrAt 3 cfg2.N = combBlk e.p0 e.p1 e.t := by
  refine Dat.arrAt_eq_of_cover (dat2 e c) 3 (combBlk e.p0 e.p1 e.t) (fun t _ => ?_) fun x => ?_
  · funext y; rfl
  · refine ⟨t2_0, flush2_3 _, Finset.mem_map.mpr ⟨x, Finset.mem_univ _, ?_⟩⟩
    exact funext fun a => Fin.ext (Pipeline.Window.rect_emb_val_of_index_zero win2_3 t2_0 a (congrFun (idx2_3 t2_0) a) x)

theorem body2 (c : Dev nD) : BodyObligation (dat2 e c) (defs₀ (F := F)) 𝒱₀ none Set.univ := fun t => by
  rw [bigSep_W2, bigSep_W2, show (dat2 e c).Φ t.succ = (dat2 e c).Φ t.castSucc from rfl,
    show (dat2 e c).owesAt none t.succ = (dat2 e c).owesAt none t.castSucc from rfl]
  iintro ⟨HΦ, Howes, ⟨%d0, H0⟩, ⟨%d1, H1⟩, ⟨%d2, H2⟩, ⟨%d3, H3⟩⟩
  rw [before2_0, before2_1, before2_2]
  iapply (comb_run c (win2_0.stage (cfg2.slots t 0)) (hstage2_0 0) (win2_1.stage (cfg2.slots t 1)) (hstage2_1 0)
    (win2_2.stage (cfg2.slots t 2)) (hstage2_2 0) (win2_3.stage (cfg2.slots t 3)) (hstage2_3 0) e.p0 e.p1 e.t ((dat2 e c).before 3 t d3))
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

end Cert.Proof

end
-- ==== Proof.Store.lean ====
/-
  The task's sums set out in its scratch row — box of object `n` at `32 n`, activation at `32 n + 16` — and the row of
  a result the row is copied to.
-/
module

public import proofs.«01_k».proof.Proof.Move

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The row -/

/-- A lane of a register; an element of the row; of a result. -/
def ln (p : ℕ) : S16.Idx := fun | 0 => ⟨p % 16, Nat.mod_lt _ (by decide)⟩
def ixA (p : ℕ) (hp : p < 256) : S256.Idx := fun | 0 => ⟨p, hp⟩

/-- The sixteen registers in the row's order: box and activation of object 0, of object 1, … -/
def vecs (st : St F) (t : ℕ) : V16 F :=
  if t % 2 = 0 then st.1 ⟨t / 2 % 8, Nat.mod_lt _ (by decide)⟩ else st.2 ⟨t / 2 % 8, Nat.mod_lt _ (by decide)⟩

/-- What stands at place `p` of the row. -/
def rowVal (st : St F) (p : ℕ) : F .f32 := vecs st (p / 16) (ln p)

section
variable (d : Dev nD) (L : grid1.Coords)

/-- The first `j` registers stand in the row. -/
def HoldsA (st : St F) (j : ℕ) (f : Buf (Elt F) (aV.view.loc (VT d L))) : Prop :=
  ∀ p (hp : p < 256), p < 16 * j → f (ixA p hp) = rowVal st p

theorem HoldsA_write {st : St F} {j : ℕ} (hj : j < 16) {o : ℕ} (ho : o = 16 * j) (h : ∀ a, (![o] : Fin 1 → ℕ) a + S16.size a ≤ S256.size a)
    {f : Buf (Elt F) (aV.view.loc (VT d L))} (hf : HoldsA d L st j f) (v : V16 F) (hv : v = vecs st j) :
    HoldsA d L st (j + 1) ((aV.access (Rect.unit (s := S256) ![o] S16.size h)).write (Elt F) f v Finset.univ) := by
  subst hv
  intro p hp hlt
  by_cases hlo : p < 16 * j
  · refine (View.write_of_not_mem _ _ _ ?_).trans (hf p hp hlo)
    intro hm
    obtain ⟨y, -, e⟩ := Finset.mem_map.mp hm
    have := congrArg (fun x => (x 0).val) e
    change o + 1 * (y 0).val = p at this
    omega
  · have hlane : p - o < 16 := by omega
    have e : ixA p hp = (aV.access (Rect.unit (s := S256) ![o] S16.size h)).emb (fun | 0 => ⟨p - o, hlane⟩ : S16.Idx) := by
      funext a
      match a with
      | 0 => apply Fin.ext; show p = o + 1 * (p - o); omega
    rw [e]
    refine (View.write_emb_of_mem _ _ (Finset.mem_univ _)).trans ?_
    rw [cast_eq]
    unfold rowVal
    have h1 : p / 16 = j := by omega
    rw [h1]
    congr 1; funext a
    match a with
    | 0 => apply Fin.ext; show p - o = p % 16; omega

/-- The scratch row. -/
abbrev ptsA (f : Buf (Elt F) (aV.view.loc (VT d L))) : sProp (M F) := aV.view.loc (VT d L) ↦{fullShare} f
abbrev heldA (st : St F) (j : ℕ) : sProp (M F) := iprop(∃ f, ⌜HoldsA d L st j f⌝ ∗ ptsA d L f)

variable [FloatOps F]

local notation "WP" => wp frame (wpE (defs₀ (F := F)) 𝒱₀ (VT d L) none) Set.univ

/-- Reading the row changes nothing, and what is read is not used. -/
theorem wp_ldA {st : St F} {j : ℕ} {r : LoadRect S256} {hl : aV.view.LoadsAt r} {α : Type} {k : (r.shape.Idx → Elt F .f32) → TP F L α} {Q : α → sProp (M F)} :
    heldA d L st j ⊢ iprop((∀ v, heldA d L st j -∗ WP (k v) Q) -∗ WP (.op (.load aV r hl) k) Q) := by
  iintro ⟨%f, %hf, H⟩ HQ
  iapply (wp_load 𝒱₀ (VT d L) none Set.univ (Finset.subset_univ _)) $$ H
  iintro H
  iapply HQ
  iexists f
  isplitr; · ipureintro; exact hf
  iexact H

/-- The next register is stored. -/
theorem wp_stA {st : St F} {j : ℕ} (hj : j < 16) {o : ℕ} (ho : o = 16 * j) {h : ∀ a, (![o] : Fin 1 → ℕ) a + S16.size a ≤ S256.size a} (v : V16 F)
    (hv : v = vecs st j) {hx : (aV.access (Rect.unit (s := S256) ![o] S16.size h)).Stores Finset.univ}
    {hm : (Finset.univ : Finset (Rect.unit (s := S256) ![o] S16.size h).shape.Idx) = Finset.univ ∨ ∀ a, (Rect.unit (s := S256) ![o] S16.size h).stride a = 1}
    {hc : S16.ShapeCasts S16} {α : Type} {k : PUnit → TP F L α} {Q : α → sProp (M F)} :
    heldA d L st j ⊢ iprop((heldA d L st (j + 1) -∗ WP (k ⟨⟩) Q)
      -∗ WP (.op (.store aV (Rect.unit (s := S256) ![o] S16.size h) (shapeCast S16 v hc) Finset.univ hx hm) k) Q) := by
  rw [show shapeCast S16 v hc = v by funext x; exact congrArg v (Shape.reshapeEquiv_eq_of_rowMajor _ rfl)]
  iintro ⟨%f, %hf, H⟩ HQ
  iapply (wp_store (m := aV) (r := Rect.unit (s := S256) ![o] S16.size h) 𝒱₀ (VT d L) none Set.univ (Finset.subset_univ _)) $$ H
  iintro H
  iapply HQ
  iexists _
  isplitr; · ipureintro; exact HoldsA_write d L hj ho h hf v hv
  iexact H

end

/-! ## The results' rows -/

def mkL (c : Fin 2) (s : Fin 16) : grid1.Coords := fun
  | 0 => c | 1 => s | ⟨_ + 2, h⟩ => absurd h (Nat.not_lt.2 (Nat.le_add_left _ _))

theorem mkL_eq (L : grid1.Coords) : mkL (L 0) (L 1) = L := by
  funext a
  match a with
  | 0 => rfl
  | 1 => rfl

/-- The elements of the first result that the task writes: its row, on SparseCore 0; of the second: on SparseCore 1. -/
def R0 (L : grid1.Coords) : Finset S16x256.Idx := Finset.univ.filter fun x => (L 0).val = 0 ∧ (x 0).val = (L 1).val
def R1 (L : grid1.Coords) : Finset S16x256.Idx := Finset.univ.filter fun x => (L 0).val = 1 ∧ (x 0).val = (L 1).val

theorem cond1_iff : ∀ L : grid1.Coords, k1_cond1 L = 1#1 ↔ (L 0).val = 0 := by decide +kernel
theorem cond2_iff : ∀ L : grid1.Coords, k1_cond2 L = 1#1 ↔ (L 0).val = 1 := by decide +kernel

/-- The row of each result the task copies to. -/
@[reducible] def dst0 (L : grid1.Coords) (h : k1_cond1 L = 1#1) : Memref sig .scVector .hbm S256 .f32 :=
  (oV0.slice (Rect.unit (s := S16x256) (k1_off435 L) S1x256.size (k1_off435_inb L h)) (fun _ => rfl)).squeeze S256 squeezes_S1x256_S256
@[reducible] def dst1 (L : grid1.Coords) (h : k1_cond2 L = 1#1) : Memref sig .scVector .hbm S256 .f32 :=
  (oV1.slice (Rect.unit (s := S16x256) (k1_off436 L) S1x256.size (k1_off436_inb L h)) (fun _ => rfl)).squeeze S256 squeezes_S1x256_S256

theorem resh_row (h : S256.numel = S1x256.numel) (y : S256.Idx) :
    Shape.reshapeEquiv h y = (fun | 0 => ⟨0, by decide⟩ | 1 => y 0 : S1x256.Idx) := by
  refine Shape.reshapeEquiv_eq_of_rowMajor _ ?_
  refine (Shape.rowMajor_val_two _).trans (Eq.trans ?_ (Shape.rowMajor_val_one _).symm)
  show 0 * 256 + (y 0).val = (y 0).val
  omega

def ixO (r : Fin 16) (p : Fin 256) : S16x256.Idx := fun | 0 => r | 1 => p

theorem emb_dst0 (L : grid1.Coords) (h : k1_cond1 L = 1#1) (y : S256.Idx) : (dst0 L h).view.emb y = ixO (L 1) (y 0) := by
  funext a
  apply Fin.ext
  show (k1_off435 L) a + 1 * ((Shape.reshapeEquiv squeezes_S1x256_S256.numel_eq y) a).val = _
  rw [resh_row, k1_off435_eq]
  match a with
  | 0 => show (L 1).val + 1 * 0 = (L 1).val; omega
  | 1 => show 0 + 1 * (y 0).val = (y 0).val; omega
theorem emb_dst1 (L : grid1.Coords) (h : k1_cond2 L = 1#1) (y : S256.Idx) : (dst1 L h).view.emb y = ixO (L 1) (y 0) := by
  funext a
  apply Fin.ext
  show (k1_off436 L) a + 1 * ((Shape.reshapeEquiv squeezes_S1x256_S256.numel_eq y) a).val = _
  rw [resh_row, k1_off436_eq]
  match a with
  | 0 => show (L 1).val + 1 * 0 = (L 1).val; omega
  | 1 => show 0 + 1 * (y 0).val = (y 0).val; omega

theorem dst0_sub (L : grid1.Coords) (h : k1_cond1 L = 1#1) : (dst0 L h).view.set ⊆ R0 L := by
  intro x hx
  obtain ⟨y, -, e⟩ := Finset.mem_map.mp hx
  have e := (emb_dst0 L h y).symm.trans e
  subst e
  exact Finset.mem_filter.mpr ⟨Finset.mem_univ _, (cond1_iff L).mp h, rfl⟩
theorem dst1_sub (L : grid1.Coords) (h : k1_cond2 L = 1#1) : (dst1 L h).view.set ⊆ R1 L := by
  intro x hx
  obtain ⟨y, -, e⟩ := Finset.mem_map.mp hx
  have e := (emb_dst1 L h y).symm.trans e
  subst e
  exact Finset.mem_filter.mpr ⟨Finset.mem_univ _, (cond2_iff L).mp h, rfl⟩

end Cert.Proof
-- ==== Proof.PartsA.lean ====
/-
  The kernel's windows before the sums, and the first six rows of the first band.
-/
module

public import proofs.«01_k».proof.Proof.TileProg

@[expose] public section

set_option maxRecDepth 65536
set_option maxHeartbeats 8000000

noncomputable section

namespace Cert.Proof

open Cert.KernelIdeal
open Idealize.ShloMosaic
open Idealize.SL.Sem

variable {F : FTy → Type} [FloatOps F] [Facts]

open Facts₀ Facts

variable (i : grid1.Coords) (arg2 : Memref sig .scVector .hbm S2x5x384x384 .f32) (harg2 : arg2.IsWhole)
  (arg3 : Memref sig .scVector .hbm S2x5x8x384x384 .f32) (harg3 : arg3.IsWhole)
  (arg4 : Memref sig .scVector .hbm S16x256 .f32) (harg4 : arg4.IsWhole) (arg5 : Memref sig .scVector .hbm S16x256 .f32) (harg5 : arg5.IsWhole)
  (arg6 : Memref sig .scVector .vmem S2x16x384 .f32) (harg6 : arg6.IsWhole) (arg7 : Memref sig .scVector .vmem S2x8x16x384 .f32) (harg7 : arg7.IsWhole)
  (arg8 : Memref sig .scVector .vmem S256 .f32) (harg8 : arg8.IsWhole)
  (arg9 arg10 arg11 arg12 v308_r0 v308_r1 : DmaSems sig S_) (b a : Fin 8 → V16 F)

theorem part337_eq : ∃ w0 w1 w2 w3 w4 w5 w6 w7, k1_part337 (F := F) i arg2 harg2 arg3 harg3 arg4 harg4 arg5 harg5 arg6 harg6 arg7 harg7 arg8 harg8 arg9 arg10 arg11 arg12 v308_r0 v308_r1
    = pure ⟨w0, w1, w2, w3, w4, w5, w6, w7⟩ ∧ w0 = BitVec.ofNat 32 (i 0).val :=
  ⟨_, _, _, _, _, _, _, _, rfl, rfl⟩

theorem part338_eq (w1 w2 w3 w4 w5 w6 w7 : BitVec 32) : ∃ w, k1_part338 (F := F) i arg2 harg2 arg3 harg3 arg4 harg4 arg5 harg5 arg6 harg6 arg7 harg7 arg8 harg8 arg9 arg10 arg11 arg12 v308_r0 v308_r1 w1 w2 w3 w4 w5 w6 w7
    = (enqL i arg2 arg6 arg9 0 (sl := 0) (by decide) >>= fun _ => pure ⟨w, zero16⟩) :=
  ⟨_, rfl⟩

theorem part339_eq (w : BitVec 32) : k1_part339 (F := F) i arg2 harg2 arg3 harg3 arg4 harg4 arg5 harg5 arg6 harg6 arg7 harg7 arg8 harg8 arg9 arg10 arg11 arg12 v308_r0 v308_r1 w
    = (enqM i arg3 arg7 arg11 0 (sl := 0) (by decide) >>= fun _ => enqL i arg2 arg6 arg10 1 (sl := 1) (by decide) >>= fun _ =>
        enqM i arg3 arg7 arg12 1 (sl := 1) (by decide) >>= fun _ => pure ⟨⟩) :=
  rfl

theorem part340_eq : k1_part340 (F := F) i arg2 harg2 arg3 harg3 arg4 harg4 arg5 harg5 arg6 harg6 arg7 harg7 arg8 harg8 arg9 arg10 arg11 arg12 v308_r0 v308_r1 zero16
    = (waitL i arg2 arg6 arg9 0 (sl := 0) (by decide) >>= fun _ => waitM i arg3 arg7 arg11 0 (sl := 0) (by decide) >>= fun _ =>
        rowsProg i arg6 arg7 0 (by decide) [0, 1, 2, 3, 4, 5] (tup (fun _ => zero16) (fun _ => zero16)) fun c => pure (outB 0#32 c)) :=
  rfl

theorem part342_eq (w w' : BitVec 32) : k1_part342 (F := F) i arg2 harg2 arg3 harg3 arg4 harg4 arg5 harg5 arg6 harg6 arg7 harg7 arg8 harg8 arg9 arg10 arg11 arg12 v308_r0 v308_r1 w w'
    = (enqL i arg2 arg6 arg9 2 (sl := 0) (by decide) >>= fun _ => enqM i arg3 arg7 arg11 2 (sl := 0) (by decide) >>= fun _ =>
        waitL i arg2 arg6 arg10 1 (sl := 1) (by decide) >>= fun _ => pure ⟨⟩) :=
  rfl

end Cert.Proof
-- ==== Proof.PartsB.lean ====
/-
  The last ten rows of the first band.
-/
module

public import proofs.«01_k».proof.Proof.TileProg

@[expose] public section

set_option maxRecDepth 65536
set_option maxHeartbeats 8000000

noncomputable section

namespace Cert.Proof

open Cert.KernelIdeal
open Idealize.ShloMosaic
open Idealize.SL.Sem

variable {F : FTy → Type} [FloatOps F] [Facts]

open Facts₀ Facts

variable (i : grid1.Coords) (arg2 : Memref sig .scVector .hbm S2x5x384x384 .f32) (harg2 : arg2.IsWhole)
  (arg3 : Memref sig .scVector .hbm S2x5x8x384x384 .f32) (harg3 : arg3.IsWhole)
  (arg4 : Memref sig .scVector .hbm S16x256 .f32) (harg4 : arg4.IsWhole) (arg5 : Memref sig .scVector .hbm S16x256 .f32) (harg5 : arg5.IsWhole)
  (arg6 : Memref sig .scVector .vmem S2x16x384 .f32) (harg6 : arg6.IsWhole) (arg7 : Memref sig .scVector .vmem S2x8x16x384 .f32) (harg7 : arg7.IsWhole)
  (arg8 : Memref sig .scVector .vmem S256 .f32) (harg8 : arg8.IsWhole)
  (arg9 arg10 arg11 arg12 v308_r0 v308_r1 : DmaSems sig S_) (b a : Fin 8 → V16 F)

theorem part341_eq (w : BitVec 32) : k1_part341 (F := F) i arg2 harg2 arg3 harg3 arg4 harg4 arg5 harg5 arg6 harg6 arg7 harg7 arg8 harg8 arg9 arg10 arg11 arg12 v308_r0 v308_r1 (b 0) (b 1) (b 2) (b 3) (b 4) (b 5) (b 6) (b 7) (a 0) (a 1) (a 2) (a 3) (a 4) (a 5) (a 6) (a 7) w
    = (rowsProg i arg6 arg7 0 (by decide) [6, 7, 8, 9, 10, 11, 12, 13, 14, 15] (tup b a) fun c => pure (outB 32#32 c)) :=
  rfl

end Cert.Proof
-- ==== Proof.PartsC.lean ====
/-
  The second band.
-/
module

public import proofs.«01_k».proof.Proof.TileProg

@[expose] public section

set_option maxRecDepth 65536
set_option maxHeartbeats 8000000

noncomputable section

namespace Cert.Proof

open Cert.KernelIdeal
open Idealize.ShloMosaic
open Idealize.SL.Sem

variable {F : FTy → Type} [FloatOps F] [Facts]

open Facts₀ Facts

variable (i : grid1.Coords) (arg2 : Memref sig .scVector .hbm S2x5x384x384 .f32) (harg2 : arg2.IsWhole)
  (arg3 : Memref sig .scVector .hbm S2x5x8x384x384 .f32) (harg3 : arg3.IsWhole)
  (arg4 : Memref sig .scVector .hbm S16x256 .f32) (harg4 : arg4.IsWhole) (arg5 : Memref sig .scVector .hbm S16x256 .f32) (harg5 : arg5.IsWhole)
  (arg6 : Memref sig .scVector .vmem S2x16x384 .f32) (harg6 : arg6.IsWhole) (arg7 : Memref sig .scVector .vmem S2x8x16x384 .f32) (harg7 : arg7.IsWhole)
  (arg8 : Memref sig .scVector .vmem S256 .f32) (harg8 : arg8.IsWhole)
  (arg9 arg10 arg11 arg12 v308_r0 v308_r1 : DmaSems sig S_) (b a : Fin 8 → V16 F)

theorem part343_eq : k1_part343 (F := F) i arg2 harg2 arg3 harg3 arg4 harg4 arg5 harg5 arg6 harg6 arg7 harg7 arg8 harg8 arg9 arg10 arg11 arg12 v308_r0 v308_r1 (b 0) (b 1) (b 2) (b 3) (b 4) (b 5) (b 6) (b 7) (a 0) (a 1) (a 2) (a 3) (a 4) (a 5) (a 6) (a 7)
    = (waitM i arg3 arg7 arg12 1 (sl := 1) (by decide) >>= fun _ =>
        rowsProg i arg6 arg7 1 (by decide) [0, 1, 2, 3, 4, 5, 6, 7] (tup b a) fun c => pure (outV c)) :=
  rfl

theorem part344_eq : k1_part344 (F := F) i arg2 harg2 arg3 harg3 arg4 harg4 arg5 harg5 arg6 harg6 arg7 harg7 arg8 harg8 arg9 arg10 arg11 arg12 v308_r0 v308_r1 (b 0) (b 1) (b 2) (b 3) (b 4) (b 5) (b 6) (b 7) (a 0) (a 1) (a 2) (a 3) (a 4) (a 5) (a 6) (a 7)
    = (rowsProg i arg6 arg7 1 (by decide) [8, 9, 10, 11, 12, 13, 14, 15] (tup b a) fun c => pure (outV c)) :=
  rfl

end Cert.Proof
-- ==== Proof.PartsD.lean ====
/-
  The third band.
-/
module

public import proofs.«01_k».proof.Proof.TileProg

@[expose] public section

set_option maxRecDepth 65536
set_option maxHeartbeats 8000000

noncomputable section

namespace Cert.Proof

open Cert.KernelIdeal
open Idealize.ShloMosaic
open Idealize.SL.Sem

variable {F : FTy → Type} [FloatOps F] [Facts]

open Facts₀ Facts

variable (i : grid1.Coords) (arg2 : Memref sig .scVector .hbm S2x5x384x384 .f32) (harg2 : arg2.IsWhole)
  (arg3 : Memref sig .scVector .hbm S2x5x8x384x384 .f32) (harg3 : arg3.IsWhole)
  (arg4 : Memref sig .scVector .hbm S16x256 .f32) (harg4 : arg4.IsWhole) (arg5 : Memref sig .scVector .hbm S16x256 .f32) (harg5 : arg5.IsWhole)
  (arg6 : Memref sig .scVector .vmem S2x16x384 .f32) (harg6 : arg6.IsWhole) (arg7 : Memref sig .scVector .vmem S2x8x16x384 .f32) (harg7 : arg7.IsWhole)
  (arg8 : Memref sig .scVector .vmem S256 .f32) (harg8 : arg8.IsWhole)
  (arg9 arg10 arg11 arg12 v308_r0 v308_r1 : DmaSems sig S_) (b a : Fin 8 → V16 F)

theorem part345_eq : k1_part345 (F := F) i arg2 harg2 arg3 harg3 arg4 harg4 arg5 harg5 arg6 harg6 arg7 harg7 arg8 harg8 arg9 arg10 arg11 arg12 v308_r0 v308_r1 (b 0) (b 1) (b 2) (b 3) (b 4) (b 5) (b 6) (b 7) (a 0) (a 1) (a 2) (a 3) (a 4) (a 5) (a 6) (a 7)
    = (waitL i arg2 arg6 arg9 2 (sl := 0) (by decide) >>= fun _ => waitM i arg3 arg7 arg11 2 (sl := 0) (by decide) >>= fun _ =>
        rowsProg i arg6 arg7 0 (by decide) [0, 1, 2, 3, 4, 5] (tup b a) fun c => pure (outV c)) :=
  rfl

theorem part346_eq : k1_part346 (F := F) i arg2 harg2 arg3 harg3 arg4 harg4 arg5 harg5 arg6 harg6 arg7 harg7 arg8 harg8 arg9 arg10 arg11 arg12 v308_r0 v308_r1 (b 0) (b 1) (b 2) (b 3) (b 4) (b 5) (b 6) (b 7) (a 0) (a 1) (a 2) (a 3) (a 4) (a 5) (a 6) (a 7)
    = (rowsProg i arg6 arg7 0 (by decide) [6, 7, 8, 9, 10, 11, 12, 13, 14, 15] (tup b a) fun c => pure (outV c)) :=
  rfl

end Cert.Proof
-- ==== Proof.Tile.lean ====
/-
  The SparseCore kernel's body, run once at a symbolic pair of SparseCore and subcore, with the values it leaves.
-/
module

public import proofs.«01_k».proof.Proof.Store
public import proofs.«01_k».proof.Proof.PartsA
public import proofs.«01_k».proof.Proof.PartsB
public import proofs.«01_k».proof.Proof.PartsC
public import proofs.«01_k».proof.Proof.PartsD

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The values -/

def st0 : St F := (fun _ => zero16, fun _ => zero16)

def rsA : List (Fin 16) := [0, 1, 2, 3, 4, 5]
def rsB : List (Fin 16) := [6, 7, 8, 9, 10, 11, 12, 13, 14, 15]
def rsC : List (Fin 16) := [0, 1, 2, 3, 4, 5, 6, 7]
def rsD : List (Fin 16) := [8, 9, 10, 11, 12, 13, 14, 15]

/-- The registers after band 0, band 1, band 2. -/
def tileSt (fs : S2x5x384x384.Idx → F .f32) (gs : S2x5x8x384x384.Idx → F .f32) (L : grid1.Coords) : St F :=
  rowsSt (bandX fs L 2) (bandY gs L 2) rsB (rowsSt (bandX fs L 2) (bandY gs L 2) rsA
    (rowsSt (bandX fs L 1) (bandY gs L 1) rsD (rowsSt (bandX fs L 1) (bandY gs L 1) rsC
      (rowsSt (bandX fs L 0) (bandY gs L 0) rsB (rowsSt (bandX fs L 0) (bandY gs L 0) rsA st0)))))

/-- The two results of the kernel. -/
def out0 (fs : S2x5x384x384.Idx → F .f32) (gs : S2x5x8x384x384.Idx → F .f32) : S16x256.Idx → F .f32 :=
  fun x => rowVal (tileSt fs gs (mkL 0 (x 0))) (x 1).val
def out1 (fs : S2x5x384x384.Idx → F .f32) (gs : S2x5x8x384x384.Idx → F .f32) : S16x256.Idx → F .f32 :=
  fun x => rowVal (tileSt fs gs (mkL 1 (x 0))) (x 1).val

section
variable (d : Dev nD) (L : grid1.Coords)
variable (fs : S2x5x384x384.Idx → F .f32) (gs : S2x5x8x384x384.Idx → F .f32)

/-- The task's part of each result. -/
abbrev pts0 (o : S16x256.Idx → F .f32) : sProp (M F) := oV0.view.loc (VT d L) ↦[R0 L]{fullShare} (o : Buf (Elt F) (oV0.view.loc (VT d L)))
abbrev pts1 (o : S16x256.Idx → F .f32) : sProp (M F) := oV1.view.loc (VT d L) ↦[R1 L]{fullShare} (o : Buf (Elt F) (oV1.view.loc (VT d L)))

/-- The cells the task's transfers signal. -/
abbrev cellv (k : DmaSems sig S_) : sProp (M F) := semVal (VT d L, .dma k.sem) 0

theorem landed0 (h : k1_cond1 L = 1#1) {f : Buf (Elt F) (aV.view.loc (VT d L))} (hf : HoldsA d L (tileSt fs gs L) 16 f)
    (o : Buf (Elt F) (oV0.view.loc (VT d L))) (x : S16x256.Idx) (hx : x ∈ R0 L) :
    (dst0 L h).view.write (Elt F) o (ReadAs.same.apply (aV.view.read (Elt F) f)) Finset.univ x = out0 fs gs x := by
  obtain ⟨-, h0, h1⟩ := Finset.mem_filter.mp hx
  have e : x = (dst0 L h).view.emb (ixA (x 1).val (x 1).isLt) := by
    rw [emb_dst0]; funext a
    match a with
    | 0 => exact Fin.ext h1
    | 1 => rfl
  have eL : mkL 0 (x 0) = L := by
    rw [← mkL_eq L]; congr 1
    · exact (Fin.ext h0 : L 0 = (0 : Fin 2)).symm
    · exact Fin.ext h1
  have key : (dst0 L h).view.write (Elt F) o (ReadAs.same.apply (aV.view.read (Elt F) f)) Finset.univ ((dst0 L h).view.emb (ixA (x 1).val (x 1).isLt))
      = f (ixA (x 1).val (x 1).isLt) := (View.write_emb_of_mem _ _ (Finset.mem_univ _)).trans rfl
  have lt : (x 1).val < 256 := (x 1).isLt
  refine (congrArg _ e).trans (key.trans ((hf (x 1).val (x 1).isLt (by omega)).trans ?_))
  unfold out0; rw [eL]

theorem landed1 (h : k1_cond2 L = 1#1) {f : Buf (Elt F) (aV.view.loc (VT d L))} (hf : HoldsA d L (tileSt fs gs L) 16 f)
    (o : Buf (Elt F) (oV1.view.loc (VT d L))) (x : S16x256.Idx) (hx : x ∈ R1 L) :
    (dst1 L h).view.write (Elt F) o (ReadAs.same.apply (aV.view.read (Elt F) f)) Finset.univ x = out1 fs gs x := by
  obtain ⟨-, h0, h1⟩ := Finset.mem_filter.mp hx
  have e : x = (dst1 L h).view.emb (ixA (x 1).val (x 1).isLt) := by
    rw [emb_dst1]; funext a
    match a with
    | 0 => exact Fin.ext h1
    | 1 => rfl
  have eL : mkL 1 (x 0) = L := by
    rw [← mkL_eq L]; congr 1
    · exact (Fin.ext h0 : L 0 = (1 : Fin 2)).symm
    · exact Fin.ext h1
  have key : (dst1 L h).view.write (Elt F) o (ReadAs.same.apply (aV.view.read (Elt F) f)) Finset.univ ((dst1 L h).view.emb (ixA (x 1).val (x 1).isLt))
      = f (ixA (x 1).val (x 1).isLt) := (View.write_emb_of_mem _ _ (Finset.mem_univ _)).trans rfl
  have lt : (x 1).val < 256 := (x 1).isLt
  refine (congrArg _ e).trans (key.trans ((hf (x 1).val (x 1).isLt (by omega)).trans ?_))
  unfold out1; rw [eL]

local notation "WP" => wp frame (wpE (defs₀ (F := F)) 𝒱₀ (VT d L) none) Set.univ

variable {O : CellTallies nD τ sig (HIx 1)} {W : Waits sig (HIx 1)}

/-- The row copied out: to the first result on SparseCore 0, to the second on SparseCore 1. -/
theorem wp_copy0 (h : k1_cond1 L = 1#1) (o : S16x256.Idx → F .f32) {α : Type} {k : PUnit → TP F L α} {Q : α → sProp (M F)} :
    iprop(Transfers.MayWaits (VT d L) (default : HIx 1) O ∗ heldA d L (tileSt fs gs L) 16 ∗ pts0 d L o ∗ cellv d L cc1_scoped0 ∗ owes (VT d L) O W)
      ⊢ iprop((iprop((∃ f, ptsA d L f) ∗ pts0 d L (out0 fs gs) ∗ cellv d L cc1_scoped0 ∗ ∃ W', owes (VT d L) O W') -∗ WP (k ⟨⟩) Q)
          -∗ WP (.op (.enqueueDma aV (.here (dst0 L h)) (.dma cc1_scoped0.sem) (Memref.isWhole_whole _).wordExact ((View.wordExact_bits rfl).reshape _ _) ⟨Or.inl rfl, trivial⟩)
              fun _ => .op (.waitDma2 cc1_scoped0.sem aV (dst0 L h) (Memref.isWhole_whole _).wordExact ((View.wordExact_bits rfl).reshape _ _)) k) Q) := by
  iintro ⟨Hmw, ⟨%f, %hf, HA⟩, HR, HD, HO⟩ HQ
  iapply (Transfers.wp_dmaFromWhole (src := aV) (dst := dst0 L h) (sm := .dma cc1_scoped0.sem) (fs := f) (fd := o) EC 𝒱₀ (VT d L) none (default : HIx 1) (dst0 L h).view.dmaCredit rfl
    (View.dmaCredit_pos _ (Shape.numel_pos (by decide))) (dst0_sub L h)) $$ [HA HR HD]
  · isplitl [HA]; · iexact HA
    isplitl [HR]; · iexact HR
    iexact HD
  iintro Hf
  ihave Hm := (Transfers.MayWaits.elim (.dma cc1_scoped0.sem)) $$ Hmw
  iapply (Transfers.wp_waitLocalO EC 𝒱₀ (VT d L) none (default : HIx 1) rfl) $$ [Hf HO Hm]
  · isplitl [Hf]; · iexact Hf
    isplitl [HO] <;> iassumption
  iintro ⟨⟨HR, HA⟩, HD, HO⟩
  iapply HQ
  isplitl [HA]; · iexists f; iexact HA
  isplitl [HR]
  · iapply (Entails.of_eq (pointsTo_congr (landed0 d L fs gs h hf o))) $$ HR
  isplitl [HD]; · iexact HD
  iexists _; iexact HO

theorem wp_copy1 (h : k1_cond2 L = 1#1) (o : S16x256.Idx → F .f32) {α : Type} {k : PUnit → TP F L α} {Q : α → sProp (M F)} :
    iprop(Transfers.MayWaits (VT d L) (default : HIx 1) O ∗ heldA d L (tileSt fs gs L) 16 ∗ pts1 d L o ∗ cellv d L cc1_scoped1 ∗ owes (VT d L) O W)
      ⊢ iprop((iprop((∃ f, ptsA d L f) ∗ pts1 d L (out1 fs gs) ∗ cellv d L cc1_scoped1 ∗ ∃ W', owes (VT d L) O W') -∗ WP (k ⟨⟩) Q)
          -∗ WP (.op (.enqueueDma aV (.here (dst1 L h)) (.dma cc1_scoped1.sem) (Memref.isWhole_whole _).wordExact ((View.wordExact_bits rfl).reshape _ _) ⟨Or.inl rfl, trivial⟩)
              fun _ => .op (.waitDma2 cc1_scoped1.sem aV (dst1 L h) (Memref.isWhole_whole _).wordExact ((View.wordExact_bits rfl).reshape _ _)) k) Q) := by
  iintro ⟨Hmw, ⟨%f, %hf, HA⟩, HR, HD, HO⟩ HQ
  iapply (Transfers.wp_dmaFromWhole (src := aV) (dst := dst1 L h) (sm := .dma cc1_scoped1.sem) (fs := f) (fd := o) EC 𝒱₀ (VT d L) none (default : HIx 1) (dst1 L h).view.dmaCredit rfl
    (View.dmaCredit_pos _ (Shape.numel_pos (by decide))) (dst1_sub L h)) $$ [HA HR HD]
  · isplitl [HA]; · iexact HA
    isplitl [HR]; · iexact HR
    iexact HD
  iintro Hf
  ihave Hm := (Transfers.MayWaits.elim (.dma cc1_scoped1.sem)) $$ Hmw
  iapply (Transfers.wp_waitLocalO EC 𝒱₀ (VT d L) none (default : HIx 1) rfl) $$ [Hf HO Hm]
  · isplitl [Hf]; · iexact Hf
    isplitl [HO] <;> iassumption
  iintro ⟨⟨HR, HA⟩, HD, HO⟩
  iapply HQ
  isplitl [HA]; · iexists f; iexact HA
  isplitl [HR]
  · iapply (Entails.of_eq (pointsTo_congr (landed1 d L fs gs h hf o))) $$ HR
  isplitl [HD]; · iexact HD
  iexists _; iexact HO

omit [FloatOps F] in
/-- On the other SparseCore the task's part of the result is empty. -/
theorem pts0_any (h : ¬ (L 0).val = 0) (o o' : S16x256.Idx → F .f32) : pts0 d L o ⊢ pts0 d L o' :=
  Entails.of_eq (pointsTo_congr fun x hx => absurd (Finset.mem_filter.mp hx).2.1 h)
omit [FloatOps F] in
theorem pts1_any (h : ¬ (L 0).val = 1) (o o' : S16x256.Idx → F .f32) : pts1 d L o ⊢ pts1 d L o' :=
  Entails.of_eq (pointsTo_congr fun x hx => absurd (Finset.mem_filter.mp hx).2.1 h)

set_option maxHeartbeats 4000000 in
set_option maxRecDepth 16384 in
theorem tile_run (qa qb qc qd : PosShare TreeShare) (f₀ f₁ : Buf (Elt F) (lV.view.loc (VT d L))) (g₀ g₁ : Buf (Elt F) (mV.view.loc (VT d L)))
    (a₀ : Buf (Elt F) (aV.view.loc (VT d L))) (o₀ o₁ : S16x256.Idx → F .f32) :
    iprop(Transfers.MayWaits (VT d L) (default : HIx 1) O
        ∗ (ptsX d L qa fs ∗ ptsX d L qb fs ∗ ptsY d L qc gs ∗ ptsY d L qd gs)
        ∗ (ptsL d L (sl := 0) (by decide) f₀ ∗ ptsL d L (sl := 1) (by decide) f₁ ∗ ptsM d L (sl := 0) (by decide) g₀ ∗ ptsM d L (sl := 1) (by decide) g₁)
        ∗ ptsA d L a₀ ∗ pts0 d L o₀ ∗ pts1 d L o₁
        ∗ (cellv d L cc1_scratch3 ∗ cellv d L cc1_scratch4 ∗ cellv d L cc1_scratch5 ∗ cellv d L cc1_scratch6 ∗ cellv d L cc1_scoped0 ∗ cellv d L cc1_scoped1)
        ∗ owes (VT d L) O W)
      ⊢ WP (cc1_sc_kernel L xV (Memref.isWhole_whole _) yV (Memref.isWhole_whole _) oV0 (Memref.isWhole_whole _) oV1 (Memref.isWhole_whole _)
          lV (Memref.isWhole_whole _) mV (Memref.isWhole_whole _) aV (Memref.isWhole_whole _) cc1_scratch3 cc1_scratch4 cc1_scratch5 cc1_scratch6 cc1_scoped0 cc1_scoped1)
          fun _ => iprop((ptsX d L qa fs ∗ ptsX d L qb fs ∗ ptsY d L qc gs ∗ ptsY d L qd gs)
            ∗ ((∃ f, ptsL d L (sl := 0) (by decide) f) ∗ (∃ f, ptsL d L (sl := 1) (by decide) f)
              ∗ (∃ f, ptsM d L (sl := 0) (by decide) f) ∗ (∃ f, ptsM d L (sl := 1) (by decide) f))
            ∗ (∃ f, ptsA d L f) ∗ pts0 d L (out0 fs gs) ∗ pts1 d L (out1 fs gs)
            ∗ (cellv d L cc1_scratch3 ∗ cellv d L cc1_scratch4 ∗ cellv d L cc1_scratch5 ∗ cellv d L cc1_scratch6 ∗ cellv d L cc1_scoped0 ∗ cellv d L cc1_scoped1)
            ∗ ∃ W', owes (VT d L) O W') := by
  unfold cc1_sc_kernel
  obtain ⟨w0, w1, w2, w3, w4, w5, w6, w7, e337, hw0⟩ := part337_eq (F := F) L xV (Memref.isWhole_whole _) yV (Memref.isWhole_whole _) oV0 (Memref.isWhole_whole _) oV1 (Memref.isWhole_whole _)
          lV (Memref.isWhole_whole _) mV (Memref.isWhole_whole _) aV (Memref.isWhole_whole _) cc1_scratch3 cc1_scratch4 cc1_scratch5 cc1_scratch6 cc1_scoped0 cc1_scoped1
  obtain ⟨w, e338⟩ := part338_eq (F := F) L xV (Memref.isWhole_whole _) yV (Memref.isWhole_whole _) oV0 (Memref.isWhole_whole _) oV1 (Memref.isWhole_whole _)
          lV (Memref.isWhole_whole _) mV (Memref.isWhole_whole _) aV (Memref.isWhole_whole _) cc1_scratch3 cc1_scratch4 cc1_scratch5 cc1_scratch6 cc1_scoped0 cc1_scoped1 w1 w2 w3 w4 w5 w6 w7
  iintro ⟨#Hmw, ⟨HXa, HXb, HYa, HYb⟩, ⟨HL0, HL1, HM0, HM1⟩, HA, HO0, HO1, ⟨C3, C4, C5, C6, D0, D1⟩, HO⟩
  rw [e337, wp_bind, wp_pure]
  imodintro
  dsimp only
  -- the first two bands set going
  rw [e338, wp_bind, wp_bind]
  iapply (wp_enqL d L 0 _ cc1_scratch3 qa fs) $$ [HXa HL0 C3]
  · isplitl [HXa]; · iexact HXa
    isplitl [HL0] <;> iassumption
  iintro FL0
  rw [wp_pure]; imodintro
  dsimp only
  rw [wp_bind, part339_eq, wp_bind]
  iapply (wp_enqM d L 0 _ cc1_scratch5 qc gs) $$ [HYa HM0 C5]
  · isplitl [HYa]; · iexact HYa
    isplitl [HM0] <;> iassumption
  iintro FM0
  rw [wp_bind]
  iapply (wp_enqL d L 1 _ cc1_scratch4 qb fs) $$ [HXb HL1 C4]
  · isplitl [HXb]; · iexact HXb
    isplitl [HL1] <;> iassumption
  iintro FL1
  rw [wp_bind]
  iapply (wp_enqM d L 1 _ cc1_scratch6 qd gs) $$ [HYb HM1 C6]
  · isplitl [HYb]; · iexact HYb
    isplitl [HM1] <;> iassumption
  iintro FM1
  rw [wp_pure]; imodintro
  -- band 0
  rw [wp_bind, part340_eq, wp_bind]
  iapply (wp_waitL d L 0 _ cc1_scratch3 qa fs) $$ [FL0 HO]
  · isplitl [FL0]; · iexact FL0
    isplitl [HO]; · iexact HO
    iexact Hmw
  iintro ⟨⟨%x0, %hx0, HL0, HXa⟩, C3, %W1, HO⟩
  rw [wp_bind]
  iapply (wp_waitM d L 0 _ cc1_scratch5 qc gs) $$ [FM0 HO]
  · isplitl [FM0]; · iexact FM0
    isplitl [HO]; · iexact HO
    iexact Hmw
  iintro ⟨⟨%y0, %hy0, HM0, HYa⟩, C5, %W2, HO⟩
  iapply (wp_rows d L _ hx0 hy0 _ st0) $$ [HL0 HM0]
  · isplitl [HL0] <;> iassumption
  iintro ⟨HL0, HM0⟩
  obtain ⟨s1, hs1⟩ : ∃ s, s = rowsSt (bandX fs L 0) (bandY gs L 0) rsA st0 := ⟨_, rfl⟩
  rw [show rowsSt (bandX fs L (0 : Fin 3).val) (bandY gs L (0 : Fin 3).val) [0, 1, 2, 3, 4, 5] st0 = s1 from hs1.symm]
  rw [wp_pure]; imodintro
  dsimp only [outB, tupS, tup]
  rw [wp_bind, part341_eq (b := s1.1) (a := s1.2)]
  iapply (wp_rows d L _ hx0 hy0 _ s1) $$ [HL0 HM0]
  · isplitl [HL0] <;> iassumption
  iintro ⟨HL0, HM0⟩
  obtain ⟨s2, hs2⟩ : ∃ s, s = rowsSt (bandX fs L 0) (bandY gs L 0) rsB s1 := ⟨_, rfl⟩
  rw [show rowsSt (bandX fs L (0 : Fin 3).val) (bandY gs L (0 : Fin 3).val) [6, 7, 8, 9, 10, 11, 12, 13, 14, 15] s1 = s2 from hs2.symm]
  rw [wp_pure]; imodintro
  dsimp only [outB, tupS, tup]
  -- band 2 set going into band 0's slot
  rw [wp_bind, part342_eq, wp_bind]
  iapply (wp_enqL d L 2 _ cc1_scratch3 qa fs) $$ [HXa HL0 C3]
  · isplitl [HXa]; · iexact HXa
    isplitl [HL0] <;> iassumption
  iintro FL0
  rw [wp_bind]
  iapply (wp_enqM d L 2 _ cc1_scratch5 qc gs) $$ [HYa HM0 C5]
  · isplitl [HYa]; · iexact HYa
    isplitl [HM0] <;> iassumption
  iintro FM0
  -- band 1
  rw [wp_bind]
  iapply (wp_waitL d L 1 _ cc1_scratch4 qb fs) $$ [FL1 HO]
  · isplitl [FL1]; · iexact FL1
    isplitl [HO]; · iexact HO
    iexact Hmw
  iintro ⟨⟨%x1, %hx1, HL1, HXb⟩, C4, %W3, HO⟩
  rw [wp_pure]; imodintro
  rw [wp_bind, part343_eq (b := s2.1) (a := s2.2), wp_bind]
  iapply (wp_waitM d L 1 _ cc1_scratch6 qd gs) $$ [FM1 HO]
  · isplitl [FM1]; · iexact FM1
    isplitl [HO]; · iexact HO
    iexact Hmw
  iintro ⟨⟨%y1, %hy1, HM1, HYb⟩, C6, %W4, HO⟩
  iapply (wp_rows d L _ hx1 hy1 _ s2) $$ [HL1 HM1]
  · isplitl [HL1] <;> iassumption
  iintro ⟨HL1, HM1⟩
  obtain ⟨s3, hs3⟩ : ∃ s, s = rowsSt (bandX fs L 1) (bandY gs L 1) rsC s2 := ⟨_, rfl⟩
  rw [show rowsSt (bandX fs L (1 : Fin 3).val) (bandY gs L (1 : Fin 3).val) [0, 1, 2, 3, 4, 5, 6, 7] s2 = s3 from hs3.symm]
  rw [wp_pure]; imodintro
  dsimp only [outV, tupS, tup]
  rw [wp_bind, part344_eq (b := s3.1) (a := s3.2)]
  iapply (wp_rows d L _ hx1 hy1 _ s3) $$ [HL1 HM1]
  · isplitl [HL1] <;> iassumption
  iintro ⟨HL1, HM1⟩
  obtain ⟨s4, hs4⟩ : ∃ s, s = rowsSt (bandX fs L 1) (bandY gs L 1) rsD s3 := ⟨_, rfl⟩
  rw [show rowsSt (bandX fs L (1 : Fin 3).val) (bandY gs L (1 : Fin 3).val) [8, 9, 10, 11, 12, 13, 14, 15] s3 = s4 from hs4.symm]
  rw [wp_pure]; imodintro
  dsimp only [outV, tupS, tup]
  -- band 2
  rw [wp_bind, part345_eq (b := s4.1) (a := s4.2), wp_bind]
  iapply (wp_waitL d L 2 _ cc1_scratch3 qa fs) $$ [FL0 HO]
  · isplitl [FL0]; · iexact FL0
    isplitl [HO]; · iexact HO
    iexact Hmw
  iintro ⟨⟨%x2, %hx2, HL0, HXa⟩, C3, %W5, HO⟩
  rw [wp_bind]
  iapply (wp_waitM d L 2 _ cc1_scratch5 qc gs) $$ [FM0 HO]
  · isplitl [FM0]; · iexact FM0
    isplitl [HO]; · iexact HO
    iexact Hmw
  iintro ⟨⟨%y2, %hy2, HM0, HYa⟩, C5, %W6, HO⟩
  iapply (wp_rows d L _ hx2 hy2 _ s4) $$ [HL0 HM0]
  · isplitl [HL0] <;> iassumption
  iintro ⟨HL0, HM0⟩
  obtain ⟨s5, hs5⟩ : ∃ s, s = rowsSt (bandX fs L 2) (bandY gs L 2) rsA s4 := ⟨_, rfl⟩
  rw [show rowsSt (bandX fs L (2 : Fin 3).val) (bandY gs L (2 : Fin 3).val) [0, 1, 2, 3, 4, 5] s4 = s5 from hs5.symm]
  rw [wp_pure]; imodintro
  dsimp only [outV, tupS, tup]
  rw [wp_bind, part346_eq (b := s5.1) (a := s5.2)]
  iapply (wp_rows d L _ hx2 hy2 _ s5) $$ [HL0 HM0]
  · isplitl [HL0] <;> iassumption
  iintro ⟨HL0, HM0⟩
  obtain ⟨s6, hs6⟩ : ∃ s, s = rowsSt (bandX fs L 2) (bandY gs L 2) rsB s5 := ⟨_, rfl⟩
  rw [show rowsSt (bandX fs L (2 : Fin 3).val) (bandY gs L (2 : Fin 3).val) [6, 7, 8, 9, 10, 11, 12, 13, 14, 15] s5 = s6 from hs6.symm]
  rw [wp_pure]; imodintro
  dsimp only [outV, tupS, tup]
  have hst : tileSt fs gs L = s6 := by rw [hs6, hs5, hs4, hs3, hs2, hs1]; rfl
  -- the registers set out in the row
  ihave HA := (show ptsA d L a₀ ⊢ heldA d L s6 0 by
    iintro H; iexists a₀
    isplitr; · ipureintro; intro p _ h; exact absurd h (by omega)
    iexact H) $$ HA
  rw [wp_bind]
  unfold k1_part347
  iterate 11
    iapply (wp_ldA d L) $$ HA
    iintro %v HA
    iapply (wp_stA d L (by decide) rfl _ rfl) $$ HA
    iintro HA
  iapply (wp_ldA d L) $$ HA
  iintro %v HA
  dsimp only [Prog.bind]
  rw [wp_pure]; imodintro
  iapply (wp_stA d L (by decide) rfl _ rfl) $$ HA
  iintro HA
  iterate 4
    iapply (wp_ldA d L) $$ HA
    iintro %v HA
    iapply (wp_stA d L (by decide) rfl _ rfl) $$ HA
    iintro HA
  rw [← hst]
  dsimp only
  by_cases h1 : k1_cond1 L = 1#1
  on_goal 1 =>
    have hn : ¬ (L 0).val = 1 := by rw [(cond1_iff L).mp h1]; decide
    have h2 : ¬ k1_cond2 L = 1#1 := fun h => hn ((cond2_iff L).mp h)
    rw [dif_pos h1]
    iapply (wp_copy0 d L fs gs h1 o₀) $$ [HA HO0 D0 HO]
    · isplitr; · iexact Hmw
      isplitl [HA]; · iexact HA
      isplitl [HO0]; · iexact HO0
      isplitl [D0] <;> iassumption
    iintro ⟨HA, HO0, D0, HO⟩
    ihave HO1 := (pts1_any d L hn o₁ (out1 fs gs)) $$ HO1
    rw [dif_neg h2]
  on_goal 2 =>
    have hn : ¬ (L 0).val = 0 := fun h => h1 ((cond1_iff L).mpr h)
    have h2 : k1_cond2 L = 1#1 := (cond2_iff L).mpr (by have := (L 0).isLt; change (L 0).val < 2 at this; omega)
    rw [dif_neg h1, dif_pos h2]
    iapply (wp_copy1 d L fs gs h2 o₁) $$ [HA HO1 D1 HO]
    · isplitr; · iexact Hmw
      isplitl [HA]; · iexact HA
      isplitl [HO1]; · iexact HO1
      isplitl [D1] <;> iassumption
    iintro ⟨HA, HO1, D1, HO⟩
    ihave HO0 := (pts0_any d L hn o₀ (out0 fs gs)) $$ HO0
  all_goals
    dsimp only [Prog.bind]
    rw [wp_pure]
    imodintro
    isplitl [HXa HXb HYa HYb]
    · isplitl [HXa]; · iexact HXa
      isplitl [HXb]; · iexact HXb
      isplitl [HYa] <;> iassumption
    isplitl [HL0 HL1 HM0 HM1]
    · isplitl [HL0]; · iexists _; iexact HL0
      isplitl [HL1]; · iexists _; iexact HL1
      isplitl [HM0]; · iexists _; iexact HM0
      iexists _; iexact HM1
    isplitl [HA]; · iexact HA
    isplitl [HO0]; · iexact HO0
    isplitl [HO1]; · iexact HO1
    isplitl [C3 C4 C5 C6 D0 D1]
    · isplitl [C3]; · iexact C3
      isplitl [C4]; · iexact C4
      isplitl [C5]; · iexact C5
      isplitl [C6]; · iexact C6
      isplitl [D0] <;> iassumption
    iexact HO

end

end Cert.Proof
-- ==== Proof.Task.lean ====
/-
  The task of one subcore: its cells and its scratch out of what the launch hands it, and the body's run from them.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## A task's cells and scratch -/

section
variable (d : Dev nD) (L : grid1.Coords)

/-- The six cells the task's transfers signal. -/
abbrev csem (k : Fin 6) : DmaSem sig := ⟨6 + k.val, Nat.lt_of_lt_of_le (Nat.add_lt_add_left k.isLt 6) (by decide)⟩
abbrev dcell (k : Fin 6) : GSem nD τ sig := (VT d L, .dma (csem k))

abbrev cells0 : sProp (M F) :=
  iprop(cellv d L cc1_scratch3 ∗ cellv d L cc1_scratch4 ∗ cellv d L cc1_scratch5 ∗ cellv d L cc1_scratch6 ∗ cellv d L cc1_scoped0 ∗ cellv d L cc1_scoped1)

theorem dcell_mem (k : Fin 6) : dcell d L k ∈ ownCells (VT d L) :=
  mem_ownCells.mpr ⟨rfl, (show ∀ s : DmaSem sig, (SemLoc.dma s : SemLoc sig).isScoped .scVector = true by decide) _⟩

/-- The subcore's cells: the six, and the rest. -/
theorem ownSems0_V : (ownSems0 (VT d L) : sProp (M F))
    = iprop(cells0 d L ∗ bigSep (ownCells (VT d L) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext (Nat.add_left_cancel this))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

/-- A buffer of the subcore, by its name. -/
abbrev dref (b : Ref sig .scVector) : DevRef τ sig := (Proc.scVector (cV L) (jV L)).devRef b

/-- The subcore's buffers: the three scratch buffers, and the rest. -/
theorem ownBufs_V : (ownBufs (VT d L) : sProp (M F))
    = iprop((∃ f, (VT d L).loc cc1_scratch0 ↦{fullShare} f) ∗ (∃ f, (VT d L).loc cc1_scratch1 ↦{fullShare} f) ∗ (∃ f, (VT d L).loc cc1_scratch2 ↦{fullShare} f)
        ∗ bigSep ((((ownRefs (τ := τ) (.scVector (cV L) (jV L))).erase (dref L cc1_scratch0)).erase (dref L cc1_scratch1)).erase (dref L cc1_scratch2))
            fun b => iprop(∃ f, ((d, b) : Loc nD τ sig) ↦{fullShare} f)) := by
  have ne {a b : Ref sig .scVector} (h : a ≠ b) : dref L a ≠ dref L b := fun e => h (Proc.devRef_injective _ e)
  have own (a : Ref sig .scVector) (h : (dref L a).owner = _) := SparseCore.Cfg.mem_ownRefs_of_owner (p := Proc.scVector (cV L) (jV L)) (b := dref L a) h
  unfold SparseCore.Cfg.ownBufs
  refine (SparseCore.bigSep_erase' (own cc1_scratch0 rfl)).trans ?_
  rw [SparseCore.bigSep_erase' (Finset.mem_erase.mpr ⟨ne (show (cc1_scratch1 : Ref sig .scVector) ≠ cc1_scratch0 by decide), own cc1_scratch1 rfl⟩),
    SparseCore.bigSep_erase' (Finset.mem_erase.mpr ⟨ne (show (cc1_scratch2 : Ref sig .scVector) ≠ cc1_scratch1 by decide),
      Finset.mem_erase.mpr ⟨ne (show (cc1_scratch2 : Ref sig .scVector) ≠ cc1_scratch0 by decide), own cc1_scratch2 rfl⟩⟩)]

/-! ## The two slots of a scratch buffer, and two shares of an argument -/

abbrev setL (sl : ℕ) (h : sl < 2) : Finset S2x16x384.Idx := (dstL lV h).view.set
abbrev setM (sl : ℕ) (h : sl < 2) : Finset S2x8x16x384.Idx := (dstM mV h).view.set

theorem slotL_eq : (Finset.univ : Finset S2x16x384.Idx) = (setL 0 (by decide)) ∪ (setL 1 (by decide)) := by
  refine (Finset.eq_univ_of_forall fun x => Finset.mem_union.mpr ?_).symm
  refine (or_congr (mem_slotL _ x) (mem_slotL _ x)).mpr ?_
  have : (x 0).val < 2 := (x 0).isLt
  omega
theorem slotL_disj : Disjoint (setL 0 (by decide)) (setL 1 (by decide)) := by
  rw [Finset.disjoint_left]; intro x h h'
  have h := (mem_slotL _ x).mp h; have h' := (mem_slotL _ x).mp h'; omega
theorem slotM_eq : (Finset.univ : Finset S2x8x16x384.Idx) = (setM 0 (by decide)) ∪ (setM 1 (by decide)) := by
  refine (Finset.eq_univ_of_forall fun x => Finset.mem_union.mpr ?_).symm
  refine (or_congr (mem_slotM _ x) (mem_slotM _ x)).mpr ?_
  have : (x 0).val < 2 := (x 0).isLt
  omega
theorem slotM_disj : Disjoint (setM 0 (by decide)) (setM 1 (by decide)) := by
  rw [Finset.disjoint_left]; intro x h h'
  have h := (mem_slotM _ x).mp h; have h' := (mem_slotM _ x).mp h'; omega

theorem splitL (f : Buf (Elt F) (lV.view.loc (VT d L))) : ((VT d L).loc cc1_scratch0 ↦{fullShare} f : sProp (M F))
    ⊢ iprop(ptsL d L (sl := 0) (by decide) f ∗ ptsL d L (sl := 1) (by decide) f) :=
  (Entails.of_eq (congrArg (fun s => (lV.view.loc (VT d L) ↦[s]{fullShare} f : sProp (M F))) slotL_eq)).trans (pointsTo_union slotL_disj).1
theorem joinL (f g : Buf (Elt F) (lV.view.loc (VT d L))) : iprop(ptsL d L (sl := 0) (by decide) f ∗ ptsL d L (sl := 1) (by decide) g)
    ⊢ (iprop(∃ f, (VT d L).loc cc1_scratch0 ↦{fullShare} f) : sProp (M F)) :=
  ((pointsTo_join slotL_disj).trans (Entails.of_eq (congrArg (fun s => (lV.view.loc (VT d L) ↦[s]{fullShare} _ : sProp (M F))) slotL_eq.symm))).trans (exists_intro (Φ := fun f => ((VT d L).loc cc1_scratch0 ↦{fullShare} f : sProp (M F))) _)
theorem splitM (f : Buf (Elt F) (mV.view.loc (VT d L))) : ((VT d L).loc cc1_scratch1 ↦{fullShare} f : sProp (M F))
    ⊢ iprop(ptsM d L (sl := 0) (by decide) f ∗ ptsM d L (sl := 1) (by decide) f) :=
  (Entails.of_eq (congrArg (fun s => (mV.view.loc (VT d L) ↦[s]{fullShare} f : sProp (M F))) slotM_eq)).trans (pointsTo_union slotM_disj).1
theorem joinM (f g : Buf (Elt F) (mV.view.loc (VT d L))) : iprop(ptsM d L (sl := 0) (by decide) f ∗ ptsM d L (sl := 1) (by decide) g)
    ⊢ (iprop(∃ f, (VT d L).loc cc1_scratch1 ↦{fullShare} f) : sProp (M F)) :=
  ((pointsTo_join slotM_disj).trans (Entails.of_eq (congrArg (fun s => (mV.view.loc (VT d L) ↦[s]{fullShare} _ : sProp (M F))) slotM_eq.symm))).trans (exists_intro (Φ := fun f => ((VT d L).loc cc1_scratch1 ↦{fullShare} f : sProp (M F))) _)

/-- A share of a buffer as two tokens and what is left of it. -/
theorem twoToks (ℓ : Loc nD τ sig) (q : PosShare TreeShare) (f : Buf (Elt F) ℓ) :
    (ℓ ↦{q} f : sProp (M F)) ⊣⊢ iprop((ℓ ↦{Transfers.shareDrop q 2} f) ∗ (ℓ ↦{Transfers.shareTokN q 0} f) ∗ (ℓ ↦{Transfers.shareTokN q 1} f)) := by
  have h : (ℓ ↦{q} f : sProp (M F)) ⊣⊢ iprop((ℓ ↦{Transfers.shareDrop q 2} f) ∗ bigSep (Finset.range 2) fun i => ℓ ↦{Transfers.shareTokN q i} f) :=
    Transfers.pointsTo_toks_range (ℓ := ℓ) (S := Finset.univ) (f := f) q 2
  rw [show Finset.range 2 = {0, 1} by decide, SparseCore.bigSep_insert' (by decide), bigSep_singleton] at h
  exact h

end

/-! ## The task -/

variable [FloatOps F]

/-- The subcore's body from its operands and all it owns, to its results and the same. -/
theorem tile_body (d : Dev nD) (L : grid1.Coords) (fs : S2x5x384x384.Idx → F .f32) (gs : S2x5x8x384x384.Idx → F .f32) (o₀ o₁ : S16x256.Idx → F .f32)
    (q : PosShare TreeShare) (O : CellTallies nD τ sig (HIx 1)) (W : Waits sig (HIx 1)) (hO : ∀ g, O g none = 0) :
    iprop(levAts (K (F := F)).L (K (F := F)).lev ∗ emp
        ∗ (ptsX d L q fs ∗ ptsY d L q gs ∗ pts0 d L o₀ ∗ pts1 d L o₁)
        ∗ scopedBufs (VT d L) ∗ scopedSems0 (VT d L) ∗ owes (VT d L) O W)
      ⊢ wp frame (wpE (defs₀ (F := F)) 𝒱₀ (VT d L) none) Set.univ
          (cc1_sc_kernel L xV (Memref.isWhole_whole _) yV (Memref.isWhole_whole _) oV0 (Memref.isWhole_whole _) oV1 (Memref.isWhole_whole _)
            lV (Memref.isWhole_whole _) mV (Memref.isWhole_whole _) aV (Memref.isWhole_whole _) cc1_scratch3 cc1_scratch4 cc1_scratch5 cc1_scratch6 cc1_scoped0 cc1_scoped1)
          fun _ => iprop((ptsX d L q fs ∗ ptsY d L q gs ∗ pts0 d L (out0 fs gs) ∗ pts1 d L (out1 fs gs))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V kfacts d (cV L) (jV L), SparseCore.Cfg.scopedSems0_V (Val := Elt F) d (cV L) (jV L), ownSems0_V, ownBufs_V]
  iintro ⟨#Hlv, -, ⟨Hx, Hy, H0, H1⟩, ⟨⟨%l, HL⟩, ⟨%g, HM⟩, ⟨%a, HA⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hx := (twoToks (xV.view.loc (VT d L)) q fs).1 $$ Hx
  icases Hx with ⟨Hxr, Hxa, Hxb⟩
  ihave Hy := (twoToks (yV.view.loc (VT d L)) q gs).1 $$ Hy
  icases Hy with ⟨Hyr, Hya, Hyb⟩
  ihave HL := (splitL d L l) $$ HL
  icases HL with ⟨HL0, HL1⟩
  ihave HM := (splitM d L g) $$ HM
  icases HM with ⟨HM0, HM1⟩
  iapply (wp_wand_r Idealize.ShloMosaic.frame (wpE (defs₀ (F := F)) 𝒱₀ (VT d L) none) Set.univ)
  isplitl [Hxa Hxb Hya Hyb HL0 HL1 HM0 HM1 HA H0 H1 HC HO]
  · iapply (tile_run d L fs gs _ _ _ _ l l g g a o₀ o₁)
    isplitr; · iexact Hmw
    isplitl [Hxa Hxb Hya Hyb]
    · isplitl [Hxa]; · iexact Hxa
      isplitl [Hxb]; · iexact Hxb
      isplitl [Hya] <;> iassumption
    isplitl [HL0 HL1 HM0 HM1]
    · isplitl [HL0]; · iexact HL0
      isplitl [HL1]; · iexact HL1
      isplitl [HM0] <;> iassumption
    isplitl [HA]; · iexact HA
    isplitl [H0]; · iexact H0
    isplitl [H1]; · iexact H1
    isplitl [HC]; · iexact HC
    iexact HO
  iintro %_ ⟨⟨Hxa, Hxb, Hya, Hyb⟩, ⟨⟨%l0, HL0⟩, ⟨%l1, HL1⟩, ⟨%g0, HM0⟩, ⟨%g1, HM1⟩⟩, ⟨%a', HA⟩, H0, H1, HC, ⟨%W', HO⟩⟩
  ihave Hx := (twoToks (xV.view.loc (VT d L)) q fs).2 $$ [Hxr Hxa Hxb]
  · isplitl [Hxr]; · iexact Hxr
    isplitl [Hxa] <;> iassumption
  ihave Hy := (twoToks (yV.view.loc (VT d L)) q gs).2 $$ [Hyr Hya Hyb]
  · isplitl [Hyr]; · iexact Hyr
    isplitl [Hya] <;> iassumption
  ihave HL := (joinL d L l0 l1) $$ [HL0 HL1]
  · isplitl [HL0] <;> iassumption
  ihave HM := (joinM d L g0 g1) $$ [HM0 HM1]
  · isplitl [HM0] <;> iassumption
  isplitl [Hx Hy H0 H1]
  · isplitl [Hx]; · iexact Hx
    isplitl [Hy]; · iexact Hy
    isplitl [H0] <;> iassumption
  isplitl [HL HM HA Hbufs]
  · isplitl [HL]; · iexact HL
    isplitl [HM]; · iexact HM
    isplitl [HA]; · iexists _; iexact HA
    iexact Hbufs
  isplitl [HC Hsems]
  · isplitl [HC] <;> iassumption
  iexists W'; isplitr
  · ipureintro; intro p _
    rcases p.2 with _ | q
    · exact .inr (.inl rfl)
    · exact .inr (.inr (congrArg some (Subsingleton.elim q 0)))
  · iexact HO

end Cert.Proof
-- ==== Proof.Deal.lean ====
/-
  What the launch deals each SparseCore and each of its tasks, and what it gets back.
-/
module

public import proofs.«01_k».proof.Proof.Task

@[expose] public section

noncomputable section

namespace Cert.Proof

open Cert.KernelIdeal Cert.KernelIdeal.Gen

open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable (m : (ℓ : Loc nD τ sig) → Buf (Elt F) ℓ)

/-! ## What the handshakes carry -/

abbrev aLoc (d : Dev nD) (b : Ref sig .tc) : Loc nD τ sig := (SparseCore.T d).loc b

/-- The launch contents of the arguments and of the kernel's results. -/
abbrev fsM (d : Dev nD) : S2x5x384x384.Idx → F .f32 := m (aLoc d main_arg0)
abbrev gsM (d : Dev nD) : S2x5x8x384x384.Idx → F .f32 := m (aLoc d main_arg1)
abbrev o0M (d : Dev nD) : S16x256.Idx → F .f32 := m (aLoc d main_v1_0)
abbrev o1M (d : Dev nD) : S16x256.Idx → F .f32 := m (aLoc d main_v1_1)

/-- The whole of an argument, of a result. -/
abbrev xPts (d : Dev nD) (f : S2x5x384x384.Idx → F .f32) : sProp (M F) := aLoc d main_arg0 ↦{fullShare} (f : Buf (Elt F) (aLoc d main_arg0))
abbrev yPts (d : Dev nD) (f : S2x5x8x384x384.Idx → F .f32) : sProp (M F) := aLoc d main_arg1 ↦{fullShare} (f : Buf (Elt F) (aLoc d main_arg1))
abbrev resPts0 (d : Dev nD) (f : S16x256.Idx → F .f32) : sProp (M F) := aLoc d main_v1_0 ↦{fullShare} (f : Buf (Elt F) (aLoc d main_v1_0))
abbrev resPts1 (d : Dev nD) (f : S16x256.Idx → F .f32) : sProp (M F) := aLoc d main_v1_1 ↦{fullShare} (f : Buf (Elt F) (aLoc d main_v1_1))

/-- The share of the arguments that task `i` of SparseCore `c` reads at. -/
abbrev qT (c : Fin 2) (i : Fin 16) : PosShare TreeShare := Transfers.shareTokN fullShare (c.val * 16 + i.val)

/-- A task's operands and results, the result buffers at `o₀`, `o₁`. -/
abbrev taskPts (d : Dev nD) (o₀ o₁ : S16x256.Idx → F .f32) (c : Fin 2) (i : Fin 16) : sProp (M F) :=
  iprop(ptsX d (mkL c i) (qT c i) (fsM m d) ∗ ptsY d (mkL c i) (qT c i) (gsM m d) ∗ pts0 d (mkL c i) o₀ ∗ pts1 d (mkL c i) o₁)
abbrev corePts (d : Dev nD) (o₀ o₁ : S16x256.Idx → F .f32) (c : Fin 2) : sProp (M F) :=
  bigSep Finset.univ fun i : Fin 16 => taskPts m d o₀ o₁ c i

variable [FloatOps F]

/-- Each SparseCore takes its tasks' parts and brings them back with the results in place. -/
def P : (K (F := F)).Pay (nD := nD) (Val := Elt F) (Name := ℕ) (U := UU) where
  st := fun q d c => match q with | 0 => corePts m d (o0M m d) (o1M m d) c
  dn := fun q d c => match q with | 0 => corePts m d (out0 (fsM m d) (gsM m d)) (out1 (fsM m d) (gsM m d)) c
  go := fun q d c i => match q with | 0 => taskPts m d (o0M m d) (o1M m d) c i
  td := fun q d c i => match q with | 0 => taskPts m d (out0 (fsM m d) (gsM m d)) (out1 (fsM m d) (gsM m d)) c i
  x := fun _ _ => iprop(emp)

instance taskPts_storable (d : Dev nD) (o₀ o₁ : S16x256.Idx → F .f32) (c : Fin 2) (i : Fin 16) :
    BI.Storable (upEmb : UEmb _ (M F)) (taskPts m d o₀ o₁ c i) := by unfold taskPts; infer_instance
omit [FloatOps F] in
instance corePts_storable (d : Dev nD) (o₀ o₁ : S16x256.Idx → F .f32) (c : Fin 2) :
    BI.Storable (upEmb : UEmb _ (M F)) (corePts m d o₀ o₁ c) := by unfold corePts; infer_instance

instance P_storable : (P (F := F) m).IsStorable where
  st q d c := match q with | 0 => corePts_storable m d (o0M m d) (o1M m d) c
  dn q d c := match q with | 0 => corePts_storable m d (out0 (fsM m d) (gsM m d)) (out1 (fsM m d) (gsM m d)) c
  go q d c i := match q with | 0 => taskPts_storable m d (o0M m d) (o1M m d) c i
  td q d c i := match q with | 0 => taskPts_storable m d (out0 (fsM m d) (gsM m d)) (out1 (fsM m d) (gsM m d)) c i

/-! ## The obligation -/

abbrev 𝒱 : Variants := 𝒱₀.lift
abbrev v₀ : 𝒱.V := Sum.inl none

theorem defs₀_vector (c : Fin τ.nSC) (s : Fin τ.nSub) :
    defs₀ (F := F) (.scVector c s) 1 ()
      = SparseCore.onTile hcore1 hsub1 (fun c s => cc1_sc_kernel (mkL c s)
          xV (Memref.isWhole_whole _) yV (Memref.isWhole_whole _) oV0 (Memref.isWhole_whole _) oV1 (Memref.isWhole_whole _)
          lV (Memref.isWhole_whole _) mV (Memref.isWhole_whole _) aV (Memref.isWhole_whole _) cc1_scratch3 cc1_scratch4 cc1_scratch5 cc1_scratch6 cc1_scoped0 cc1_scoped1) ⟨⟩ c s := rfl

theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (mkL c i) (fsM m d) (gsM m d) (o0M m d) (o1M m d) (qT c i) O W hO

omit [FloatOps F] in
theorem keep (A B : sProp (M F)) : A ⊢ iprop(|={Set.univ}=> (A ∗ (B -∗ B))) := by
  iintro H
  imodintro
  isplitl; · iexact H
  iintro H; iexact H

theorem vecSplit : (K (F := F)).VecSplit' (P m) 0 := fun d c =>
  keep (corePts m d (o0M m d) (o1M m d) c) (corePts m d (out0 (fsM m d) (gsM m d)) (out1 (fsM m d) (gsM m d)) c)

/-! ## The whole buffers as the tasks' parts -/

omit [FloatOps F] in
/-- A buffer as the tasks' shares of it and what is left. -/
theorem shares (ℓ : Loc nD τ sig) (f : Buf (Elt F) ℓ) : (ℓ ↦{fullShare} f : sProp (M F))
    ⊣⊢ iprop((ℓ ↦{Transfers.shareDrop fullShare 32} f) ∗ bigSep Finset.univ fun c : Fin 2 => bigSep Finset.univ fun i : Fin 16 => ℓ ↦{qT c i} f) := by
  have h : (ℓ ↦{fullShare} f : sProp (M F)) ⊣⊢ iprop((ℓ ↦{Transfers.shareDrop fullShare 32} f) ∗ bigSep (Finset.range 32) fun i => ℓ ↦{Transfers.shareTokN fullShare i} f) :=
    Transfers.pointsTo_toks_range (ℓ := ℓ) (S := Finset.univ) (f := f) fullShare 32
  have e : Finset.range 32 = (Finset.univ : Finset (Fin 2 × Fin 16)).image fun p => p.1.val * 16 + p.2.val := by decide
  rw [e, SparseCore.bigSep_image_of_injOn (fun a _ b _ h => by
    have h : a.1.val * 16 + a.2.val = b.1.val * 16 + b.2.val := h
    have := a.2.isLt; have := b.2.isLt
    exact Prod.ext (Fin.ext (by omega)) (Fin.ext (by omega))), bigSep_univ_prod] at h
  exact h

theorem R0_mk (c : Fin 2) (i : Fin 16) (x : S16x256.Idx) : x ∈ R0 (mkL c i) ↔ c.val = 0 ∧ (x 0).val = i.val := by
  unfold R0; simp only [Finset.mem_filter, Finset.mem_univ, true_and]; exact Iff.rfl
theorem R1_mk (c : Fin 2) (i : Fin 16) (x : S16x256.Idx) : x ∈ R1 (mkL c i) ↔ c.val = 1 ∧ (x 0).val = i.val := by
  unfold R1; simp only [Finset.mem_filter, Finset.mem_univ, true_and]; exact Iff.rfl

omit [FloatOps F] in
/-- A result buffer is the tasks' rows of it. -/
theorem rows0 (d : Dev nD) (f : S16x256.Idx → F .f32) : (resPts0 d f : sProp (M F))
    = bigSep Finset.univ fun c : Fin 2 => bigSep Finset.univ fun i : Fin 16 => pts0 d (mkL c i) f := by
  rw [← bigSep_univ_prod (fun p : Fin 2 × Fin 16 => (pts0 d (mkL p.1 p.2) f : sProp (M F)))]
  have e : (Finset.univ : Finset S16x256.Idx) = (Finset.univ : Finset (Fin 2 × Fin 16)).biUnion fun p => R0 (mkL p.1 p.2) := by
    refine (Finset.eq_univ_of_forall fun x => Finset.mem_biUnion.mpr ⟨(0, x 0), Finset.mem_univ _, ?_⟩).symm
    exact (R0_mk 0 (x 0) x).mpr ⟨rfl, rfl⟩
  have h : (aLoc d main_v1_0 ↦[Finset.biUnion _ _]{fullShare} _ : sProp (M F)) = _ := pointsTo_biUnion (ℓ := aLoc d main_v1_0) (q := fullShare) (f := (f : Buf (Elt F) (aLoc d main_v1_0))) (Finset.univ : Finset (Fin 2 × Fin 16)) (fun p => (R0 (mkL p.1 p.2) : Finset (Idx (aLoc d main_v1_0)))) (by
    intro a _ b _ hab
    rw [Finset.disjoint_left]; intro x h h'
    obtain ⟨h1, h2⟩ := (R0_mk _ _ x).mp h
    obtain ⟨h1', h2'⟩ := (R0_mk _ _ x).mp h'
    exact hab (Prod.ext (Fin.ext (h1.trans h1'.symm)) (Fin.ext (h2.symm.trans h2'))))
  exact (congrArg (fun s : Finset S16x256.Idx => (aLoc d main_v1_0 ↦[(s : Finset (Idx (aLoc d main_v1_0)))]{fullShare} (f : Buf (Elt F) (aLoc d main_v1_0)) : sProp (M F))) e).trans h
omit [FloatOps F] in
theorem rows1 (d : Dev nD) (f : S16x256.Idx → F .f32) : (resPts1 d f : sProp (M F))
    = bigSep Finset.univ fun c : Fin 2 => bigSep Finset.univ fun i : Fin 16 => pts1 d (mkL c i) f := by
  rw [← bigSep_univ_prod (fun p : Fin 2 × Fin 16 => (pts1 d (mkL p.1 p.2) f : sProp (M F)))]
  have e : (Finset.univ : Finset S16x256.Idx) = (Finset.univ : Finset (Fin 2 × Fin 16)).biUnion fun p => R1 (mkL p.1 p.2) := by
    refine (Finset.eq_univ_of_forall fun x => Finset.mem_biUnion.mpr ⟨(1, x 0), Finset.mem_univ _, ?_⟩).symm
    exact (R1_mk 1 (x 0) x).mpr ⟨rfl, rfl⟩
  have h : (aLoc d main_v1_1 ↦[Finset.biUnion _ _]{fullShare} _ : sProp (M F)) = _ := pointsTo_biUnion (ℓ := aLoc d main_v1_1) (q := fullShare) (f := (f : Buf (Elt F) (aLoc d main_v1_1))) (Finset.univ : Finset (Fin 2 × Fin 16)) (fun p => (R1 (mkL p.1 p.2) : Finset (Idx (aLoc d main_v1_1)))) (by
    intro a _ b _ hab
    rw [Finset.disjoint_left]; intro x h h'
    obtain ⟨h1, h2⟩ := (R1_mk _ _ x).mp h
    obtain ⟨h1', h2'⟩ := (R1_mk _ _ x).mp h'
    exact hab (Prod.ext (Fin.ext (h1.trans h1'.symm)) (Fin.ext (h2.symm.trans h2'))))
  exact (congrArg (fun s : Finset S16x256.Idx => (aLoc d main_v1_1 ↦[(s : Finset (Idx (aLoc d main_v1_1)))]{fullShare} (f : Buf (Elt F) (aLoc d main_v1_1)) : sProp (M F))) e).trans h

/-- All of the four buffers, and what the tasks take of them. -/
abbrev restPts (d : Dev nD) : sProp (M F) :=
  iprop((aLoc d main_arg0 ↦{Transfers.shareDrop fullShare 32} m (aLoc d main_arg0)) ∗ aLoc d main_arg1 ↦{Transfers.shareDrop fullShare 32} m (aLoc d main_arg1))

omit [FloatOps F] in
theorem deal (d : Dev nD) (o₀ o₁ : S16x256.Idx → F .f32) :
    (iprop(xPts d (fsM m d) ∗ yPts d (gsM m d) ∗ resPts0 d o₀ ∗ resPts1 d o₁) : sProp (M F))
      ⊣⊢ iprop(restPts m d ∗ bigSep Finset.univ fun c : Fin 2 => corePts m d o₀ o₁ c) := by
  have e : (bigSep Finset.univ fun c : Fin 2 => corePts m d o₀ o₁ c)
      = iprop((bigSep Finset.univ fun c : Fin 2 => bigSep Finset.univ fun i : Fin 16 => aLoc d main_arg0 ↦{qT c i} m (aLoc d main_arg0))
        ∗ (bigSep Finset.univ fun c : Fin 2 => bigSep Finset.univ fun i : Fin 16 => aLoc d main_arg1 ↦{qT c i} m (aLoc d main_arg1))
        ∗ (bigSep Finset.univ fun c : Fin 2 => bigSep Finset.univ fun i : Fin 16 => pts0 d (mkL c i) o₀)
        ∗ bigSep Finset.univ fun c : Fin 2 => bigSep Finset.univ fun i : Fin 16 => (pts1 d (mkL c i) o₁ : sProp (M F))) := by
    simp only [← bigSep_sep']
  rw [e, ← rows0, ← rows1]
  constructor
  · iintro ⟨Hx, Hy, H0, H1⟩
    ihave Hx := (shares _ _).1 $$ Hx
    icases Hx with ⟨Hxr, Hx⟩
    ihave Hy := (shares _ _).1 $$ Hy
    icases Hy with ⟨Hyr, Hy⟩
    isplitl [Hxr Hyr]; · isplitl [Hxr] <;> iassumption
    isplitl [Hx]; · iexact Hx
    isplitl [Hy]; · iexact Hy
    isplitl [H0] <;> iassumption
  · iintro ⟨⟨Hxr, Hyr⟩, Hx, Hy, H0, H1⟩
    ihave Hx := (shares _ _).2 $$ [Hxr Hx]
    · isplitl [Hxr] <;> iassumption
    ihave Hy := (shares _ _).2 $$ [Hyr Hy]
    · isplitl [Hyr] <;> iassumption
    isplitl [Hx]; · iexact Hx
    isplitl [Hy]; · iexact Hy
    isplitl [H0] <;> iassumption

end Cert.Proof
-- ==== Proof.Regions.lean ====
/-
  The two TensorCore kernels as regions of the main program, each over what the thread holds between its calls.
-/
module

public import proofs.«01_k».proof.Proof.TcData
public import proofs.«01_k».proof.Proof.Deal

@[expose] public section

noncomputable section

namespace Cert.Proof

open Cert.KernelIdeal Cert.KernelIdeal.Gen

open Idealize.ShloMosaic
open Idealize.ShloMosaic.TcCoe
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The arrays -/

/-- A buffer of the TensorCore, whole. -/
abbrev tPts (d : Dev nD) (b : Ref sig .tc) (f : Buf (Elt F) (aLoc d b)) : sProp (M F) := aLoc d b ↦{fullShare} f

variable (e : Ent F)

set_option backward.isDefEq.respectTransparency.types false in
theorem arrs0 (c : Dev nD) (G : (w : Fin cfg0.W) → Buf (Elt F) ((cfg0.win w).arr.view.loc (c.tc : Thread nD τ))) :
    (dat0 e c).arrays G = iprop(tPts c main_arg0 (G 0) ∗ tPts c main_arg1 (G 1) ∗ tPts c main_v0 (G 2)) := by
  refine (Pipeline.arrays_eq (p := 0) (Pipeline.pin (pcfgs (F := F)) adm) (pdats e) c launch0.arr_whole ((pdats e 0 c).share_full fun _ => rfl) G).trans ?_
  exact bigSep_W0 _

set_option backward.isDefEq.respectTransparency.types false in
theorem arrs2 (c : Dev nD) (G : (w : Fin cfg2.W) → Buf (Elt F) ((cfg2.win w).arr.view.loc (c.tc : Thread nD τ))) :
    (dat2 e c).arrays G = iprop(tPts c main_v2 (G 0) ∗ tPts c main_v3 (G 1) ∗ tPts c main_v4 (G 2) ∗ tPts c main_v5 (G 3)) := by
  refine (Pipeline.arrays_eq (p := 1) (Pipeline.pin (pcfgs (F := F)) adm) (pdats e) c launch2.arr_whole ((pdats e 1 c).share_full fun _ => rfl) G).trans ?_
  exact bigSep_W2 _

/-! ## The regions -/

/-- What the core owes, its recorded waits within `e.W`. -/
abbrev owesE (c : Dev nD) : sProp (M F) := iprop(∃ W : Waits sig (HIx 1), ⌜∀ p ∈ W, p ∈ e.W⌝ ∗ owes (c : Thread nD τ) e.O W)

theorem prefHeld_none (p : Fin 2) (c : Dev nD) : (emp : sProp (M F)) ⊢ Pipeline.prefHeld (pcfgs (F := F) p).pre c (fun _ => fullShare) (adm (F := F) p).1 :=
  match p with
  | ⟨0, _⟩ => by unfold Pipeline.prefHeld; exact Entails.of_eq (BI.bigSep_empty).symm
  | ⟨1, _⟩ => by unfold Pipeline.prefHeld; exact Entails.of_eq (BI.bigSep_empty).symm

set_option backward.isDefEq.respectTransparency.types false in
/-- The first kernel: its result is computed from the arguments. -/
def reg0 (hO : ∀ g, e.O g none = 0) (hW : ∀ s, (s, none) ∈ e.W) :
    Pipeline.RegionSeg (pcfgs (F := F)) adm (pdats e) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 e c).loose
  hwaits c := Pipeline.cellsWaits_intro _ _ _ _ _ fun _ _ _ => (K (F := F)).mayWait_none _ hO
  pre c := iprop((tPts c main_arg0 e.fs ∗ tPts c main_arg1 e.gs ∗ tPts c main_v0 e.z) ∗ owesE e c)
  post c := iprop((tPts c main_arg0 e.fs ∗ tPts c main_arg1 e.gs ∗ tPts c main_v0 (mainOut e.fs e.gs)) ∗ owesE e c)
  X _ := BI.emp
  Y _ := BI.emp
  Z _ := BI.emp
  hentry c := by
    rw [Pipeline.ownSems0_none]
    iintro ⟨⟨Ha, HO⟩, -, -⟩
    imodintro
    isplitl [Ha]; · iapply (Entails.of_eq (arrs0 e c _).symm); iexact Ha
    isplitr; · iapply (prefHeld_none 0 c); iempintro
    isplitl [HO]
    · unfold Pipeline.Dat.owesAt Pipeline.owesWithin
      icases HO with ⟨%W, %h, HO⟩; iexists W; isplitr; · ipureintro; exact fun p hp => Or.inl (h p hp)
      iexact HO
    isplitr <;> iempintro
  hin c := by
    rw [show (pdats e 0 c).Φ 0 = Pipeline.scopedRest spec0 c from rfl]
    iintro ⟨-, -, Hr⟩; iexact Hr
  hout c := by
    rw [Pipeline.ownSems0_none, show (pdats e 0 c).Φ (Fin.last _) = Pipeline.scopedRest spec0 c from rfl]
    iintro Hr
    isplitr; · iempintro
    isplitr; · iempintro
    iexact Hr
  hexit c := by
    iintro ⟨Ha, HO, -, -⟩
    imodintro
    isplitl [Ha]
    · ihave Ha := (Entails.of_eq (show (pdats e 0 c).arrays ((pdats e 0 c).arrAt · (Pipeline.pin (pcfgs (F := F)) adm 0).N) = _ from arrs0 e c ((dat0 e c).arrAt · cfg0.N))) $$ Ha
      icases Ha with ⟨H0, H1, H2⟩
      isplitl [H0]; · iapply (Entails.of_eq (congrArg (tPts c main_arg0) ((dat0 e c).arrAt_in 0 rfl cfg0.N))); iexact H0
      isplitl [H1]; · iapply (Entails.of_eq (congrArg (tPts c main_arg1) ((dat0 e c).arrAt_in 1 rfl cfg0.N))); iexact H1
      iapply (Entails.of_eq (congrArg (tPts c main_v0) (arr0_out e c))); iexact H2
    unfold Pipeline.Dat.owesAt Pipeline.owesWithin
    icases HO with ⟨%W, %h, HO⟩; iexists W
    isplitr
    · ipureintro; intro p hp
      rcases h hp with h | ⟨w, s, rfl⟩
      · exact h
      · exact hW _
    iexact HO

set_option backward.isDefEq.respectTransparency.types false in
/-- The last kernel: the one number, from the three parts. -/
def reg2 (hO : ∀ g, e.O g none = 0) (hW : ∀ s, (s, none) ∈ e.W) :
    Pipeline.RegionSeg (pcfgs (F := F)) adm (pdats e) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 e c).loose
  hwaits c := Pipeline.cellsWaits_intro _ _ _ _ _ fun _ _ _ => (K (F := F)).mayWait_none _ hO
  pre c := iprop((tPts c main_v2 e.p0 ∗ tPts c main_v3 e.p1 ∗ tPts c main_v4 e.t ∗ tPts c main_v5 e.r) ∗ owesE e c)
  post c := iprop((tPts c main_v2 e.p0 ∗ tPts c main_v3 e.p1 ∗ tPts c main_v4 e.t ∗ tPts c main_v5 (combBlk e.p0 e.p1 e.t)) ∗ owesE e c)
  X _ := BI.emp
  Y _ := BI.emp
  Z _ := BI.emp
  hentry c := by
    rw [Pipeline.ownSems0_none]
    iintro ⟨⟨Ha, HO⟩, -, -⟩
    imodintro
    isplitl [Ha]; · iapply (Entails.of_eq (arrs2 e c _).symm); iexact Ha
    isplitr; · iapply (prefHeld_none 1 c); iempintro
    isplitl [HO]
    · unfold Pipeline.Dat.owesAt Pipeline.owesWithin
      icases HO with ⟨%W, %h, HO⟩; iexists W; isplitr; · ipureintro; exact fun p hp => Or.inl (h p hp)
      iexact HO
    isplitr <;> iempintro
  hin c := by
    rw [show (pdats e 1 c).Φ 0 = Pipeline.scopedRest spec2 c from rfl]
    iintro ⟨-, -, Hr⟩; iexact Hr
  hout c := by
    rw [Pipeline.ownSems0_none, show (pdats e 1 c).Φ (Fin.last _) = Pipeline.scopedRest spec2 c from rfl]
    iintro Hr
    isplitr; · iempintro
    isplitr; · iempintro
    iexact Hr
  hexit c := by
    iintro ⟨Ha, HO, -, -⟩
    imodintro
    isplitl [Ha]
    · ihave Ha := (Entails.of_eq (show (pdats e 1 c).arrays ((pdats e 1 c).arrAt · (Pipeline.pin (pcfgs (F := F)) adm 1).N) = _ from arrs2 e c ((dat2 e c).arrAt · cfg2.N))) $$ Ha
      icases Ha with ⟨H0, H1, H2, H3⟩
      isplitl [H0]; · iapply (Entails.of_eq (congrArg (tPts c main_v2) ((dat2 e c).arrAt_in 0 rfl cfg2.N))); iexact H0
      isplitl [H1]; · iapply (Entails.of_eq (congrArg (tPts c main_v3) ((dat2 e c).arrAt_in 1 rfl cfg2.N))); iexact H1
      isplitl [H2]; · iapply (Entails.of_eq (congrArg (tPts c main_v4) ((dat2 e c).arrAt_in 2 rfl cfg2.N))); iexact H2
      iapply (Entails.of_eq (congrArg (tPts c main_v5) (arr2_out e c))); iexact H3
    unfold Pipeline.Dat.owesAt Pipeline.owesWithin
    icases HO with ⟨%W, %h, HO⟩; iexists W
    isplitr
    · ipureintro; intro p hp
      rcases h hp with h | ⟨w, s, rfl⟩
      · exact h
      · exact hW _
    iexact HO

end Cert.Proof

end
-- ==== Proof.HostOps.lean ====
/-
  The main program's host operations, each over the buffers it reads and the one it writes.
-/
module

public import proofs.«01_k».proof.Proof.Regions

@[expose] public section

noncomputable section

namespace Cert.Proof

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rule of a program on device `d`'s TensorCore. -/
abbrev wpT (d : Dev nD) {α : Type} (p : Prog (TpuEff nD τ sig (Elt F) (SparseCore.Sig (Pipeline.Sig Λ₀ (Fin 2) fun p => (pcfgs (F := F) p).Adm) 1) .tc) α)
    (Q : α → sProp (M F)) : sProp (M F) :=
  wp frame (wpE ((K (F := F)).defs (D (F := F))) 𝒱 (SparseCore.T d) none) Set.univ p Q

section
variable (m : (ℓ : Loc nD τ sig) → Buf (Elt F) ℓ) (d : Dev nD)
include m

/-- A buffer of the TensorCore as the device names it. -/
abbrev tref (b : Ref sig .tc) : DevRef τ sig := Proc.devRef .tc b

omit m [FloatOps F] in
theorem tref_ne {x y : Ref sig .tc} (h : x ≠ y) : tref x ≠ tref y := StableHlo.devRef_ne_of_ne h

/-- One operation from one buffer to another. -/
theorem wp_un (x y : Ref sig .tc) (hxy : x ≠ y) (op : HloOp τ sig (Elt F)) (hb : op.bufs = {tref x, tref y}) (hf : op.fresh = ∅)
    (g : x.ty.Contents (Elt F) → y.ty.Contents (Elt F)) (hr : ∀ V : Valuation τ sig (Elt F), op.result V (tref y) = g (V (tref x)))
    (hk : ∀ V : Valuation τ sig (Elt F), op.result V (tref x) = V (tref x))
    (fx : Buf (Elt F) (aLoc d x)) (fy : Buf (Elt F) (aLoc d y)) (Q : PUnit → sProp (M F)) :
    iprop(boundary (SparseCore.T d) ∗ tPts d x fx ∗ tPts d y fy)
      ⊢ iprop((iprop(boundary (SparseCore.T d) ∗ tPts d x fx ∗ tPts d y (g fx)) -∗ Q ⟨⟩) -∗ wpT d (hlo rfl op (fun _ => .ret ⟨⟩)) Q) := by
  obtain ⟨V, h1, h2⟩ : ∃ V : Valuation τ sig (Elt F), V (tref x) = fx ∧ V (tref y) = fy :=
    ⟨Function.update (Function.update (fun b => m (d, b)) (tref x) fx) (tref y) fy,
      by rw [Function.update_of_ne (tref_ne hxy), Function.update_self], Function.update_self _ _ _⟩
  have e (G : Valuation τ sig (Elt F)) : (bigSep op.bufs fun b => ((SparseCore.T d : Thread nD τ).1, b) ↦{fullShare} G b : sProp (M F))
      = iprop(tPts d x (G (tref x)) ∗ tPts d y (G (tref y))) := by
    rw [hb, SparseCore.bigSep_insert' (by rw [Finset.mem_singleton]; exact tref_ne hxy), bigSep_singleton]
  iintro ⟨Hb, Hx, Hy⟩ Hk
  iapply (wp_hlo 𝒱 (SparseCore.T d) none Set.univ (op := op) (q := fun _ => fullShare) (F := V) (fun _ _ => rfl) hf) $$ [Hb Hx Hy]
  · isplitl [Hb]; · iexact Hb
    rw [e V, h1, h2]
    isplitl [Hx] <;> iassumption
  iintro ⟨Hb, H⟩
  ihave H' := (Entails.of_eq ((e (op.result V)).trans (by rw [hr, hk, h1]))) $$ H
  rw [wp_ret]
  imodintro
  iapply Hk
  isplitl [Hb] <;> iassumption

/-- One operation from nothing. -/
theorem wp_nu (y : Ref sig .tc) (op : HloOp τ sig (Elt F)) (hb : op.bufs = {tref y}) (hf : op.fresh = ∅)
    (g : y.ty.Contents (Elt F)) (hr : ∀ V : Valuation τ sig (Elt F), op.result V (tref y) = g)
    (fy : Buf (Elt F) (aLoc d y)) (Q : PUnit → sProp (M F)) :
    iprop(boundary (SparseCore.T d) ∗ tPts d y fy)
      ⊢ iprop((iprop(boundary (SparseCore.T d) ∗ tPts d y g) -∗ Q ⟨⟩) -∗ wpT d (hlo rfl op (fun _ => .ret ⟨⟩)) Q) := by
  obtain ⟨V, h1⟩ : ∃ V : Valuation τ sig (Elt F), V (tref y) = fy := ⟨Function.update (fun b => m (d, b)) (tref y) fy, Function.update_self _ _ _⟩
  have e (G : Valuation τ sig (Elt F)) : (bigSep op.bufs fun b => ((SparseCore.T d : Thread nD τ).1, b) ↦{fullShare} G b : sProp (M F)) = tPts d y (G (tref y)) := by
    rw [hb, bigSep_singleton]
  iintro ⟨Hb, Hy⟩ Hk
  iapply (wp_hlo 𝒱 (SparseCore.T d) none Set.univ (op := op) (q := fun _ => fullShare) (F := V) (fun _ _ => rfl) hf) $$ [Hb Hy]
  · isplitl [Hb]; · iexact Hb
    rw [e V, h1]; iexact Hy
  iintro ⟨Hb, H⟩
  ihave H' := (Entails.of_eq ((e (op.result V)).trans (by rw [hr]))) $$ H
  rw [wp_ret]
  imodintro
  iapply Hk
  isplitl [Hb] <;> iassumption

/-- One operation from two buffers to a third. -/
theorem wp_bi (a b y : Ref sig .tc) (hab : a ≠ b) (hay : a ≠ y) (hby : b ≠ y) (op : HloOp τ sig (Elt F)) (hb : op.bufs = {tref a, tref b, tref y}) (hf : op.fresh = ∅)
    (g : a.ty.Contents (Elt F) → b.ty.Contents (Elt F) → y.ty.Contents (Elt F))
    (hr : ∀ V : Valuation τ sig (Elt F), op.result V (tref y) = g (V (tref a)) (V (tref b)))
    (hka : ∀ V : Valuation τ sig (Elt F), op.result V (tref a) = V (tref a)) (hkb : ∀ V : Valuation τ sig (Elt F), op.result V (tref b) = V (tref b))
    (fa : Buf (Elt F) (aLoc d a)) (fb : Buf (Elt F) (aLoc d b)) (fy : Buf (Elt F) (aLoc d y)) (Q : PUnit → sProp (M F)) :
    iprop(boundary (SparseCore.T d) ∗ tPts d a fa ∗ tPts d b fb ∗ tPts d y fy)
      ⊢ iprop((iprop(boundary (SparseCore.T d) ∗ tPts d a fa ∗ tPts d b fb ∗ tPts d y (g fa fb)) -∗ Q ⟨⟩) -∗ wpT d (hlo rfl op (fun _ => .ret ⟨⟩)) Q) := by
  obtain ⟨V, h1, h2, h3⟩ : ∃ V : Valuation τ sig (Elt F), V (tref a) = fa ∧ V (tref b) = fb ∧ V (tref y) = fy :=
    ⟨Function.update (Function.update (Function.update (fun b => m (d, b)) (tref a) fa) (tref b) fb) (tref y) fy,
      by rw [Function.update_of_ne (tref_ne hay), Function.update_of_ne (tref_ne hab), Function.update_self],
      by rw [Function.update_of_ne (tref_ne hby), Function.update_self], Function.update_self _ _ _⟩
  have e (G : Valuation τ sig (Elt F)) : (bigSep op.bufs fun b => ((SparseCore.T d : Thread nD τ).1, b) ↦{fullShare} G b : sProp (M F))
      = iprop(tPts d a (G (tref a)) ∗ tPts d b (G (tref b)) ∗ tPts d y (G (tref y))) := by
    rw [hb, SparseCore.bigSep_insert' (by
        rw [Finset.mem_insert, Finset.mem_singleton]; exact fun h => h.elim (tref_ne hab) (tref_ne hay)),
      SparseCore.bigSep_insert' (by rw [Finset.mem_singleton]; exact tref_ne hby), bigSep_singleton]
  iintro ⟨Hb, Ha, Hb', Hy⟩ Hk
  iapply (wp_hlo 𝒱 (SparseCore.T d) none Set.univ (op := op) (q := fun _ => fullShare) (F := V) (fun _ _ => rfl) hf) $$ [Hb Ha Hb' Hy]
  · isplitl [Hb]; · iexact Hb
    rw [e V, h1, h2, h3]
    isplitl [Ha]; · iexact Ha
    isplitl [Hb'] <;> iassumption
  iintro ⟨Hb, H⟩
  ihave H' := (Entails.of_eq ((e (op.result V)).trans (by rw [hr, hka, hkb, h1, h2]))) $$ H
  rw [wp_ret]
  imodintro
  iapply Hk
  isplitl [Hb] <;> iassumption

end

end Cert.Proof

end
-- ==== Proof.Launch.lean ====
/-
  What the launch gives the main program: the buffers one by one, the two TensorCore calls' channel states, and the
  rule of one such call.
-/
module

public import proofs.«01_k».proof.Proof.HostOps

@[expose] public section

noncomputable section

namespace Cert.Proof

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The channels of the two TensorCore calls. -/
abbrev tcCfgs := Pipeline.pin (pcfgs (F := F)) adm

/-- One call's channel state on one device. -/
abbrev chan (p : Fin 2) (d : Dev nD) : sProp (M F) :=
  iprop(Pipeline.cellsGhost (tcCfgs (F := F)) EP p d ∗ Pipeline.toksInit (tcCfgs (F := F)) EP p d)

/-- Both calls'. -/
abbrev G (d : Dev nD) : sProp (M F) := iprop(chan 0 d ∗ chan 1 d)

/-- The launch element: the SparseCore protocol's, the channels', no counters. -/
def u₀ : UU :=
  (initOf (K (F := F)).hsCells (K (F := F)).hsToks,
    (initOf (Pipeline.cells (tcCfgs (F := F)) cellOf_inj) (Pipeline.launchToks (tcCfgs (F := F)) cellOf_inj), 1))

theorem chans_eq : iprop((bigSep Finset.univ fun c : Dev nD => bigSep Finset.univ fun p : Fin 2 => Pipeline.cellsGhost (tcCfgs (F := F)) EP p c)
      ∗ bigSep Finset.univ fun c : Dev nD => bigSep Finset.univ fun p : Fin 2 => Pipeline.toksInit (tcCfgs (F := F)) EP p c)
    ⊢ (bigSep Finset.univ G : sProp (M F)) := by
  rw [← bigSep_sep']
  refine bigSep_mono fun d _ => ?_
  rw [bigSep_fin_two, bigSep_fin_two]
  show iprop((Pipeline.cellsGhost (tcCfgs (F := F)) EP 0 d ∗ Pipeline.cellsGhost (tcCfgs (F := F)) EP 1 d)
      ∗ (Pipeline.toksInit (tcCfgs (F := F)) EP 0 d ∗ Pipeline.toksInit (tcCfgs (F := F)) EP 1 d)) ⊢ (G d : sProp (M F))
  iintro ⟨⟨H1, H2⟩, H3, H4⟩
  isplitl [H1 H3]
  · isplitl [H1] <;> iassumption
  isplitl [H2] <;> iassumption

variable (m : (ℓ : Loc nD τ sig) → Buf (Elt F) ℓ)

omit m in
theorem own_chans : BI.own (((Emb.inl : Emb UP (UP × Counters)).trans embR) (initOf (Pipeline.cells (tcCfgs (F := F)) cellOf_inj)
      (Pipeline.launchToks (tcCfgs (F := F)) cellOf_inj)))
    ⊢ (BI.own (EP (initOf (Pipeline.cells (tcCfgs (F := F)) cellOf_inj) (Pipeline.launchToks (tcCfgs (F := F)) cellOf_inj))) : sProp (M F)) := by
  unfold EP; exact Entails.refl _

theorem hu₀ : (ownU (u₀ (F := F)) : sProp (M F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks) ((initOf (Pipeline.cells (tcCfgs (F := F)) cellOf_inj)
    (Pipeline.launchToks (tcCfgs (F := F)) cellOf_inj), 1) : UP × Counters)) $$ Hu
  icases H with ⟨HH, HR⟩
  ihave HR' := (own_pair_emb embR (initOf (Pipeline.cells (tcCfgs (F := F)) cellOf_inj) (Pipeline.launchToks (tcCfgs (F := F)) cellOf_inj)) (1 : Counters)) $$ HR
  icases HR' with ⟨HP, -⟩
  ihave HP' := own_chans $$ HP
  imod (Pipeline.fund_ghost (tcCfgs (F := F)) EP cellOf_inj) $$ HP' with HG
  imodintro
  isplitl [HH]; · iexact HH
  isplitl [HG]; · iapply chans_eq; iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp (M F)) from bigSep_emp_const _]
  iempintro

omit [FloatOps F] in
theorem unscopedBufs_eq (d : Dev nD) (W : (b : Ref sig .tc) → Buf (Elt F) ((d.tc : Thread nD τ).loc b)) :
    (unscopedBufs d W : sProp (M F)) = iprop(tPts d main_arg0 (W main_arg0) ∗ tPts d main_arg1 (W main_arg1) ∗ tPts d main_v0 (W main_v0)
      ∗ tPts d main_v1_0 (W main_v1_0) ∗ tPts d main_v1_1 (W main_v1_1) ∗ tPts d main_v2 (W main_v2) ∗ tPts d main_v3 (W main_v3)
      ∗ tPts d main_v4 (W main_v4) ∗ tPts d main_v5 (W main_v5) ∗ tPts d main_v6 (W main_v6) ∗ tPts d main_cst (W main_cst) ∗ tPts d main_v7 (W main_v7)) := by
  unfold unscopedBufs
  rw [show (Finset.univ.filter fun b : Ref sig .tc => ¬ b.isScoped)
      = {main_arg0, main_arg1, main_v0, main_v1_0, main_v1_1, main_v2, main_v3, main_v4, main_v5, main_v6, main_cst, main_v7} by decide]
  iterate 11 rw [SparseCore.bigSep_insert' (by decide)]
  rw [bigSep_singleton]

/-- What a call of the TensorCore may find recorded: the waits made up to SparseCore call `n`. -/
def recs (d : Dev nD) (n : ℕ) : Set (SemLoc sig × HIx 1) := {p | (K (F := F)).lev (SparseCore.T d, p.1) p.2 ≤ 8 * SparseCore.Cfg.Blocks.fst 1 1 n}

/-- The duties and records of the main thread, taken out of its state and put back. -/
theorem tcSt_owes (e : Ent F) (d : Dev nD) (n : ℕ) (hO : e.O = (K (F := F)).Otc d n) (hW : e.W = recs (F := F) d n) :
    ((K (F := F)).tcSt EH d n : sProp (M F)) ⊢ iprop(owesE e d ∗ (owesE e d -∗ (K (F := F)).tcSt EH d n)) := by
  rw [show owesE e d = iprop(∃ W, ⌜(K (F := F)).WBelow (SparseCore.T d) W (8 * SparseCore.Cfg.Blocks.fst 1 1 n)⌝
      ∗ owes (SparseCore.T d) ((K (F := F)).Otc d n) W) by unfold owesE; rw [hO, hW]; rfl]
  unfold SparseCore.Cfg.tcSt
  iintro ⟨H, Hr⟩
  isplitl [H]; · iexact H
  iintro H
  isplitl [H] <;> iassumption

omit [FloatOps F] in
theorem otc_none (d : Dev nD) (n : ℕ) (g : GSem nD τ sig) : (K (F := F)).Otc (N := 1) d n g none = 0 := by
  unfold SparseCore.Cfg.Otc
  rw [Finset.sum_apply, Finsupp.finsetSum_apply]
  refine Finset.sum_eq_zero fun q _ => ?_
  split
  · rw [Finset.sum_apply, Finsupp.finsetSum_apply]
    exact Finset.sum_eq_zero fun c _ => by rw [tallyAt_apply, if_neg (fun h => nomatch h.2)]
  · rfl

/-- One TensorCore call of the main program, its duties left as they are. -/
theorem wp_tc [∀ e, Nonempty (Elt F e)] (e : Ent F) (p : Fin 2)
    (R : Pipeline.RegionSeg (pcfgs (F := F)) adm (pdats e) none defs₀ 𝒱₀ (K (F := F)).L (K (F := F)).lev p)
    (κ : GSem nD τ sig → ℕ) (d : Dev nD) (Q : PUnit → sProp (M F)) :
    iprop((K (F := F)).ctx EH (P m) κ ∗ boundary (SparseCore.T d) ∗ R.pre d ∗ chan p d)
      ⊢ iprop((iprop(boundary (SparseCore.T d) ∗ R.post d) -∗ Q ⟨⟩)
        -∗ wpT d (Prog.lift (.customCall (SparseCore.inner (Pipeline.entry p)) ())) Q) := by
  have hl : (wp frame (wpE (D (F := F)) 𝒱 (SparseCore.T d) none) Set.univ (.op (.customCall (Pipeline.entry p) ()) .ret) Q : sProp (M F))
      ⊢ wpT d (Prog.lift (.customCall (SparseCore.inner (Pipeline.entry p)) ())) Q :=
    (K (F := F)).wp_liftProg (D (F := F)) 𝒱 (SparseCore.T d) Set.univ none (.op (.customCall (Pipeline.entry p) ()) .ret) Q
  iintro ⟨#Hctx, Hb, Hp, Hc, Ht⟩ Hk
  iapply hl
  iapply (Pipeline.RegionSeg.wp (pcfgs (F := F)) adm (pdats e) none cellOf_inj EP defs₀ 𝒱₀ (K (F := F)).L (K (F := F)).lev R d none
    (fun u hu => nomatch hu) .ret Q)
  isplitl [Hk]
  · iintro H
    rw [wp_ret]
    imodintro
    iapply Hk; iexact H
  isplitl [Hb]; · iexact Hb
  isplitl [Hp]; · iexact Hp
  isplitr; · iapply (SparseCore.Cfg.ctx_levAts κ); iexact Hctx
  isplitl [Hc] <;> iassumption

end Cert.Proof

end
-- ==== Proof.Main.lean ====
/-
  The main program on each device, and the whole program's run: it stops, the arguments and the counters are as at the
  launch, and the result buffer holds one closed form of the two arguments.
-/
module

public import proofs.«01_k».proof.Proof.Launch

@[expose] public section

noncomputable section

namespace Cert.Proof

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The four operands of the last call, from the two arguments. -/
abbrev parts0 (fs : S2x5x384x384.Idx → F .f32) (gs : S2x5x8x384x384.Idx → F .f32) : Vec F S4x4x8x2x16 .f32 :=
  shapeCast S4x4x8x2x16 (out0 fs gs) shapeCasts_S16x256_S4x4x8x2x16
abbrev parts1 (fs : S2x5x384x384.Idx → F .f32) (gs : S2x5x8x384x384.Idx → F .f32) : Vec F S4x4x8x2x16 .f32 :=
  shapeCast S4x4x8x2x16 (out1 fs gs) shapeCasts_S16x256_S4x4x8x2x16
abbrev partsT (fs : S2x5x384x384.Idx → F .f32) (gs : S2x5x8x384x384.Idx → F .f32) : Vec F S8x8x2 .f32 :=
  shapeCast S8x8x2 (mainOut fs gs) shapeCasts_S2x4x8x2_S8x8x2

/-- The program's result. -/
abbrev resV (fs : S2x5x384x384.Idx → F .f32) (gs : S2x5x8x384x384.Idx → F .f32) : Vec F S_ .f32 :=
  Host.divf (shapeCast S_ (combBlk (parts0 fs gs) (parts1 fs gs) (partsT fs gs)) shapeCasts_S1x1_S_) (constant S_ .f32 0x49100000#32)

variable (m : (ℓ : Loc nD τ sig) → Buf (Elt F) ℓ) (ρ : Dev nD → PrngReg)

/-- The main program's data at its first and at its last TensorCore call. -/
def ent0 (d : Dev nD) : Ent F where
  fs := fsM m d
  gs := gsM m d
  z := m (aLoc d main_v0)
  p0 := m (aLoc d main_v2)
  p1 := m (aLoc d main_v3)
  t := m (aLoc d main_v4)
  r := m (aLoc d main_v5)
  O := (K (F := F)).Otc d 0
  W := recs (F := F) d 0

def ent2 (d : Dev nD) : Ent F where
  fs := fsM m d
  gs := gsM m d
  z := m (aLoc d main_v0)
  p0 := parts0 (fsM m d) (gsM m d)
  p1 := parts1 (fsM m d) (gsM m d)
  t := partsT (fsM m d) (gsM m d)
  r := m (aLoc d main_v5)
  O := (K (F := F)).Otc d 1
  W := recs (F := F) d 1

omit [FloatOps F] in
theorem recs_none (d : Dev nD) (n : ℕ) (s : SemLoc sig) : (s, none) ∈ recs (F := F) d n := Nat.zero_le _

abbrev region0 (d : Dev nD) := reg0 (ent0 m d) (otc_none (F := F) d 0) (recs_none (F := F) d 0)
abbrev region2 (d : Dev nD) := reg2 (ent2 m d) (otc_none (F := F) d 1) (recs_none (F := F) d 1)

/-- The first TensorCore call and the last, over the buffers each touches. -/
theorem wp_first [∀ e, Nonempty (Elt F e)] (κ : GSem nD τ sig → ℕ) (d : Dev nD) (Q : PUnit → sProp (M F)) :
    iprop((K (F := F)).ctx EH (P m) κ ∗ boundary (SparseCore.T d)
        ∗ ((tPts d main_arg0 (fsM m d) ∗ tPts d main_arg1 (gsM m d) ∗ tPts d main_v0 (m (aLoc d main_v0))) ∗ owesE (ent0 m d) d) ∗ chan 0 d)
      ⊢ iprop((iprop(boundary (SparseCore.T d)
          ∗ (tPts d main_arg0 (fsM m d) ∗ tPts d main_arg1 (gsM m d) ∗ tPts d main_v0 (mainOut (fsM m d) (gsM m d))) ∗ owesE (ent0 m d) d) -∗ Q ⟨⟩)
        -∗ wpT d (Prog.lift (.customCall (SparseCore.inner (Pipeline.entry 0)) ())) Q) :=
  wp_tc m (ent0 m d) 0 (region0 m d) κ d Q

theorem wp_last [∀ e, Nonempty (Elt F e)] (κ : GSem nD τ sig → ℕ) (d : Dev nD) (Q : PUnit → sProp (M F)) :
    iprop((K (F := F)).ctx EH (P m) κ ∗ boundary (SparseCore.T d)
        ∗ ((tPts d main_v2 (parts0 (fsM m d) (gsM m d)) ∗ tPts d main_v3 (parts1 (fsM m d) (gsM m d)) ∗ tPts d main_v4 (partsT (fsM m d) (gsM m d))
          ∗ tPts d main_v5 (m (aLoc d main_v5))) ∗ owesE (ent2 m d) d) ∗ chan 1 d)
      ⊢ iprop((iprop(boundary (SparseCore.T d)
          ∗ (tPts d main_v2 (parts0 (fsM m d) (gsM m d)) ∗ tPts d main_v3 (parts1 (fsM m d) (gsM m d)) ∗ tPts d main_v4 (partsT (fsM m d) (gsM m d))
          ∗ tPts d main_v5 (combBlk (parts0 (fsM m d) (gsM m d)) (parts1 (fsM m d) (gsM m d)) (partsT (fsM m d) (gsM m d)))) ∗ owesE (ent2 m d) d) -∗ Q ⟨⟩)
        -∗ wpT d (Prog.lift (.customCall (SparseCore.inner (Pipeline.entry 1)) ())) Q) :=
  wp_tc m (ent2 m d) 1 (region2 m d) κ d Q

theorem st0_eq (d : Dev nD) : (bigSep Finset.univ fun c : Fin ((K (F := F)).nCore 0) => (P m).st 0 d c)
    = bigSep Finset.univ fun c : Fin 2 => corePts m d (o0M m d) (o1M m d) c := rfl
theorem dn0_eq (d : Dev nD) : (bigSep Finset.univ fun c : Fin ((K (F := F)).nCore 0) => (P m).dn 0 d c)
    = bigSep Finset.univ fun c : Fin 2 => corePts m d (out0 (fsM m d) (gsM m d)) (out1 (fsM m d) (gsM m d)) c := rfl

/-- What the main program leaves for the end. -/
abbrev FIN (d : Dev nD) : sProp (M F) :=
  iprop(tPts d main_arg0 (fsM m d) ∗ tPts d main_arg1 (gsM m d) ∗ tPts d main_v7 (resV (fsM m d) (gsM m d)))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hy, Hz, Ho0, Ho1, H2, H3, H4, H5, H6, Hc, H7⟩, Hts, -⟩, HG0, HG2⟩
  ihave Hst := (tcSt_owes (ent0 m d) d 0 rfl rfl) $$ Hst
  icases Hst with ⟨How, Hst⟩
  iapply (wp_first m κ d _) $$ [Hb Hx Hy Hz How HG0]
  · isplitr; · iexact Hctx
    isplitl [Hb]; · iexact Hb
    isplitr [HG0]
    · isplitr [How]
      · isplitl [Hx]; · iexact Hx
        isplitl [Hy] <;> iassumption
      iexact How
    iexact HG0
  iintro ⟨Hb, ⟨Hx, Hy, Hz⟩, How⟩
  ispecialize Hst $$ How
  ihave Hd := (deal m d (o0M m d) (o1M m d)).1 $$ [Hx Hy Ho0 Ho1]
  · isplitl [Hx]; · iexact Hx
    isplitl [Hy]; · iexact Hy
    isplitl [Ho0] <;> iassumption
  icases Hd with ⟨Hrest, Hcore⟩
  iapply ((K (F := F)).wp_run (D (F := F)) 𝒱 (EH := EH) (P := P m) κ d 0)
  isplitr; · iexact Hctx
  isplitl [Hst]; · iexact Hst
  isplitl [Hcore]; · rw [st0_eq]; iexact Hcore
  iintro ⟨Hst, Hdn⟩
  ihave Hdn' := (Entails.of_eq (dn0_eq m d)) $$ Hdn
  ihave Hd := (deal m d (out0 (fsM m d) (gsM m d)) (out1 (fsM m d) (gsM m d))).2 $$ [Hrest Hdn']
  · isplitl [Hrest] <;> iassumption
  icases Hd with ⟨Hx, Hy, Ho0, Ho1⟩
  iapply (wp_un m d main_v1_0 main_v2 (by decide) _ rfl rfl (fun v => shapeCast S4x4x8x2x16 v shapeCasts_S16x256_S4x4x8x2x16)
    (fun V => StableHlo.reshape_result' _ _ _ _ V) (fun V => StableHlo.reshape_result_ne _ _ _ _ _ _ V (by decide)) _ _ _) $$ [Hb Ho0 H2]
  · isplitl [Hb]; · iexact Hb
    isplitl [Ho0] <;> iassumption
  iintro ⟨Hb, -, H2⟩
  iapply (wp_un m d main_v1_1 main_v3 (by decide) _ rfl rfl (fun v => shapeCast S4x4x8x2x16 v shapeCasts_S16x256_S4x4x8x2x16)
    (fun V => StableHlo.reshape_result' _ _ _ _ V) (fun V => StableHlo.reshape_result_ne _ _ _ _ _ _ V (by decide)) _ _ _) $$ [Hb Ho1 H3]
  · isplitl [Hb]; · iexact Hb
    isplitl [Ho1] <;> iassumption
  iintro ⟨Hb, -, H3⟩
  iapply (wp_un m d main_v0 main_v4 (by decide) _ rfl rfl (fun v => shapeCast S8x8x2 v shapeCasts_S2x4x8x2_S8x8x2)
    (fun V => StableHlo.reshape_result' _ _ _ _ V) (fun V => StableHlo.reshape_result_ne _ _ _ _ _ _ V (by decide)) _ _ _) $$ [Hb Hz H4]
  · isplitl [Hb]; · iexact Hb
    isplitl [Hz] <;> iassumption
  iintro ⟨Hb, -, H4⟩
  ihave Hst := (show ((K (F := F)).tcSt EH d ((0 : Fin 1).val + 1) : sProp (M F)) ⊢ _ from tcSt_owes (ent2 m d) d 1 rfl rfl) $$ Hst
  icases Hst with ⟨How, Hst⟩
  iapply (wp_last m κ d _) $$ [Hb H2 H3 H4 H5 How HG2]
  · isplitr; · iexact Hctx
    isplitl [Hb]; · iexact Hb
    isplitr [HG2]
    · isplitr [How]
      · isplitl [H2]; · iexact H2
        isplitl [H3]; · iexact H3
        isplitl [H4] <;> iassumption
      iexact How
    iexact HG2
  iintro ⟨Hb, ⟨-, -, -, H5⟩, How⟩
  ispecialize Hst $$ How
  iapply (wp_un m d main_v5 main_v6 (by decide) _ rfl rfl (fun v => shapeCast S_ v shapeCasts_S1x1_S_)
    (fun V => StableHlo.reshape_result' _ _ _ _ V) (fun V => StableHlo.reshape_result_ne _ _ _ _ _ _ V (by decide)) _ _ _) $$ [Hb H5 H6]
  · isplitl [Hb]; · iexact Hb
    isplitl [H5] <;> iassumption
  iintro ⟨Hb, -, H6⟩
  iapply (wp_nu m d main_cst _ rfl rfl (constant S_ .f32 0x49100000#32) (fun V => StableHlo.nullary_result' _ _ V) _ _) $$ [Hb Hc]
  · isplitl [Hb] <;> iassumption
  iintro ⟨Hb, Hc⟩
  iapply (wp_bi m d main_v6 main_cst main_v7 (by decide) (by decide) (by decide) _ rfl rfl (fun a b => Host.divf a b)
    (fun V => StableHlo.binary_result' _ _ _ _ V) (fun V => StableHlo.binary_result_ne _ _ _ _ _ _ _ V (by decide))
    (fun V => StableHlo.binary_result_ne _ _ _ _ _ _ _ V (by decide)) _ _ _ _) $$ [Hb H6 Hc H7]
  · isplitl [Hb]; · iexact Hb
    isplitl [H6]; · iexact H6
    isplitl [Hc] <;> iassumption
  iintro ⟨Hb, -, -, H7⟩
  imodintro
  isplitl [Hst]; · iexact Hst
  isplitr [Hb Hts]
  · isplitl [Hx]; · iexact Hx
    isplitl [Hy]; · iexact Hy
    iexact H7
  isplitl [Hb] <;> iassumption

/-- What a device's memory is at the end. -/
def fq (d : Dev nD) (s' : Phys nD τ sig (Elt F)) : Prop :=
  s'.mem.mem (aLoc d main_arg0) = m (aLoc d main_arg0) ∧ s'.mem.mem (aLoc d main_arg1) = m (aLoc d main_arg1)
    ∧ s'.mem.mem (aLoc d main_v7) = resV (fsM m d) (gsM m d)

theorem hfin (d : Dev nD) (s' : Phys nD τ sig (Elt F)) : iprop(FIN m d ∗ SI s') ⊢ (⌜fq m d s'⌝ : sProp (M F)) := by
  iintro ⟨⟨Hx, Hy, Hr⟩, HSI⟩
  ihave H := (persistent_entails_right (SI_pointsTo_agree (st := s') (ℓ := aLoc d main_arg0) (I := Finset.univ) (q := fullShare) (f := m (aLoc d main_arg0)))) $$ [HSI Hx]
  · isplitl [HSI] <;> iassumption
  icases H with ⟨%h1, HSI, -⟩
  ihave H := (persistent_entails_right (SI_pointsTo_agree (st := s') (ℓ := aLoc d main_arg1) (I := Finset.univ) (q := fullShare) (f := m (aLoc d main_arg1)))) $$ [HSI Hy]
  · isplitl [HSI] <;> iassumption
  icases H with ⟨%h2, HSI, -⟩
  ihave H := (SI_pointsTo_agree (st := s') (ℓ := aLoc d main_v7) (I := Finset.univ) (q := fullShare) (f := resV (fsM m d) (gsM m d))) $$ [HSI Hr]
  · isplitl [HSI] <;> iassumption
  icases H with %h3
  ipureintro
  exact ⟨funext fun i => h1 i (Finset.mem_univ _), funext fun i => h2 i (Finset.mem_univ _), funext fun i => h3 i (Finset.mem_univ _)⟩

/-- The program's run, on every device. -/
def QC : PUnit × MemSt nD τ sig (Elt F) → Prop := fun r =>
  (∀ d : Dev nD, r.2.mem (aLoc d main_arg0) = m (aLoc d main_arg0) ∧ r.2.mem (aLoc d main_arg1) = m (aLoc d main_arg1)
    ∧ r.2.mem (aLoc d main_v7) = resV (fsM m d) (gsM m d)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) kfacts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof

end
-- ==== Proof.Frames.lean ====
/-
  The frames of the kernel, idealized and as lowered: the run of `Main.lean` with the value dropped.
-/
module

public import proofs.«01_k».proof.Defs
public import proofs.«01_k».proof.Proof.Gen.Kernel
public import proofs.«01_k».proof.Proof.Gen.KernelIdeal
public import proofs.«01_k».proof.Proof.SameText
public import proofs.«01_k».proof.Proof.Main
public import Idealize.ShloMosaic.PureOps.BitExact

@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun c => ⟨(h.1 c).1, (h.1 c).2.1⟩, h.2⟩) (run_main m ρ)

/-- The same at the machine's floats, for the lowered kernel: it is the idealized one's text. -/
theorem frame_kernel : Cert.quiescent_Kernel := fun m ρ _ => by
  rw [defs_same, threads_same]
  exact (θ_run Cert.KernelIdeal.defs _ _).mono (fun _ h => ⟨fun c => ⟨(h.1 c).1, (h.1 c).2.1⟩, h.2⟩) (run_main (F := Bits) m ρ)

end Cert.Proof

end
-- ==== Proof.Sums.lean ====
/-
  What a task of the SparseCore kernel leaves, as sums of extended reals: the sum over the sixteen lanes of a register
  is the sum over the task's forty-eight rows and all columns.
-/
module

public import proofs.«01_k».proof.Proof.Tile
public import Idealize.ShloMosaic.PureOps.Ideal.Laws

@[expose] public section

noncomputable section

namespace Cert.Proof

open Cert.KernelIdeal Cert.KernelIdeal.Gen

open Idealize.ShloMosaic
open Finset (range)

/-! ## Sums over a rectangle -/

/-- The sum over `k` rows from row `r` on, and all 384 columns. -/
def area (f : ℕ → ℕ → EReal) (r k : ℕ) : EReal := ∑ i ∈ range k, ∑ w ∈ range 384, f (r + i) w

theorem area_add (f : ℕ → ℕ → EReal) (r k l : ℕ) : area f r (k + l) = area f r k + area f (r + k) l := by
  unfold area
  rw [Finset.sum_range_add]
  simp only [Nat.add_assoc]

/-- A sum over `a * b` places, `b` at a time. -/
theorem sum_blocks (g : ℕ → EReal) (a b : ℕ) : ∑ i ∈ range (a * b), g i = ∑ i ∈ range a, ∑ j ∈ range b, g (b * i + j) := by
  induction a with
  | zero => simp
  | succ a ih => rw [Nat.succ_mul, Finset.sum_range_add, ih, Finset.sum_range_succ, Nat.mul_comm a b]

/-- Four groups of forty-eight rows. -/
theorem area_groups (f : ℕ → ℕ → EReal) : ∑ q ∈ range 4, area f (q * 48) 48 = area f 0 192 := by
  unfold area
  rw [show (192 : ℕ) = 4 * 48 from rfl, sum_blocks]
  refine Finset.sum_congr rfl fun q _ => Finset.sum_congr rfl fun i _ => ?_
  rw [Nat.mul_comm q 48, Nat.zero_add]

/-! ## The registers' lanes -/

/-- What the lane `l` gains in a row. -/
def rowLane (g : ℕ → EReal) (l : ℕ) : EReal := ∑ k ∈ range 6, ∑ u ∈ range 4, g (64 * k + 16 * u + l)

/-- All lanes together gain the row's sum. -/
theorem sum_rowLane (g : ℕ → EReal) : ∑ l ∈ range 16, rowLane g l = ∑ w ∈ range 384, g w := by
  unfold rowLane
  rw [show (384 : ℕ) = 6 * 64 from rfl, sum_blocks, Finset.sum_comm]
  refine Finset.sum_congr rfl fun k _ => ?_
  rw [show (64 : ℕ) = 4 * 16 from rfl, sum_blocks, Finset.sum_comm]
  refine Finset.sum_congr rfl fun u _ => Finset.sum_congr rfl fun l _ => ?_
  rw [Nat.add_assoc]

section
variable (X : ℕ → ℕ → Ideal .f32) (Y : ℕ → ℕ → ℕ → Ideal .f32)

/-- A mask times the logits. -/
def prodXY (n r c : ℕ) : EReal := (Y n r c : EReal) * (X r c : EReal)

theorem cast_lanesL (r c : ℕ) (x : S16.Idx) : shapeCast S16 (lanesL X r c) shapeCasts_S1x1x16_S16 x = X r (c + (x 0).val) := by
  have e : Shape.reshapeEquiv shapeCasts_S1x1x16_S16 x = (fun | 0 => ⟨0, by decide⟩ | 1 => ⟨0, by decide⟩ | 2 => x 0 : S1x1x16.Idx) :=
    Shape.reshapeEquiv_eq_of_rowMajor _ ((Shape.rowMajor_val_three _).trans (Eq.trans (by simp) (Shape.rowMajor_val_one _).symm))
  unfold shapeCast; rw [e]; rfl

theorem cast_lanesM (n r c : ℕ) (x : S16.Idx) :
    shapeCast S16 (lanesM Y n r c) shapeCasts_S1x1x1x16_S16 x = Y n r (c + (x 0).val) := by
  have e : Shape.reshapeEquiv shapeCasts_S1x1x1x16_S16 x
      = (fun | 0 => ⟨0, by decide⟩ | 1 => ⟨0, by decide⟩ | 2 => ⟨0, by decide⟩ | 3 => x 0 : S1x1x1x16.Idx) :=
    Shape.reshapeEquiv_eq_of_rowMajor _ ((Shape.rowMajor_val_four _).trans (Eq.trans (by simp) (Shape.rowMajor_val_one _).symm))
  unfold shapeCast; rw [e]; rfl

theorem stepU_fst (r c : ℕ) (s : St Ideal) (n : Fin 8) (x : S16.Idx) :
    ((stepU X Y r c s).1 n x : EReal) = s.1 n x + Y n.val r (c + (x 0).val) := by
  rw [← cast_lanesM Y n.val r c x]; rfl

theorem stepU_snd (r c : ℕ) (s : St Ideal) (n : Fin 8) (x : S16.Idx) :
    ((stepU X Y r c s).2 n x : EReal) = s.2 n x + prodXY X Y n.val r (c + (x 0).val) := by
  unfold prodXY
  rw [← cast_lanesM Y n.val r c x, ← cast_lanesL X r c x]; rfl

theorem rowTo_fst (r : ℕ) (s : St Ideal) (n : Fin 8) (x : S16.Idx) (j : ℕ) :
    ((rowTo X Y r s j).1 n x : EReal)
      = s.1 n x + ∑ k ∈ range j, ∑ u ∈ range 4, Y n.val r (64 * k + 16 * u + (x 0).val) := by
  induction j with
  | zero => simp [rowTo]
  | succ j ih =>
    rw [rowTo, stepK, stepU_fst, stepU_fst, stepU_fst, stepU_fst, ih, Finset.sum_range_succ _ j]
    simp only [Finset.sum_range_succ _ 3, Finset.sum_range_succ _ 2, Finset.sum_range_succ _ 1, Finset.sum_range_succ _ 0,
      Finset.sum_range_zero, zero_add, ← add_assoc]
    rfl

theorem rowTo_snd (r : ℕ) (s : St Ideal) (n : Fin 8) (x : S16.Idx) (j : ℕ) :
    ((rowTo X Y r s j).2 n x : EReal)
      = s.2 n x + ∑ k ∈ range j, ∑ u ∈ range 4, prodXY X Y n.val r (64 * k + 16 * u + (x 0).val) := by
  induction j with
  | zero => simp [rowTo]
  | succ j ih =>
    rw [rowTo, stepK, stepU_snd, stepU_snd, stepU_snd, stepU_snd, ih, Finset.sum_range_succ _ j]
    simp only [Finset.sum_range_succ _ 3, Finset.sum_range_succ _ 2, Finset.sum_range_succ _ 1, Finset.sum_range_succ _ 0,
      Finset.sum_range_zero, zero_add, ← add_assoc]
    rfl

theorem rowsSt_fst (n : Fin 8) (x : S16.Idx) : ∀ (rs : List (Fin 16)) (s : St Ideal),
    ((rowsSt X Y rs s).1 n x : EReal) = s.1 n x + (rs.map fun r => rowLane (Y n.val r.val) (x 0).val).sum
  | [], s => by simp [rowsSt]
  | r :: rs, s => by
    rw [rowsSt, rowsSt_fst n x rs, rowTo_fst, List.map_cons, List.sum_cons, add_assoc]; rfl

theorem rowsSt_snd (n : Fin 8) (x : S16.Idx) : ∀ (rs : List (Fin 16)) (s : St Ideal),
    ((rowsSt X Y rs s).2 n x : EReal) = s.2 n x + (rs.map fun r => rowLane (prodXY X Y n.val r.val) (x 0).val).sum
  | [], s => by simp [rowsSt]
  | r :: rs, s => by
    rw [rowsSt, rowsSt_snd n x rs, rowTo_snd, List.map_cons, List.sum_cons, add_assoc]; rfl

end

theorem sum_AB (h : ℕ → EReal) : (rsA.map fun r => h r.val).sum + (rsB.map fun r => h r.val).sum = ∑ i ∈ range 16, h i := by
  simp only [Finset.sum_range_succ, Finset.sum_range_zero, rsA, rsB, List.map_cons, List.map_nil, List.sum_cons, List.sum_nil,
    zero_add, add_zero]
  simp only [← add_assoc]; rfl

theorem sum_CD (h : ℕ → EReal) : (rsC.map fun r => h r.val).sum + (rsD.map fun r => h r.val).sum = ∑ i ∈ range 16, h i := by
  simp only [Finset.sum_range_succ, Finset.sum_range_zero, rsC, rsD, List.map_cons, List.map_nil, List.sum_cons, List.sum_nil,
    zero_add, add_zero]
  simp only [← add_assoc]; rfl

/-! ## A task's registers -/

section
variable (fs : S2x5x384x384.Idx → Ideal .f32) (gs : S2x5x8x384x384.Idx → Ideal .f32)

/-- Mask `n` of image `b`, class `c`, and the same times the logits. -/
def mask (b c n : ℕ) (r w : ℕ) : EReal := gs (ixY b c n r w)
def hit (b c n : ℕ) (r w : ℕ) : EReal := mask gs b c n r w * fs (ixX b c r w)

theorem zero16_apply (x : S16.Idx) : (zero16 (F := Ideal) x : EReal) = 0 := Ideal.ofBits_zero_f32

/-- Forty-eight rows in three bands of sixteen. -/
theorem sum_bands (f : ℕ → ℕ → EReal) (R l : ℕ) :
    ∑ i ∈ range 48, rowLane (f (R + i)) l
      = ∑ i ∈ range 16, rowLane (f (R + 16 * 0 + i)) l + ∑ i ∈ range 16, rowLane (f (R + 16 * 1 + i)) l
        + ∑ i ∈ range 16, rowLane (f (R + 16 * 2 + i)) l := by
  rw [show (48 : ℕ) = 3 * 16 from rfl, sum_blocks]
  simp only [Finset.sum_range_succ _ 2, Finset.sum_range_succ _ 1, Finset.sum_range_succ _ 0, Finset.sum_range_zero, zero_add,
    Nat.add_assoc]

theorem tileSt_fst (L : grid1.Coords) (n : Fin 8) (x : S16.Idx) :
    ((tileSt fs gs L).1 n x : EReal) = ∑ i ∈ range 48, rowLane (mask gs (tB L) (tC L) n.val (tR L + i)) (x 0).val := by
  unfold tileSt
  rw [rowsSt_fst, rowsSt_fst, rowsSt_fst, rowsSt_fst, rowsSt_fst, rowsSt_fst, sum_bands]
  rw [← sum_AB fun i => rowLane (mask gs (tB L) (tC L) n.val (tR L + 16 * 0 + i)) (x 0).val,
    ← sum_CD fun i => rowLane (mask gs (tB L) (tC L) n.val (tR L + 16 * 1 + i)) (x 0).val,
    ← sum_AB fun i => rowLane (mask gs (tB L) (tC L) n.val (tR L + 16 * 2 + i)) (x 0).val]
  rw [show ((st0 (F := Ideal)).1 n x : EReal) = 0 from zero16_apply x, zero_add]
  simp only [← add_assoc]; rfl

theorem tileSt_snd (L : grid1.Coords) (n : Fin 8) (x : S16.Idx) :
    ((tileSt fs gs L).2 n x : EReal) = ∑ i ∈ range 48, rowLane (hit fs gs (tB L) (tC L) n.val (tR L + i)) (x 0).val := by
  unfold tileSt
  rw [rowsSt_snd, rowsSt_snd, rowsSt_snd, rowsSt_snd, rowsSt_snd, rowsSt_snd, sum_bands]
  rw [← sum_AB fun i => rowLane (hit fs gs (tB L) (tC L) n.val (tR L + 16 * 0 + i)) (x 0).val,
    ← sum_CD fun i => rowLane (hit fs gs (tB L) (tC L) n.val (tR L + 16 * 1 + i)) (x 0).val,
    ← sum_AB fun i => rowLane (hit fs gs (tB L) (tC L) n.val (tR L + 16 * 2 + i)) (x 0).val]
  rw [show ((st0 (F := Ideal)).2 n x : EReal) = 0 from zero16_apply x, zero_add]
  simp only [← add_assoc]; rfl

/-- All lanes of a register: the task's forty-eight rows. -/
theorem sum_lanes (f : ℕ → ℕ → EReal) (R : ℕ) :
    ∑ l ∈ range 16, ∑ i ∈ range 48, rowLane (f (R + i)) l = area f R 48 := by
  rw [Finset.sum_comm]
  exact Finset.sum_congr rfl fun i _ => sum_rowLane _

end

end Cert.Proof
-- ==== Proof.Fiber.lean ====
/-
  A reduction over two axes as a double sum, and the error of one object from its two sums.
-/
module

public import proofs.«01_k».proof.Proof.Sums

@[expose] public section

noncomputable section

namespace Cert.Proof

open Cert.KernelIdeal Cert.KernelIdeal.Gen

open Idealize.ShloMosaic
open Finset (range)

/-- The sum over the indices that meet a condition, when two of an index's coordinates `c` and `d` tell them apart. -/
theorem fiber_sum {s : Shape} (P : s.Idx → Prop) [DecidablePred P] (x : s.Idx → EReal) (A B : ℕ) (mk : ℕ → ℕ → s.Idx)
    (c d : s.Idx → ℕ) (hc : ∀ i, c i < A) (hd : ∀ i, d i < B) (hP : ∀ a b, a < A → b < B → P (mk a b))
    (h1 : ∀ a b, a < A → b < B → c (mk a b) = a) (h2 : ∀ a b, a < A → b < B → d (mk a b) = b)
    (hm : ∀ i, P i → mk (c i) (d i) = i) :
    ∑ i ∈ Finset.univ.filter P, x i = ∑ a ∈ range A, ∑ b ∈ range B, x (mk a b) := by
  rw [← Finset.sum_product']
  refine Finset.sum_nbij' (fun i => (c i, d i)) (fun p => mk p.1 p.2) ?_ ?_ ?_ ?_ ?_
  · intro i _
    exact Finset.mem_product.2 ⟨Finset.mem_range.2 (hc i), Finset.mem_range.2 (hd i)⟩
  · intro p hp
    obtain ⟨ha, hb⟩ := Finset.mem_product.1 hp
    exact Finset.mem_filter.2 ⟨Finset.mem_univ _, hP _ _ (Finset.mem_range.1 ha) (Finset.mem_range.1 hb)⟩
  · intro i hi
    exact hm i (Finset.mem_filter.1 hi).2
  · intro p hp
    obtain ⟨ha, hb⟩ := Finset.mem_product.1 hp
    exact Prod.ext (h1 _ _ (Finset.mem_range.1 ha) (Finset.mem_range.1 hb)) (h2 _ _ (Finset.mem_range.1 ha) (Finset.mem_range.1 hb))
  · intro i hi
    exact congrArg x (hm i (Finset.mem_filter.1 hi).2).symm

/-- The square of what is not below zero. -/
def pen (x : Ideal .f32) : Ideal .f32 :=
  Scalar.select (FloatOps.cmpf .oge x (Scalar.ofBits .f32 0x00000000#32)) (FloatOps.mulf x x) (Scalar.ofBits .f32 0x00000000#32)

/-- An object's error from its box sum and its activation sum. -/
def err (B A : Ideal .f32) : EReal :=
  (pen (FloatOps.subf A (FloatOps.mulf (Scalar.ofBits .f32 0x3F666666#32) B)) : EReal)
    + (pen (FloatOps.subf (FloatOps.mulf (Scalar.ofBits .f32 0x3E99999A#32) B) A) : EReal)

section
variable (fs : S2x5x384x384.Idx → Ideal .f32) (gs : S2x5x8x384x384.Idx → Ideal .f32)

/-- The error of object `n` of the pair `p` of image and class. -/
def errAt (p n : ℕ) : EReal :=
  err (area (mask gs (p / 4) (p % 4 + 1) n) 0 384) (area (hit fs gs (p / 4) (p % 4 + 1) n) 0 384)

/-- All errors together. -/
def total : EReal := ∑ p ∈ range 8, ∑ n ∈ range 8, errAt fs gs p n

end

end Cert.Proof
-- ==== Proof.Comb.lean ====
/-
  The last kernel's two operands as sums: the partial sums of the SparseCore's tasks and the first kernel's sums make up
  each object's box sum and activation sum; its result is the sum of all errors.
-/
module

public import proofs.«01_k».proof.Proof.Fiber
public import proofs.«01_k».proof.Proof.TcData

@[expose] public section

noncomputable section

namespace Cert.Proof

open Cert.KernelIdeal Cert.KernelIdeal.Gen

open Idealize.ShloMosaic
open Finset (range)

/-! ## The partial sums of the tasks -/

/-- Class `c`, group of rows `q`, object `n`, which sum `k`, lane `l`. -/
def ixP (c q n k l : ℕ) : S4x4x8x2x16.Idx := fun
  | 0 => ⟨c % 4, Nat.mod_lt _ (by decide)⟩ | 1 => ⟨q % 4, Nat.mod_lt _ (by decide)⟩ | 2 => ⟨n % 8, Nat.mod_lt _ (by decide)⟩
  | 3 => ⟨k % 2, Nat.mod_lt _ (by decide)⟩ | 4 => ⟨l % 16, Nat.mod_lt _ (by decide)⟩
def ixR (c q n l : ℕ) : S4x4x8x16.Idx := fun
  | 0 => ⟨c % 4, Nat.mod_lt _ (by decide)⟩ | 1 => ⟨q % 4, Nat.mod_lt _ (by decide)⟩ | 2 => ⟨n % 8, Nat.mod_lt _ (by decide)⟩
  | 3 => ⟨l % 16, Nat.mod_lt _ (by decide)⟩
def ixQ (c q n l : ℕ) : S4x4x8x1x16.Idx := fun
  | 0 => ⟨c % 4, Nat.mod_lt _ (by decide)⟩ | 1 => ⟨q % 4, Nat.mod_lt _ (by decide)⟩ | 2 => ⟨n % 8, Nat.mod_lt _ (by decide)⟩
  | 3 => ⟨0, by decide⟩ | 4 => ⟨l % 16, Nat.mod_lt _ (by decide)⟩

/-- The reduction over row groups and lanes. -/
theorem red13 (y : FVec Ideal S4x4x8x16 .f32) (j : S4x8.Idx) :
    (multiReduction .add [1, 3] S4x8 y 0x00000000#32 reduces_S4x4x8x16_S4x8 (.inl rfl) rfl j : EReal)
      = ∑ q ∈ range 4, ∑ l ∈ range 16, y (ixR (j 0).val q (j 1).val l) := by
  have j0 : (j 0).val < 4 := (j 0).isLt
  have j1 : (j 1).val < 8 := (j 1).isLt
  have e0 (i : S4x4x8x16.Idx) : (reduces_S4x4x8x16_S4x8.drop i 0).val = (i 0).val := Shape.Reduces.drop_apply_val_of_eq _ i 0 0
  have e1 (i : S4x4x8x16.Idx) : (reduces_S4x4x8x16_S4x8.drop i 1).val = (i 2).val := Shape.Reduces.drop_apply_val_of_eq _ i 1 2
  refine fiber_sum (fun i => reduces_S4x4x8x16_S4x8.drop i = j) y 4 16 (fun q l => ixR (j 0).val q (j 1).val l)
    (fun i => (i 1).val) (fun i => (i 3).val) (fun i => (i 1).isLt) (fun i => (i 3).isLt) ?_ ?_ ?_ ?_
  · intro a b _ _
    funext t
    match t with
    | 0 => exact Fin.ext ((e0 _).trans (Nat.mod_eq_of_lt j0))
    | 1 => exact Fin.ext ((e1 _).trans (Nat.mod_eq_of_lt j1))
  · intro a b ha _; exact Nat.mod_eq_of_lt ha
  · intro a b _ hb; exact Nat.mod_eq_of_lt hb
  · intro i hi
    funext t
    match t with
    | 0 => exact Fin.ext ((Nat.mod_eq_of_lt j0).trans ((congrArg (fun z : S4x8.Idx => (z 0).val) hi).symm.trans (e0 i)))
    | 1 => exact Fin.ext (Nat.mod_eq_of_lt (i 1).isLt)
    | 2 => exact Fin.ext ((Nat.mod_eq_of_lt j1).trans ((congrArg (fun z : S4x8.Idx => (z 1).val) hi).symm.trans (e1 i)))
    | 3 => exact Fin.ext (Nat.mod_eq_of_lt (i 3).isLt)

theorem cast_same {s : Shape} {α : Type} (x : s.Idx → α) (h : s.ShapeCasts s) : shapeCast s x h = x := by
  funext j
  unfold shapeCast
  rw [Shape.reshapeEquiv_eq_of_rowMajor h (x := j) (y := j) rfl]

/-- Dropping the axis that tells the two sums apart. -/
theorem cast_R (y : FVec Ideal S4x4x8x1x16 .f32) (c q n l : ℕ) :
    shapeCast S4x4x8x16 y shapeCasts_S4x4x8x1x16_S4x4x8x16 (ixR c q n l) = y (ixQ c q n l) := by
  unfold shapeCast
  rw [Shape.reshapeEquiv_eq_of_rowMajor shapeCasts_S4x4x8x1x16_S4x4x8x16 (x := ixR c q n l) (y := ixQ c q n l)
    ((Shape.rowMajor_val_five _).trans (Eq.trans (by
      show (((c % 4 * 4 + q % 4) * 8 + n % 8) * 1 + 0) * 16 + l % 16 = ((c % 4 * 4 + q % 4) * 8 + n % 8) * 16 + l % 16
      omega) (Shape.rowMajor_val_four _).symm))]

/-- The sum numbered `k` over row groups and lanes, out of an array of partial sums. -/
theorem red_part (v : FVec Ideal S4x4x8x2x16 .f32) (k : ℕ) (hk : k < 2) (h : S4x4x8x2x16.Slices ![0, 0, 0, k, 0] S4x4x8x1x16)
    (j : S4x8.Idx) :
    (multiReduction .add [1, 3] S4x8 (shapeCast S4x4x8x16 (extractStridedSlice S4x4x8x1x16 ![0, 0, 0, k, 0]
        (shapeCast S4x4x8x2x16 v shapeCasts_S4x4x8x2x16_S4x4x8x2x16) h) shapeCasts_S4x4x8x1x16_S4x4x8x16)
        0x00000000#32 reduces_S4x4x8x16_S4x8 (.inl rfl) rfl j : EReal)
      = ∑ q ∈ range 4, ∑ l ∈ range 16, v (ixP (j 0).val q (j 1).val k l) := by
  rw [red13, cast_same]
  refine Finset.sum_congr rfl fun q _ => Finset.sum_congr rfl fun l _ => ?_
  rw [cast_R]
  refine extractStridedSlice_apply _ _ _ _ _ fun a => ?_
  match a with
  | 0 => exact (Nat.zero_add _).symm
  | 1 => exact (Nat.zero_add _).symm
  | 2 => exact (Nat.zero_add _).symm
  | 3 => exact Nat.mod_eq_of_lt hk
  | 4 => exact (Nat.zero_add _).symm

section
variable (fs : S2x5x384x384.Idx → Ideal .f32) (gs : S2x5x8x384x384.Idx → Ideal .f32)

/-- The result of the tasks of SparseCore `ci`. -/
def outC (ci : Fin 2) : S16x256.Idx → Ideal .f32 := fun x => rowVal (tileSt fs gs (mkL ci (x 0))) (x 1).val

def ixW (s p : ℕ) : S16x256.Idx := fun
  | 0 => ⟨s % 16, Nat.mod_lt _ (by decide)⟩ | 1 => ⟨p % 256, Nat.mod_lt _ (by decide)⟩

theorem parts_apply (ci : Fin 2) (c q n k l : ℕ) (hc : c < 4) (hq : q < 4) (hn : n < 8) (hk : k < 2) (hl : l < 16) :
    shapeCast S4x4x8x2x16 (outC fs gs ci) shapeCasts_S16x256_S4x4x8x2x16 (ixP c q n k l)
      = outC fs gs ci (ixW (4 * c + q) (32 * n + 16 * k + l)) := by
  unfold shapeCast
  rw [Shape.reshapeEquiv_eq_of_rowMajor shapeCasts_S16x256_S4x4x8x2x16 (x := ixP c q n k l)
    (y := ixW (4 * c + q) (32 * n + 16 * k + l))
    ((Shape.rowMajor_val_two _).trans (Eq.trans (by
      show (4 * c + q) % 16 * 256 + (32 * n + 16 * k + l) % 256
        = (((c % 4 * 4 + q % 4) * 8 + n % 8) * 2 + k % 2) * 16 + l % 16
      omega) (Shape.rowMajor_val_five _).symm))]

theorem tB_mk (ci : Fin 2) (x : S16x256.Idx) : tB (mkL ci (x 0)) = ci.val := by
  have := (x 0).isLt
  change (x 0).val < 16 at this
  show (ci.val * 16 + (x 0).val) / 16 = ci.val
  omega
theorem tC_mk (ci : Fin 2) (x : S16x256.Idx) : tC (mkL ci (x 0)) = (x 0).val / 4 + 1 := by
  have := (x 0).isLt
  change (x 0).val < 16 at this
  show 1 + (ci.val * 16 + (x 0).val) / 4 % 4 = (x 0).val / 4 + 1
  omega
theorem tR_mk (ci : Fin 2) (x : S16x256.Idx) : tR (mkL ci (x 0)) = (x 0).val % 4 * 48 := by
  show (ci.val * 16 + (x 0).val) % 4 * 48 = (x 0).val % 4 * 48
  omega

theorem out_box (ci : Fin 2) (c q n l : ℕ) (hc : c < 4) (hq : q < 4) (hn : n < 8) (hl : l < 16) :
    (outC fs gs ci (ixW (4 * c + q) (32 * n + 16 * 0 + l)) : EReal)
      = ∑ i ∈ range 48, rowLane (mask gs ci.val (c + 1) n (q * 48 + i)) l := by
  have hp : ((ixW (4 * c + q) (32 * n + 16 * 0 + l)) 1).val = 32 * n + l := by
    show (32 * n + 16 * 0 + l) % 256 = _; omega
  have hs : ((ixW (4 * c + q) (32 * n + 16 * 0 + l)) 0).val = 4 * c + q := by
    show (4 * c + q) % 16 = _; omega
  unfold outC rowVal vecs
  rw [hp, if_pos (by omega), tileSt_fst, tB_mk, tC_mk, tR_mk, hs]
  have e1 : (4 * c + q) / 4 + 1 = c + 1 := by omega
  have e2 : (4 * c + q) % 4 = q := by omega
  have e3 : (32 * n + l) / 16 / 2 % 8 = n := by omega
  have e4 : (ln (32 * n + l) 0).val = l := by show (32 * n + l) % 16 = l; omega
  simp only [e1, e2, e3, e4]

theorem out_act (ci : Fin 2) (c q n l : ℕ) (hc : c < 4) (hq : q < 4) (hn : n < 8) (hl : l < 16) :
    (outC fs gs ci (ixW (4 * c + q) (32 * n + 16 * 1 + l)) : EReal)
      = ∑ i ∈ range 48, rowLane (hit fs gs ci.val (c + 1) n (q * 48 + i)) l := by
  have hp : ((ixW (4 * c + q) (32 * n + 16 * 1 + l)) 1).val = 32 * n + 16 + l := by
    show (32 * n + 16 * 1 + l) % 256 = _; omega
  have hs : ((ixW (4 * c + q) (32 * n + 16 * 1 + l)) 0).val = 4 * c + q := by
    show (4 * c + q) % 16 = _; omega
  unfold outC rowVal vecs
  rw [hp, if_neg (by omega), tileSt_snd, tB_mk, tC_mk, tR_mk, hs]
  have e1 : (4 * c + q) / 4 + 1 = c + 1 := by omega
  have e2 : (4 * c + q) % 4 = q := by omega
  have e3 : (32 * n + 16 + l) / 16 / 2 % 8 = n := by omega
  have e4 : (ln (32 * n + 16 + l) 0).val = l := by show (32 * n + 16 + l) % 16 = l; omega
  simp only [e1, e2, e3, e4]

/-- A SparseCore's partial sums make up the upper half of an object. -/
theorem sum_box (ci : Fin 2) (c n : ℕ) (hc : c < 4) (hn : n < 8) :
    (∑ q ∈ range 4, ∑ l ∈ range 16,
      (shapeCast S4x4x8x2x16 (outC fs gs ci) shapeCasts_S16x256_S4x4x8x2x16 (ixP c q n 0 l) : EReal))
      = area (mask gs ci.val (c + 1) n) 0 192 := by
  rw [← area_groups]
  refine Finset.sum_congr rfl fun q hq => ?_
  rw [← sum_lanes]
  refine Finset.sum_congr rfl fun l hl => ?_
  rw [parts_apply fs gs ci c q n 0 l hc (Finset.mem_range.1 hq) hn (by decide) (Finset.mem_range.1 hl)]
  exact out_box fs gs ci c q n l hc (Finset.mem_range.1 hq) hn (Finset.mem_range.1 hl)

theorem sum_act (ci : Fin 2) (c n : ℕ) (hc : c < 4) (hn : n < 8) :
    (∑ q ∈ range 4, ∑ l ∈ range 16,
      (shapeCast S4x4x8x2x16 (outC fs gs ci) shapeCasts_S16x256_S4x4x8x2x16 (ixP c q n 1 l) : EReal))
      = area (hit fs gs ci.val (c + 1) n) 0 192 := by
  rw [← area_groups]
  refine Finset.sum_congr rfl fun q hq => ?_
  rw [← sum_lanes]
  refine Finset.sum_congr rfl fun l hl => ?_
  rw [parts_apply fs gs ci c q n 1 l hc (Finset.mem_range.1 hq) hn (by decide) (Finset.mem_range.1 hl)]
  exact out_act fs gs ci c q n l hc (Finset.mem_range.1 hq) hn (Finset.mem_range.1 hl)

end

/-! ## The first kernel's sums -/

def ixT (n r w : ℕ) : S8x192x384.Idx := fun
  | 0 => ⟨n % 8, Nat.mod_lt _ (by decide)⟩ | 1 => ⟨r % 192, Nat.mod_lt _ (by decide)⟩ | 2 => ⟨w % 384, Nat.mod_lt _ (by decide)⟩

/-- The reduction over rows and columns. -/
theorem red12 (y : FVec Ideal S8x192x384 .f32) (j : S8.Idx) :
    (multiReduction .add [1, 2] S8 y 0x00000000#32 reduces_S8x192x384_S8 (.inl rfl) rfl j : EReal)
      = ∑ r ∈ range 192, ∑ w ∈ range 384, y (ixT (j 0).val r w) := by
  have j0 : (j 0).val < 8 := (j 0).isLt
  have e0 (i : S8x192x384.Idx) : (reduces_S8x192x384_S8.drop i 0).val = (i 0).val := Shape.Reduces.drop_apply_val_of_eq _ i 0 0
  refine fiber_sum (fun i => reduces_S8x192x384_S8.drop i = j) y 192 384 (fun r w => ixT (j 0).val r w)
    (fun i => (i 1).val) (fun i => (i 2).val) (fun i => (i 1).isLt) (fun i => (i 2).isLt) ?_ ?_ ?_ ?_
  · intro a b _ _
    funext t
    match t with
    | 0 => exact Fin.ext ((e0 _).trans (Nat.mod_eq_of_lt j0))
  · intro a b ha _; exact Nat.mod_eq_of_lt ha
  · intro a b _ hb; exact Nat.mod_eq_of_lt hb
  · intro i hi
    funext t
    match t with
    | 0 => exact Fin.ext ((Nat.mod_eq_of_lt j0).trans ((congrArg (fun z : S8.Idx => (z 0).val) hi).symm.trans (e0 i)))
    | 1 => exact Fin.ext (Nat.mod_eq_of_lt (i 1).isLt)
    | 2 => exact Fin.ext (Nat.mod_eq_of_lt (i 2).isLt)

def ixM (n r w : ℕ) : S1x1x8x192x384.Idx := fun
  | 0 => ⟨0, by decide⟩ | 1 => ⟨0, by decide⟩
  | 2 => ⟨n % 8, Nat.mod_lt _ (by decide)⟩ | 3 => ⟨r % 192, Nat.mod_lt _ (by decide)⟩ | 4 => ⟨w % 384, Nat.mod_lt _ (by decide)⟩
def ixL (r w : ℕ) : S1x1x192x384.Idx := fun
  | 0 => ⟨0, by decide⟩ | 1 => ⟨0, by decide⟩
  | 2 => ⟨r % 192, Nat.mod_lt _ (by decide)⟩ | 3 => ⟨w % 384, Nat.mod_lt _ (by decide)⟩
def ixL2 (r w : ℕ) : S192x384.Idx := fun
  | 0 => ⟨r % 192, Nat.mod_lt _ (by decide)⟩ | 1 => ⟨w % 384, Nat.mod_lt _ (by decide)⟩
def ixL3 (r w : ℕ) : S1x192x384.Idx := fun
  | 0 => ⟨0, by decide⟩ | 1 => ⟨r % 192, Nat.mod_lt _ (by decide)⟩ | 2 => ⟨w % 384, Nat.mod_lt _ (by decide)⟩

theorem pay1_apply (v : Vec Ideal S1x1x8x192x384 .f32) (n r w : ℕ) : k0_pay1 v (ixT n r w) = v (ixM n r w) := by
  show v (Shape.reshapeEquiv shapeCasts_S1x1x8x192x384_S8x192x384 (ixT n r w)) = _
  rw [Shape.reshapeEquiv_eq_of_rowMajor shapeCasts_S1x1x8x192x384_S8x192x384 (x := ixT n r w) (y := ixM n r w)
    ((Shape.rowMajor_val_five _).trans (Eq.trans (by
      show (((0 * 1 + 0) * 8 + n % 8) * 192 + r % 192) * 384 + w % 384 = (n % 8 * 192 + r % 192) * 384 + w % 384
      omega) (Shape.rowMajor_val_three _).symm))]

theorem castL_apply (v : Vec Ideal S1x1x192x384 .f32) (n r w : ℕ) :
    broadcastTo S8x192x384 (shapeCast S1x192x384 (shapeCast S192x384 v shapeCasts_S1x1x192x384_S192x384)
      shapeCasts_S192x384_S1x192x384) broadcasts_S1x192x384_S8x192x384 (ixT n r w) = v (ixL r w) := by
  rw [broadcastTo_apply _ _ (ixT n r w) (ixL3 r w) (fun a => by
    match a with
    | 0 => rfl
    | 1 => rfl
    | 2 => rfl)]
  unfold shapeCast
  rw [Shape.reshapeEquiv_eq_of_rowMajor shapeCasts_S192x384_S1x192x384 (x := ixL3 r w) (y := ixL2 r w)
    ((Shape.rowMajor_val_two _).trans (Eq.trans (by
      show r % 192 * 384 + w % 384 = (0 * 192 + r % 192) * 384 + w % 384
      omega) (Shape.rowMajor_val_three _).symm))]
  rw [Shape.reshapeEquiv_eq_of_rowMajor shapeCasts_S1x1x192x384_S192x384 (x := ixL2 r w) (y := ixL r w)
    ((Shape.rowMajor_val_four _).trans (Eq.trans (by
      show ((0 * 1 + 0) * 192 + r % 192) * 384 + w % 384 = r % 192 * 384 + w % 384
      omega) (Shape.rowMajor_val_two _).symm))]

def ix1 (n : Fin 8) : S8.Idx := fun | 0 => n

theorem cast8 (y : FVec Ideal S8 .f32) (n : Fin 8) : shapeCast S1x1x8x1 y shapeCasts_S8_S1x1x8x1 (ix8 n) = y (ix1 n) := by
  unfold shapeCast
  rw [Shape.reshapeEquiv_eq_of_rowMajor shapeCasts_S8_S1x1x8x1 (x := ix8 n) (y := ix1 n)
    ((Shape.rowMajor_val_one _).trans (Eq.trans (by
      show n.val = ((0 * 1 + 0) * 8 + n.val) * 1 + 0
      omega) (Shape.rowMajor_val_four _).symm))]

section
variable (fs : S2x5x384x384.Idx → Ideal .f32) (gs : S2x5x8x384x384.Idx → Ideal .f32)

theorem lower_box (b c : ℕ) (n : Fin 8) :
    (k0_pay2 (F := Ideal) (yBlk gs b c) (ix8 n) : EReal) = area (mask gs b (c + 1) n.val) 192 192 := by
  refine (cast8 _ n).trans ((red12 _ _).trans ?_)
  refine Finset.sum_congr rfl fun r hr => Finset.sum_congr rfl fun w hw => ?_
  rw [pay1_apply]
  have e1 : n.val % 8 = n.val := Nat.mod_eq_of_lt n.isLt
  have e2 : r % 192 = r := Nat.mod_eq_of_lt (Finset.mem_range.1 hr)
  have e3 : w % 384 = w := Nat.mod_eq_of_lt (Finset.mem_range.1 hw)
  show (gs (ixY b (c + 1) (n.val % 8) (192 + r % 192) (w % 384)) : EReal) = gs (ixY b (c + 1) n.val (192 + r) w)
  rw [e1, e2, e3]

theorem lower_act (b c : ℕ) (n : Fin 8) :
    (k0_pay3 (F := Ideal) (xBlk fs b c) (yBlk gs b c) (ix8 n) : EReal) = area (hit fs gs b (c + 1) n.val) 192 192 := by
  refine (cast8 _ n).trans ((red12 _ _).trans ?_)
  refine Finset.sum_congr rfl fun r hr => Finset.sum_congr rfl fun w hw => ?_
  have e1 : n.val % 8 = n.val := Nat.mod_eq_of_lt n.isLt
  have e2 : r % 192 = r := Nat.mod_eq_of_lt (Finset.mem_range.1 hr)
  have e3 : w % 384 = w := Nat.mod_eq_of_lt (Finset.mem_range.1 hw)
  refine (congrArg₂ (fun a b : EReal => a * b) (pay1_apply (yBlk gs b c) n.val r w) (castL_apply (xBlk fs b c) n.val r w)).trans ?_
  show (gs (ixY b (c + 1) (n.val % 8) (192 + r % 192) (w % 384)) : EReal) * fs (ixX b (c + 1) (192 + r % 192) (w % 384))
    = gs (ixY b (c + 1) n.val (192 + r) w) * fs (ixX b (c + 1) (192 + r) w)
  rw [e1, e2, e3]

end

end Cert.Proof
-- ==== Proof.Loss.lean ====
/-
  The kernel's result over the extended reals: the sum of all errors, divided by the constant.
-/
module

public import proofs.«01_k».proof.Proof.Comb
public import proofs.«01_k».proof.Proof.Main

@[expose] public section

noncomputable section

namespace Cert.Proof

open Cert.KernelIdeal Cert.KernelIdeal.Gen

open Idealize.ShloMosaic
open Finset (range)

/-! ## The two halves side by side -/

def ixH (c n : ℕ) : S4x8.Idx := fun
  | 0 => ⟨c % 4, Nat.mod_lt _ (by decide)⟩ | 1 => ⟨n % 8, Nat.mod_lt _ (by decide)⟩

/-- The first four rows are the first operand's, the last four the second's. -/
theorem cat_left (y0 y1 : FVec Ideal S4x8 .f32) (i : S8x8.Idx) (h : (i 0).val < 4) :
    concatenate S8x8 0 [⟨S4x8, y0⟩, ⟨S4x8, y1⟩] concatenates_S4x8_S4x8_S8x8_d0 i = y0 (ixH (i 0).val (i 1).val) := by
  refine concatenate_pair_apply_left 0 y0 y1 _ i rfl _ fun b => ?_
  match b with
  | 0 => exact Nat.mod_eq_of_lt h
  | 1 => exact Nat.mod_eq_of_lt (i 1).isLt

theorem cat_right (y0 y1 : FVec Ideal S4x8 .f32) (i : S8x8.Idx) (h : 4 ≤ (i 0).val) :
    concatenate S8x8 0 [⟨S4x8, y0⟩, ⟨S4x8, y1⟩] concatenates_S4x8_S4x8_S8x8_d0 i = y1 (ixH ((i 0).val - 4) (i 1).val) := by
  have h8 : (i 0).val < 8 := (i 0).isLt
  refine concatenate_pair_apply_right 0 y0 y1 _ i rfl rfl _ (fun b hb => ?_) ?_
  · match b, hb with
    | 0, hb => exact absurd rfl hb
    | 1, _ => exact Nat.mod_eq_of_lt (i 1).isLt
  · show ((i 0).val - 4) % 4 + 4 = (i 0).val
    omega

def ixN (b c n k : ℕ) : S2x4x8x2.Idx := fun
  | 0 => ⟨b % 2, Nat.mod_lt _ (by decide)⟩ | 1 => ⟨c % 4, Nat.mod_lt _ (by decide)⟩
  | 2 => ⟨n % 8, Nat.mod_lt _ (by decide)⟩ | 3 => ⟨k % 2, Nat.mod_lt _ (by decide)⟩
def ixK (p n k : ℕ) : S8x8x2.Idx := fun
  | 0 => ⟨p % 8, Nat.mod_lt _ (by decide)⟩ | 1 => ⟨n % 8, Nat.mod_lt _ (by decide)⟩ | 2 => ⟨k % 2, Nat.mod_lt _ (by decide)⟩
def ixK1 (p n : ℕ) : S8x8x1.Idx := fun
  | 0 => ⟨p % 8, Nat.mod_lt _ (by decide)⟩ | 1 => ⟨n % 8, Nat.mod_lt _ (by decide)⟩ | 2 => ⟨0, by decide⟩

/-- The first kernel's sum numbered `k`, of pair `p` of image and class, object `n`. -/
theorem third_apply (y : FVec Ideal S2x4x8x2 .f32) (k : ℕ) (hk : k < 2) (h : S8x8x2.Slices ![0, 0, k] S8x8x1) (i : S8x8.Idx) :
    shapeCast S8x8 (extractStridedSlice S8x8x1 ![0, 0, k] (shapeCast S8x8x2 (shapeCast S8x8x2 y shapeCasts_S2x4x8x2_S8x8x2)
        shapeCasts_S8x8x2_S8x8x2) h) shapeCasts_S8x8x1_S8x8 i
      = y (ixN ((i 0).val / 4) ((i 0).val % 4) (i 1).val k) := by
  have h0 : (i 0).val < 8 := (i 0).isLt
  have h1 : (i 1).val < 8 := (i 1).isLt
  have e1 : Shape.reshapeEquiv shapeCasts_S8x8x1_S8x8 i = ixK1 (i 0).val (i 1).val :=
    Shape.reshapeEquiv_eq_of_rowMajor _ ((Shape.rowMajor_val_three _).trans (Eq.trans (by
      show ((i 0).val % 8 * 8 + (i 1).val % 8) * 1 + 0 = (i 0).val * 8 + (i 1).val
      omega) (Shape.rowMajor_val_two _).symm))
  have e2 : Shape.reshapeEquiv shapeCasts_S2x4x8x2_S8x8x2 (ixK (i 0).val (i 1).val k)
      = ixN ((i 0).val / 4) ((i 0).val % 4) (i 1).val k :=
    Shape.reshapeEquiv_eq_of_rowMajor _ ((Shape.rowMajor_val_four _).trans (Eq.trans (by
      show (((i 0).val / 4 % 2 * 4 + (i 0).val % 4 % 4) * 8 + (i 1).val % 8) * 2 + k % 2
        = ((i 0).val % 8 * 8 + (i 1).val % 8) * 2 + k % 2
      omega) (Shape.rowMajor_val_three _).symm))
  rw [cast_same]
  unfold shapeCast
  rw [e1, extractStridedSlice_apply _ _ _ (ixK1 (i 0).val (i 1).val) (ixK (i 0).val (i 1).val k) (fun a => by
    match a with
    | 0 => exact (Nat.zero_add _).symm
    | 1 => exact (Nat.zero_add _).symm
    | 2 => exact Nat.mod_eq_of_lt hk), e2]

section
variable (fs : S2x5x384x384.Idx → Ideal .f32) (gs : S2x5x8x384x384.Idx → Ideal .f32)

theorem main_box (b c n : ℕ) (hb : b < 2) (hc : c < 4) (hn : n < 8) :
    (mainOut (F := Ideal) fs gs (ixN b c n 0) : EReal) = area (mask gs b (c + 1) n) 192 192 := by
  have e : mainOut (F := Ideal) fs gs (ixN b c n 0) = k0_pay2 (F := Ideal) (yBlk gs (b % 2) (c % 4)) (ix8 ⟨n % 8, Nat.mod_lt _ (by decide)⟩) := rfl
  rw [e, lower_box]
  simp only [Nat.mod_eq_of_lt hb, Nat.mod_eq_of_lt hc, Nat.mod_eq_of_lt hn]

theorem main_act (b c n : ℕ) (hb : b < 2) (hc : c < 4) (hn : n < 8) :
    (mainOut (F := Ideal) fs gs (ixN b c n 1) : EReal) = area (hit fs gs b (c + 1) n) 192 192 := by
  have e : mainOut (F := Ideal) fs gs (ixN b c n 1) = k0_pay3 (F := Ideal) (xBlk fs (b % 2) (c % 4)) (yBlk gs (b % 2) (c % 4))
      (ix8 ⟨n % 8, Nat.mod_lt _ (by decide)⟩) := rfl
  rw [e, lower_act]
  simp only [Nat.mod_eq_of_lt hb, Nat.mod_eq_of_lt hc, Nat.mod_eq_of_lt hn]

/-- The box sums, whole. -/
theorem pay5_apply (i : S8x8.Idx) :
    (k2_pay5 (parts0 fs gs) (parts1 fs gs) (partsT fs gs) i : EReal)
      = area (mask gs ((i 0).val / 4) ((i 0).val % 4 + 1) (i 1).val) 0 384 := by
  have h0 : (i 0).val < 8 := (i 0).isLt
  have h1 : (i 1).val < 8 := (i 1).isLt
  rw [show (384 : ℕ) = 192 + 192 from rfl, area_add]
  refine congrArg₂ (fun a b : EReal => a + b) ?_ ?_
  · by_cases h : (i 0).val < 4
    · refine (cat_left _ _ i h).trans ((red_part (parts0 fs gs) 0 (by decide) _ _).trans ?_)
      refine Eq.trans ?_ (sum_box fs gs 0 ((i 0).val / 4 * 0 + (i 0).val % 4) (i 1).val (by omega) h1) |>.trans ?_
      · have e0 : (i 0).val % 4 = (i 0).val := Nat.mod_eq_of_lt h
        show (∑ q ∈ range 4, ∑ l ∈ range 16, (parts0 fs gs (ixP ((i 0).val % 4) q ((i 1).val % 8) 0 l) : EReal)) = _
        rw [Nat.mod_eq_of_lt h1, Nat.mul_zero, Nat.zero_add]; rfl
      · rw [Nat.mul_zero, Nat.zero_add, Nat.div_eq_of_lt h]; rfl
    · have e1 : (i 0).val / 4 = 1 := by omega
      have e2 : ((i 0).val - 4) % 4 = (i 0).val % 4 := by omega
      refine (cat_right _ _ i (by omega)).trans ((red_part (parts1 fs gs) 0 (by decide) _ _).trans ?_)
      refine Eq.trans ?_ (sum_box fs gs 1 ((i 0).val % 4) (i 1).val (by omega) h1) |>.trans ?_
      · show (∑ q ∈ range 4, ∑ l ∈ range 16, (parts1 fs gs (ixP (((i 0).val - 4) % 4) q ((i 1).val % 8) 0 l) : EReal)) = _
        rw [Nat.mod_eq_of_lt h1, e2]; rfl
      · rw [e1]; rfl
  · refine (third_apply (mainOut (F := Ideal) fs gs) 0 (by decide) _ i).trans ?_
    exact main_box fs gs _ _ _ (by omega) (by omega) h1

/-- The activation sums, whole. -/
theorem pay6_apply (i : S8x8.Idx) :
    (k2_pay6 (parts0 fs gs) (parts1 fs gs) (partsT fs gs) i : EReal)
      = area (hit fs gs ((i 0).val / 4) ((i 0).val % 4 + 1) (i 1).val) 0 384 := by
  have h0 : (i 0).val < 8 := (i 0).isLt
  have h1 : (i 1).val < 8 := (i 1).isLt
  rw [show (384 : ℕ) = 192 + 192 from rfl, area_add]
  refine congrArg₂ (fun a b : EReal => a + b) ?_ ?_
  · by_cases h : (i 0).val < 4
    · refine (cat_left _ _ i h).trans ((red_part (parts0 fs gs) 1 (by decide) _ _).trans ?_)
      refine Eq.trans ?_ (sum_act fs gs 0 ((i 0).val % 4) (i 1).val (by omega) h1) |>.trans ?_
      · show (∑ q ∈ range 4, ∑ l ∈ range 16, (parts0 fs gs (ixP ((i 0).val % 4) q ((i 1).val % 8) 1 l) : EReal)) = _
        rw [Nat.mod_eq_of_lt h1]; rfl
      · rw [Nat.div_eq_of_lt h]; rfl
    · have e1 : (i 0).val / 4 = 1 := by omega
      have e2 : ((i 0).val - 4) % 4 = (i 0).val % 4 := by omega
      refine (cat_right _ _ i (by omega)).trans ((red_part (parts1 fs gs) 1 (by decide) _ _).trans ?_)
      refine Eq.trans ?_ (sum_act fs gs 1 ((i 0).val % 4) (i 1).val (by omega) h1) |>.trans ?_
      · show (∑ q ∈ range 4, ∑ l ∈ range 16, (parts1 fs gs (ixP (((i 0).val - 4) % 4) q ((i 1).val % 8) 1 l) : EReal)) = _
        rw [Nat.mod_eq_of_lt h1, e2]; rfl
      · rw [e1]; rfl
  · refine (third_apply (mainOut (F := Ideal) fs gs) 1 (by decide) _ i).trans ?_
    exact main_act fs gs _ _ _ (by omega) (by omega) h1

/-! ## The sum of the errors -/

def ixE (p n : ℕ) : S8x8.Idx := fun
  | 0 => ⟨p % 8, Nat.mod_lt _ (by decide)⟩ | 1 => ⟨n % 8, Nat.mod_lt _ (by decide)⟩
def ixE1 (p n : ℕ) : S1x8x8.Idx := fun
  | 0 => ⟨0, by decide⟩ | 1 => ⟨p % 8, Nat.mod_lt _ (by decide)⟩ | 2 => ⟨n % 8, Nat.mod_lt _ (by decide)⟩

/-- The reduction over everything. -/
theorem redAll (y : FVec Ideal S1x8x8 .f32) (j : S1.Idx) :
    (multiReduction .add [1, 2] S1 y 0x00000000#32 reduces_S1x8x8_S1 (.inl rfl) rfl j : EReal)
      = ∑ p ∈ range 8, ∑ n ∈ range 8, y (ixE1 p n) := by
  have sub (a b : S1.Idx) : a = b := by
    funext t
    match t with
    | 0 => exact Fin.ext ((Nat.lt_one_iff.1 (a 0).isLt).trans (Nat.lt_one_iff.1 (b 0).isLt).symm)
  refine fiber_sum (fun i => reduces_S1x8x8_S1.drop i = j) y 8 8 ixE1
    (fun i => (i 1).val) (fun i => (i 2).val) (fun i => (i 1).isLt) (fun i => (i 2).isLt) ?_ ?_ ?_ ?_
  · intro a b _ _; exact sub _ _
  · intro a b ha _; exact Nat.mod_eq_of_lt ha
  · intro a b _ hb; exact Nat.mod_eq_of_lt hb
  · intro i _
    funext t
    match t with
    | 0 => exact Fin.ext (Nat.lt_one_iff.1 (i 0).isLt).symm
    | 1 => exact Fin.ext (Nat.mod_eq_of_lt (i 1).isLt)
    | 2 => exact Fin.ext (Nat.mod_eq_of_lt (i 2).isLt)

theorem castE (y : FVec Ideal S8x8 .f32) (p n : ℕ) : shapeCast S1x8x8 y shapeCasts_S8x8_S1x8x8 (ixE1 p n) = y (ixE p n) := by
  unfold shapeCast
  rw [Shape.reshapeEquiv_eq_of_rowMajor shapeCasts_S8x8_S1x8x8 (x := ixE1 p n) (y := ixE p n)
    ((Shape.rowMajor_val_two _).trans (Eq.trans (by
      show p % 8 * 8 + n % 8 = (0 * 8 + p % 8) * 8 + n % 8
      omega) (Shape.rowMajor_val_three _).symm))]

/-- The last kernel's number, from the two families of sums. -/
theorem comb_errs (v0 v8 : FVec Ideal S4x4x8x2x16 .f32) (v16 : FVec Ideal S8x8x2 .f32) (x : S1x1.Idx) :
    (combBlk (F := Ideal) v0 v8 v16 x : EReal)
      = ∑ p ∈ range 8, ∑ n ∈ range 8, err (k2_pay5 v0 v8 v16 (ixE p n)) (k2_pay6 v0 v8 v16 (ixE p n)) := by
  refine (redAll _ _).trans ?_
  refine Finset.sum_congr rfl fun p _ => Finset.sum_congr rfl fun n _ => ?_
  rw [castE]; rfl

theorem comb_total (x : S1x1.Idx) : (combBlk (F := Ideal) (parts0 fs gs) (parts1 fs gs) (partsT fs gs) x : EReal) = total fs gs := by
  rw [comb_errs]
  refine Finset.sum_congr rfl fun p hp => Finset.sum_congr rfl fun n hn => ?_
  rw [pay5_apply, pay6_apply]
  have e1 : (ixE p n 0).val = p := Nat.mod_eq_of_lt (Finset.mem_range.1 hp)
  have e2 : (ixE p n 1).val = n := Nat.mod_eq_of_lt (Finset.mem_range.1 hn)
  rw [e1, e2]; rfl

/-- The program's result. -/
theorem resV_eq :
    resV (F := Ideal) fs gs
      = (Host.divf (fun _ => total fs gs : FVec Ideal S_ .f32) (constant S_ .f32 0x49100000#32) : FVec Ideal S_ .f32) :=
  congrArg (fun v : FVec Ideal S_ .f32 => Host.divf v (constant S_ .f32 0x49100000#32)) (funext fun _ => comb_total fs gs _)

end

end Cert.Proof
-- ==== Proof.RefVal.lean ====
/-
  The reference's result over the extended reals: the same sum of errors, divided by the same constant.
-/
module

public import proofs.«01_k».proof.Proof.Fiber
public import proofs.«01_k».proof.Proof.Gen.ReferenceIdeal.Run
public import Idealize.ShloMosaic.Lib.Pipeline.Value

@[expose] public section

noncomputable section

namespace Cert.Proof.Ref

open Cert.ReferenceIdeal Cert.ReferenceIdeal.Gen

open Idealize.ShloMosaic
open Finset (range)

def ixF (b c n r w : ℕ) : S2x4x8x384x384.Idx := fun
  | 0 => ⟨b % 2, Nat.mod_lt _ (by decide)⟩ | 1 => ⟨c % 4, Nat.mod_lt _ (by decide)⟩ | 2 => ⟨n % 8, Nat.mod_lt _ (by decide)⟩
  | 3 => ⟨r % 384, Nat.mod_lt _ (by decide)⟩ | 4 => ⟨w % 384, Nat.mod_lt _ (by decide)⟩
def ixF1 (b c r w : ℕ) : S2x4x1x384x384.Idx := fun
  | 0 => ⟨b % 2, Nat.mod_lt _ (by decide)⟩ | 1 => ⟨c % 4, Nat.mod_lt _ (by decide)⟩ | 2 => ⟨0, by decide⟩
  | 3 => ⟨r % 384, Nat.mod_lt _ (by decide)⟩ | 4 => ⟨w % 384, Nat.mod_lt _ (by decide)⟩
def ixF2 (b c r w : ℕ) : S2x4x384x384.Idx := fun
  | 0 => ⟨b % 2, Nat.mod_lt _ (by decide)⟩ | 1 => ⟨c % 4, Nat.mod_lt _ (by decide)⟩
  | 2 => ⟨r % 384, Nat.mod_lt _ (by decide)⟩ | 3 => ⟨w % 384, Nat.mod_lt _ (by decide)⟩

theorem zero_first : ((constant S_ .f32 0x00000000#32 : FVec Ideal S_ .f32) (Shape.Idx.first h_S_) : EReal) = 0 :=
  Ideal.ofBits_zero_f32

/-- The reduction over rows and columns. -/
theorem red34 (y : FVec Ideal S2x4x8x384x384 .f32) (j : S2x4x8.Idx) :
    (Host.reduceAdd y (constant S_ .f32 0x00000000#32) reducesTo_S2x4x8x384x384_S2x4x8_d3_4 h_S_ j : EReal)
      = ∑ r ∈ range 384, ∑ w ∈ range 384, y (ixF (j 0).val (j 1).val (j 2).val r w) := by
  have j0 : (j 0).val < 2 := (j 0).isLt
  have j1 : (j 1).val < 4 := (j 1).isLt
  have j2 : (j 2).val < 8 := (j 2).isLt
  have e0 (i : S2x4x8x384x384.Idx) : (reducesTo_S2x4x8x384x384_S2x4x8_d3_4.drop i 0).val = (i 0).val :=
    Shape.ReducesTo.drop_apply_val_of_eq _ i 0 0
  have e1 (i : S2x4x8x384x384.Idx) : (reducesTo_S2x4x8x384x384_S2x4x8_d3_4.drop i 1).val = (i 1).val :=
    Shape.ReducesTo.drop_apply_val_of_eq _ i 1 1
  have e2 (i : S2x4x8x384x384.Idx) : (reducesTo_S2x4x8x384x384_S2x4x8_d3_4.drop i 2).val = (i 2).val :=
    Shape.ReducesTo.drop_apply_val_of_eq _ i 2 2
  refine (congrArg₂ (fun a b : EReal => a + b) zero_first (fiber_sum
    (fun i => reducesTo_S2x4x8x384x384_S2x4x8_d3_4.drop i = j) y 384 384 (ixF (j 0).val (j 1).val (j 2).val)
    (fun i => (i 3).val) (fun i => (i 4).val) (fun i => (i 3).isLt) (fun i => (i 4).isLt) ?_ ?_ ?_ ?_)).trans (zero_add _)
  · intro a b _ _
    funext t
    match t with
    | 0 => exact Fin.ext ((e0 _).trans (Nat.mod_eq_of_lt j0))
    | 1 => exact Fin.ext ((e1 _).trans (Nat.mod_eq_of_lt j1))
    | 2 => exact Fin.ext ((e2 _).trans (Nat.mod_eq_of_lt j2))
  · intro a b ha _; exact Nat.mod_eq_of_lt ha
  · intro a b _ hb; exact Nat.mod_eq_of_lt hb
  · intro i hi
    funext t
    match t with
    | 0 => exact Fin.ext ((Nat.mod_eq_of_lt j0).trans ((congrArg (fun z : S2x4x8.Idx => (z 0).val) hi).symm.trans (e0 i)))
    | 1 => exact Fin.ext ((Nat.mod_eq_of_lt j1).trans ((congrArg (fun z : S2x4x8.Idx => (z 1).val) hi).symm.trans (e1 i)))
    | 2 => exact Fin.ext ((Nat.mod_eq_of_lt j2).trans ((congrArg (fun z : S2x4x8.Idx => (z 2).val) hi).symm.trans (e2 i)))
    | 3 => exact Fin.ext (Nat.mod_eq_of_lt (i 3).isLt)
    | 4 => exact Fin.ext (Nat.mod_eq_of_lt (i 4).isLt)

/-- Pair `p` of image and class, object `n`. -/
def ixG (p n : ℕ) : S2x4x8.Idx := fun
  | 0 => ⟨p / 4 % 2, Nat.mod_lt _ (by decide)⟩ | 1 => ⟨p % 4, Nat.mod_lt _ (by decide)⟩ | 2 => ⟨n % 8, Nat.mod_lt _ (by decide)⟩

/-- The reduction over everything. -/
theorem red012 (y : FVec Ideal S2x4x8 .f32) (j : S_.Idx) :
    (Host.reduceAdd y (constant S_ .f32 0x00000000#32) reducesTo_S2x4x8_S_d0_1_2 h_S_ j : EReal)
      = ∑ p ∈ range 8, ∑ n ∈ range 8, y (ixG p n) := by
  refine (congrArg₂ (fun a b : EReal => a + b) zero_first (fiber_sum
    (fun i => reducesTo_S2x4x8_S_d0_1_2.drop i = j) y 8 8 ixG
    (fun i => 4 * (i 0).val + (i 1).val) (fun i => (i 2).val) (fun i => ?_) (fun i => (i 2).isLt) ?_ ?_ ?_ ?_)).trans (zero_add _)
  · have h0 : (i 0).val < 2 := (i 0).isLt
    have h1 : (i 1).val < 4 := (i 1).isLt
    omega
  · intro a b _ _
    funext t; exact t.elim0
  · intro a b ha _
    show 4 * (a / 4 % 2) + a % 4 = a
    omega
  · intro a b _ hb; exact Nat.mod_eq_of_lt hb
  · intro i _
    have h0 : (i 0).val < 2 := (i 0).isLt
    have h1 : (i 1).val < 4 := (i 1).isLt
    funext t
    match t with
    | 0 => exact Fin.ext (show (4 * (i 0).val + (i 1).val) / 4 % 2 = (i 0).val by omega)
    | 1 => exact Fin.ext (show (4 * (i 0).val + (i 1).val) % 4 = (i 1).val by omega)
    | 2 => exact Fin.ext (Nat.mod_eq_of_lt (i 2).isLt)

section
variable (fs : FVec Ideal S2x5x384x384 .f32) (gs : FVec Ideal S2x5x8x384x384 .f32)

/-- The masks of the classes that count. -/
abbrev masks : FVec Ideal S2x4x8x384x384 .f32 :=
  extractStridedSlice S2x4x8x384x384 ![0, 1, 0, 0, 0] gs slices_S2x5x8x384x384_S2x4x8x384x384_0_1_0_0_0
/-- The logits of the classes that count, repeated for every object. -/
abbrev logits : FVec Ideal S2x4x8x384x384 .f32 :=
  broadcastInDim S2x4x8x384x384 ![0, 1, 2, 3, 4] bcast_S2x4x1x384x384_S2x4x8x384x384_0_1_2_3_4
    (broadcastInDim S2x4x1x384x384 ![0, 1, 3, 4] bcast_S2x4x384x384_S2x4x1x384x384_0_1_3_4
      (extractStridedSlice S2x4x384x384 ![0, 1, 0, 0] fs slices_S2x5x384x384_S2x4x384x384_0_1_0_0))

abbrev boxR : FVec Ideal S2x4x8 .f32 :=
  Host.reduceAdd (masks gs) (constant S_ .f32 0x00000000#32) reducesTo_S2x4x8x384x384_S2x4x8_d3_4 h_S_
abbrev actR : FVec Ideal S2x4x8 .f32 :=
  Host.reduceAdd (mulf (logits fs) (masks gs)) (constant S_ .f32 0x00000000#32) reducesTo_S2x4x8x384x384_S2x4x8_d3_4 h_S_

theorem masks_apply (b c n r w : ℕ) (hc : c < 4) : masks gs (ixF b c n r w) = gs (ixY b (c + 1) n r w) := by
  refine extractStridedSlice_apply _ _ _ _ _ fun a => ?_
  match a with
  | 0 => exact (Nat.zero_add _).symm
  | 1 => show (c + 1) % 5 = 1 + c % 4; omega
  | 2 => exact (Nat.zero_add _).symm
  | 3 => exact (Nat.zero_add _).symm
  | 4 => exact (Nat.zero_add _).symm

theorem logits_apply (b c n r w : ℕ) (hc : c < 4) : logits fs (ixF b c n r w) = fs (ixX b (c + 1) r w) := by
  unfold logits
  rw [broadcastInDim_apply _ _ _ (ixF b c n r w) (ixF1 b c r w) (fun a => by
    match a with
    | 0 => rfl
    | 1 => rfl
    | 2 => rfl
    | 3 => rfl
    | 4 => rfl)]
  rw [broadcastInDim_apply _ _ _ (ixF1 b c r w) (ixF2 b c r w) (fun a => by
    match a with
    | 0 => rfl
    | 1 => rfl
    | 2 => rfl
    | 3 => rfl)]
  refine extractStridedSlice_apply _ _ _ _ _ fun a => ?_
  match a with
  | 0 => exact (Nat.zero_add _).symm
  | 1 => show (c + 1) % 5 = 1 + c % 4; omega
  | 2 => exact (Nat.zero_add _).symm
  | 3 => exact (Nat.zero_add _).symm

theorem boxR_apply (p n : ℕ) (hp : p < 8) (hn : n < 8) :
    (boxR gs (ixG p n) : EReal) = area (mask gs (p / 4) (p % 4 + 1) n) 0 384 := by
  refine (red34 _ _).trans (Finset.sum_congr rfl fun r _ => Finset.sum_congr rfl fun w _ => ?_)
  show (masks gs (ixF (p / 4 % 2) (p % 4) (n % 8) r w) : EReal) = gs (ixY (p / 4) (p % 4 + 1) n (0 + r) w)
  have e : p / 4 % 2 = p / 4 := by omega
  rw [masks_apply gs _ _ _ _ _ (by omega), e, Nat.mod_eq_of_lt hn, Nat.zero_add]

theorem actR_apply (p n : ℕ) (hp : p < 8) (hn : n < 8) :
    (actR fs gs (ixG p n) : EReal) = area (hit fs gs (p / 4) (p % 4 + 1) n) 0 384 := by
  refine (red34 _ _).trans (Finset.sum_congr rfl fun r _ => Finset.sum_congr rfl fun w _ => ?_)
  show (logits fs (ixF (p / 4 % 2) (p % 4) (n % 8) r w) : EReal) * masks gs (ixF (p / 4 % 2) (p % 4) (n % 8) r w)
    = gs (ixY (p / 4) (p % 4 + 1) n (0 + r) w) * fs (ixX (p / 4) (p % 4 + 1) (0 + r) w)
  have e : p / 4 % 2 = p / 4 := by omega
  rw [masks_apply gs _ _ _ _ _ (by omega), logits_apply fs _ _ _ _ _ (by omega), e, Nat.mod_eq_of_lt hn, Nat.zero_add]
  exact mul_comm _ _

/-- The errors, from the two families of sums. -/
abbrev errs (B A : FVec Ideal S2x4x8 .f32) : FVec Ideal S2x4x8 .f32 :=
  addf (select (cmpf .oge (subf A (mulf (broadcastInDim S2x4x8 ![] bcast_S_S2x4x8 (constant S_ .f32 0x3F666666#32)) B))
      (broadcastInDim S2x4x8 ![] bcast_S_S2x4x8 (constant S_ .f32 0x00000000#32)))
    (mulf (subf A (mulf (broadcastInDim S2x4x8 ![] bcast_S_S2x4x8 (constant S_ .f32 0x3F666666#32)) B))
      (subf A (mulf (broadcastInDim S2x4x8 ![] bcast_S_S2x4x8 (constant S_ .f32 0x3F666666#32)) B)))
    (broadcastInDim S2x4x8 ![] bcast_S_S2x4x8 (id (constant S_ .f32 0x00000000#32))))
  (select (cmpf .oge (subf (mulf (broadcastInDim S2x4x8 ![] bcast_S_S2x4x8 (constant S_ .f32 0x3E99999A#32)) B) A)
      (broadcastInDim S2x4x8 ![] bcast_S_S2x4x8 (constant S_ .f32 0x00000000#32)))
    (mulf (subf (mulf (broadcastInDim S2x4x8 ![] bcast_S_S2x4x8 (constant S_ .f32 0x3E99999A#32)) B) A)
      (subf (mulf (broadcastInDim S2x4x8 ![] bcast_S_S2x4x8 (constant S_ .f32 0x3E99999A#32)) B) A))
    (broadcastInDim S2x4x8 ![] bcast_S_S2x4x8 (id (constant S_ .f32 0x00000000#32))))

theorem errs_apply (B A : FVec Ideal S2x4x8 .f32) (i : S2x4x8.Idx) : (errs B A i : EReal) = err (B i) (A i) := rfl

theorem sum_errs (j : S_.Idx) :
    (Host.reduceAdd (errs (boxR gs) (actR fs gs)) (constant S_ .f32 0x00000000#32) reducesTo_S2x4x8_S_d0_1_2 h_S_ j : EReal)
      = total fs gs := by
  refine (red012 _ _).trans (Finset.sum_congr rfl fun p hp => Finset.sum_congr rfl fun n hn => ?_)
  rw [errs_apply, boxR_apply gs p n (Finset.mem_range.1 hp) (Finset.mem_range.1 hn),
    actR_apply fs gs p n (Finset.mem_range.1 hp) (Finset.mem_range.1 hn)]
  rfl

end

/-- The reference's result. -/
theorem res_eq (m : (ℓ : Loc nD τ sig) → Buf (Elt Ideal) ℓ) (c : Dev nD)
    (fs : FVec Ideal S2x5x384x384 .f32) (gs : FVec Ideal S2x5x8x384x384 .f32)
    (hf : m ((c.tc : Thread nD τ).loc main_arg0) = fs) (hg : m ((c.tc : Thread nD τ).loc main_arg1) = gs) :
    Value.res_main_v23 (F := Ideal) m c
      = (Host.divf (fun _ => total fs gs : FVec Ideal S_ .f32) (constant S_ .f32 0x49100000#32) : FVec Ideal S_ .f32) := by
  subst hf hg
  exact congrArg (fun v : FVec Ideal S_ .f32 => (Host.divf v (constant S_ .f32 0x49100000#32) : FVec Ideal S_ .f32))
    (funext fun j => sum_errs _ _ j)

end Cert.Proof.Ref
-- ==== Proof.Algebraic.lean ====
/-
  The kernel's result is the reference's.
-/
module

public import proofs.«01_k».proof.Defs
public import proofs.«01_k».proof.Proof.Loss
public import proofs.«01_k».proof.Proof.RefVal

@[expose] public section

noncomputable section

namespace Cert.Proof

open Idealize.ShloMosaic Idealize.SL.Sem

theorem algebraic : Cert.algebraic_KernelIdeal_ReferenceIdeal := fun m g m' g' _ hm =>
  ⟨fun c => resV (F := Ideal) (fsM m c) (gsM m c),
    (θ_run Cert.KernelIdeal.defs _ _).mono (fun _ h c => ⟨(h.1 c).2.2, (h.1 c).1, (h.1 c).2.1⟩) (run_main (F := Ideal) m g),
    (θ_run Cert.ReferenceIdeal.defs _ _).mono
      (fun _ h c => ⟨(h c).1.trans ((Ref.res_eq m' c (fsM m c) (gsM m c) (hm c).1 (hm c).2).trans (resV_eq (fsM m c) (gsM m c)).symm),
        (h c).2⟩)
      (Cert.ReferenceIdeal.Value.run (F := Ideal) m' g')⟩

end Cert.Proof

end
-- ==== Proof.lean ====
/-
  The proof of the certificate's claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The reference declares no semaphore and writes neither argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, algebraic⟩

end Cert.Proof

end
